-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvStep (m : (ℓ : Loc Cert.ConvStep.nD Cert.ConvStep.τ Cert.ConvStep.sig) → Buf (Elt Bits) ℓ) : Prop :=
  True

def Pre_ConvStepIdeal (m : (ℓ : Loc Cert.ConvStepIdeal.nD Cert.ConvStepIdeal.τ Cert.ConvStepIdeal.sig) → Buf (Elt Ideal) ℓ) : Prop :=
  True

def Pre_ConvStepRefIdeal (m : (ℓ : Loc Cert.ConvStepRefIdeal.nD Cert.ConvStepRefIdeal.τ Cert.ConvStepRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_AttnInS (m : (ℓ : Loc Cert.AttnInS.nD Cert.AttnInS.τ Cert.AttnInS.sig) → Buf (Elt Bits) ℓ) : Prop :=
  True

def Pre_AttnInSIdeal (m : (ℓ : Loc Cert.AttnInSIdeal.nD Cert.AttnInSIdeal.τ Cert.AttnInSIdeal.sig) → Buf (Elt Ideal) ℓ) : Prop :=
  True

def Pre_AttnInSRefIdeal (m : (ℓ : Loc Cert.AttnInSRefIdeal.nD Cert.AttnInSRefIdeal.τ Cert.AttnInSRefIdeal.sig) → Buf (Elt Ideal) ℓ) : Prop :=
  True

def Pre_MlpS (m : (ℓ : Loc Cert.MlpS.nD Cert.MlpS.τ Cert.MlpS.sig) → Buf (Elt Bits) ℓ) : Prop :=
  True

def Pre_MlpSIdeal (m : (ℓ : Loc Cert.MlpSIdeal.nD Cert.MlpSIdeal.τ Cert.MlpSIdeal.sig) → Buf (Elt Ideal) ℓ) : Prop :=
  True

def Pre_MlpSRefIdeal (m : (ℓ : Loc Cert.MlpSRefIdeal.nD Cert.MlpSRefIdeal.τ Cert.MlpSRefIdeal.sig) → Buf (Elt Ideal) ℓ) : Prop :=
  True

def Pre_MlpE (m : (ℓ : Loc Cert.MlpE.nD Cert.MlpE.τ Cert.MlpE.sig) → Buf (Elt Bits) ℓ) : Prop :=
  True

def Pre_MlpEIdeal (m : (ℓ : Loc Cert.MlpEIdeal.nD Cert.MlpEIdeal.τ Cert.MlpEIdeal.sig) → Buf (Elt Ideal) ℓ) : Prop :=
  True

def Pre_MlpERefIdeal (m : (ℓ : Loc Cert.MlpERefIdeal.nD Cert.MlpERefIdeal.τ Cert.MlpERefIdeal.sig) → Buf (Elt Ideal) ℓ) : Prop :=
  True

def Pre_MlpES (m : (ℓ : Loc Cert.MlpES.nD Cert.MlpES.τ Cert.MlpES.sig) → Buf (Elt Bits) ℓ) : Prop :=
  True

def Pre_MlpESIdeal (m : (ℓ : Loc Cert.MlpESIdeal.nD Cert.MlpESIdeal.τ Cert.MlpESIdeal.sig) → Buf (Elt Ideal) ℓ) : Prop :=
  True

def Pre_MlpESRefIdeal (m : (ℓ : Loc Cert.MlpESRefIdeal.nD Cert.MlpESRefIdeal.τ Cert.MlpESRefIdeal.sig) → Buf (Elt Ideal) ℓ) : Prop :=
  True

def Pre_ConvInS (m : (ℓ : Loc Cert.ConvInS.nD Cert.ConvInS.τ Cert.ConvInS.sig) → Buf (Elt Bits) ℓ) : Prop :=
  True

def Pre_ConvInSIdeal (m : (ℓ : Loc Cert.ConvInSIdeal.nD Cert.ConvInSIdeal.τ Cert.ConvInSIdeal.sig) → Buf (Elt Ideal) ℓ) : Prop :=
  True

def Pre_ConvInSRefIdeal (m : (ℓ : Loc Cert.ConvInSRefIdeal.nD Cert.ConvInSRefIdeal.τ Cert.ConvInSRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2)
      ∧ r.2.mem ((c.tc : Thread Cert.ConvInRefIdeal.nD Cert.ConvInRefIdeal.τ).loc Cert.ConvInRefIdeal.main_arg3) = m ((c.tc : Thread Cert.ConvInRefIdeal.nD Cert.ConvInRefIdeal.τ).loc Cert.ConvInRefIdeal.main_arg3))
      ∧ r.2.sem = fun _ => 0)

def quiescent_ConvStep [hConvStep : Cert.ConvStep.Facts] : Prop :=
  ∀ (m : (ℓ : Loc Cert.ConvStep.nD Cert.ConvStep.τ Cert.ConvStep.sig) → Buf (Elt Bits) ℓ) (g : Dev Cert.ConvStep.nD → PrngReg), Pre_ConvStep m →
    θ_run (Cert.ConvStep.defs (F := Bits)) (onTc (τ := Cert.ConvStep.τ) (Cert.ConvStep.main (F := Bits))) ⟨m, fun _ => 0, g⟩ (fun r => (∀ c : Dev Cert.ConvStep.nD,
      r.2.mem ((c.tc : Thread Cert.ConvStep.nD Cert.ConvStep.τ).loc Cert.ConvStep.main_arg0) = m ((c.tc : Thread Cert.ConvStep.nD Cert.ConvStep.τ).loc Cert.ConvStep.main_arg0)
      ∧ r.2.mem ((c.tc : Thread Cert.ConvStep.nD Cert.ConvStep.τ).loc Cert.ConvStep.main_arg1) = m ((c.tc : Thread Cert.ConvStep.nD Cert.ConvStep.τ).loc Cert.ConvStep.main_arg1)
      ∧ r.2.mem ((c.tc : Thread Cert.ConvStep.nD Cert.ConvStep.τ).loc Cert.ConvStep.main_arg2) = m ((c.tc : Thread Cert.ConvStep.nD Cert.ConvStep.τ).loc Cert.ConvStep.main_arg2)
      ∧ r.2.mem ((c.tc : Thread Cert.ConvStep.nD Cert.ConvStep.τ).loc Cert.ConvStep.main_arg3) = m ((c.tc : Thread Cert.ConvStep.nD Cert.ConvStep.τ).loc Cert.ConvStep.main_arg3)
      ∧ r.2.mem ((c.tc : Thread Cert.ConvStep.nD Cert.ConvStep.τ).loc Cert.ConvStep.main_arg4) = m ((c.tc : Thread Cert.ConvStep.nD Cert.ConvStep.τ).loc Cert.ConvStep.main_arg4)
      ∧ r.2.mem ((c.tc : Thread Cert.ConvStep.nD Cert.ConvStep.τ).loc Cert.ConvStep.main_arg5) = m ((c.tc : Thread Cert.ConvStep.nD Cert.ConvStep.τ).loc Cert.ConvStep.main_arg5)
      ∧ r.2.mem ((c.tc : Thread Cert.ConvStep.nD Cert.ConvStep.τ).loc Cert.ConvStep.main_arg6) = m ((c.tc : Thread Cert.ConvStep.nD Cert.ConvStep.τ).loc Cert.ConvStep.main_arg6)
      ∧ r.2.mem ((c.tc : Thread Cert.ConvStep.nD Cert.ConvStep.τ).loc Cert.ConvStep.main_arg7) = m ((c.tc : Thread Cert.ConvStep.nD Cert.ConvStep.τ).loc Cert.ConvStep.main_arg7)
      ∧ r.2.mem ((c.tc : Thread Cert.ConvStep.nD Cert.ConvStep.τ).loc Cert.ConvStep.main_arg8) = m ((c.tc : Thread Cert.ConvStep.nD Cert.ConvStep.τ).loc Cert.ConvStep.main_arg8))
      ∧ r.2.sem = fun _ => 0)

def quiescent_ConvStepIdeal [hConvStepIdeal : Cert.ConvStepIdeal.Facts] : Prop :=
  ∀ (m : (ℓ : Loc Cert.ConvStepIdeal.nD Cert.ConvStepIdeal.τ Cert.ConvStepIdeal.sig) → Buf (Elt Ideal) ℓ) (g : Dev Cert.ConvStepIdeal.nD → PrngReg), Pre_ConvStepIdeal m →
    θ_run (Cert.ConvStepIdeal.defs (F := Ideal)) (onTc (τ := Cert.ConvStepIdeal.τ) (Cert.ConvStepIdeal.main (F := Ideal))) ⟨m, fun _ => 0, g⟩ (fun r => (∀ c : Dev Cert.ConvStepIdeal.nD,
      r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
      ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
      ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
      ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3)
      ∧ r.2.mem ((c.tc : Thread Cert.ConvStepIdeal.nD Cert.ConvStepIdeal.τ).loc Cert.ConvStepIdeal.main_arg4) = m ((c.tc : Thread Cert.ConvStepIdeal.nD Cert.ConvStepIdeal.τ).loc Cert.ConvStepIdeal.main_arg4)
      ∧ r.2.mem ((c.tc : Thread Cert.ConvStepIdeal.nD Cert.ConvStepIdeal.τ).loc Cert.ConvStepIdeal.main_arg5) = m ((c.tc : Thread Cert.ConvStepIdeal.nD Cert.ConvStepIdeal.τ).loc Cert.ConvStepIdeal.main_arg5)
      ∧ r.2.mem ((c.tc : Thread Cert.ConvStepIdeal.nD Cert.ConvStepIdeal.τ).loc Cert.ConvStepIdeal.main_arg6) = m ((c.tc : Thread Cert.ConvStepIdeal.nD Cert.ConvStepIdeal.τ).loc Cert.ConvStepIdeal.main_arg6)
      ∧ r.2.mem ((c.tc : Thread Cert.ConvStepIdeal.nD Cert.ConvStepIdeal.τ).loc Cert.ConvStepIdeal.main_arg7) = m ((c.tc : Thread Cert.ConvStepIdeal.nD Cert.ConvStepIdeal.τ).loc Cert.ConvStepIdeal.main_arg7)
      ∧ r.2.mem ((c.tc : Thread Cert.ConvStepIdeal.nD Cert.ConvStepIdeal.τ).loc Cert.ConvStepIdeal.main_arg8) = m ((c.tc : Thread Cert.ConvStepIdeal.nD Cert.ConvStepIdeal.τ).loc Cert.ConvStepIdeal.main_arg8))
      ∧ r.2.sem = fun _ => 0)

def quiescent_ConvStepRefIdeal [hConvStepRefIdeal : Cert.ConvStepRefIdeal.Facts] : Prop :=
  ∀ (m : (ℓ : Loc Cert.ConvStepRefIdeal.nD Cert.ConvStepRefIdeal.τ Cert.ConvStepRefIdeal.sig) → Buf (Elt Ideal) ℓ) (g : Dev Cert.ConvStepRefIdeal.nD → PrngReg), Pre_ConvStepRefIdeal m →
    θ_run (Cert.ConvStepRefIdeal.defs (F := Ideal)) (onTc (τ := Cert.ConvStepRefIdeal.τ) (Cert.ConvStepRefIdeal.main (F := Ideal))) ⟨m, fun _ => 0, g⟩ (fun r => (∀ c : Dev Cert.ConvStepRefIdeal.nD,
      r.2.mem ((c.tc : Thread Cert.ConvStepRefIdeal.nD Cert.ConvStepRefIdeal.τ).loc Cert.ConvStepRefIdeal.main_arg0) = m ((c.tc : Thread Cert.ConvStepRefIdeal.nD Cert.ConvStepRefIdeal.τ).loc Cert.ConvStepRefIdeal.main_arg0)
      ∧ r.2.mem ((c.tc : Thread Cert.ConvStepRefIdeal.nD Cert.ConvStepRefIdeal.τ).loc Cert.ConvStepRefIdeal.main_arg1) = m ((c.tc : Thread Cert.ConvStepRefIdeal.nD Cert.ConvStepRefIdeal.τ).loc Cert.ConvStepRefIdeal.main_arg1)
      ∧ r.2.mem ((c.tc : Thread Cert.ConvStepRefIdeal.nD Cert.ConvStepRefIdeal.τ).loc Cert.ConvStepRefIdeal.main_arg2) = m ((c.tc : Thread Cert.ConvStepRefIdeal.nD Cert.ConvStepRefIdeal.τ).loc Cert.ConvStepRefIdeal.main_arg2)
      ∧ r.2.mem ((c.tc : Thread Cert.ConvStepRefIdeal.nD Cert.ConvStepRefIdeal.τ).loc Cert.ConvStepRefIdeal.main_arg3) = m ((c.tc : Thread Cert.ConvStepRefIdeal.nD Cert.ConvStepRefIdeal.τ).loc Cert.ConvStepRefIdeal.main_arg3)
      ∧ r.2.mem ((c.tc : Thread Cert.ConvStepRefIdeal.nD Cert.ConvStepRefIdeal.τ).loc Cert.ConvStepRefIdeal.main_arg4) = m ((c.tc : Thread Cert.ConvStepRefIdeal.nD Cert.ConvStepRefIdeal.τ).loc Cert.ConvStepRefIdeal.main_arg4)
      ∧ r.2.mem ((c.tc : Thread Cert.ConvStepRefIdeal.nD Cert.ConvStepRefIdeal.τ).loc Cert.ConvStepRefIdeal.main_arg5) = m ((c.tc : Thread Cert.ConvStepRefIdeal.nD Cert.ConvStepRefIdeal.τ).loc Cert.ConvStepRefIdeal.main_arg5)
      ∧ r.2.mem ((c.tc : Thread Cert.ConvStepRefIdeal.nD Cert.ConvStepRefIdeal.τ).loc Cert.ConvStepRefIdeal.main_arg6) = m ((c.tc : Thread Cert.ConvStepRefIdeal.nD Cert.ConvStepRefIdeal.τ).loc Cert.ConvStepRefIdeal.main_arg6)
      ∧ r.2.mem ((c.tc : Thread Cert.ConvStepRefIdeal.nD Cert.ConvStepRefIdeal.τ).loc Cert.ConvStepRefIdeal.main_arg7) = m ((c.tc : Thread Cert.ConvStepRefIdeal.nD Cert.ConvStepRefIdeal.τ).loc Cert.ConvStepRefIdeal.main_arg7)
      ∧ r.2.mem ((c.tc : Thread Cert.ConvStepRefIdeal.nD Cert.ConvStepRefIdeal.τ).loc Cert.ConvStepRefIdeal.main_arg8) = m ((c.tc : Thread Cert.ConvStepRefIdeal.nD Cert.ConvStepRefIdeal.τ).loc Cert.ConvStepRefIdeal.main_arg8))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2))
      ∧ r.2.sem = fun _ => 0)

def quiescent_AttnInS [hAttnInS : Cert.AttnInS.Facts] : Prop :=
  ∀ (m : (ℓ : Loc Cert.AttnInS.nD Cert.AttnInS.τ Cert.AttnInS.sig) → Buf (Elt Bits) ℓ) (g : Dev Cert.AttnInS.nD → PrngReg), Pre_AttnInS m →
    θ_run (Cert.AttnInS.defs (F := Bits)) (onTc (τ := Cert.AttnInS.τ) (Cert.AttnInS.main (F := Bits))) ⟨m, fun _ => 0, g⟩ (fun r => (∀ c : Dev Cert.AttnInS.nD,
      r.2.mem ((c.tc : Thread Cert.AttnInS.nD Cert.AttnInS.τ).loc Cert.AttnInS.main_arg0) = m ((c.tc : Thread Cert.AttnInS.nD Cert.AttnInS.τ).loc Cert.AttnInS.main_arg0)
      ∧ r.2.mem ((c.tc : Thread Cert.AttnInS.nD Cert.AttnInS.τ).loc Cert.AttnInS.main_arg1) = m ((c.tc : Thread Cert.AttnInS.nD Cert.AttnInS.τ).loc Cert.AttnInS.main_arg1)
      ∧ r.2.mem ((c.tc : Thread Cert.AttnInS.nD Cert.AttnInS.τ).loc Cert.AttnInS.main_arg2) = m ((c.tc : Thread Cert.AttnInS.nD Cert.AttnInS.τ).loc Cert.AttnInS.main_arg2))
      ∧ r.2.sem = fun _ => 0)

def quiescent_AttnInSIdeal [hAttnInSIdeal : Cert.AttnInSIdeal.Facts] : Prop :=
  ∀ (m : (ℓ : Loc Cert.AttnInSIdeal.nD Cert.AttnInSIdeal.τ Cert.AttnInSIdeal.sig) → Buf (Elt Ideal) ℓ) (g : Dev Cert.AttnInSIdeal.nD → PrngReg), Pre_AttnInSIdeal m →
    θ_run (Cert.AttnInSIdeal.defs (F := Ideal)) (onTc (τ := Cert.AttnInSIdeal.τ) (Cert.AttnInSIdeal.main (F := Ideal))) ⟨m, fun _ => 0, g⟩ (fun r => (∀ c : Dev Cert.AttnInSIdeal.nD,
      r.2.mem ((c.tc : Thread Cert.AttnInSIdeal.nD Cert.AttnInSIdeal.τ).loc Cert.AttnInSIdeal.main_arg0) = m ((c.tc : Thread Cert.AttnInSIdeal.nD Cert.AttnInSIdeal.τ).loc Cert.AttnInSIdeal.main_arg0)
      ∧ r.2.mem ((c.tc : Thread Cert.AttnInSIdeal.nD Cert.AttnInSIdeal.τ).loc Cert.AttnInSIdeal.main_arg1) = m ((c.tc : Thread Cert.AttnInSIdeal.nD Cert.AttnInSIdeal.τ).loc Cert.AttnInSIdeal.main_arg1)
      ∧ r.2.mem ((c.tc : Thread Cert.AttnInSIdeal.nD Cert.AttnInSIdeal.τ).loc Cert.AttnInSIdeal.main_arg2) = m ((c.tc : Thread Cert.AttnInSIdeal.nD Cert.AttnInSIdeal.τ).loc Cert.AttnInSIdeal.main_arg2))
      ∧ r.2.sem = fun _ => 0)

def quiescent_AttnInSRefIdeal [hAttnInSRefIdeal : Cert.AttnInSRefIdeal.Facts] : Prop :=
  ∀ (m : (ℓ : Loc Cert.AttnInSRefIdeal.nD Cert.AttnInSRefIdeal.τ Cert.AttnInSRefIdeal.sig) → Buf (Elt Ideal) ℓ) (g : Dev Cert.AttnInSRefIdeal.nD → PrngReg), Pre_AttnInSRefIdeal m →
    θ_run (Cert.AttnInSRefIdeal.defs (F := Ideal)) (onTc (τ := Cert.AttnInSRefIdeal.τ) (Cert.AttnInSRefIdeal.main (F := Ideal))) ⟨m, fun _ => 0, g⟩ (fun r => (∀ c : Dev Cert.AttnInSRefIdeal.nD,
      r.2.mem ((c.tc : Thread Cert.AttnInSRefIdeal.nD Cert.AttnInSRefIdeal.τ).loc Cert.AttnInSRefIdeal.main_arg0) = m ((c.tc : Thread Cert.AttnInSRefIdeal.nD Cert.AttnInSRefIdeal.τ).loc Cert.AttnInSRefIdeal.main_arg0)
      ∧ r.2.mem ((c.tc : Thread Cert.AttnInSRefIdeal.nD Cert.AttnInSRefIdeal.τ).loc Cert.AttnInSRefIdeal.main_arg1) = m ((c.tc : Thread Cert.AttnInSRefIdeal.nD Cert.AttnInSRefIdeal.τ).loc Cert.AttnInSRefIdeal.main_arg1)
      ∧ r.2.mem ((c.tc : Thread Cert.AttnInSRefIdeal.nD Cert.AttnInSRefIdeal.τ).loc Cert.AttnInSRefIdeal.main_arg2) = m ((c.tc : Thread Cert.AttnInSRefIdeal.nD Cert.AttnInSRefIdeal.τ).loc Cert.AttnInSRefIdeal.main_arg2))
      ∧ r.2.sem = fun _ => 0)

def quiescent_MlpS [hMlpS : Cert.MlpS.Facts] : Prop :=
  ∀ (m : (ℓ : Loc Cert.MlpS.nD Cert.MlpS.τ Cert.MlpS.sig) → Buf (Elt Bits) ℓ) (g : Dev Cert.MlpS.nD → PrngReg), Pre_MlpS m →
    θ_run (Cert.MlpS.defs (F := Bits)) (onTc (τ := Cert.MlpS.τ) (Cert.MlpS.main (F := Bits))) ⟨m, fun _ => 0, g⟩ (fun r => (∀ c : Dev Cert.MlpS.nD,
      r.2.mem ((c.tc : Thread Cert.MlpS.nD Cert.MlpS.τ).loc Cert.MlpS.main_arg0) = m ((c.tc : Thread Cert.MlpS.nD Cert.MlpS.τ).loc Cert.MlpS.main_arg0)
      ∧ r.2.mem ((c.tc : Thread Cert.MlpS.nD Cert.MlpS.τ).loc Cert.MlpS.main_arg1) = m ((c.tc : Thread Cert.MlpS.nD Cert.MlpS.τ).loc Cert.MlpS.main_arg1)
      ∧ r.2.mem ((c.tc : Thread Cert.MlpS.nD Cert.MlpS.τ).loc Cert.MlpS.main_arg2) = m ((c.tc : Thread Cert.MlpS.nD Cert.MlpS.τ).loc Cert.MlpS.main_arg2)
      ∧ r.2.mem ((c.tc : Thread Cert.MlpS.nD Cert.MlpS.τ).loc Cert.MlpS.main_arg3) = m ((c.tc : Thread Cert.MlpS.nD Cert.MlpS.τ).loc Cert.MlpS.main_arg3)
      ∧ r.2.mem ((c.tc : Thread Cert.MlpS.nD Cert.MlpS.τ).loc Cert.MlpS.main_arg4) = m ((c.tc : Thread Cert.MlpS.nD Cert.MlpS.τ).loc Cert.MlpS.main_arg4)
      ∧ r.2.mem ((c.tc : Thread Cert.MlpS.nD Cert.MlpS.τ).loc Cert.MlpS.main_arg5) = m ((c.tc : Thread Cert.MlpS.nD Cert.MlpS.τ).loc Cert.MlpS.main_arg5)
      ∧ r.2.mem ((c.tc : Thread Cert.MlpS.nD Cert.MlpS.τ).loc Cert.MlpS.main_arg6) = m ((c.tc : Thread Cert.MlpS.nD Cert.MlpS.τ).loc Cert.MlpS.main_arg6)
      ∧ r.2.mem ((c.tc : Thread Cert.MlpS.nD Cert.MlpS.τ).loc Cert.MlpS.main_arg7) = m ((c.tc : Thread Cert.MlpS.nD Cert.MlpS.τ).loc Cert.MlpS.main_arg7)
      ∧ r.2.mem ((c.tc : Thread Cert.MlpS.nD Cert.MlpS.τ).loc Cert.MlpS.main_arg8) = m ((c.tc : Thread Cert.MlpS.nD Cert.MlpS.τ).loc Cert.MlpS.main_arg8)
      ∧ r.2.mem ((c.tc : Thread Cert.MlpS.nD Cert.MlpS.τ).loc Cert.MlpS.main_arg9) = m ((c.tc : Thread Cert.MlpS.nD Cert.MlpS.τ).loc Cert.MlpS.main_arg9)
      ∧ r.2.mem ((c.tc : Thread Cert.MlpS.nD Cert.MlpS.τ).loc Cert.MlpS.main_arg10) = m ((c.tc : Thread Cert.MlpS.nD Cert.MlpS.τ).loc Cert.MlpS.main_arg10))
      ∧ r.2.sem = fun _ => 0)

def quiescent_MlpSIdeal [hMlpSIdeal : Cert.MlpSIdeal.Facts] : Prop :=
  ∀ (m : (ℓ : Loc Cert.MlpSIdeal.nD Cert.MlpSIdeal.τ Cert.MlpSIdeal.sig) → Buf (Elt Ideal) ℓ) (g : Dev Cert.MlpSIdeal.nD → PrngReg), Pre_MlpSIdeal m →
    θ_run (Cert.MlpSIdeal.defs (F := Ideal)) (onTc (τ := Cert.MlpSIdeal.τ) (Cert.MlpSIdeal.main (F := Ideal))) ⟨m, fun _ => 0, g⟩ (fun r => (∀ c : Dev Cert.MlpSIdeal.nD,
      r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
      ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
      ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
      ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
      ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4)
      ∧ r.2.mem ((c.tc : Thread Cert.MlpSIdeal.nD Cert.MlpSIdeal.τ).loc Cert.MlpSIdeal.main_arg5) = m ((c.tc : Thread Cert.MlpSIdeal.nD Cert.MlpSIdeal.τ).loc Cert.MlpSIdeal.main_arg5)
      ∧ r.2.mem ((c.tc : Thread Cert.MlpSIdeal.nD Cert.MlpSIdeal.τ).loc Cert.MlpSIdeal.main_arg6) = m ((c.tc : Thread Cert.MlpSIdeal.nD Cert.MlpSIdeal.τ).loc Cert.MlpSIdeal.main_arg6)
      ∧ r.2.mem ((c.tc : Thread Cert.MlpSIdeal.nD Cert.MlpSIdeal.τ).loc Cert.MlpSIdeal.main_arg7) = m ((c.tc : Thread Cert.MlpSIdeal.nD Cert.MlpSIdeal.τ).loc Cert.MlpSIdeal.main_arg7)
      ∧ r.2.mem ((c.tc : Thread Cert.MlpSIdeal.nD Cert.MlpSIdeal.τ).loc Cert.MlpSIdeal.main_arg8) = m ((c.tc : Thread Cert.MlpSIdeal.nD Cert.MlpSIdeal.τ).loc Cert.MlpSIdeal.main_arg8)
      ∧ r.2.mem ((c.tc : Thread Cert.MlpSIdeal.nD Cert.MlpSIdeal.τ).loc Cert.MlpSIdeal.main_arg9) = m ((c.tc : Thread Cert.MlpSIdeal.nD Cert.MlpSIdeal.τ).loc Cert.MlpSIdeal.main_arg9)
      ∧ r.2.mem ((c.tc : Thread Cert.MlpSIdeal.nD Cert.MlpSIdeal.τ).loc Cert.MlpSIdeal.main_arg10) = m ((c.tc : Thread Cert.MlpSIdeal.nD Cert.MlpSIdeal.τ).loc Cert.MlpSIdeal.main_arg10))
      ∧ r.2.sem = fun _ => 0)

def quiescent_MlpSRefIdeal [hMlpSRefIdeal : Cert.MlpSRefIdeal.Facts] : Prop :=
  ∀ (m : (ℓ : Loc Cert.MlpSRefIdeal.nD Cert.MlpSRefIdeal.τ Cert.MlpSRefIdeal.sig) → Buf (Elt Ideal) ℓ) (g : Dev Cert.MlpSRefIdeal.nD → PrngReg), Pre_MlpSRefIdeal m →
    θ_run (Cert.MlpSRefIdeal.defs (F := Ideal)) (onTc (τ := Cert.MlpSRefIdeal.τ) (Cert.MlpSRefIdeal.main (F := Ideal))) ⟨m, fun _ => 0, g⟩ (fun r => (∀ c : Dev Cert.MlpSRefIdeal.nD,
      r.2.mem ((c.tc : Thread Cert.MlpSRefIdeal.nD Cert.MlpSRefIdeal.τ).loc Cert.MlpSRefIdeal.main_arg0) = m ((c.tc : Thread Cert.MlpSRefIdeal.nD Cert.MlpSRefIdeal.τ).loc Cert.MlpSRefIdeal.main_arg0)
      ∧ r.2.mem ((c.tc : Thread Cert.MlpSRefIdeal.nD Cert.MlpSRefIdeal.τ).loc Cert.MlpSRefIdeal.main_arg1) = m ((c.tc : Thread Cert.MlpSRefIdeal.nD Cert.MlpSRefIdeal.τ).loc Cert.MlpSRefIdeal.main_arg1)
      ∧ r.2.mem ((c.tc : Thread Cert.MlpSRefIdeal.nD Cert.MlpSRefIdeal.τ).loc Cert.MlpSRefIdeal.main_arg2) = m ((c.tc : Thread Cert.MlpSRefIdeal.nD Cert.MlpSRefIdeal.τ).loc Cert.MlpSRefIdeal.main_arg2)
      ∧ r.2.mem ((c.tc : Thread Cert.MlpSRefIdeal.nD Cert.MlpSRefIdeal.τ).loc Cert.MlpSRefIdeal.main_arg3) = m ((c.tc : Thread Cert.MlpSRefIdeal.nD Cert.MlpSRefIdeal.τ).loc Cert.MlpSRefIdeal.main_arg3)
      ∧ r.2.mem ((c.tc : Thread Cert.MlpSRefIdeal.nD Cert.MlpSRefIdeal.τ).loc Cert.MlpSRefIdeal.main_arg4) = m ((c.tc : Thread Cert.MlpSRefIdeal.nD Cert.MlpSRefIdeal.τ).loc Cert.MlpSRefIdeal.main_arg4)
      ∧ r.2.mem ((c.tc : Thread Cert.MlpSRefIdeal.nD Cert.MlpSRefIdeal.τ).loc Cert.MlpSRefIdeal.main_arg5) = m ((c.tc : Thread Cert.MlpSRefIdeal.nD Cert.MlpSRefIdeal.τ).loc Cert.MlpSRefIdeal.main_arg5)
      ∧ r.2.mem ((c.tc : Thread Cert.MlpSRefIdeal.nD Cert.MlpSRefIdeal.τ).loc Cert.MlpSRefIdeal.main_arg6) = m ((c.tc : Thread Cert.MlpSRefIdeal.nD Cert.MlpSRefIdeal.τ).loc Cert.MlpSRefIdeal.main_arg6)
      ∧ r.2.mem ((c.tc : Thread Cert.MlpSRefIdeal.nD Cert.MlpSRefIdeal.τ).loc Cert.MlpSRefIdeal.main_arg7) = m ((c.tc : Thread Cert.MlpSRefIdeal.nD Cert.MlpSRefIdeal.τ).loc Cert.MlpSRefIdeal.main_arg7)
      ∧ r.2.mem ((c.tc : Thread Cert.MlpSRefIdeal.nD Cert.MlpSRefIdeal.τ).loc Cert.MlpSRefIdeal.main_arg8) = m ((c.tc : Thread Cert.MlpSRefIdeal.nD Cert.MlpSRefIdeal.τ).loc Cert.MlpSRefIdeal.main_arg8)
      ∧ r.2.mem ((c.tc : Thread Cert.MlpSRefIdeal.nD Cert.MlpSRefIdeal.τ).loc Cert.MlpSRefIdeal.main_arg9) = m ((c.tc : Thread Cert.MlpSRefIdeal.nD Cert.MlpSRefIdeal.τ).loc Cert.MlpSRefIdeal.main_arg9)
      ∧ r.2.mem ((c.tc : Thread Cert.MlpSRefIdeal.nD Cert.MlpSRefIdeal.τ).loc Cert.MlpSRefIdeal.main_arg10) = m ((c.tc : Thread Cert.MlpSRefIdeal.nD Cert.MlpSRefIdeal.τ).loc Cert.MlpSRefIdeal.main_arg10))
      ∧ r.2.sem = fun _ => 0)

def quiescent_MlpE [hMlpE : Cert.MlpE.Facts] : Prop :=
  ∀ (m : (ℓ : Loc Cert.MlpE.nD Cert.MlpE.τ Cert.MlpE.sig) → Buf (Elt Bits) ℓ) (g : Dev Cert.MlpE.nD → PrngReg), Pre_MlpE m →
    θ_run (Cert.MlpE.defs (F := Bits)) (onTc (τ := Cert.MlpE.τ) (Cert.MlpE.main (F := Bits))) ⟨m, fun _ => 0, g⟩ (fun r => (∀ c : Dev Cert.MlpE.nD,
      r.2.mem ((c.tc : Thread Cert.MlpE.nD Cert.MlpE.τ).loc Cert.MlpE.main_arg0) = m ((c.tc : Thread Cert.MlpE.nD Cert.MlpE.τ).loc Cert.MlpE.main_arg0)
      ∧ r.2.mem ((c.tc : Thread Cert.MlpE.nD Cert.MlpE.τ).loc Cert.MlpE.main_arg1) = m ((c.tc : Thread Cert.MlpE.nD Cert.MlpE.τ).loc Cert.MlpE.main_arg1)
      ∧ r.2.mem ((c.tc : Thread Cert.MlpE.nD Cert.MlpE.τ).loc Cert.MlpE.main_arg2) = m ((c.tc : Thread Cert.MlpE.nD Cert.MlpE.τ).loc Cert.MlpE.main_arg2)
      ∧ r.2.mem ((c.tc : Thread Cert.MlpE.nD Cert.MlpE.τ).loc Cert.MlpE.main_arg3) = m ((c.tc : Thread Cert.MlpE.nD Cert.MlpE.τ).loc Cert.MlpE.main_arg3)
      ∧ r.2.mem ((c.tc : Thread Cert.MlpE.nD Cert.MlpE.τ).loc Cert.MlpE.main_arg4) = m ((c.tc : Thread Cert.MlpE.nD Cert.MlpE.τ).loc Cert.MlpE.main_arg4)
      ∧ r.2.mem ((c.tc : Thread Cert.MlpE.nD Cert.MlpE.τ).loc Cert.MlpE.main_arg5) = m ((c.tc : Thread Cert.MlpE.nD Cert.MlpE.τ).loc Cert.MlpE.main_arg5)
      ∧ r.2.mem ((c.tc : Thread Cert.MlpE.nD Cert.MlpE.τ).loc Cert.MlpE.main_arg6) = m ((c.tc : Thread Cert.MlpE.nD Cert.MlpE.τ).loc Cert.MlpE.main_arg6)
      ∧ r.2.mem ((c.tc : Thread Cert.MlpE.nD Cert.MlpE.τ).loc Cert.MlpE.main_arg7) = m ((c.tc : Thread Cert.MlpE.nD Cert.MlpE.τ).loc Cert.MlpE.main_arg7)
      ∧ r.2.mem ((c.tc : Thread Cert.MlpE.nD Cert.MlpE.τ).loc Cert.MlpE.main_arg8) = m ((c.tc : Thread Cert.MlpE.nD Cert.MlpE.τ).loc Cert.MlpE.main_arg8))
      ∧ r.2.sem = fun _ => 0)

def quiescent_MlpEIdeal [hMlpEIdeal : Cert.MlpEIdeal.Facts] : Prop :=
  ∀ (m : (ℓ : Loc Cert.MlpEIdeal.nD Cert.MlpEIdeal.τ Cert.MlpEIdeal.sig) → Buf (Elt Ideal) ℓ) (g : Dev Cert.MlpEIdeal.nD → PrngReg), Pre_MlpEIdeal m →
    θ_run (Cert.MlpEIdeal.defs (F := Ideal)) (onTc (τ := Cert.MlpEIdeal.τ) (Cert.MlpEIdeal.main (F := Ideal))) ⟨m, fun _ => 0, g⟩ (fun r => (∀ c : Dev Cert.MlpEIdeal.nD,
      r.2.mem ((c.tc : Thread Cert.MlpEIdeal.nD Cert.MlpEIdeal.τ).loc Cert.MlpEIdeal.main_arg0) = m ((c.tc : Thread Cert.MlpEIdeal.nD Cert.MlpEIdeal.τ).loc Cert.MlpEIdeal.main_arg0)
      ∧ r.2.mem ((c.tc : Thread Cert.MlpEIdeal.nD Cert.MlpEIdeal.τ).loc Cert.MlpEIdeal.main_arg1) = m ((c.tc : Thread Cert.MlpEIdeal.nD Cert.MlpEIdeal.τ).loc Cert.MlpEIdeal.main_arg1)
      ∧ r.2.mem ((c.tc : Thread Cert.MlpEIdeal.nD Cert.MlpEIdeal.τ).loc Cert.MlpEIdeal.main_arg2) = m ((c.tc : Thread Cert.MlpEIdeal.nD Cert.MlpEIdeal.τ).loc Cert.MlpEIdeal.main_arg2)
      ∧ r.2.mem ((c.tc : Thread Cert.MlpEIdeal.nD Cert.MlpEIdeal.τ).loc Cert.MlpEIdeal.main_arg3) = m ((c.tc : Thread Cert.MlpEIdeal.nD Cert.MlpEIdeal.τ).loc Cert.MlpEIdeal.main_arg3)
      ∧ r.2.mem ((c.tc : Thread Cert.MlpEIdeal.nD Cert.MlpEIdeal.τ).loc Cert.MlpEIdeal.main_arg4) = m ((c.tc : Thread Cert.MlpEIdeal.nD Cert.MlpEIdeal.τ).loc Cert.MlpEIdeal.main_arg4)
      ∧ r.2.mem ((c.tc : Thread Cert.MlpEIdeal.nD Cert.MlpEIdeal.τ).loc Cert.MlpEIdeal.main_arg5) = m ((c.tc : Thread Cert.MlpEIdeal.nD Cert.MlpEIdeal.τ).loc Cert.MlpEIdeal.main_arg5)
      ∧ r.2.mem ((c.tc : Thread Cert.MlpEIdeal.nD Cert.MlpEIdeal.τ).loc Cert.MlpEIdeal.main_arg6) = m ((c.tc : Thread Cert.MlpEIdeal.nD Cert.MlpEIdeal.τ).loc Cert.MlpEIdeal.main_arg6)
      ∧ r.2.mem ((c.tc : Thread Cert.MlpEIdeal.nD Cert.MlpEIdeal.τ).loc Cert.MlpEIdeal.main_arg7) = m ((c.tc : Thread Cert.MlpEIdeal.nD Cert.MlpEIdeal.τ).loc Cert.MlpEIdeal.main_arg7)
      ∧ r.2.mem ((c.tc : Thread Cert.MlpEIdeal.nD Cert.MlpEIdeal.τ).loc Cert.MlpEIdeal.main_arg8) = m ((c.tc : Thread Cert.MlpEIdeal.nD Cert.MlpEIdeal.τ).loc Cert.MlpEIdeal.main_arg8))
      ∧ r.2.sem = fun _ => 0)

def quiescent_MlpERefIdeal [hMlpERefIdeal : Cert.MlpERefIdeal.Facts] : Prop :=
  ∀ (m : (ℓ : Loc Cert.MlpERefIdeal.nD Cert.MlpERefIdeal.τ Cert.MlpERefIdeal.sig) → Buf (Elt Ideal) ℓ) (g : Dev Cert.MlpERefIdeal.nD → PrngReg), Pre_MlpERefIdeal m →
    θ_run (Cert.MlpERefIdeal.defs (F := Ideal)) (onTc (τ := Cert.MlpERefIdeal.τ) (Cert.MlpERefIdeal.main (F := Ideal))) ⟨m, fun _ => 0, g⟩ (fun r => (∀ c : Dev Cert.MlpERefIdeal.nD,
      r.2.mem ((c.tc : Thread Cert.MlpERefIdeal.nD Cert.MlpERefIdeal.τ).loc Cert.MlpERefIdeal.main_arg0) = m ((c.tc : Thread Cert.MlpERefIdeal.nD Cert.MlpERefIdeal.τ).loc Cert.MlpERefIdeal.main_arg0)
      ∧ r.2.mem ((c.tc : Thread Cert.MlpERefIdeal.nD Cert.MlpERefIdeal.τ).loc Cert.MlpERefIdeal.main_arg1) = m ((c.tc : Thread Cert.MlpERefIdeal.nD Cert.MlpERefIdeal.τ).loc Cert.MlpERefIdeal.main_arg1)
      ∧ r.2.mem ((c.tc : Thread Cert.MlpERefIdeal.nD Cert.MlpERefIdeal.τ).loc Cert.MlpERefIdeal.main_arg2) = m ((c.tc : Thread Cert.MlpERefIdeal.nD Cert.MlpERefIdeal.τ).loc Cert.MlpERefIdeal.main_arg2)
      ∧ r.2.mem ((c.tc : Thread Cert.MlpERefIdeal.nD Cert.MlpERefIdeal.τ).loc Cert.MlpERefIdeal.main_arg3) = m ((c.tc : Thread Cert.MlpERefIdeal.nD Cert.MlpERefIdeal.τ).loc Cert.MlpERefIdeal.main_arg3)
      ∧ r.2.mem ((c.tc : Thread Cert.MlpERefIdeal.nD Cert.MlpERefIdeal.τ).loc Cert.MlpERefIdeal.main_arg4) = m ((c.tc : Thread Cert.MlpERefIdeal.nD Cert.MlpERefIdeal.τ).loc Cert.MlpERefIdeal.main_arg4)
      ∧ r.2.mem ((c.tc : Thread Cert.MlpERefIdeal.nD Cert.MlpERefIdeal.τ).loc Cert.MlpERefIdeal.main_arg5) = m ((c.tc : Thread Cert.MlpERefIdeal.nD Cert.MlpERefIdeal.τ).loc Cert.MlpERefIdeal.main_arg5)
      ∧ r.2.mem ((c.tc : Thread Cert.MlpERefIdeal.nD Cert.MlpERefIdeal.τ).loc Cert.MlpERefIdeal.main_arg6) = m ((c.tc : Thread Cert.MlpERefIdeal.nD Cert.MlpERefIdeal.τ).loc Cert.MlpERefIdeal.main_arg6)
      ∧ r.2.mem ((c.tc : Thread Cert.MlpERefIdeal.nD Cert.MlpERefIdeal.τ).loc Cert.MlpERefIdeal.main_arg7) = m ((c.tc : Thread Cert.MlpERefIdeal.nD Cert.MlpERefIdeal.τ).loc Cert.MlpERefIdeal.main_arg7)
      ∧ r.2.mem ((c.tc : Thread Cert.MlpERefIdeal.nD Cert.MlpERefIdeal.τ).loc Cert.MlpERefIdeal.main_arg8) = m ((c.tc : Thread Cert.MlpERefIdeal.nD Cert.MlpERefIdeal.τ).loc Cert.MlpERefIdeal.main_arg8))
      ∧ r.2.sem = fun _ => 0)

def quiescent_MlpES [hMlpES : Cert.MlpES.Facts] : Prop :=
  ∀ (m : (ℓ : Loc Cert.MlpES.nD Cert.MlpES.τ Cert.MlpES.sig) → Buf (Elt Bits) ℓ) (g : Dev Cert.MlpES.nD → PrngReg), Pre_MlpES m →
    θ_run (Cert.MlpES.defs (F := Bits)) (onTc (τ := Cert.MlpES.τ) (Cert.MlpES.main (F := Bits))) ⟨m, fun _ => 0, g⟩ (fun r => (∀ c : Dev Cert.MlpES.nD,
      r.2.mem ((c.tc : Thread Cert.MlpES.nD Cert.MlpES.τ).loc Cert.MlpES.main_arg0) = m ((c.tc : Thread Cert.MlpES.nD Cert.MlpES.τ).loc Cert.MlpES.main_arg0)
      ∧ r.2.mem ((c.tc : Thread Cert.MlpES.nD Cert.MlpES.τ).loc Cert.MlpES.main_arg1) = m ((c.tc : Thread Cert.MlpES.nD Cert.MlpES.τ).loc Cert.MlpES.main_arg1)
      ∧ r.2.mem ((c.tc : Thread Cert.MlpES.nD Cert.MlpES.τ).loc Cert.MlpES.main_arg2) = m ((c.tc : Thread Cert.MlpES.nD Cert.MlpES.τ).loc Cert.MlpES.main_arg2)
      ∧ r.2.mem ((c.tc : Thread Cert.MlpES.nD Cert.MlpES.τ).loc Cert.MlpES.main_arg3) = m ((c.tc : Thread Cert.MlpES.nD Cert.MlpES.τ).loc Cert.MlpES.main_arg3)
      ∧ r.2.mem ((c.tc : Thread Cert.MlpES.nD Cert.MlpES.τ).loc Cert.MlpES.main_arg4) = m ((c.tc : Thread Cert.MlpES.nD Cert.MlpES.τ).loc Cert.MlpES.main_arg4)
      ∧ r.2.mem ((c.tc : Thread Cert.MlpES.nD Cert.MlpES.τ).loc Cert.MlpES.main_arg5) = m ((c.tc : Thread Cert.MlpES.nD Cert.MlpES.τ).loc Cert.MlpES.main_arg5)
      ∧ r.2.mem ((c.tc : Thread Cert.MlpES.nD Cert.MlpES.τ).loc Cert.MlpES.main_arg6) = m ((c.tc : Thread Cert.MlpES.nD Cert.MlpES.τ).loc Cert.MlpES.main_arg6)
      ∧ r.2.mem ((c.tc : Thread Cert.MlpES.nD Cert.MlpES.τ).loc Cert.MlpES.main_arg7) = m ((c.tc : Thread Cert.MlpES.nD Cert.MlpES.τ).loc Cert.MlpES.main_arg7)
      ∧ r.2.mem ((c.tc : Thread Cert.MlpES.nD Cert.MlpES.τ).loc Cert.MlpES.main_arg8) = m ((c.tc : Thread Cert.MlpES.nD Cert.MlpES.τ).loc Cert.MlpES.main_arg8))
      ∧ r.2.sem = fun _ => 0)

def quiescent_MlpESIdeal [hMlpESIdeal : Cert.MlpESIdeal.Facts] : Prop :=
  ∀ (m : (ℓ : Loc Cert.MlpESIdeal.nD Cert.MlpESIdeal.τ Cert.MlpESIdeal.sig) → Buf (Elt Ideal) ℓ) (g : Dev Cert.MlpESIdeal.nD → PrngReg), Pre_MlpESIdeal m →
    θ_run (Cert.MlpESIdeal.defs (F := Ideal)) (onTc (τ := Cert.MlpESIdeal.τ) (Cert.MlpESIdeal.main (F := Ideal))) ⟨m, fun _ => 0, g⟩ (fun r => (∀ c : Dev Cert.MlpESIdeal.nD,
      r.2.mem ((c.tc : Thread Cert.MlpESIdeal.nD Cert.MlpESIdeal.τ).loc Cert.MlpESIdeal.main_arg0) = m ((c.tc : Thread Cert.MlpESIdeal.nD Cert.MlpESIdeal.τ).loc Cert.MlpESIdeal.main_arg0)
      ∧ r.2.mem ((c.tc : Thread Cert.MlpESIdeal.nD Cert.MlpESIdeal.τ).loc Cert.MlpESIdeal.main_arg1) = m ((c.tc : Thread Cert.MlpESIdeal.nD Cert.MlpESIdeal.τ).loc Cert.MlpESIdeal.main_arg1)
      ∧ r.2.mem ((c.tc : Thread Cert.MlpESIdeal.nD Cert.MlpESIdeal.τ).loc Cert.MlpESIdeal.main_arg2) = m ((c.tc : Thread Cert.MlpESIdeal.nD Cert.MlpESIdeal.τ).loc Cert.MlpESIdeal.main_arg2)
      ∧ r.2.mem ((c.tc : Thread Cert.MlpESIdeal.nD Cert.MlpESIdeal.τ).loc Cert.MlpESIdeal.main_arg3) = m ((c.tc : Thread Cert.MlpESIdeal.nD Cert.MlpESIdeal.τ).loc Cert.MlpESIdeal.main_arg3)
      ∧ r.2.mem ((c.tc : Thread Cert.MlpESIdeal.nD Cert.MlpESIdeal.τ).loc Cert.MlpESIdeal.main_arg4) = m ((c.tc : Thread Cert.MlpESIdeal.nD Cert.MlpESIdeal.τ).loc Cert.MlpESIdeal.main_arg4)
      ∧ r.2.mem ((c.tc : Thread Cert.MlpESIdeal.nD Cert.MlpESIdeal.τ).loc Cert.MlpESIdeal.main_arg5) = m ((c.tc : Thread Cert.MlpESIdeal.nD Cert.MlpESIdeal.τ).loc Cert.MlpESIdeal.main_arg5)
      ∧ r.2.mem ((c.tc : Thread Cert.MlpESIdeal.nD Cert.MlpESIdeal.τ).loc Cert.MlpESIdeal.main_arg6) = m ((c.tc : Thread Cert.MlpESIdeal.nD Cert.MlpESIdeal.τ).loc Cert.MlpESIdeal.main_arg6)
      ∧ r.2.mem ((c.tc : Thread Cert.MlpESIdeal.nD Cert.MlpESIdeal.τ).loc Cert.MlpESIdeal.main_arg7) = m ((c.tc : Thread Cert.MlpESIdeal.nD Cert.MlpESIdeal.τ).loc Cert.MlpESIdeal.main_arg7)
      ∧ r.2.mem ((c.tc : Thread Cert.MlpESIdeal.nD Cert.MlpESIdeal.τ).loc Cert.MlpESIdeal.main_arg8) = m ((c.tc : Thread Cert.MlpESIdeal.nD Cert.MlpESIdeal.τ).loc Cert.MlpESIdeal.main_arg8))
      ∧ r.2.sem = fun _ => 0)

def quiescent_MlpESRefIdeal [hMlpESRefIdeal : Cert.MlpESRefIdeal.Facts] : Prop :=
  ∀ (m : (ℓ : Loc Cert.MlpESRefIdeal.nD Cert.MlpESRefIdeal.τ Cert.MlpESRefIdeal.sig) → Buf (Elt Ideal) ℓ) (g : Dev Cert.MlpESRefIdeal.nD → PrngReg), Pre_MlpESRefIdeal m →
    θ_run (Cert.MlpESRefIdeal.defs (F := Ideal)) (onTc (τ := Cert.MlpESRefIdeal.τ) (Cert.MlpESRefIdeal.main (F := Ideal))) ⟨m, fun _ => 0, g⟩ (fun r => (∀ c : Dev Cert.MlpESRefIdeal.nD,
      r.2.mem ((c.tc : Thread Cert.MlpESRefIdeal.nD Cert.MlpESRefIdeal.τ).loc Cert.MlpESRefIdeal.main_arg0) = m ((c.tc : Thread Cert.MlpESRefIdeal.nD Cert.MlpESRefIdeal.τ).loc Cert.MlpESRefIdeal.main_arg0)
      ∧ r.2.mem ((c.tc : Thread Cert.MlpESRefIdeal.nD Cert.MlpESRefIdeal.τ).loc Cert.MlpESRefIdeal.main_arg1) = m ((c.tc : Thread Cert.MlpESRefIdeal.nD Cert.MlpESRefIdeal.τ).loc Cert.MlpESRefIdeal.main_arg1)
      ∧ r.2.mem ((c.tc : Thread Cert.MlpESRefIdeal.nD Cert.MlpESRefIdeal.τ).loc Cert.MlpESRefIdeal.main_arg2) = m ((c.tc : Thread Cert.MlpESRefIdeal.nD Cert.MlpESRefIdeal.τ).loc Cert.MlpESRefIdeal.main_arg2)
      ∧ r.2.mem ((c.tc : Thread Cert.MlpESRefIdeal.nD Cert.MlpESRefIdeal.τ).loc Cert.MlpESRefIdeal.main_arg3) = m ((c.tc : Thread Cert.MlpESRefIdeal.nD Cert.MlpESRefIdeal.τ).loc Cert.MlpESRefIdeal.main_arg3)
      ∧ r.2.mem ((c.tc : Thread Cert.MlpESRefIdeal.nD Cert.MlpESRefIdeal.τ).loc Cert.MlpESRefIdeal.main_arg4) = m ((c.tc : Thread Cert.MlpESRefIdeal.nD Cert.MlpESRefIdeal.τ).loc Cert.MlpESRefIdeal.main_arg4)
      ∧ r.2.mem ((c.tc : Thread Cert.MlpESRefIdeal.nD Cert.MlpESRefIdeal.τ).loc Cert.MlpESRefIdeal.main_arg5) = m ((c.tc : Thread Cert.MlpESRefIdeal.nD Cert.MlpESRefIdeal.τ).loc Cert.MlpESRefIdeal.main_arg5)
      ∧ r.2.mem ((c.tc : Thread Cert.MlpESRefIdeal.nD Cert.MlpESRefIdeal.τ).loc Cert.MlpESRefIdeal.main_arg6) = m ((c.tc : Thread Cert.MlpESRefIdeal.nD Cert.MlpESRefIdeal.τ).loc Cert.MlpESRefIdeal.main_arg6)
      ∧ r.2.mem ((c.tc : Thread Cert.MlpESRefIdeal.nD Cert.MlpESRefIdeal.τ).loc Cert.MlpESRefIdeal.main_arg7) = m ((c.tc : Thread Cert.MlpESRefIdeal.nD Cert.MlpESRefIdeal.τ).loc Cert.MlpESRefIdeal.main_arg7)
      ∧ r.2.mem ((c.tc : Thread Cert.MlpESRefIdeal.nD Cert.MlpESRefIdeal.τ).loc Cert.MlpESRefIdeal.main_arg8) = m ((c.tc : Thread Cert.MlpESRefIdeal.nD Cert.MlpESRefIdeal.τ).loc Cert.MlpESRefIdeal.main_arg8))
      ∧ r.2.sem = fun _ => 0)

def quiescent_ConvInS [hConvInS : Cert.ConvInS.Facts] : Prop :=
  ∀ (m : (ℓ : Loc Cert.ConvInS.nD Cert.ConvInS.τ Cert.ConvInS.sig) → Buf (Elt Bits) ℓ) (g : Dev Cert.ConvInS.nD → PrngReg), Pre_ConvInS m →
    θ_run (Cert.ConvInS.defs (F := Bits)) (onTc (τ := Cert.ConvInS.τ) (Cert.ConvInS.main (F := Bits))) ⟨m, fun _ => 0, g⟩ (fun r => (∀ c : Dev Cert.ConvInS.nD,
      r.2.mem ((c.tc : Thread Cert.ConvInS.nD Cert.ConvInS.τ).loc Cert.ConvInS.main_arg0) = m ((c.tc : Thread Cert.ConvInS.nD Cert.ConvInS.τ).loc Cert.ConvInS.main_arg0)
      ∧ r.2.mem ((c.tc : Thread Cert.ConvInS.nD Cert.ConvInS.τ).loc Cert.ConvInS.main_arg1) = m ((c.tc : Thread Cert.ConvInS.nD Cert.ConvInS.τ).loc Cert.ConvInS.main_arg1)
      ∧ r.2.mem ((c.tc : Thread Cert.ConvInS.nD Cert.ConvInS.τ).loc Cert.ConvInS.main_arg2) = m ((c.tc : Thread Cert.ConvInS.nD Cert.ConvInS.τ).loc Cert.ConvInS.main_arg2)
      ∧ r.2.mem ((c.tc : Thread Cert.ConvInS.nD Cert.ConvInS.τ).loc Cert.ConvInS.main_arg3) = m ((c.tc : Thread Cert.ConvInS.nD Cert.ConvInS.τ).loc Cert.ConvInS.main_arg3))
      ∧ r.2.sem = fun _ => 0)

def quiescent_ConvInSIdeal [hConvInSIdeal : Cert.ConvInSIdeal.Facts] : Prop :=
  ∀ (m : (ℓ : Loc Cert.ConvInSIdeal.nD Cert.ConvInSIdeal.τ Cert.ConvInSIdeal.sig) → Buf (Elt Ideal) ℓ) (g : Dev Cert.ConvInSIdeal.nD → PrngReg), Pre_ConvInSIdeal m →
    θ_run (Cert.ConvInSIdeal.defs (F := Ideal)) (onTc (τ := Cert.ConvInSIdeal.τ) (Cert.ConvInSIdeal.main (F := Ideal))) ⟨m, fun _ => 0, g⟩ (fun r => (∀ c : Dev Cert.ConvInSIdeal.nD,
      r.2.mem ((c.tc : Thread Cert.ConvInSIdeal.nD Cert.ConvInSIdeal.τ).loc Cert.ConvInSIdeal.main_arg0) = m ((c.tc : Thread Cert.ConvInSIdeal.nD Cert.ConvInSIdeal.τ).loc Cert.ConvInSIdeal.main_arg0)
      ∧ r.2.mem ((c.tc : Thread Cert.ConvInSIdeal.nD Cert.ConvInSIdeal.τ).loc Cert.ConvInSIdeal.main_arg1) = m ((c.tc : Thread Cert.ConvInSIdeal.nD Cert.ConvInSIdeal.τ).loc Cert.ConvInSIdeal.main_arg1)
      ∧ r.2.mem ((c.tc : Thread Cert.ConvInSIdeal.nD Cert.ConvInSIdeal.τ).loc Cert.ConvInSIdeal.main_arg2) = m ((c.tc : Thread Cert.ConvInSIdeal.nD Cert.ConvInSIdeal.τ).loc Cert.ConvInSIdeal.main_arg2)
      ∧ r.2.mem ((c.tc : Thread Cert.ConvInSIdeal.nD Cert.ConvInSIdeal.τ).loc Cert.ConvInSIdeal.main_arg3) = m ((c.tc : Thread Cert.ConvInSIdeal.nD Cert.ConvInSIdeal.τ).loc Cert.ConvInSIdeal.main_arg3))
      ∧ r.2.sem = fun _ => 0)

def quiescent_ConvInSRefIdeal [hConvInSRefIdeal : Cert.ConvInSRefIdeal.Facts] : Prop :=
  ∀ (m : (ℓ : Loc Cert.ConvInSRefIdeal.nD Cert.ConvInSRefIdeal.τ Cert.ConvInSRefIdeal.sig) → Buf (Elt Ideal) ℓ) (g : Dev Cert.ConvInSRefIdeal.nD → PrngReg), Pre_ConvInSRefIdeal m →
    θ_run (Cert.ConvInSRefIdeal.defs (F := Ideal)) (onTc (τ := Cert.ConvInSRefIdeal.τ) (Cert.ConvInSRefIdeal.main (F := Ideal))) ⟨m, fun _ => 0, g⟩ (fun r => (∀ c : Dev Cert.ConvInSRefIdeal.nD,
      r.2.mem ((c.tc : Thread Cert.ConvInSRefIdeal.nD Cert.ConvInSRefIdeal.τ).loc Cert.ConvInSRefIdeal.main_arg0) = m ((c.tc : Thread Cert.ConvInSRefIdeal.nD Cert.ConvInSRefIdeal.τ).loc Cert.ConvInSRefIdeal.main_arg0)
      ∧ r.2.mem ((c.tc : Thread Cert.ConvInSRefIdeal.nD Cert.ConvInSRefIdeal.τ).loc Cert.ConvInSRefIdeal.main_arg1) = m ((c.tc : Thread Cert.ConvInSRefIdeal.nD Cert.ConvInSRefIdeal.τ).loc Cert.ConvInSRefIdeal.main_arg1)
      ∧ r.2.mem ((c.tc : Thread Cert.ConvInSRefIdeal.nD Cert.ConvInSRefIdeal.τ).loc Cert.ConvInSRefIdeal.main_arg2) = m ((c.tc : Thread Cert.ConvInSRefIdeal.nD Cert.ConvInSRefIdeal.τ).loc Cert.ConvInSRefIdeal.main_arg2)
      ∧ r.2.mem ((c.tc : Thread Cert.ConvInSRefIdeal.nD Cert.ConvInSRefIdeal.τ).loc Cert.ConvInSRefIdeal.main_arg3) = m ((c.tc : Thread Cert.ConvInSRefIdeal.nD Cert.ConvInSRefIdeal.τ).loc Cert.ConvInSRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)) →
    ∃ (v0 : (c : Dev Cert.ConvIdeal.nD) → Buf (Elt Ideal) ((c.tc : Thread Cert.ConvIdeal.nD Cert.ConvIdeal.τ).loc Cert.ConvIdeal.main_v13)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v13) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v256) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)
      ∧ m' ((c.tc : Thread Cert.ConvInRefIdeal.nD Cert.ConvInRefIdeal.τ).loc Cert.ConvInRefIdeal.main_arg3) = m ((c.tc : Thread Cert.ConvInIdeal.nD Cert.ConvInIdeal.τ).loc Cert.ConvInIdeal.main_arg3)) →
    ∃ (v0 : (c : Dev Cert.ConvInIdeal.nD) → Buf (Elt Ideal) ((c.tc : Thread Cert.ConvInIdeal.nD Cert.ConvInIdeal.τ).loc Cert.ConvInIdeal.main_v8)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v8) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v30) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2)
          ∧ r.2.mem ((c.tc : Thread Cert.ConvInRefIdeal.nD Cert.ConvInRefIdeal.τ).loc Cert.ConvInRefIdeal.main_arg3) = m' ((c.tc : Thread Cert.ConvInRefIdeal.nD Cert.ConvInRefIdeal.τ).loc Cert.ConvInRefIdeal.main_arg3))

def preserves_ConvStep_ConvStepIdeal : Prop :=
  True

def algebraic_ConvStepIdeal_ConvStepRefIdeal [hConvStepIdeal : Cert.ConvStepIdeal.Facts] [hConvStepRefIdeal : Cert.ConvStepRefIdeal.Facts] : Prop :=
  ∀ (m : (ℓ : Loc Cert.ConvStepIdeal.nD Cert.ConvStepIdeal.τ Cert.ConvStepIdeal.sig) → Buf (Elt Ideal) ℓ) (g : Dev Cert.ConvStepIdeal.nD → PrngReg)
    (m' : (ℓ : Loc Cert.ConvStepRefIdeal.nD Cert.ConvStepRefIdeal.τ Cert.ConvStepRefIdeal.sig) → Buf (Elt Ideal) ℓ) (g' : Dev Cert.ConvStepRefIdeal.nD → PrngReg), Pre_ConvStepIdeal m →
    (∀ c : Dev Cert.ConvStepIdeal.nD,
      m' ((c.tc : Thread Cert.ConvStepRefIdeal.nD Cert.ConvStepRefIdeal.τ).loc Cert.ConvStepRefIdeal.main_arg0) = m ((c.tc : Thread Cert.ConvStepIdeal.nD Cert.ConvStepIdeal.τ).loc Cert.ConvStepIdeal.main_arg0)
      ∧ m' ((c.tc : Thread Cert.ConvStepRefIdeal.nD Cert.ConvStepRefIdeal.τ).loc Cert.ConvStepRefIdeal.main_arg1) = m ((c.tc : Thread Cert.ConvStepIdeal.nD Cert.ConvStepIdeal.τ).loc Cert.ConvStepIdeal.main_arg1)
      ∧ m' ((c.tc : Thread Cert.ConvStepRefIdeal.nD Cert.ConvStepRefIdeal.τ).loc Cert.ConvStepRefIdeal.main_arg2) = m ((c.tc : Thread Cert.ConvStepIdeal.nD Cert.ConvStepIdeal.τ).loc Cert.ConvStepIdeal.main_arg2)
      ∧ m' ((c.tc : Thread Cert.ConvStepRefIdeal.nD Cert.ConvStepRefIdeal.τ).loc Cert.ConvStepRefIdeal.main_arg3) = m ((c.tc : Thread Cert.ConvStepIdeal.nD Cert.ConvStepIdeal.τ).loc Cert.ConvStepIdeal.main_arg3)
      ∧ m' ((c.tc : Thread Cert.ConvStepRefIdeal.nD Cert.ConvStepRefIdeal.τ).loc Cert.ConvStepRefIdeal.main_arg4) = m ((c.tc : Thread Cert.ConvStepIdeal.nD Cert.ConvStepIdeal.τ).loc Cert.ConvStepIdeal.main_arg4)
      ∧ m' ((c.tc : Thread Cert.ConvStepRefIdeal.nD Cert.ConvStepRefIdeal.τ).loc Cert.ConvStepRefIdeal.main_arg5) = m ((c.tc : Thread Cert.ConvStepIdeal.nD Cert.ConvStepIdeal.τ).loc Cert.ConvStepIdeal.main_arg5)
      ∧ m' ((c.tc : Thread Cert.ConvStepRefIdeal.nD Cert.ConvStepRefIdeal.τ).loc Cert.ConvStepRefIdeal.main_arg6) = m ((c.tc : Thread Cert.ConvStepIdeal.nD Cert.ConvStepIdeal.τ).loc Cert.ConvStepIdeal.main_arg6)
      ∧ m' ((c.tc : Thread Cert.ConvStepRefIdeal.nD Cert.ConvStepRefIdeal.τ).loc Cert.ConvStepRefIdeal.main_arg7) = m ((c.tc : Thread Cert.ConvStepIdeal.nD Cert.ConvStepIdeal.τ).loc Cert.ConvStepIdeal.main_arg7)
      ∧ m' ((c.tc : Thread Cert.ConvStepRefIdeal.nD Cert.ConvStepRefIdeal.τ).loc Cert.ConvStepRefIdeal.main_arg8) = m ((c.tc : Thread Cert.ConvStepIdeal.nD Cert.ConvStepIdeal.τ).loc Cert.ConvStepIdeal.main_arg8)) →
    ∃ (v0 : (c : Dev Cert.ConvStepIdeal.nD) → Buf (Elt Ideal) ((c.tc : Thread Cert.ConvStepIdeal.nD Cert.ConvStepIdeal.τ).loc Cert.ConvStepIdeal.main_v14_0)) (v1 : (c : Dev Cert.ConvStepIdeal.nD) → Buf (Elt Ideal) ((c.tc : Thread Cert.ConvStepIdeal.nD Cert.ConvStepIdeal.τ).loc Cert.ConvStepIdeal.main_v14_1)),
      θ_run (Cert.ConvStepIdeal.defs (F := Ideal)) (onTc (τ := Cert.ConvStepIdeal.τ) (Cert.ConvStepIdeal.main (F := Ideal))) ⟨m, fun _ => 0, g⟩ (fun r => ∀ c : Dev Cert.ConvStepIdeal.nD,
          r.2.mem ((c.tc : Thread Cert.ConvStepIdeal.nD Cert.ConvStepIdeal.τ).loc Cert.ConvStepIdeal.main_v14_0) = v0 c
          ∧ r.2.mem ((c.tc : Thread Cert.ConvStepIdeal.nD Cert.ConvStepIdeal.τ).loc Cert.ConvStepIdeal.main_v14_1) = v1 c
          ∧ r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
          ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
          ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
          ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3)
          ∧ r.2.mem ((c.tc : Thread Cert.ConvStepIdeal.nD Cert.ConvStepIdeal.τ).loc Cert.ConvStepIdeal.main_arg4) = m ((c.tc : Thread Cert.ConvStepIdeal.nD Cert.ConvStepIdeal.τ).loc Cert.ConvStepIdeal.main_arg4)
          ∧ r.2.mem ((c.tc : Thread Cert.ConvStepIdeal.nD Cert.ConvStepIdeal.τ).loc Cert.ConvStepIdeal.main_arg5) = m ((c.tc : Thread Cert.ConvStepIdeal.nD Cert.ConvStepIdeal.τ).loc Cert.ConvStepIdeal.main_arg5)
          ∧ r.2.mem ((c.tc : Thread Cert.ConvStepIdeal.nD Cert.ConvStepIdeal.τ).loc Cert.ConvStepIdeal.main_arg6) = m ((c.tc : Thread Cert.ConvStepIdeal.nD Cert.ConvStepIdeal.τ).loc Cert.ConvStepIdeal.main_arg6)
          ∧ r.2.mem ((c.tc : Thread Cert.ConvStepIdeal.nD Cert.ConvStepIdeal.τ).loc Cert.ConvStepIdeal.main_arg7) = m ((c.tc : Thread Cert.ConvStepIdeal.nD Cert.ConvStepIdeal.τ).loc Cert.ConvStepIdeal.main_arg7)
          ∧ r.2.mem ((c.tc : Thread Cert.ConvStepIdeal.nD Cert.ConvStepIdeal.τ).loc Cert.ConvStepIdeal.main_arg8) = m ((c.tc : Thread Cert.ConvStepIdeal.nD Cert.ConvStepIdeal.τ).loc Cert.ConvStepIdeal.main_arg8))
      ∧ θ_run (Cert.ConvStepRefIdeal.defs (F := Ideal)) (onTc (τ := Cert.ConvStepRefIdeal.τ) (Cert.ConvStepRefIdeal.main (F := Ideal))) ⟨m', fun _ => 0, g'⟩ (fun r => ∀ c : Dev Cert.ConvStepRefIdeal.nD,
          r.2.mem ((c.tc : Thread Cert.ConvStepRefIdeal.nD Cert.ConvStepRefIdeal.τ).loc Cert.ConvStepRefIdeal.main_v259) = v0 c
          ∧ r.2.mem ((c.tc : Thread Cert.ConvStepRefIdeal.nD Cert.ConvStepRefIdeal.τ).loc Cert.ConvStepRefIdeal.main_v261) = v1 c
          ∧ r.2.mem ((c.tc : Thread Cert.ConvStepRefIdeal.nD Cert.ConvStepRefIdeal.τ).loc Cert.ConvStepRefIdeal.main_arg0) = m' ((c.tc : Thread Cert.ConvStepRefIdeal.nD Cert.ConvStepRefIdeal.τ).loc Cert.ConvStepRefIdeal.main_arg0)
          ∧ r.2.mem ((c.tc : Thread Cert.ConvStepRefIdeal.nD Cert.ConvStepRefIdeal.τ).loc Cert.ConvStepRefIdeal.main_arg1) = m' ((c.tc : Thread Cert.ConvStepRefIdeal.nD Cert.ConvStepRefIdeal.τ).loc Cert.ConvStepRefIdeal.main_arg1)
          ∧ r.2.mem ((c.tc : Thread Cert.ConvStepRefIdeal.nD Cert.ConvStepRefIdeal.τ).loc Cert.ConvStepRefIdeal.main_arg2) = m' ((c.tc : Thread Cert.ConvStepRefIdeal.nD Cert.ConvStepRefIdeal.τ).loc Cert.ConvStepRefIdeal.main_arg2)
          ∧ r.2.mem ((c.tc : Thread Cert.ConvStepRefIdeal.nD Cert.ConvStepRefIdeal.τ).loc Cert.ConvStepRefIdeal.main_arg3) = m' ((c.tc : Thread Cert.ConvStepRefIdeal.nD Cert.ConvStepRefIdeal.τ).loc Cert.ConvStepRefIdeal.main_arg3)
          ∧ r.2.mem ((c.tc : Thread Cert.ConvStepRefIdeal.nD Cert.ConvStepRefIdeal.τ).loc Cert.ConvStepRefIdeal.main_arg4) = m' ((c.tc : Thread Cert.ConvStepRefIdeal.nD Cert.ConvStepRefIdeal.τ).loc Cert.ConvStepRefIdeal.main_arg4)
          ∧ r.2.mem ((c.tc : Thread Cert.ConvStepRefIdeal.nD Cert.ConvStepRefIdeal.τ).loc Cert.ConvStepRefIdeal.main_arg5) = m' ((c.tc : Thread Cert.ConvStepRefIdeal.nD Cert.ConvStepRefIdeal.τ).loc Cert.ConvStepRefIdeal.main_arg5)
          ∧ r.2.mem ((c.tc : Thread Cert.ConvStepRefIdeal.nD Cert.ConvStepRefIdeal.τ).loc Cert.ConvStepRefIdeal.main_arg6) = m' ((c.tc : Thread Cert.ConvStepRefIdeal.nD Cert.ConvStepRefIdeal.τ).loc Cert.ConvStepRefIdeal.main_arg6)
          ∧ r.2.mem ((c.tc : Thread Cert.ConvStepRefIdeal.nD Cert.ConvStepRefIdeal.τ).loc Cert.ConvStepRefIdeal.main_arg7) = m' ((c.tc : Thread Cert.ConvStepRefIdeal.nD Cert.ConvStepRefIdeal.τ).loc Cert.ConvStepRefIdeal.main_arg7)
          ∧ r.2.mem ((c.tc : Thread Cert.ConvStepRefIdeal.nD Cert.ConvStepRefIdeal.τ).loc Cert.ConvStepRefIdeal.main_arg8) = m' ((c.tc : Thread Cert.ConvStepRefIdeal.nD Cert.ConvStepRefIdeal.τ).loc Cert.ConvStepRefIdeal.main_arg8))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)) →
    ∃ (v0 : (c : Dev Cert.MlpIdeal.nD) → Buf (Elt Ideal) ((c.tc : Thread Cert.MlpIdeal.nD Cert.MlpIdeal.τ).loc Cert.MlpIdeal.main_v16)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v16) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v71) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)
      ∧ m' ((c.tc : Thread Cert.AttnInRefIdeal.nD Cert.AttnInRefIdeal.τ).loc Cert.AttnInRefIdeal.main_arg2) = m ((c.tc : Thread Cert.AttnInIdeal.nD Cert.AttnInIdeal.τ).loc Cert.AttnInIdeal.main_arg2)) →
    ∃ (v0 : (c : Dev Cert.AttnInIdeal.nD) → Buf (Elt Ideal) ((c.tc : Thread Cert.AttnInIdeal.nD Cert.AttnInIdeal.τ).loc Cert.AttnInIdeal.main_v12_0)) (v1 : (c : Dev Cert.AttnInIdeal.nD) → Buf (Elt Ideal) ((c.tc : Thread Cert.AttnInIdeal.nD Cert.AttnInIdeal.τ).loc Cert.AttnInIdeal.main_v12_1)) (v2 : (c : Dev Cert.AttnInIdeal.nD) → Buf (Elt Ideal) ((c.tc : Thread Cert.AttnInIdeal.nD Cert.AttnInIdeal.τ).loc Cert.AttnInIdeal.main_v12_2)) (v3 : (c : Dev Cert.AttnInIdeal.nD) → Buf (Elt Ideal) ((c.tc : Thread Cert.AttnInIdeal.nD Cert.AttnInIdeal.τ).loc Cert.AttnInIdeal.main_v12_3)) (v4 : (c : Dev Cert.AttnInIdeal.nD) → Buf (Elt Ideal) ((c.tc : Thread Cert.AttnInIdeal.nD Cert.AttnInIdeal.τ).loc Cert.AttnInIdeal.main_v12_4)) (v5 : (c : Dev Cert.AttnInIdeal.nD) → Buf (Elt Ideal) ((c.tc : Thread Cert.AttnInIdeal.nD Cert.AttnInIdeal.τ).loc Cert.AttnInIdeal.main_v12_5)) (v6 : (c : Dev Cert.AttnInIdeal.nD) → Buf (Elt Ideal) ((c.tc : Thread Cert.AttnInIdeal.nD Cert.AttnInIdeal.τ).loc Cert.AttnInIdeal.main_v12_6)) (v7 : (c : Dev Cert.AttnInIdeal.nD) → Buf (Elt Ideal) ((c.tc : Thread Cert.AttnInIdeal.nD Cert.AttnInIdeal.τ).loc Cert.AttnInIdeal.main_v12_7)) (v8 : (c : Dev Cert.AttnInIdeal.nD) → Buf (Elt Ideal) ((c.tc : Thread Cert.AttnInIdeal.nD Cert.AttnInIdeal.τ).loc Cert.AttnInIdeal.main_v12_8)) (v9 : (c : Dev Cert.AttnInIdeal.nD) → Buf (Elt Ideal) ((c.tc : Thread Cert.AttnInIdeal.nD Cert.AttnInIdeal.τ).loc Cert.AttnInIdeal.main_v12_9)) (v10 : (c : Dev Cert.AttnInIdeal.nD) → Buf (Elt Ideal) ((c.tc : Thread Cert.AttnInIdeal.nD Cert.AttnInIdeal.τ).loc Cert.AttnInIdeal.main_v12_10)) (v11 : (c : Dev Cert.AttnInIdeal.nD) → Buf (Elt Ideal) ((c.tc : Thread Cert.AttnInIdeal.nD Cert.AttnInIdeal.τ).loc Cert.AttnInIdeal.main_v12_11)) (v12 : (c : Dev Cert.AttnInIdeal.nD) → Buf (Elt Ideal) ((c.tc : Thread Cert.AttnInIdeal.nD Cert.AttnInIdeal.τ).loc Cert.AttnInIdeal.main_v12_12)) (v13 : (c : Dev Cert.AttnInIdeal.nD) → Buf (Elt Ideal) ((c.tc : Thread Cert.AttnInIdeal.nD Cert.AttnInIdeal.τ).loc Cert.AttnInIdeal.main_v12_13)) (v14 : (c : Dev Cert.AttnInIdeal.nD) → Buf (Elt Ideal) ((c.tc : Thread Cert.AttnInIdeal.nD Cert.AttnInIdeal.τ).loc Cert.AttnInIdeal.main_v12_14)) (v15 : (c : Dev Cert.AttnInIdeal.nD) → Buf (Elt Ideal) ((c.tc : Thread Cert.AttnInIdeal.nD Cert.AttnInIdeal.τ).loc Cert.AttnInIdeal.main_v12_15)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v12_0) = v0 c
          ∧ r.2.mem ((c.tc : Thread Cert.AttnInIdeal.nD Cert.AttnInIdeal.τ).loc Cert.AttnInIdeal.main_v12_1) = v1 c
          ∧ r.2.mem ((c.tc : Thread Cert.AttnInIdeal.nD Cert.AttnInIdeal.τ).loc Cert.AttnInIdeal.main_v12_2) = v2 c
          ∧ r.2.mem ((c.tc : Thread Cert.AttnInIdeal.nD Cert.AttnInIdeal.τ).loc Cert.AttnInIdeal.main_v12_3) = v3 c
          ∧ r.2.mem ((c.tc : Thread Cert.AttnInIdeal.nD Cert.AttnInIdeal.τ).loc Cert.AttnInIdeal.main_v12_4) = v4 c
          ∧ r.2.mem ((c.tc : Thread Cert.AttnInIdeal.nD Cert.AttnInIdeal.τ).loc Cert.AttnInIdeal.main_v12_5) = v5 c
          ∧ r.2.mem ((c.tc : Thread Cert.AttnInIdeal.nD Cert.AttnInIdeal.τ).loc Cert.AttnInIdeal.main_v12_6) = v6 c
          ∧ r.2.mem ((c.tc : Thread Cert.AttnInIdeal.nD Cert.AttnInIdeal.τ).loc Cert.AttnInIdeal.main_v12_7) = v7 c
          ∧ r.2.mem ((c.tc : Thread Cert.AttnInIdeal.nD Cert.AttnInIdeal.τ).loc Cert.AttnInIdeal.main_v12_8) = v8 c
          ∧ r.2.mem ((c.tc : Thread Cert.AttnInIdeal.nD Cert.AttnInIdeal.τ).loc Cert.AttnInIdeal.main_v12_9) = v9 c
          ∧ r.2.mem ((c.tc : Thread Cert.AttnInIdeal.nD Cert.AttnInIdeal.τ).loc Cert.AttnInIdeal.main_v12_10) = v10 c
          ∧ r.2.mem ((c.tc : Thread Cert.AttnInIdeal.nD Cert.AttnInIdeal.τ).loc Cert.AttnInIdeal.main_v12_11) = v11 c
          ∧ r.2.mem ((c.tc : Thread Cert.AttnInIdeal.nD Cert.AttnInIdeal.τ).loc Cert.AttnInIdeal.main_v12_12) = v12 c
          ∧ r.2.mem ((c.tc : Thread Cert.AttnInIdeal.nD Cert.AttnInIdeal.τ).loc Cert.AttnInIdeal.main_v12_13) = v13 c
          ∧ r.2.mem ((c.tc : Thread Cert.AttnInIdeal.nD Cert.AttnInIdeal.τ).loc Cert.AttnInIdeal.main_v12_14) = v14 c
          ∧ r.2.mem ((c.tc : Thread Cert.AttnInIdeal.nD Cert.AttnInIdeal.τ).loc Cert.AttnInIdeal.main_v12_15) = v15 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v52) = v0 c
          ∧ r.2.mem ((c.tc : Thread Cert.AttnInRefIdeal.nD Cert.AttnInRefIdeal.τ).loc Cert.AttnInRefIdeal.main_v53) = v1 c
          ∧ r.2.mem ((c.tc : Thread Cert.AttnInRefIdeal.nD Cert.AttnInRefIdeal.τ).loc Cert.AttnInRefIdeal.main_v54) = v2 c
          ∧ r.2.mem ((c.tc : Thread Cert.AttnInRefIdeal.nD Cert.AttnInRefIdeal.τ).loc Cert.AttnInRefIdeal.main_v55) = v3 c
          ∧ r.2.mem ((c.tc : Thread Cert.AttnInRefIdeal.nD Cert.AttnInRefIdeal.τ).loc Cert.AttnInRefIdeal.main_v56) = v4 c
          ∧ r.2.mem ((c.tc : Thread Cert.AttnInRefIdeal.nD Cert.AttnInRefIdeal.τ).loc Cert.AttnInRefIdeal.main_v57) = v5 c
          ∧ r.2.mem ((c.tc : Thread Cert.AttnInRefIdeal.nD Cert.AttnInRefIdeal.τ).loc Cert.AttnInRefIdeal.main_v48) = v6 c
          ∧ r.2.mem ((c.tc : Thread Cert.AttnInRefIdeal.nD Cert.AttnInRefIdeal.τ).loc Cert.AttnInRefIdeal.main_v50) = v7 c
          ∧ r.2.mem ((c.tc : Thread Cert.AttnInRefIdeal.nD Cert.AttnInRefIdeal.τ).loc Cert.AttnInRefIdeal.main_v33) = v8 c
          ∧ r.2.mem ((c.tc : Thread Cert.AttnInRefIdeal.nD Cert.AttnInRefIdeal.τ).loc Cert.AttnInRefIdeal.main_v35) = v9 c
          ∧ r.2.mem ((c.tc : Thread Cert.AttnInRefIdeal.nD Cert.AttnInRefIdeal.τ).loc Cert.AttnInRefIdeal.main_v37) = v10 c
          ∧ r.2.mem ((c.tc : Thread Cert.AttnInRefIdeal.nD Cert.AttnInRefIdeal.τ).loc Cert.AttnInRefIdeal.main_v39) = v11 c
          ∧ r.2.mem ((c.tc : Thread Cert.AttnInRefIdeal.nD Cert.AttnInRefIdeal.τ).loc Cert.AttnInRefIdeal.main_v41) = v12 c
          ∧ r.2.mem ((c.tc : Thread Cert.AttnInRefIdeal.nD Cert.AttnInRefIdeal.τ).loc Cert.AttnInRefIdeal.main_v43) = v13 c
          ∧ r.2.mem ((c.tc : Thread Cert.AttnInRefIdeal.nD Cert.AttnInRefIdeal.τ).loc Cert.AttnInRefIdeal.main_v44) = v14 c
          ∧ r.2.mem ((c.tc : Thread Cert.AttnInRefIdeal.nD Cert.AttnInRefIdeal.τ).loc Cert.AttnInRefIdeal.main_v45) = v15 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1)
          ∧ r.2.mem ((c.tc : Thread Cert.AttnInRefIdeal.nD Cert.AttnInRefIdeal.τ).loc Cert.AttnInRefIdeal.main_arg2) = m' ((c.tc : Thread Cert.AttnInRefIdeal.nD Cert.AttnInRefIdeal.τ).loc Cert.AttnInRefIdeal.main_arg2))

def preserves_AttnInS_AttnInSIdeal : Prop :=
  True

def algebraic_AttnInSIdeal_AttnInSRefIdeal [hAttnInSIdeal : Cert.AttnInSIdeal.Facts] [hAttnInSRefIdeal : Cert.AttnInSRefIdeal.Facts] : Prop :=
  ∀ (m : (ℓ : Loc Cert.AttnInSIdeal.nD Cert.AttnInSIdeal.τ Cert.AttnInSIdeal.sig) → Buf (Elt Ideal) ℓ) (g : Dev Cert.AttnInSIdeal.nD → PrngReg)
    (m' : (ℓ : Loc Cert.AttnInSRefIdeal.nD Cert.AttnInSRefIdeal.τ Cert.AttnInSRefIdeal.sig) → Buf (Elt Ideal) ℓ) (g' : Dev Cert.AttnInSRefIdeal.nD → PrngReg), Pre_AttnInSIdeal m →
    (∀ c : Dev Cert.AttnInSIdeal.nD,
      m' ((c.tc : Thread Cert.AttnInSRefIdeal.nD Cert.AttnInSRefIdeal.τ).loc Cert.AttnInSRefIdeal.main_arg0) = m ((c.tc : Thread Cert.AttnInSIdeal.nD Cert.AttnInSIdeal.τ).loc Cert.AttnInSIdeal.main_arg0)
      ∧ m' ((c.tc : Thread Cert.AttnInSRefIdeal.nD Cert.AttnInSRefIdeal.τ).loc Cert.AttnInSRefIdeal.main_arg1) = m ((c.tc : Thread Cert.AttnInSIdeal.nD Cert.AttnInSIdeal.τ).loc Cert.AttnInSIdeal.main_arg1)
      ∧ m' ((c.tc : Thread Cert.AttnInSRefIdeal.nD Cert.AttnInSRefIdeal.τ).loc Cert.AttnInSRefIdeal.main_arg2) = m ((c.tc : Thread Cert.AttnInSIdeal.nD Cert.AttnInSIdeal.τ).loc Cert.AttnInSIdeal.main_arg2)) →
    ∃ (v0 : (c : Dev Cert.AttnInSIdeal.nD) → Buf (Elt Ideal) ((c.tc : Thread Cert.AttnInSIdeal.nD Cert.AttnInSIdeal.τ).loc Cert.AttnInSIdeal.main_v12_0)) (v1 : (c : Dev Cert.AttnInSIdeal.nD) → Buf (Elt Ideal) ((c.tc : Thread Cert.AttnInSIdeal.nD Cert.AttnInSIdeal.τ).loc Cert.AttnInSIdeal.main_v12_1)) (v2 : (c : Dev Cert.AttnInSIdeal.nD) → Buf (Elt Ideal) ((c.tc : Thread Cert.AttnInSIdeal.nD Cert.AttnInSIdeal.τ).loc Cert.AttnInSIdeal.main_v12_2)) (v3 : (c : Dev Cert.AttnInSIdeal.nD) → Buf (Elt Ideal) ((c.tc : Thread Cert.AttnInSIdeal.nD Cert.AttnInSIdeal.τ).loc Cert.AttnInSIdeal.main_v12_3)) (v4 : (c : Dev Cert.AttnInSIdeal.nD) → Buf (Elt Ideal) ((c.tc : Thread Cert.AttnInSIdeal.nD Cert.AttnInSIdeal.τ).loc Cert.AttnInSIdeal.main_v12_4)) (v5 : (c : Dev Cert.AttnInSIdeal.nD) → Buf (Elt Ideal) ((c.tc : Thread Cert.AttnInSIdeal.nD Cert.AttnInSIdeal.τ).loc Cert.AttnInSIdeal.main_v12_5)) (v6 : (c : Dev Cert.AttnInSIdeal.nD) → Buf (Elt Ideal) ((c.tc : Thread Cert.AttnInSIdeal.nD Cert.AttnInSIdeal.τ).loc Cert.AttnInSIdeal.main_v12_6)) (v7 : (c : Dev Cert.AttnInSIdeal.nD) → Buf (Elt Ideal) ((c.tc : Thread Cert.AttnInSIdeal.nD Cert.AttnInSIdeal.τ).loc Cert.AttnInSIdeal.main_v12_7)),
      θ_run (Cert.AttnInSIdeal.defs (F := Ideal)) (onTc (τ := Cert.AttnInSIdeal.τ) (Cert.AttnInSIdeal.main (F := Ideal))) ⟨m, fun _ => 0, g⟩ (fun r => ∀ c : Dev Cert.AttnInSIdeal.nD,
          r.2.mem ((c.tc : Thread Cert.AttnInSIdeal.nD Cert.AttnInSIdeal.τ).loc Cert.AttnInSIdeal.main_v12_0) = v0 c
          ∧ r.2.mem ((c.tc : Thread Cert.AttnInSIdeal.nD Cert.AttnInSIdeal.τ).loc Cert.AttnInSIdeal.main_v12_1) = v1 c
          ∧ r.2.mem ((c.tc : Thread Cert.AttnInSIdeal.nD Cert.AttnInSIdeal.τ).loc Cert.AttnInSIdeal.main_v12_2) = v2 c
          ∧ r.2.mem ((c.tc : Thread Cert.AttnInSIdeal.nD Cert.AttnInSIdeal.τ).loc Cert.AttnInSIdeal.main_v12_3) = v3 c
          ∧ r.2.mem ((c.tc : Thread Cert.AttnInSIdeal.nD Cert.AttnInSIdeal.τ).loc Cert.AttnInSIdeal.main_v12_4) = v4 c
          ∧ r.2.mem ((c.tc : Thread Cert.AttnInSIdeal.nD Cert.AttnInSIdeal.τ).loc Cert.AttnInSIdeal.main_v12_5) = v5 c
          ∧ r.2.mem ((c.tc : Thread Cert.AttnInSIdeal.nD Cert.AttnInSIdeal.τ).loc Cert.AttnInSIdeal.main_v12_6) = v6 c
          ∧ r.2.mem ((c.tc : Thread Cert.AttnInSIdeal.nD Cert.AttnInSIdeal.τ).loc Cert.AttnInSIdeal.main_v12_7) = v7 c
          ∧ r.2.mem ((c.tc : Thread Cert.AttnInSIdeal.nD Cert.AttnInSIdeal.τ).loc Cert.AttnInSIdeal.main_arg0) = m ((c.tc : Thread Cert.AttnInSIdeal.nD Cert.AttnInSIdeal.τ).loc Cert.AttnInSIdeal.main_arg0)
          ∧ r.2.mem ((c.tc : Thread Cert.AttnInSIdeal.nD Cert.AttnInSIdeal.τ).loc Cert.AttnInSIdeal.main_arg1) = m ((c.tc : Thread Cert.AttnInSIdeal.nD Cert.AttnInSIdeal.τ).loc Cert.AttnInSIdeal.main_arg1)
          ∧ r.2.mem ((c.tc : Thread Cert.AttnInSIdeal.nD Cert.AttnInSIdeal.τ).loc Cert.AttnInSIdeal.main_arg2) = m ((c.tc : Thread Cert.AttnInSIdeal.nD Cert.AttnInSIdeal.τ).loc Cert.AttnInSIdeal.main_arg2))
      ∧ θ_run (Cert.AttnInSRefIdeal.defs (F := Ideal)) (onTc (τ := Cert.AttnInSRefIdeal.τ) (Cert.AttnInSRefIdeal.main (F := Ideal))) ⟨m', fun _ => 0, g'⟩ (fun r => ∀ c : Dev Cert.AttnInSRefIdeal.nD,
          r.2.mem ((c.tc : Thread Cert.AttnInSRefIdeal.nD Cert.AttnInSRefIdeal.τ).loc Cert.AttnInSRefIdeal.main_v32) = v0 c
          ∧ r.2.mem ((c.tc : Thread Cert.AttnInSRefIdeal.nD Cert.AttnInSRefIdeal.τ).loc Cert.AttnInSRefIdeal.main_v33) = v1 c
          ∧ r.2.mem ((c.tc : Thread Cert.AttnInSRefIdeal.nD Cert.AttnInSRefIdeal.τ).loc Cert.AttnInSRefIdeal.main_v34) = v2 c
          ∧ r.2.mem ((c.tc : Thread Cert.AttnInSRefIdeal.nD Cert.AttnInSRefIdeal.τ).loc Cert.AttnInSRefIdeal.main_v35) = v3 c
          ∧ r.2.mem ((c.tc : Thread Cert.AttnInSRefIdeal.nD Cert.AttnInSRefIdeal.τ).loc Cert.AttnInSRefIdeal.main_v36) = v4 c
          ∧ r.2.mem ((c.tc : Thread Cert.AttnInSRefIdeal.nD Cert.AttnInSRefIdeal.τ).loc Cert.AttnInSRefIdeal.main_v37) = v5 c
          ∧ r.2.mem ((c.tc : Thread Cert.AttnInSRefIdeal.nD Cert.AttnInSRefIdeal.τ).loc Cert.AttnInSRefIdeal.main_v38) = v6 c
          ∧ r.2.mem ((c.tc : Thread Cert.AttnInSRefIdeal.nD Cert.AttnInSRefIdeal.τ).loc Cert.AttnInSRefIdeal.main_v39) = v7 c
          ∧ r.2.mem ((c.tc : Thread Cert.AttnInSRefIdeal.nD Cert.AttnInSRefIdeal.τ).loc Cert.AttnInSRefIdeal.main_arg0) = m' ((c.tc : Thread Cert.AttnInSRefIdeal.nD Cert.AttnInSRefIdeal.τ).loc Cert.AttnInSRefIdeal.main_arg0)
          ∧ r.2.mem ((c.tc : Thread Cert.AttnInSRefIdeal.nD Cert.AttnInSRefIdeal.τ).loc Cert.AttnInSRefIdeal.main_arg1) = m' ((c.tc : Thread Cert.AttnInSRefIdeal.nD Cert.AttnInSRefIdeal.τ).loc Cert.AttnInSRefIdeal.main_arg1)
          ∧ r.2.mem ((c.tc : Thread Cert.AttnInSRefIdeal.nD Cert.AttnInSRefIdeal.τ).loc Cert.AttnInSRefIdeal.main_arg2) = m' ((c.tc : Thread Cert.AttnInSRefIdeal.nD Cert.AttnInSRefIdeal.τ).loc Cert.AttnInSRefIdeal.main_arg2))

def preserves_MlpS_MlpSIdeal : Prop :=
  True

def algebraic_MlpSIdeal_MlpSRefIdeal [hMlpSIdeal : Cert.MlpSIdeal.Facts] [hMlpSRefIdeal : Cert.MlpSRefIdeal.Facts] : Prop :=
  ∀ (m : (ℓ : Loc Cert.MlpSIdeal.nD Cert.MlpSIdeal.τ Cert.MlpSIdeal.sig) → Buf (Elt Ideal) ℓ) (g : Dev Cert.MlpSIdeal.nD → PrngReg)
    (m' : (ℓ : Loc Cert.MlpSRefIdeal.nD Cert.MlpSRefIdeal.τ Cert.MlpSRefIdeal.sig) → Buf (Elt Ideal) ℓ) (g' : Dev Cert.MlpSRefIdeal.nD → PrngReg), Pre_MlpSIdeal m →
    (∀ c : Dev Cert.MlpSIdeal.nD,
      m' ((c.tc : Thread Cert.MlpSRefIdeal.nD Cert.MlpSRefIdeal.τ).loc Cert.MlpSRefIdeal.main_arg0) = m ((c.tc : Thread Cert.MlpSIdeal.nD Cert.MlpSIdeal.τ).loc Cert.MlpSIdeal.main_arg0)
      ∧ m' ((c.tc : Thread Cert.MlpSRefIdeal.nD Cert.MlpSRefIdeal.τ).loc Cert.MlpSRefIdeal.main_arg1) = m ((c.tc : Thread Cert.MlpSIdeal.nD Cert.MlpSIdeal.τ).loc Cert.MlpSIdeal.main_arg1)
      ∧ m' ((c.tc : Thread Cert.MlpSRefIdeal.nD Cert.MlpSRefIdeal.τ).loc Cert.MlpSRefIdeal.main_arg2) = m ((c.tc : Thread Cert.MlpSIdeal.nD Cert.MlpSIdeal.τ).loc Cert.MlpSIdeal.main_arg2)
      ∧ m' ((c.tc : Thread Cert.MlpSRefIdeal.nD Cert.MlpSRefIdeal.τ).loc Cert.MlpSRefIdeal.main_arg3) = m ((c.tc : Thread Cert.MlpSIdeal.nD Cert.MlpSIdeal.τ).loc Cert.MlpSIdeal.main_arg3)
      ∧ m' ((c.tc : Thread Cert.MlpSRefIdeal.nD Cert.MlpSRefIdeal.τ).loc Cert.MlpSRefIdeal.main_arg4) = m ((c.tc : Thread Cert.MlpSIdeal.nD Cert.MlpSIdeal.τ).loc Cert.MlpSIdeal.main_arg4)
      ∧ m' ((c.tc : Thread Cert.MlpSRefIdeal.nD Cert.MlpSRefIdeal.τ).loc Cert.MlpSRefIdeal.main_arg5) = m ((c.tc : Thread Cert.MlpSIdeal.nD Cert.MlpSIdeal.τ).loc Cert.MlpSIdeal.main_arg5)
      ∧ m' ((c.tc : Thread Cert.MlpSRefIdeal.nD Cert.MlpSRefIdeal.τ).loc Cert.MlpSRefIdeal.main_arg6) = m ((c.tc : Thread Cert.MlpSIdeal.nD Cert.MlpSIdeal.τ).loc Cert.MlpSIdeal.main_arg6)
      ∧ m' ((c.tc : Thread Cert.MlpSRefIdeal.nD Cert.MlpSRefIdeal.τ).loc Cert.MlpSRefIdeal.main_arg7) = m ((c.tc : Thread Cert.MlpSIdeal.nD Cert.MlpSIdeal.τ).loc Cert.MlpSIdeal.main_arg7)
      ∧ m' ((c.tc : Thread Cert.MlpSRefIdeal.nD Cert.MlpSRefIdeal.τ).loc Cert.MlpSRefIdeal.main_arg8) = m ((c.tc : Thread Cert.MlpSIdeal.nD Cert.MlpSIdeal.τ).loc Cert.MlpSIdeal.main_arg8)
      ∧ m' ((c.tc : Thread Cert.MlpSRefIdeal.nD Cert.MlpSRefIdeal.τ).loc Cert.MlpSRefIdeal.main_arg9) = m ((c.tc : Thread Cert.MlpSIdeal.nD Cert.MlpSIdeal.τ).loc Cert.MlpSIdeal.main_arg9)
      ∧ m' ((c.tc : Thread Cert.MlpSRefIdeal.nD Cert.MlpSRefIdeal.τ).loc Cert.MlpSRefIdeal.main_arg10) = m ((c.tc : Thread Cert.MlpSIdeal.nD Cert.MlpSIdeal.τ).loc Cert.MlpSIdeal.main_arg10)) →
    ∃ (v0 : (c : Dev Cert.MlpSIdeal.nD) → Buf (Elt Ideal) ((c.tc : Thread Cert.MlpSIdeal.nD Cert.MlpSIdeal.τ).loc Cert.MlpSIdeal.main_v16)),
      θ_run (Cert.MlpSIdeal.defs (F := Ideal)) (onTc (τ := Cert.MlpSIdeal.τ) (Cert.MlpSIdeal.main (F := Ideal))) ⟨m, fun _ => 0, g⟩ (fun r => ∀ c : Dev Cert.MlpSIdeal.nD,
          r.2.mem ((c.tc : Thread Cert.MlpSIdeal.nD Cert.MlpSIdeal.τ).loc Cert.MlpSIdeal.main_v16) = v0 c
          ∧ r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
          ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
          ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
          ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
          ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4)
          ∧ r.2.mem ((c.tc : Thread Cert.MlpSIdeal.nD Cert.MlpSIdeal.τ).loc Cert.MlpSIdeal.main_arg5) = m ((c.tc : Thread Cert.MlpSIdeal.nD Cert.MlpSIdeal.τ).loc Cert.MlpSIdeal.main_arg5)
          ∧ r.2.mem ((c.tc : Thread Cert.MlpSIdeal.nD Cert.MlpSIdeal.τ).loc Cert.MlpSIdeal.main_arg6) = m ((c.tc : Thread Cert.MlpSIdeal.nD Cert.MlpSIdeal.τ).loc Cert.MlpSIdeal.main_arg6)
          ∧ r.2.mem ((c.tc : Thread Cert.MlpSIdeal.nD Cert.MlpSIdeal.τ).loc Cert.MlpSIdeal.main_arg7) = m ((c.tc : Thread Cert.MlpSIdeal.nD Cert.MlpSIdeal.τ).loc Cert.MlpSIdeal.main_arg7)
          ∧ r.2.mem ((c.tc : Thread Cert.MlpSIdeal.nD Cert.MlpSIdeal.τ).loc Cert.MlpSIdeal.main_arg8) = m ((c.tc : Thread Cert.MlpSIdeal.nD Cert.MlpSIdeal.τ).loc Cert.MlpSIdeal.main_arg8)
          ∧ r.2.mem ((c.tc : Thread Cert.MlpSIdeal.nD Cert.MlpSIdeal.τ).loc Cert.MlpSIdeal.main_arg9) = m ((c.tc : Thread Cert.MlpSIdeal.nD Cert.MlpSIdeal.τ).loc Cert.MlpSIdeal.main_arg9)
          ∧ r.2.mem ((c.tc : Thread Cert.MlpSIdeal.nD Cert.MlpSIdeal.τ).loc Cert.MlpSIdeal.main_arg10) = m ((c.tc : Thread Cert.MlpSIdeal.nD Cert.MlpSIdeal.τ).loc Cert.MlpSIdeal.main_arg10))
      ∧ θ_run (Cert.MlpSRefIdeal.defs (F := Ideal)) (onTc (τ := Cert.MlpSRefIdeal.τ) (Cert.MlpSRefIdeal.main (F := Ideal))) ⟨m', fun _ => 0, g'⟩ (fun r => ∀ c : Dev Cert.MlpSRefIdeal.nD,
          r.2.mem ((c.tc : Thread Cert.MlpSRefIdeal.nD Cert.MlpSRefIdeal.τ).loc Cert.MlpSRefIdeal.main_v71) = v0 c
          ∧ r.2.mem ((c.tc : Thread Cert.MlpSRefIdeal.nD Cert.MlpSRefIdeal.τ).loc Cert.MlpSRefIdeal.main_arg0) = m' ((c.tc : Thread Cert.MlpSRefIdeal.nD Cert.MlpSRefIdeal.τ).loc Cert.MlpSRefIdeal.main_arg0)
          ∧ r.2.mem ((c.tc : Thread Cert.MlpSRefIdeal.nD Cert.MlpSRefIdeal.τ).loc Cert.MlpSRefIdeal.main_arg1) = m' ((c.tc : Thread Cert.MlpSRefIdeal.nD Cert.MlpSRefIdeal.τ).loc Cert.MlpSRefIdeal.main_arg1)
          ∧ r.2.mem ((c.tc : Thread Cert.MlpSRefIdeal.nD Cert.MlpSRefIdeal.τ).loc Cert.MlpSRefIdeal.main_arg2) = m' ((c.tc : Thread Cert.MlpSRefIdeal.nD Cert.MlpSRefIdeal.τ).loc Cert.MlpSRefIdeal.main_arg2)
          ∧ r.2.mem ((c.tc : Thread Cert.MlpSRefIdeal.nD Cert.MlpSRefIdeal.τ).loc Cert.MlpSRefIdeal.main_arg3) = m' ((c.tc : Thread Cert.MlpSRefIdeal.nD Cert.MlpSRefIdeal.τ).loc Cert.MlpSRefIdeal.main_arg3)
          ∧ r.2.mem ((c.tc : Thread Cert.MlpSRefIdeal.nD Cert.MlpSRefIdeal.τ).loc Cert.MlpSRefIdeal.main_arg4) = m' ((c.tc : Thread Cert.MlpSRefIdeal.nD Cert.MlpSRefIdeal.τ).loc Cert.MlpSRefIdeal.main_arg4)
          ∧ r.2.mem ((c.tc : Thread Cert.MlpSRefIdeal.nD Cert.MlpSRefIdeal.τ).loc Cert.MlpSRefIdeal.main_arg5) = m' ((c.tc : Thread Cert.MlpSRefIdeal.nD Cert.MlpSRefIdeal.τ).loc Cert.MlpSRefIdeal.main_arg5)
          ∧ r.2.mem ((c.tc : Thread Cert.MlpSRefIdeal.nD Cert.MlpSRefIdeal.τ).loc Cert.MlpSRefIdeal.main_arg6) = m' ((c.tc : Thread Cert.MlpSRefIdeal.nD Cert.MlpSRefIdeal.τ).loc Cert.MlpSRefIdeal.main_arg6)
          ∧ r.2.mem ((c.tc : Thread Cert.MlpSRefIdeal.nD Cert.MlpSRefIdeal.τ).loc Cert.MlpSRefIdeal.main_arg7) = m' ((c.tc : Thread Cert.MlpSRefIdeal.nD Cert.MlpSRefIdeal.τ).loc Cert.MlpSRefIdeal.main_arg7)
          ∧ r.2.mem ((c.tc : Thread Cert.MlpSRefIdeal.nD Cert.MlpSRefIdeal.τ).loc Cert.MlpSRefIdeal.main_arg8) = m' ((c.tc : Thread Cert.MlpSRefIdeal.nD Cert.MlpSRefIdeal.τ).loc Cert.MlpSRefIdeal.main_arg8)
          ∧ r.2.mem ((c.tc : Thread Cert.MlpSRefIdeal.nD Cert.MlpSRefIdeal.τ).loc Cert.MlpSRefIdeal.main_arg9) = m' ((c.tc : Thread Cert.MlpSRefIdeal.nD Cert.MlpSRefIdeal.τ).loc Cert.MlpSRefIdeal.main_arg9)
          ∧ r.2.mem ((c.tc : Thread Cert.MlpSRefIdeal.nD Cert.MlpSRefIdeal.τ).loc Cert.MlpSRefIdeal.main_arg10) = m' ((c.tc : Thread Cert.MlpSRefIdeal.nD Cert.MlpSRefIdeal.τ).loc Cert.MlpSRefIdeal.main_arg10))

def preserves_MlpE_MlpEIdeal : Prop :=
  True

def algebraic_MlpEIdeal_MlpERefIdeal [hMlpEIdeal : Cert.MlpEIdeal.Facts] [hMlpERefIdeal : Cert.MlpERefIdeal.Facts] : Prop :=
  ∀ (m : (ℓ : Loc Cert.MlpEIdeal.nD Cert.MlpEIdeal.τ Cert.MlpEIdeal.sig) → Buf (Elt Ideal) ℓ) (g : Dev Cert.MlpEIdeal.nD → PrngReg)
    (m' : (ℓ : Loc Cert.MlpERefIdeal.nD Cert.MlpERefIdeal.τ Cert.MlpERefIdeal.sig) → Buf (Elt Ideal) ℓ) (g' : Dev Cert.MlpERefIdeal.nD → PrngReg), Pre_MlpEIdeal m →
    (∀ c : Dev Cert.MlpEIdeal.nD,
      m' ((c.tc : Thread Cert.MlpERefIdeal.nD Cert.MlpERefIdeal.τ).loc Cert.MlpERefIdeal.main_arg0) = m ((c.tc : Thread Cert.MlpEIdeal.nD Cert.MlpEIdeal.τ).loc Cert.MlpEIdeal.main_arg0)
      ∧ m' ((c.tc : Thread Cert.MlpERefIdeal.nD Cert.MlpERefIdeal.τ).loc Cert.MlpERefIdeal.main_arg1) = m ((c.tc : Thread Cert.MlpEIdeal.nD Cert.MlpEIdeal.τ).loc Cert.MlpEIdeal.main_arg1)
      ∧ m' ((c.tc : Thread Cert.MlpERefIdeal.nD Cert.MlpERefIdeal.τ).loc Cert.MlpERefIdeal.main_arg2) = m ((c.tc : Thread Cert.MlpEIdeal.nD Cert.MlpEIdeal.τ).loc Cert.MlpEIdeal.main_arg2)
      ∧ m' ((c.tc : Thread Cert.MlpERefIdeal.nD Cert.MlpERefIdeal.τ).loc Cert.MlpERefIdeal.main_arg3) = m ((c.tc : Thread Cert.MlpEIdeal.nD Cert.MlpEIdeal.τ).loc Cert.MlpEIdeal.main_arg3)
      ∧ m' ((c.tc : Thread Cert.MlpERefIdeal.nD Cert.MlpERefIdeal.τ).loc Cert.MlpERefIdeal.main_arg4) = m ((c.tc : Thread Cert.MlpEIdeal.nD Cert.MlpEIdeal.τ).loc Cert.MlpEIdeal.main_arg4)
      ∧ m' ((c.tc : Thread Cert.MlpERefIdeal.nD Cert.MlpERefIdeal.τ).loc Cert.MlpERefIdeal.main_arg5) = m ((c.tc : Thread Cert.MlpEIdeal.nD Cert.MlpEIdeal.τ).loc Cert.MlpEIdeal.main_arg5)
      ∧ m' ((c.tc : Thread Cert.MlpERefIdeal.nD Cert.MlpERefIdeal.τ).loc Cert.MlpERefIdeal.main_arg6) = m ((c.tc : Thread Cert.MlpEIdeal.nD Cert.MlpEIdeal.τ).loc Cert.MlpEIdeal.main_arg6)
      ∧ m' ((c.tc : Thread Cert.MlpERefIdeal.nD Cert.MlpERefIdeal.τ).loc Cert.MlpERefIdeal.main_arg7) = m ((c.tc : Thread Cert.MlpEIdeal.nD Cert.MlpEIdeal.τ).loc Cert.MlpEIdeal.main_arg7)
      ∧ m' ((c.tc : Thread Cert.MlpERefIdeal.nD Cert.MlpERefIdeal.τ).loc Cert.MlpERefIdeal.main_arg8) = m ((c.tc : Thread Cert.MlpEIdeal.nD Cert.MlpEIdeal.τ).loc Cert.MlpEIdeal.main_arg8)) →
    ∃ (v0 : (c : Dev Cert.MlpEIdeal.nD) → Buf (Elt Ideal) ((c.tc : Thread Cert.MlpEIdeal.nD Cert.MlpEIdeal.τ).loc Cert.MlpEIdeal.main_v13)),
      θ_run (Cert.MlpEIdeal.defs (F := Ideal)) (onTc (τ := Cert.MlpEIdeal.τ) (Cert.MlpEIdeal.main (F := Ideal))) ⟨m, fun _ => 0, g⟩ (fun r => ∀ c : Dev Cert.MlpEIdeal.nD,
          r.2.mem ((c.tc : Thread Cert.MlpEIdeal.nD Cert.MlpEIdeal.τ).loc Cert.MlpEIdeal.main_v13) = v0 c
          ∧ r.2.mem ((c.tc : Thread Cert.MlpEIdeal.nD Cert.MlpEIdeal.τ).loc Cert.MlpEIdeal.main_arg0) = m ((c.tc : Thread Cert.MlpEIdeal.nD Cert.MlpEIdeal.τ).loc Cert.MlpEIdeal.main_arg0)
          ∧ r.2.mem ((c.tc : Thread Cert.MlpEIdeal.nD Cert.MlpEIdeal.τ).loc Cert.MlpEIdeal.main_arg1) = m ((c.tc : Thread Cert.MlpEIdeal.nD Cert.MlpEIdeal.τ).loc Cert.MlpEIdeal.main_arg1)
          ∧ r.2.mem ((c.tc : Thread Cert.MlpEIdeal.nD Cert.MlpEIdeal.τ).loc Cert.MlpEIdeal.main_arg2) = m ((c.tc : Thread Cert.MlpEIdeal.nD Cert.MlpEIdeal.τ).loc Cert.MlpEIdeal.main_arg2)
          ∧ r.2.mem ((c.tc : Thread Cert.MlpEIdeal.nD Cert.MlpEIdeal.τ).loc Cert.MlpEIdeal.main_arg3) = m ((c.tc : Thread Cert.MlpEIdeal.nD Cert.MlpEIdeal.τ).loc Cert.MlpEIdeal.main_arg3)
          ∧ r.2.mem ((c.tc : Thread Cert.MlpEIdeal.nD Cert.MlpEIdeal.τ).loc Cert.MlpEIdeal.main_arg4) = m ((c.tc : Thread Cert.MlpEIdeal.nD Cert.MlpEIdeal.τ).loc Cert.MlpEIdeal.main_arg4)
          ∧ r.2.mem ((c.tc : Thread Cert.MlpEIdeal.nD Cert.MlpEIdeal.τ).loc Cert.MlpEIdeal.main_arg5) = m ((c.tc : Thread Cert.MlpEIdeal.nD Cert.MlpEIdeal.τ).loc Cert.MlpEIdeal.main_arg5)
          ∧ r.2.mem ((c.tc : Thread Cert.MlpEIdeal.nD Cert.MlpEIdeal.τ).loc Cert.MlpEIdeal.main_arg6) = m ((c.tc : Thread Cert.MlpEIdeal.nD Cert.MlpEIdeal.τ).loc Cert.MlpEIdeal.main_arg6)
          ∧ r.2.mem ((c.tc : Thread Cert.MlpEIdeal.nD Cert.MlpEIdeal.τ).loc Cert.MlpEIdeal.main_arg7) = m ((c.tc : Thread Cert.MlpEIdeal.nD Cert.MlpEIdeal.τ).loc Cert.MlpEIdeal.main_arg7)
          ∧ r.2.mem ((c.tc : Thread Cert.MlpEIdeal.nD Cert.MlpEIdeal.τ).loc Cert.MlpEIdeal.main_arg8) = m ((c.tc : Thread Cert.MlpEIdeal.nD Cert.MlpEIdeal.τ).loc Cert.MlpEIdeal.main_arg8))
      ∧ θ_run (Cert.MlpERefIdeal.defs (F := Ideal)) (onTc (τ := Cert.MlpERefIdeal.τ) (Cert.MlpERefIdeal.main (F := Ideal))) ⟨m', fun _ => 0, g'⟩ (fun r => ∀ c : Dev Cert.MlpERefIdeal.nD,
          r.2.mem ((c.tc : Thread Cert.MlpERefIdeal.nD Cert.MlpERefIdeal.τ).loc Cert.MlpERefIdeal.main_v55) = v0 c
          ∧ r.2.mem ((c.tc : Thread Cert.MlpERefIdeal.nD Cert.MlpERefIdeal.τ).loc Cert.MlpERefIdeal.main_arg0) = m' ((c.tc : Thread Cert.MlpERefIdeal.nD Cert.MlpERefIdeal.τ).loc Cert.MlpERefIdeal.main_arg0)
          ∧ r.2.mem ((c.tc : Thread Cert.MlpERefIdeal.nD Cert.MlpERefIdeal.τ).loc Cert.MlpERefIdeal.main_arg1) = m' ((c.tc : Thread Cert.MlpERefIdeal.nD Cert.MlpERefIdeal.τ).loc Cert.MlpERefIdeal.main_arg1)
          ∧ r.2.mem ((c.tc : Thread Cert.MlpERefIdeal.nD Cert.MlpERefIdeal.τ).loc Cert.MlpERefIdeal.main_arg2) = m' ((c.tc : Thread Cert.MlpERefIdeal.nD Cert.MlpERefIdeal.τ).loc Cert.MlpERefIdeal.main_arg2)
          ∧ r.2.mem ((c.tc : Thread Cert.MlpERefIdeal.nD Cert.MlpERefIdeal.τ).loc Cert.MlpERefIdeal.main_arg3) = m' ((c.tc : Thread Cert.MlpERefIdeal.nD Cert.MlpERefIdeal.τ).loc Cert.MlpERefIdeal.main_arg3)
          ∧ r.2.mem ((c.tc : Thread Cert.MlpERefIdeal.nD Cert.MlpERefIdeal.τ).loc Cert.MlpERefIdeal.main_arg4) = m' ((c.tc : Thread Cert.MlpERefIdeal.nD Cert.MlpERefIdeal.τ).loc Cert.MlpERefIdeal.main_arg4)
          ∧ r.2.mem ((c.tc : Thread Cert.MlpERefIdeal.nD Cert.MlpERefIdeal.τ).loc Cert.MlpERefIdeal.main_arg5) = m' ((c.tc : Thread Cert.MlpERefIdeal.nD Cert.MlpERefIdeal.τ).loc Cert.MlpERefIdeal.main_arg5)
          ∧ r.2.mem ((c.tc : Thread Cert.MlpERefIdeal.nD Cert.MlpERefIdeal.τ).loc Cert.MlpERefIdeal.main_arg6) = m' ((c.tc : Thread Cert.MlpERefIdeal.nD Cert.MlpERefIdeal.τ).loc Cert.MlpERefIdeal.main_arg6)
          ∧ r.2.mem ((c.tc : Thread Cert.MlpERefIdeal.nD Cert.MlpERefIdeal.τ).loc Cert.MlpERefIdeal.main_arg7) = m' ((c.tc : Thread Cert.MlpERefIdeal.nD Cert.MlpERefIdeal.τ).loc Cert.MlpERefIdeal.main_arg7)
          ∧ r.2.mem ((c.tc : Thread Cert.MlpERefIdeal.nD Cert.MlpERefIdeal.τ).loc Cert.MlpERefIdeal.main_arg8) = m' ((c.tc : Thread Cert.MlpERefIdeal.nD Cert.MlpERefIdeal.τ).loc Cert.MlpERefIdeal.main_arg8))

def preserves_MlpES_MlpESIdeal : Prop :=
  True

def algebraic_MlpESIdeal_MlpESRefIdeal [hMlpESIdeal : Cert.MlpESIdeal.Facts] [hMlpESRefIdeal : Cert.MlpESRefIdeal.Facts] : Prop :=
  ∀ (m : (ℓ : Loc Cert.MlpESIdeal.nD Cert.MlpESIdeal.τ Cert.MlpESIdeal.sig) → Buf (Elt Ideal) ℓ) (g : Dev Cert.MlpESIdeal.nD → PrngReg)
    (m' : (ℓ : Loc Cert.MlpESRefIdeal.nD Cert.MlpESRefIdeal.τ Cert.MlpESRefIdeal.sig) → Buf (Elt Ideal) ℓ) (g' : Dev Cert.MlpESRefIdeal.nD → PrngReg), Pre_MlpESIdeal m →
    (∀ c : Dev Cert.MlpESIdeal.nD,
      m' ((c.tc : Thread Cert.MlpESRefIdeal.nD Cert.MlpESRefIdeal.τ).loc Cert.MlpESRefIdeal.main_arg0) = m ((c.tc : Thread Cert.MlpESIdeal.nD Cert.MlpESIdeal.τ).loc Cert.MlpESIdeal.main_arg0)
      ∧ m' ((c.tc : Thread Cert.MlpESRefIdeal.nD Cert.MlpESRefIdeal.τ).loc Cert.MlpESRefIdeal.main_arg1) = m ((c.tc : Thread Cert.MlpESIdeal.nD Cert.MlpESIdeal.τ).loc Cert.MlpESIdeal.main_arg1)
      ∧ m' ((c.tc : Thread Cert.MlpESRefIdeal.nD Cert.MlpESRefIdeal.τ).loc Cert.MlpESRefIdeal.main_arg2) = m ((c.tc : Thread Cert.MlpESIdeal.nD Cert.MlpESIdeal.τ).loc Cert.MlpESIdeal.main_arg2)
      ∧ m' ((c.tc : Thread Cert.MlpESRefIdeal.nD Cert.MlpESRefIdeal.τ).loc Cert.MlpESRefIdeal.main_arg3) = m ((c.tc : Thread Cert.MlpESIdeal.nD Cert.MlpESIdeal.τ).loc Cert.MlpESIdeal.main_arg3)
      ∧ m' ((c.tc : Thread Cert.MlpESRefIdeal.nD Cert.MlpESRefIdeal.τ).loc Cert.MlpESRefIdeal.main_arg4) = m ((c.tc : Thread Cert.MlpESIdeal.nD Cert.MlpESIdeal.τ).loc Cert.MlpESIdeal.main_arg4)
      ∧ m' ((c.tc : Thread Cert.MlpESRefIdeal.nD Cert.MlpESRefIdeal.τ).loc Cert.MlpESRefIdeal.main_arg5) = m ((c.tc : Thread Cert.MlpESIdeal.nD Cert.MlpESIdeal.τ).loc Cert.MlpESIdeal.main_arg5)
      ∧ m' ((c.tc : Thread Cert.MlpESRefIdeal.nD Cert.MlpESRefIdeal.τ).loc Cert.MlpESRefIdeal.main_arg6) = m ((c.tc : Thread Cert.MlpESIdeal.nD Cert.MlpESIdeal.τ).loc Cert.MlpESIdeal.main_arg6)
      ∧ m' ((c.tc : Thread Cert.MlpESRefIdeal.nD Cert.MlpESRefIdeal.τ).loc Cert.MlpESRefIdeal.main_arg7) = m ((c.tc : Thread Cert.MlpESIdeal.nD Cert.MlpESIdeal.τ).loc Cert.MlpESIdeal.main_arg7)
      ∧ m' ((c.tc : Thread Cert.MlpESRefIdeal.nD Cert.MlpESRefIdeal.τ).loc Cert.MlpESRefIdeal.main_arg8) = m ((c.tc : Thread Cert.MlpESIdeal.nD Cert.MlpESIdeal.τ).loc Cert.MlpESIdeal.main_arg8)) →
    ∃ (v0 : (c : Dev Cert.MlpESIdeal.nD) → Buf (Elt Ideal) ((c.tc : Thread Cert.MlpESIdeal.nD Cert.MlpESIdeal.τ).loc Cert.MlpESIdeal.main_v13)),
      θ_run (Cert.MlpESIdeal.defs (F := Ideal)) (onTc (τ := Cert.MlpESIdeal.τ) (Cert.MlpESIdeal.main (F := Ideal))) ⟨m, fun _ => 0, g⟩ (fun r => ∀ c : Dev Cert.MlpESIdeal.nD,
          r.2.mem ((c.tc : Thread Cert.MlpESIdeal.nD Cert.MlpESIdeal.τ).loc Cert.MlpESIdeal.main_v13) = v0 c
          ∧ r.2.mem ((c.tc : Thread Cert.MlpESIdeal.nD Cert.MlpESIdeal.τ).loc Cert.MlpESIdeal.main_arg0) = m ((c.tc : Thread Cert.MlpESIdeal.nD Cert.MlpESIdeal.τ).loc Cert.MlpESIdeal.main_arg0)
          ∧ r.2.mem ((c.tc : Thread Cert.MlpESIdeal.nD Cert.MlpESIdeal.τ).loc Cert.MlpESIdeal.main_arg1) = m ((c.tc : Thread Cert.MlpESIdeal.nD Cert.MlpESIdeal.τ).loc Cert.MlpESIdeal.main_arg1)
          ∧ r.2.mem ((c.tc : Thread Cert.MlpESIdeal.nD Cert.MlpESIdeal.τ).loc Cert.MlpESIdeal.main_arg2) = m ((c.tc : Thread Cert.MlpESIdeal.nD Cert.MlpESIdeal.τ).loc Cert.MlpESIdeal.main_arg2)
          ∧ r.2.mem ((c.tc : Thread Cert.MlpESIdeal.nD Cert.MlpESIdeal.τ).loc Cert.MlpESIdeal.main_arg3) = m ((c.tc : Thread Cert.MlpESIdeal.nD Cert.MlpESIdeal.τ).loc Cert.MlpESIdeal.main_arg3)
          ∧ r.2.mem ((c.tc : Thread Cert.MlpESIdeal.nD Cert.MlpESIdeal.τ).loc Cert.MlpESIdeal.main_arg4) = m ((c.tc : Thread Cert.MlpESIdeal.nD Cert.MlpESIdeal.τ).loc Cert.MlpESIdeal.main_arg4)
          ∧ r.2.mem ((c.tc : Thread Cert.MlpESIdeal.nD Cert.MlpESIdeal.τ).loc Cert.MlpESIdeal.main_arg5) = m ((c.tc : Thread Cert.MlpESIdeal.nD Cert.MlpESIdeal.τ).loc Cert.MlpESIdeal.main_arg5)
          ∧ r.2.mem ((c.tc : Thread Cert.MlpESIdeal.nD Cert.MlpESIdeal.τ).loc Cert.MlpESIdeal.main_arg6) = m ((c.tc : Thread Cert.MlpESIdeal.nD Cert.MlpESIdeal.τ).loc Cert.MlpESIdeal.main_arg6)
          ∧ r.2.mem ((c.tc : Thread Cert.MlpESIdeal.nD Cert.MlpESIdeal.τ).loc Cert.MlpESIdeal.main_arg7) = m ((c.tc : Thread Cert.MlpESIdeal.nD Cert.MlpESIdeal.τ).loc Cert.MlpESIdeal.main_arg7)
          ∧ r.2.mem ((c.tc : Thread Cert.MlpESIdeal.nD Cert.MlpESIdeal.τ).loc Cert.MlpESIdeal.main_arg8) = m ((c.tc : Thread Cert.MlpESIdeal.nD Cert.MlpESIdeal.τ).loc Cert.MlpESIdeal.main_arg8))
      ∧ θ_run (Cert.MlpESRefIdeal.defs (F := Ideal)) (onTc (τ := Cert.MlpESRefIdeal.τ) (Cert.MlpESRefIdeal.main (F := Ideal))) ⟨m', fun _ => 0, g'⟩ (fun r => ∀ c : Dev Cert.MlpESRefIdeal.nD,
          r.2.mem ((c.tc : Thread Cert.MlpESRefIdeal.nD Cert.MlpESRefIdeal.τ).loc Cert.MlpESRefIdeal.main_v55) = v0 c
          ∧ r.2.mem ((c.tc : Thread Cert.MlpESRefIdeal.nD Cert.MlpESRefIdeal.τ).loc Cert.MlpESRefIdeal.main_arg0) = m' ((c.tc : Thread Cert.MlpESRefIdeal.nD Cert.MlpESRefIdeal.τ).loc Cert.MlpESRefIdeal.main_arg0)
          ∧ r.2.mem ((c.tc : Thread Cert.MlpESRefIdeal.nD Cert.MlpESRefIdeal.τ).loc Cert.MlpESRefIdeal.main_arg1) = m' ((c.tc : Thread Cert.MlpESRefIdeal.nD Cert.MlpESRefIdeal.τ).loc Cert.MlpESRefIdeal.main_arg1)
          ∧ r.2.mem ((c.tc : Thread Cert.MlpESRefIdeal.nD Cert.MlpESRefIdeal.τ).loc Cert.MlpESRefIdeal.main_arg2) = m' ((c.tc : Thread Cert.MlpESRefIdeal.nD Cert.MlpESRefIdeal.τ).loc Cert.MlpESRefIdeal.main_arg2)
          ∧ r.2.mem ((c.tc : Thread Cert.MlpESRefIdeal.nD Cert.MlpESRefIdeal.τ).loc Cert.MlpESRefIdeal.main_arg3) = m' ((c.tc : Thread Cert.MlpESRefIdeal.nD Cert.MlpESRefIdeal.τ).loc Cert.MlpESRefIdeal.main_arg3)
          ∧ r.2.mem ((c.tc : Thread Cert.MlpESRefIdeal.nD Cert.MlpESRefIdeal.τ).loc Cert.MlpESRefIdeal.main_arg4) = m' ((c.tc : Thread Cert.MlpESRefIdeal.nD Cert.MlpESRefIdeal.τ).loc Cert.MlpESRefIdeal.main_arg4)
          ∧ r.2.mem ((c.tc : Thread Cert.MlpESRefIdeal.nD Cert.MlpESRefIdeal.τ).loc Cert.MlpESRefIdeal.main_arg5) = m' ((c.tc : Thread Cert.MlpESRefIdeal.nD Cert.MlpESRefIdeal.τ).loc Cert.MlpESRefIdeal.main_arg5)
          ∧ r.2.mem ((c.tc : Thread Cert.MlpESRefIdeal.nD Cert.MlpESRefIdeal.τ).loc Cert.MlpESRefIdeal.main_arg6) = m' ((c.tc : Thread Cert.MlpESRefIdeal.nD Cert.MlpESRefIdeal.τ).loc Cert.MlpESRefIdeal.main_arg6)
          ∧ r.2.mem ((c.tc : Thread Cert.MlpESRefIdeal.nD Cert.MlpESRefIdeal.τ).loc Cert.MlpESRefIdeal.main_arg7) = m' ((c.tc : Thread Cert.MlpESRefIdeal.nD Cert.MlpESRefIdeal.τ).loc Cert.MlpESRefIdeal.main_arg7)
          ∧ r.2.mem ((c.tc : Thread Cert.MlpESRefIdeal.nD Cert.MlpESRefIdeal.τ).loc Cert.MlpESRefIdeal.main_arg8) = m' ((c.tc : Thread Cert.MlpESRefIdeal.nD Cert.MlpESRefIdeal.τ).loc Cert.MlpESRefIdeal.main_arg8))

def preserves_ConvInS_ConvInSIdeal : Prop :=
  True

def algebraic_ConvInSIdeal_ConvInSRefIdeal [hConvInSIdeal : Cert.ConvInSIdeal.Facts] [hConvInSRefIdeal : Cert.ConvInSRefIdeal.Facts] : Prop :=
  ∀ (m : (ℓ : Loc Cert.ConvInSIdeal.nD Cert.ConvInSIdeal.τ Cert.ConvInSIdeal.sig) → Buf (Elt Ideal) ℓ) (g : Dev Cert.ConvInSIdeal.nD → PrngReg)
    (m' : (ℓ : Loc Cert.ConvInSRefIdeal.nD Cert.ConvInSRefIdeal.τ Cert.ConvInSRefIdeal.sig) → Buf (Elt Ideal) ℓ) (g' : Dev Cert.ConvInSRefIdeal.nD → PrngReg), Pre_ConvInSIdeal m →
    (∀ c : Dev Cert.ConvInSIdeal.nD,
      m' ((c.tc : Thread Cert.ConvInSRefIdeal.nD Cert.ConvInSRefIdeal.τ).loc Cert.ConvInSRefIdeal.main_arg0) = m ((c.tc : Thread Cert.ConvInSIdeal.nD Cert.ConvInSIdeal.τ).loc Cert.ConvInSIdeal.main_arg0)
      ∧ m' ((c.tc : Thread Cert.ConvInSRefIdeal.nD Cert.ConvInSRefIdeal.τ).loc Cert.ConvInSRefIdeal.main_arg1) = m ((c.tc : Thread Cert.ConvInSIdeal.nD Cert.ConvInSIdeal.τ).loc Cert.ConvInSIdeal.main_arg1)
      ∧ m' ((c.tc : Thread Cert.ConvInSRefIdeal.nD Cert.ConvInSRefIdeal.τ).loc Cert.ConvInSRefIdeal.main_arg2) = m ((c.tc : Thread Cert.ConvInSIdeal.nD Cert.ConvInSIdeal.τ).loc Cert.ConvInSIdeal.main_arg2)
      ∧ m' ((c.tc : Thread Cert.ConvInSRefIdeal.nD Cert.ConvInSRefIdeal.τ).loc Cert.ConvInSRefIdeal.main_arg3) = m ((c.tc : Thread Cert.ConvInSIdeal.nD Cert.ConvInSIdeal.τ).loc Cert.ConvInSIdeal.main_arg3)) →
    ∃ (v0 : (c : Dev Cert.ConvInSIdeal.nD) → Buf (Elt Ideal) ((c.tc : Thread Cert.ConvInSIdeal.nD Cert.ConvInSIdeal.τ).loc Cert.ConvInSIdeal.main_v8)),
      θ_run (Cert.ConvInSIdeal.defs (F := Ideal)) (onTc (τ := Cert.ConvInSIdeal.τ) (Cert.ConvInSIdeal.main (F := Ideal))) ⟨m, fun _ => 0, g⟩ (fun r => ∀ c : Dev Cert.ConvInSIdeal.nD,
          r.2.mem ((c.tc : Thread Cert.ConvInSIdeal.nD Cert.ConvInSIdeal.τ).loc Cert.ConvInSIdeal.main_v8) = v0 c
          ∧ r.2.mem ((c.tc : Thread Cert.ConvInSIdeal.nD Cert.ConvInSIdeal.τ).loc Cert.ConvInSIdeal.main_arg0) = m ((c.tc : Thread Cert.ConvInSIdeal.nD Cert.ConvInSIdeal.τ).loc Cert.ConvInSIdeal.main_arg0)
          ∧ r.2.mem ((c.tc : Thread Cert.ConvInSIdeal.nD Cert.ConvInSIdeal.τ).loc Cert.ConvInSIdeal.main_arg1) = m ((c.tc : Thread Cert.ConvInSIdeal.nD Cert.ConvInSIdeal.τ).loc Cert.ConvInSIdeal.main_arg1)
          ∧ r.2.mem ((c.tc : Thread Cert.ConvInSIdeal.nD Cert.ConvInSIdeal.τ).loc Cert.ConvInSIdeal.main_arg2) = m ((c.tc : Thread Cert.ConvInSIdeal.nD Cert.ConvInSIdeal.τ).loc Cert.ConvInSIdeal.main_arg2)
          ∧ r.2.mem ((c.tc : Thread Cert.ConvInSIdeal.nD Cert.ConvInSIdeal.τ).loc Cert.ConvInSIdeal.main_arg3) = m ((c.tc : Thread Cert.ConvInSIdeal.nD Cert.ConvInSIdeal.τ).loc Cert.ConvInSIdeal.main_arg3))
      ∧ θ_run (Cert.ConvInSRefIdeal.defs (F := Ideal)) (onTc (τ := Cert.ConvInSRefIdeal.τ) (Cert.ConvInSRefIdeal.main (F := Ideal))) ⟨m', fun _ => 0, g'⟩ (fun r => ∀ c : Dev Cert.ConvInSRefIdeal.nD,
          r.2.mem ((c.tc : Thread Cert.ConvInSRefIdeal.nD Cert.ConvInSRefIdeal.τ).loc Cert.ConvInSRefIdeal.main_v30) = v0 c
          ∧ r.2.mem ((c.tc : Thread Cert.ConvInSRefIdeal.nD Cert.ConvInSRefIdeal.τ).loc Cert.ConvInSRefIdeal.main_arg0) = m' ((c.tc : Thread Cert.ConvInSRefIdeal.nD Cert.ConvInSRefIdeal.τ).loc Cert.ConvInSRefIdeal.main_arg0)
          ∧ r.2.mem ((c.tc : Thread Cert.ConvInSRefIdeal.nD Cert.ConvInSRefIdeal.τ).loc Cert.ConvInSRefIdeal.main_arg1) = m' ((c.tc : Thread Cert.ConvInSRefIdeal.nD Cert.ConvInSRefIdeal.τ).loc Cert.ConvInSRefIdeal.main_arg1)
          ∧ r.2.mem ((c.tc : Thread Cert.ConvInSRefIdeal.nD Cert.ConvInSRefIdeal.τ).loc Cert.ConvInSRefIdeal.main_arg2) = m' ((c.tc : Thread Cert.ConvInSRefIdeal.nD Cert.ConvInSRefIdeal.τ).loc Cert.ConvInSRefIdeal.main_arg2)
          ∧ r.2.mem ((c.tc : Thread Cert.ConvInSRefIdeal.nD Cert.ConvInSRefIdeal.τ).loc Cert.ConvInSRefIdeal.main_arg3) = m' ((c.tc : Thread Cert.ConvInSRefIdeal.nD Cert.ConvInSRefIdeal.τ).loc Cert.ConvInSRefIdeal.main_arg3))

def Claim : Prop :=
  ∃ (hConv : Cert.Conv.Facts) (hConvIdeal : Cert.ConvIdeal.Facts) (hConvRefIdeal : Cert.ConvRefIdeal.Facts) (hConvIn : Cert.ConvIn.Facts) (hConvInIdeal : Cert.ConvInIdeal.Facts) (hConvInRefIdeal : Cert.ConvInRefIdeal.Facts) (hConvStep : Cert.ConvStep.Facts) (hConvStepIdeal : Cert.ConvStepIdeal.Facts) (hConvStepRefIdeal : Cert.ConvStepRefIdeal.Facts) (hMlp : Cert.Mlp.Facts) (hMlpIdeal : Cert.MlpIdeal.Facts) (hMlpRefIdeal : Cert.MlpRefIdeal.Facts) (hAttnIn : Cert.AttnIn.Facts) (hAttnInIdeal : Cert.AttnInIdeal.Facts) (hAttnInRefIdeal : Cert.AttnInRefIdeal.Facts) (hAttnInS : Cert.AttnInS.Facts) (hAttnInSIdeal : Cert.AttnInSIdeal.Facts) (hAttnInSRefIdeal : Cert.AttnInSRefIdeal.Facts) (hMlpS : Cert.MlpS.Facts) (hMlpSIdeal : Cert.MlpSIdeal.Facts) (hMlpSRefIdeal : Cert.MlpSRefIdeal.Facts) (hMlpE : Cert.MlpE.Facts) (hMlpEIdeal : Cert.MlpEIdeal.Facts) (hMlpERefIdeal : Cert.MlpERefIdeal.Facts) (hMlpES : Cert.MlpES.Facts) (hMlpESIdeal : Cert.MlpESIdeal.Facts) (hMlpESRefIdeal : Cert.MlpESRefIdeal.Facts) (hConvInS : Cert.ConvInS.Facts) (hConvInSIdeal : Cert.ConvInSIdeal.Facts) (hConvInSRefIdeal : Cert.ConvInSRefIdeal.Facts),
    quiescent_Conv (hConv := hConv)
    ∧ quiescent_ConvIdeal (hConvIdeal := hConvIdeal)
    ∧ quiescent_ConvRefIdeal (hConvRefIdeal := hConvRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvStep (hConvStep := hConvStep)
    ∧ quiescent_ConvStepIdeal (hConvStepIdeal := hConvStepIdeal)
    ∧ quiescent_ConvStepRefIdeal (hConvStepRefIdeal := hConvStepRefIdeal)
    ∧ quiescent_Mlp (hMlp := hMlp)
    ∧ quiescent_MlpIdeal (hMlpIdeal := hMlpIdeal)
    ∧ quiescent_MlpRefIdeal (hMlpRefIdeal := hMlpRefIdeal)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_AttnInS (hAttnInS := hAttnInS)
    ∧ quiescent_AttnInSIdeal (hAttnInSIdeal := hAttnInSIdeal)
    ∧ quiescent_AttnInSRefIdeal (hAttnInSRefIdeal := hAttnInSRefIdeal)
    ∧ quiescent_MlpS (hMlpS := hMlpS)
    ∧ quiescent_MlpSIdeal (hMlpSIdeal := hMlpSIdeal)
    ∧ quiescent_MlpSRefIdeal (hMlpSRefIdeal := hMlpSRefIdeal)
    ∧ quiescent_MlpE (hMlpE := hMlpE)
    ∧ quiescent_MlpEIdeal (hMlpEIdeal := hMlpEIdeal)
    ∧ quiescent_MlpERefIdeal (hMlpERefIdeal := hMlpERefIdeal)
    ∧ quiescent_MlpES (hMlpES := hMlpES)
    ∧ quiescent_MlpESIdeal (hMlpESIdeal := hMlpESIdeal)
    ∧ quiescent_MlpESRefIdeal (hMlpESRefIdeal := hMlpESRefIdeal)
    ∧ quiescent_ConvInS (hConvInS := hConvInS)
    ∧ quiescent_ConvInSIdeal (hConvInSIdeal := hConvInSIdeal)
    ∧ quiescent_ConvInSRefIdeal (hConvInSRefIdeal := hConvInSRefIdeal)
    ∧ preserves_Conv_ConvIdeal
    ∧ algebraic_ConvIdeal_ConvRefIdeal (hConvIdeal := hConvIdeal) (hConvRefIdeal := hConvRefIdeal)
    ∧ preserves_ConvIn_ConvInIdeal
    ∧ algebraic_ConvInIdeal_ConvInRefIdeal (hConvInIdeal := hConvInIdeal) (hConvInRefIdeal := hConvInRefIdeal)
    ∧ preserves_ConvStep_ConvStepIdeal
    ∧ algebraic_ConvStepIdeal_ConvStepRefIdeal (hConvStepIdeal := hConvStepIdeal) (hConvStepRefIdeal := hConvStepRefIdeal)
    ∧ preserves_Mlp_MlpIdeal
    ∧ algebraic_MlpIdeal_MlpRefIdeal (hMlpIdeal := hMlpIdeal) (hMlpRefIdeal := hMlpRefIdeal)
    ∧ preserves_AttnIn_AttnInIdeal
    ∧ algebraic_AttnInIdeal_AttnInRefIdeal (hAttnInIdeal := hAttnInIdeal) (hAttnInRefIdeal := hAttnInRefIdeal)
    ∧ preserves_AttnInS_AttnInSIdeal
    ∧ algebraic_AttnInSIdeal_AttnInSRefIdeal (hAttnInSIdeal := hAttnInSIdeal) (hAttnInSRefIdeal := hAttnInSRefIdeal)
    ∧ preserves_MlpS_MlpSIdeal
    ∧ algebraic_MlpSIdeal_MlpSRefIdeal (hMlpSIdeal := hMlpSIdeal) (hMlpSRefIdeal := hMlpSRefIdeal)
    ∧ preserves_MlpE_MlpEIdeal
    ∧ algebraic_MlpEIdeal_MlpERefIdeal (hMlpEIdeal := hMlpEIdeal) (hMlpERefIdeal := hMlpERefIdeal)
    ∧ preserves_MlpES_MlpESIdeal
    ∧ algebraic_MlpESIdeal_MlpESRefIdeal (hMlpESIdeal := hMlpESIdeal) (hMlpESRefIdeal := hMlpESRefIdeal)
    ∧ preserves_ConvInS_ConvInSIdeal
    ∧ algebraic_ConvInSIdeal_ConvInSRefIdeal (hConvInSIdeal := hConvInSIdeal) (hConvInSRefIdeal := hConvInSRefIdeal)
-- ==== Conv.lean ====
abbrev S8x2048x1024 : Shape := ⟨3, ![8, 2048, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S31x1024 : Shape := ⟨2, ![31, 1024]⟩
abbrev S31x8x128 : Shape := ⟨3, ![31, 8, 128]⟩
abbrev S8x31x128 : Shape := ⟨3, ![8, 31, 128]⟩
abbrev S1024 : Shape := ⟨1, ![1024]⟩
abbrev S8x1x128 : Shape := ⟨3, ![8, 1, 128]⟩
abbrev S1024x1024 : Shape := ⟨2, ![1024, 1024]⟩
abbrev S1x256x1024 : Shape := ⟨3, ![1, 256, 1024]⟩
abbrev S1x32x1024 : Shape := ⟨3, ![1, 32, 1024]⟩
abbrev S8x288x128 : Shape := ⟨3, ![8, 288, 128]⟩
abbrev S8x256x128 : Shape := ⟨3, ![8, 256, 128]⟩
abbrev S1x32x128 : Shape := ⟨3, ![1, 32, 128]⟩
abbrev S32x128 : Shape := ⟨2, ![32, 128]⟩
abbrev S1x256x128 : Shape := ⟨3, ![1, 256, 128]⟩
abbrev S256x128 : Shape := ⟨2, ![256, 128]⟩
abbrev S1x1x128 : Shape := ⟨3, ![1, 1, 128]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S31x1024, .f32⟩
  | .hbm, ⟨9, _⟩ => ⟨S31x8x128, .f32⟩
  | .hbm, ⟨10, _⟩ => ⟨S8x31x128, .f32⟩
  | .hbm, ⟨11, _⟩ => ⟨S1024, .f32⟩
  | .hbm, ⟨12, _⟩ => ⟨S8x1x128, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x256x1024, .f32⟩
  | .local _ .vmem, ⟨5, _⟩ => ⟨S1x256x1024, .f32⟩
  | .local _ .vmem, ⟨6, _⟩ => ⟨S8x31x128, .f32⟩
  | .local _ .vmem, ⟨7, _⟩ => ⟨S8x1x128, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x256x1024, .f32⟩
  | .local _ .vmem, ⟨13, _⟩ => ⟨S1x256x1024, .f32⟩
  | .local _ .vmem, ⟨14, _⟩ => ⟨S8x288x128, .f32⟩
  | .local _ .vmem, ⟨15, _⟩ => ⟨S8x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_80 : BitVec 32 := 0#32
  let c8_i32 : BitVec 32 := 8#32
  let v99 : BitVec 32 := Scalar.addi c0_i32_80 c8_i32
  let c1_i32 : BitVec 32 := 1#32
  ⟨c0_i32_80, v99, c1_i32⟩
def k0_off1 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v163 : Index := Scalar.indexCast arg14
  let c0_128 : Index := 0#32
  let c0_129 : Index := 0#32
  ![v163.toNat, 0, 0]
def k0_off2 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v168 : Index := Scalar.indexCast arg14
  let c2_130 : Index := 2#32
  let c0_131 : Index := 0#32
  ![v168.toNat, 2, 0]
def k0_off3 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v171 : Index := Scalar.indexCast arg14
  let c0_132 : Index := 0#32
  let c0_133 : Index := 0#32
  ![v171.toNat, 0, 0]
def k0_off4 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v177 : Index := Scalar.indexCast arg14
  let c3_134 : Index := 3#32
  let c0_135 : Index := 0#32
  ![v177.toNat, 3, 0]
def k0_off5 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v180 : Index := Scalar.indexCast arg14
  let c1_136 : Index := 1#32
  let c0_137 : Index := 0#32
  ![v180.toNat, 1, 0]
def k0_off6 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v186 : Index := Scalar.indexCast arg14
  let c4_138 : Index := 4#32
  let c0_139 : Index := 0#32
  ![v186.toNat, 4, 0]
def k0_off7 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v189 : Index := Scalar.indexCast arg14
  let c2_140 : Index := 2#32
  let c0_141 : Index := 0#32
  ![v189.toNat, 2, 0]
def k0_off8 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v195 : Index := Scalar.indexCast arg14
  let c5_142 : Index := 5#32
  let c0_143 : Index := 0#32
  ![v195.toNat, 5, 0]
def k0_off9 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v198 : Index := Scalar.indexCast arg14
  let c3_144 : Index := 3#32
  let c0_145 : Index := 0#32
  ![v198.toNat, 3, 0]
def k0_off10 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v204 : Index := Scalar.indexCast arg14
  let c6_146 : Index := 6#32
  let c0_147 : Index := 0#32
  ![v204.toNat, 6, 0]
def k0_off11 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v207 : Index := Scalar.indexCast arg14
  let c4_148 : Index := 4#32
  let c0_149 : Index := 0#32
  ![v207.toNat, 4, 0]
def k0_off12 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v213 : Index := Scalar.indexCast arg14
  let c7_150 : Index := 7#32
  let c0_151 : Index := 0#32
  ![v213.toNat, 7, 0]
def k0_off13 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v216 : Index := Scalar.indexCast arg14
  let c5_152 : Index := 5#32
  let c0_153 : Index := 0#32
  ![v216.toNat, 5, 0]
def k0_off14 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v222 : Index := Scalar.indexCast arg14
  let c8 : Index := 8#32
  let c0_154 : Index := 0#32
  ![v222.toNat, 8, 0]
def k0_off15 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v225 : Index := Scalar.indexCast arg14
  let c6_155 : Index := 6#32
  let c0_156 : Index := 0#32
  ![v225.toNat, 6, 0]
def k0_off16 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v231 : Index := Scalar.indexCast arg14
  let c9 : Index := 9#32
  let c0_157 : Index := 0#32
  ![v231.toNat, 9, 0]
def k0_off17 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v234 : Index := Scalar.indexCast arg14
  let c7_158 : Index := 7#32
  let c0_159 : Index := 0#32
  ![v234.toNat, 7, 0]
def k0_off18 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v240 : Index := Scalar.indexCast arg14
  let c10 : Index := 10#32
  let c0_160 : Index := 0#32
  ![v240.toNat, 10, 0]
def k0_off19 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v243 : Index := Scalar.indexCast arg14
  let c8_161 : Index := 8#32
  let c0_162 : Index := 0#32
  ![v243.toNat, 8, 0]
def k0_off20 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v249 : Index := Scalar.indexCast arg14
  let c11 : Index := 11#32
  let c0_163 : Index := 0#32
  ![v249.toNat, 11, 0]
def k0_off21 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v252 : Index := Scalar.indexCast arg14
  let c9_164 : Index := 9#32
  let c0_165 : Index := 0#32
  ![v252.toNat, 9, 0]
def k0_off22 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v258 : Index := Scalar.indexCast arg14
  let c12 : Index := 12#32
  let c0_166 : Index := 0#32
  ![v258.toNat, 12, 0]
def k0_off23 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v261 : Index := Scalar.indexCast arg14
  let c10_167 : Index := 10#32
  let c0_168 : Index := 0#32
  ![v261.toNat, 10, 0]
def k0_off24 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v267 : Index := Scalar.indexCast arg14
  let c13 : Index := 13#32
  let c0_169 : Index := 0#32
  ![v267.toNat, 13, 0]
def k0_off25 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v270 : Index := Scalar.indexCast arg14
  let c11_170 : Index := 11#32
  let c0_171 : Index := 0#32
  ![v270.toNat, 11, 0]
def k0_off26 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v276 : Index := Scalar.indexCast arg14
  let c14 : Index := 14#32
  let c0_172 : Index := 0#32
  ![v276.toNat, 14, 0]
def k0_off27 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v279 : Index := Scalar.indexCast arg14
  let c12_173 : Index := 12#32
  let c0_174 : Index := 0#32
  ![v279.toNat, 12, 0]
def k0_off28 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v285 : Index := Scalar.indexCast arg14
  let c15 : Index := 15#32
  let c0_175 : Index := 0#32
  ![v285.toNat, 15, 0]
def k0_off29 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v288 : Index := Scalar.indexCast arg14
  let c13_176 : Index := 13#32
  let c0_177 : Index := 0#32
  ![v288.toNat, 13, 0]
def k0_off30 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v294 : Index := Scalar.indexCast arg14
  let c16 : Index := 16#32
  let c0_178 : Index := 0#32
  ![v294.toNat, 16, 0]
def k0_off31 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v297 : Index := Scalar.indexCast arg14
  let c14_179 : Index := 14#32
  let c0_180 : Index := 0#32
  ![v297.toNat, 14, 0]
def k0_off32 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v303 : Index := Scalar.indexCast arg14
  let c17 : Index := 17#32
  let c0_181 : Index := 0#32
  ![v303.toNat, 17, 0]
def k0_off33 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v306 : Index := Scalar.indexCast arg14
  let c15_182 : Index := 15#32
  let c0_183 : Index := 0#32
  ![v306.toNat, 15, 0]
def k0_off34 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v312 : Index := Scalar.indexCast arg14
  let c18 : Index := 18#32
  let c0_184 : Index := 0#32
  ![v312.toNat, 18, 0]
def k0_off35 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v315 : Index := Scalar.indexCast arg14
  let c16_185 : Index := 16#32
  let c0_186 : Index := 0#32
  ![v315.toNat, 16, 0]
def k0_off36 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v321 : Index := Scalar.indexCast arg14
  let c19 : Index := 19#32
  let c0_187 : Index := 0#32
  ![v321.toNat, 19, 0]
def k0_off37 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v324 : Index := Scalar.indexCast arg14
  let c17_188 : Index := 17#32
  let c0_189 : Index := 0#32
  ![v324.toNat, 17, 0]
def k0_off38 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v330 : Index := Scalar.indexCast arg14
  let c20 : Index := 20#32
  let c0_190 : Index := 0#32
  ![v330.toNat, 20, 0]
def k0_off39 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v333 : Index := Scalar.indexCast arg14
  let c18_191 : Index := 18#32
  let c0_192 : Index := 0#32
  ![v333.toNat, 18, 0]
def k0_off40 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v339 : Index := Scalar.indexCast arg14
  let c21 : Index := 21#32
  let c0_193 : Index := 0#32
  ![v339.toNat, 21, 0]
def k0_off41 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v342 : Index := Scalar.indexCast arg14
  let c19_194 : Index := 19#32
  let c0_195 : Index := 0#32
  ![v342.toNat, 19, 0]
def k0_off42 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v348 : Index := Scalar.indexCast arg14
  let c22 : Index := 22#32
  let c0_196 : Index := 0#32
  ![v348.toNat, 22, 0]
def k0_off43 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v351 : Index := Scalar.indexCast arg14
  let c20_197 : Index := 20#32
  let c0_198 : Index := 0#32
  ![v351.toNat, 20, 0]
def k0_off44 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v357 : Index := Scalar.indexCast arg14
  let c23 : Index := 23#32
  let c0_199 : Index := 0#32
  ![v357.toNat, 23, 0]
def k0_off45 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v360 : Index := Scalar.indexCast arg14
  let c21_200 : Index := 21#32
  let c0_201 : Index := 0#32
  ![v360.toNat, 21, 0]
def k0_off46 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v366 : Index := Scalar.indexCast arg14
  let c24 : Index := 24#32
  let c0_202 : Index := 0#32
  ![v366.toNat, 24, 0]
def k0_off47 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v369 : Index := Scalar.indexCast arg14
  let c22_203 : Index := 22#32
  let c0_204 : Index := 0#32
  ![v369.toNat, 22, 0]
def k0_off48 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v375 : Index := Scalar.indexCast arg14
  let c25 : Index := 25#32
  let c0_205 : Index := 0#32
  ![v375.toNat, 25, 0]
def k0_off49 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v378 : Index := Scalar.indexCast arg14
  let c23_206 : Index := 23#32
  let c0_207 : Index := 0#32
  ![v378.toNat, 23, 0]
def k0_off50 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v384 : Index := Scalar.indexCast arg14
  let c26 : Index := 26#32
  let c0_208 : Index := 0#32
  ![v384.toNat, 26, 0]
def k0_off51 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v387 : Index := Scalar.indexCast arg14
  let c24_209 : Index := 24#32
  let c0_210 : Index := 0#32
  ![v387.toNat, 24, 0]
def k0_off52 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v393 : Index := Scalar.indexCast arg14
  let c27 : Index := 27#32
  let c0_211 : Index := 0#32
  ![v393.toNat, 27, 0]
def k0_off53 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v396 : Index := Scalar.indexCast arg14
  let c25_212 : Index := 25#32
  let c0_213 : Index := 0#32
  ![v396.toNat, 25, 0]
def k0_off54 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v402 : Index := Scalar.indexCast arg14
  let c28 : Index := 28#32
  let c0_214 : Index := 0#32
  ![v402.toNat, 28, 0]
def k0_off55 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v405 : Index := Scalar.indexCast arg14
  let c26_215 : Index := 26#32
  let c0_216 : Index := 0#32
  ![v405.toNat, 26, 0]
def k0_off56 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v411 : Index := Scalar.indexCast arg14
  let c29 : Index := 29#32
  let c0_217 : Index := 0#32
  ![v411.toNat, 29, 0]
def k0_off57 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v414 : Index := Scalar.indexCast arg14
  let c27_218 : Index := 27#32
  let c0_219 : Index := 0#32
  ![v414.toNat, 27, 0]
def k0_off58 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v420 : Index := Scalar.indexCast arg14
  let c30 : Index := 30#32
  let c0_220 : Index := 0#32
  ![v420.toNat, 30, 0]
def k0_off59 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v423 : Index := Scalar.indexCast arg14
  let c28_221 : Index := 28#32
  let c0_222 : Index := 0#32
  ![v423.toNat, 28, 0]
def k0_off60 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v429 : Index := Scalar.indexCast arg14
  let c31 : Index := 31#32
  let c0_223 : Index := 0#32
  ![v429.toNat, 31, 0]
def k0_off61 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v432 : Index := Scalar.indexCast arg14
  let c29_224 : Index := 29#32
  let c0_225 : Index := 0#32
  ![v432.toNat, 29, 0]
def k0_off62 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v438 : Index := Scalar.indexCast arg14
  let c32_226 : Index := 32#32
  let c0_227 : Index := 0#32
  ![v438.toNat, 32, 0]
def k0_off63 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v441 : Index := Scalar.indexCast arg14
  let c30_228 : Index := 30#32
  let c0_229 : Index := 0#32
  ![v441.toNat, 30, 0]
def k0_off64 (k0_t1 : Fin k0_t1_loop.trips) : Fin 3 → Nat :=
  let c0_i32_80 : BitVec 32 := 0#32
  let c1_i32 : BitVec 32 := 1#32
  let arg14 : BitVec 32 := Scf.iv c0_i32_80 c1_i32 k0_t1
  let v447 : Index := Scalar.indexCast arg14
  let c0_230 : Index := 0#32
  let c0_231 : Index := 0#32
  ![v447.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvRefIdeal.lean ====
abbrev S8x2048x1024 : Shape := ⟨3, ![8, 2048, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S_ : Shape := ⟨0, ![]⟩
abbrev S8x2078x1024 : Shape := ⟨3, ![8, 2078, 1024]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩
abbrev S1024x1024 : Shape := ⟨2, ![1024, 1024]⟩

abbrev nBuf : Space → Nat
  | .hbm => 281
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S1x31x1024, .f32⟩
  | 3 => ⟨S1x1024, .f32⟩
  | 4 => ⟨S1x1024, .f32⟩
  | 5 => ⟨S1x1024, .f32⟩
  | 6 => ⟨S1x1024x1024, .f32⟩
  | 7 => ⟨S1x1024, .f32⟩
  | 8 => ⟨S_, .i32⟩
  | 9 => ⟨S_, .f32⟩
  | 10 => ⟨S8x2078x1024, .f32⟩
  | 11 => ⟨S8x2048x1024, .f32⟩
  | 12 => ⟨S1x1x1024, .f32⟩
  | 13 => ⟨S1024, .f32⟩
  | 14 => ⟨S1x1x1024, .f32⟩
  | 15 => ⟨S8x2048x1024, .f32⟩
  | 16 => ⟨S8x2048x1024, .f32⟩
  | 17 => ⟨S_, .f32⟩
  | 18 => ⟨S8x2048x1024, .f32⟩
  | 19 => ⟨S8x2048x1024, .f32⟩
  | 20 => ⟨S8x2048x1024, .f32⟩
  | 21 => ⟨S1x1x1024, .f32⟩
  | 22 => ⟨S1024, .f32⟩
  | 23 => ⟨S1x1x1024, .f32⟩
  | 24 => ⟨S8x2048x1024, .f32⟩
  | 25 => ⟨S8x2048x1024, .f32⟩
  | 26 => ⟨S8x2048x1024, .f32⟩
  | 27 => ⟨S8x2048x1024, .f32⟩
  | 28 => ⟨S1x1x1024, .f32⟩
  | 29 => ⟨S1024, .f32⟩
  | 30 => ⟨S1x1x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S1x1x1024, .f32⟩
  | 36 => ⟨S1024, .f32⟩
  | 37 => ⟨S1x1x1024, .f32⟩
  | 38 => ⟨S8x2048x1024, .f32⟩
  | 39 => ⟨S8x2048x1024, .f32⟩
  | 40 => ⟨S8x2048x1024, .f32⟩
  | 41 => ⟨S8x2048x1024, .f32⟩
  | 42 => ⟨S1x1x1024, .f32⟩
  | 43 => ⟨S1024, .f32⟩
  | 44 => ⟨S1x1x1024, .f32⟩
  | 45 => ⟨S8x2048x1024, .f32⟩
  | 46 => ⟨S8x2048x1024, .f32⟩
  | 47 => ⟨S8x2048x1024, .f32⟩
  | 48 => ⟨S8x2048x1024, .f32⟩
  | 49 => ⟨S1x1x1024, .f32⟩
  | 50 => ⟨S1024, .f32⟩
  | 51 => ⟨S1x1x1024, .f32⟩
  | 52 => ⟨S8x2048x1024, .f32⟩
  | 53 => ⟨S8x2048x1024, .f32⟩
  | 54 => ⟨S8x2048x1024, .f32⟩
  | 55 => ⟨S8x2048x1024, .f32⟩
  | 56 => ⟨S1x1x1024, .f32⟩
  | 57 => ⟨S1024, .f32⟩
  | 58 => ⟨S1x1x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S1x1x1024, .f32⟩
  | 64 => ⟨S1024, .f32⟩
  | 65 => ⟨S1x1x1024, .f32⟩
  | 66 => ⟨S8x2048x1024, .f32⟩
  | 67 => ⟨S8x2048x1024, .f32⟩
  | 68 => ⟨S8x2048x1024, .f32⟩
  | 69 => ⟨S8x2048x1024, .f32⟩
  | 70 => ⟨S1x1x1024, .f32⟩
  | 71 => ⟨S1024, .f32⟩
  | 72 => ⟨S1x1x1024, .f32⟩
  | 73 => ⟨S8x2048x1024, .f32⟩
  | 74 => ⟨S8x2048x1024, .f32⟩
  | 75 => ⟨S8x2048x1024, .f32⟩
  | 76 => ⟨S8x2048x1024, .f32⟩
  | 77 => ⟨S1x1x1024, .f32⟩
  | 78 => ⟨S1024, .f32⟩
  | 79 => ⟨S1x1x1024, .f32⟩
  | 80 => ⟨S8x2048x1024, .f32⟩
  | 81 => ⟨S8x2048x1024, .f32⟩
  | 82 => ⟨S8x2048x1024, .f32⟩
  | 83 => ⟨S8x2048x1024, .f32⟩
  | 84 => ⟨S1x1x1024, .f32⟩
  | 85 => ⟨S1024, .f32⟩
  | 86 => ⟨S1x1x1024, .f32⟩
  | 87 => ⟨S8x2048x1024, .f32⟩
  | 88 => ⟨S8x2048x1024, .f32⟩
  | 89 => ⟨S8x2048x1024, .f32⟩
  | 90 => ⟨S8x2048x1024, .f32⟩
  | 91 => ⟨S1x1x1024, .f32⟩
  | 92 => ⟨S1024, .f32⟩
  | 93 => ⟨S1x1x1024, .f32⟩
  | 94 => ⟨S8x2048x1024, .f32⟩
  | 95 => ⟨S8x2048x1024, .f32⟩
  | 96 => ⟨S8x2048x1024, .f32⟩
  | 97 => ⟨S8x2048x1024, .f32⟩
  | 98 => ⟨S1x1x1024, .f32⟩
  | 99 => ⟨S1024, .f32⟩
  | 100 => ⟨S1x1x1024, .f32⟩
  | 101 => ⟨S8x2048x1024, .f32⟩
  | 102 => ⟨S8x2048x1024, .f32⟩
  | 103 => ⟨S8x2048x1024, .f32⟩
  | 104 => ⟨S8x2048x1024, .f32⟩
  | 105 => ⟨S1x1x1024, .f32⟩
  | 106 => ⟨S1024, .f32⟩
  | 107 => ⟨S1x1x1024, .f32⟩
  | 108 => ⟨S8x2048x1024, .f32⟩
  | 109 => ⟨S8x2048x1024, .f32⟩
  | 110 => ⟨S8x2048x1024, .f32⟩
  | 111 => ⟨S8x2048x1024, .f32⟩
  | 112 => ⟨S1x1x1024, .f32⟩
  | 113 => ⟨S1024, .f32⟩
  | 114 => ⟨S1x1x1024, .f32⟩
  | 115 => ⟨S8x2048x1024, .f32⟩
  | 116 => ⟨S8x2048x1024, .f32⟩
  | 117 => ⟨S8x2048x1024, .f32⟩
  | 118 => ⟨S8x2048x1024, .f32⟩
  | 119 => ⟨S1x1x1024, .f32⟩
  | 120 => ⟨S1024, .f32⟩
  | 121 => ⟨S1x1x1024, .f32⟩
  | 122 => ⟨S8x2048x1024, .f32⟩
  | 123 => ⟨S8x2048x1024, .f32⟩
  | 124 => ⟨S8x2048x1024, .f32⟩
  | 125 => ⟨S8x2048x1024, .f32⟩
  | 126 => ⟨S1x1x1024, .f32⟩
  | 127 => ⟨S1024, .f32⟩
  | _ => ⟨S8x2048x1024, .f32⟩

abbrev hbmTy0_1 (i : Nat) : BufTy := match i % 128 with
  | 0 => ⟨S1x1x1024, .f32⟩
  | 1 => ⟨S8x2048x1024, .f32⟩
  | 2 => ⟨S8x2048x1024, .f32⟩
  | 3 => ⟨S8x2048x1024, .f32⟩
  | 4 => ⟨S8x2048x1024, .f32⟩
  | 5 => ⟨S1x1x1024, .f32⟩
  | 6 => ⟨S1024, .f32⟩
  | 7 => ⟨S1x1x1024, .f32⟩
  | 8 => ⟨S8x2048x1024, .f32⟩
  | 9 => ⟨S8x2048x1024, .f32⟩
  | 10 => ⟨S8x2048x1024, .f32⟩
  | 11 => ⟨S8x2048x1024, .f32⟩
  | 12 => ⟨S1x1x1024, .f32⟩
  | 13 => ⟨S1024, .f32⟩
  | 14 => ⟨S1x1x1024, .f32⟩
  | 15 => ⟨S8x2048x1024, .f32⟩
  | 16 => ⟨S8x2048x1024, .f32⟩
  | 17 => ⟨S8x2048x1024, .f32⟩
  | 18 => ⟨S8x2048x1024, .f32⟩
  | 19 => ⟨S1x1x1024, .f32⟩
  | 20 => ⟨S1024, .f32⟩
  | 21 => ⟨S1x1x1024, .f32⟩
  | 22 => ⟨S8x2048x1024, .f32⟩
  | 23 => ⟨S8x2048x1024, .f32⟩
  | 24 => ⟨S8x2048x1024, .f32⟩
  | 25 => ⟨S8x2048x1024, .f32⟩
  | 26 => ⟨S1x1x1024, .f32⟩
  | 27 => ⟨S1024, .f32⟩
  | 28 => ⟨S1x1x1024, .f32⟩
  | 29 => ⟨S8x2048x1024, .f32⟩
  | 30 => ⟨S8x2048x1024, .f32⟩
  | 31 => ⟨S8x2048x1024, .f32⟩
  | 32 => ⟨S8x2048x1024, .f32⟩
  | 33 => ⟨S1x1x1024, .f32⟩
  | 34 => ⟨S1024, .f32⟩
  | 35 => ⟨S1x1x1024, .f32⟩
  | 36 => ⟨S8x2048x1024, .f32⟩
  | 37 => ⟨S8x2048x1024, .f32⟩
  | 38 => ⟨S8x2048x1024, .f32⟩
  | 39 => ⟨S8x2048x1024, .f32⟩
  | 40 => ⟨S1x1x1024, .f32⟩
  | 41 => ⟨S1024, .f32⟩
  | 42 => ⟨S1x1x1024, .f32⟩
  | 43 => ⟨S8x2048x1024, .f32⟩
  | 44 => ⟨S8x2048x1024, .f32⟩
  | 45 => ⟨S8x2048x1024, .f32⟩
  | 46 => ⟨S8x2048x1024, .f32⟩
  | 47 => ⟨S1x1x1024, .f32⟩
  | 48 => ⟨S1024, .f32⟩
  | 49 => ⟨S1x1x1024, .f32⟩
  | 50 => ⟨S8x2048x1024, .f32⟩
  | 51 => ⟨S8x2048x1024, .f32⟩
  | 52 => ⟨S8x2048x1024, .f32⟩
  | 53 => ⟨S8x2048x1024, .f32⟩
  | 54 => ⟨S1x1x1024, .f32⟩
  | 55 => ⟨S1024, .f32⟩
  | 56 => ⟨S1x1x1024, .f32⟩
  | 57 => ⟨S8x2048x1024, .f32⟩
  | 58 => ⟨S8x2048x1024, .f32⟩
  | 59 => ⟨S8x2048x1024, .f32⟩
  | 60 => ⟨S8x2048x1024, .f32⟩
  | 61 => ⟨S1x1x1024, .f32⟩
  | 62 => ⟨S1024, .f32⟩
  | 63 => ⟨S1x1x1024, .f32⟩
  | 64 => ⟨S8x2048x1024, .f32⟩
  | 65 => ⟨S8x2048x1024, .f32⟩
  | 66 => ⟨S8x2048x1024, .f32⟩
  | 67 => ⟨S8x2048x1024, .f32⟩
  | 68 => ⟨S1x1x1024, .f32⟩
  | 69 => ⟨S1024, .f32⟩
  | 70 => ⟨S1x1x1024, .f32⟩
  | 71 => ⟨S8x2048x1024, .f32⟩
  | 72 => ⟨S8x2048x1024, .f32⟩
  | 73 => ⟨S8x2048x1024, .f32⟩
  | 74 => ⟨S8x2048x1024, .f32⟩
  | 75 => ⟨S1x1x1024, .f32⟩
  | 76 => ⟨S1024, .f32⟩
  | 77 => ⟨S1x1x1024, .f32⟩
  | 78 => ⟨S8x2048x1024, .f32⟩
  | 79 => ⟨S8x2048x1024, .f32⟩
  | 80 => ⟨S8x2048x1024, .f32⟩
  | 81 => ⟨S8x2048x1024, .f32⟩
  | 82 => ⟨S1x1x1024, .f32⟩
  | 83 => ⟨S1024, .f32⟩
  | 84 => ⟨S1x1x1024, .f32⟩
  | 85 => ⟨S8x2048x1024, .f32⟩
  | 86 => ⟨S8x2048x1024, .f32⟩
  | 87 => ⟨S8x2048x1024, .f32⟩
  | 88 => ⟨S8x2048x1024, .f32⟩
  | 89 => ⟨S1x1x1024, .f32⟩
  | 90 => ⟨S1024, .f32⟩
  | 91 => ⟨S1x1x1024, .f32⟩
  | 92 => ⟨S8x2048x1024, .f32⟩
  | 93 => ⟨S8x2048x1024, .f32⟩
  | 94 => ⟨S8x2048x1024, .f32⟩
  | 95 => ⟨S8x2048x1024, .f32⟩
  | 96 => ⟨S1x1x1024, .f32⟩
  | 97 => ⟨S1024, .f32⟩
  | 98 => ⟨S1x1x1024, .f32⟩
  | 99 => ⟨S8x2048x1024, .f32⟩
  | 100 => ⟨S8x2048x1024, .f32⟩
  | 101 => ⟨S8x2048x1024, .f32⟩
  | 102 => ⟨S1024, .f32⟩
  | 103 => ⟨S1x1x1024, .f32⟩
  | 104 => ⟨S8x2048x1024, .f32⟩
  | 105 => ⟨S8x2048x1024, .f32⟩
  | 106 => ⟨S1024, .f32⟩
  | 107 => ⟨S1024, .f32⟩
  | 108 => ⟨S_, .f32⟩
  | 109 => ⟨S8x2048, .f32⟩
  | 110 => ⟨S8x2048x1, .f32⟩
  | 111 => ⟨S_, .f32⟩
  | 112 => ⟨S8x2048x1, .f32⟩
  | 113 => ⟨S8x2048x1, .f32⟩
  | 114 => ⟨S8x2048x1024, .f32⟩
  | 115 => ⟨S8x2048x1024, .f32⟩
  | 116 => ⟨S8x2048x1024, .f32⟩
  | 117 => ⟨S_, .f32⟩
  | 118 => ⟨S8x2048, .f32⟩
  | 119 => ⟨S8x2048x1, .f32⟩
  | 120 => ⟨S_, .f32⟩
  | 121 => ⟨S8x2048x1, .f32⟩
  | 122 => ⟨S8x2048x1, .f32⟩
  | 123 => ⟨S8x2048x1024, .f32⟩
  | 124 => ⟨S8x2048x1024, .f32⟩
  | 125 => ⟨S_, .f32⟩
  | 126 => ⟨S8x2048x1, .f32⟩
  | 127 => ⟨S8x2048x1, .f32⟩
  | _ => ⟨S8x2048x1024, .f32⟩

abbrev hbmTy0_2 (i : Nat) : BufTy := match i % 128 with
  | 0 => ⟨S8x2048x1, .f32⟩
  | 1 => ⟨S8x2048x1024, .f32⟩
  | 2 => ⟨S8x2048x1024, .f32⟩
  | 3 => ⟨S1x1x1024, .f32⟩
  | 4 => ⟨S8x2048x1024, .f32⟩
  | 5 => ⟨S8x2048x1024, .f32⟩
  | 6 => ⟨S1x1x1024, .f32⟩
  | 7 => ⟨S8x2048x1024, .f32⟩
  | 8 => ⟨S8x2048x1024, .f32⟩
  | 9 => ⟨S8x2048x1024, .f32⟩
  | 10 => ⟨S8x2048x1024, .f32⟩
  | 11 => ⟨S_, .f32⟩
  | 12 => ⟨S8x2048x1024, .f32⟩
  | 13 => ⟨S8x2048x1024, .f32⟩
  | 14 => ⟨S_, .f32⟩
  | 15 => ⟨S8x2048x1024, .f32⟩
  | 16 => ⟨S8x2048x1024, .f32⟩
  | 17 => ⟨S8x2048x1024, .f32⟩
  | 18 => ⟨S1024x1024, .f32⟩
  | 19 => ⟨S8x2048x1024, .f32⟩
  | 20 => ⟨S1024, .f32⟩
  | 21 => ⟨S1x1x1024, .f32⟩
  | 22 => ⟨S8x2048x1024, .f32⟩
  | 23 => ⟨S8x2048x1024, .f32⟩
  | 24 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_cst_0 : Ref sig .tc := ⟨.hbm, 236, rfl⟩
abbrev main_v225 : Ref sig .tc := ⟨.hbm, 237, rfl⟩
abbrev main_v226 : Ref sig .tc := ⟨.hbm, 238, rfl⟩
abbrev main_cst_1 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_cst_2 : Ref sig .tc := ⟨.hbm, 245, rfl⟩
abbrev main_v232 : Ref sig .tc := ⟨.hbm, 246, rfl⟩
abbrev main_v233 : Ref sig .tc := ⟨.hbm, 247, rfl⟩
abbrev main_cst_3 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_cst_4 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_call1_v0 : Ref sig .tc := ⟨.hbm, 265, rfl⟩
abbrev main_call1_v1 : Ref sig .tc := ⟨.hbm, 266, rfl⟩
abbrev main_call1_cst : Ref sig .tc := ⟨.hbm, 267, rfl⟩
abbrev main_call1_v2 : Ref sig .tc := ⟨.hbm, 268, rfl⟩
abbrev main_call1_v3 : Ref sig .tc := ⟨.hbm, 269, rfl⟩
abbrev main_call1_cst_0 : Ref sig .tc := ⟨.hbm, 270, rfl⟩
abbrev main_call1_v4 : Ref sig .tc := ⟨.hbm, 271, rfl⟩
abbrev main_call1_v5 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩

abbrev nD : Nat := 1
abbrev τ : Topo := Topo.v7x

variable {F : FTy → Type} [FloatOps F]
-- ==== ConvIn.lean ====
abbrev S8x2048x1024 : Shape := ⟨3, ![8, 2048, 1024]⟩
abbrev S2x1024 : Shape := ⟨2, ![2, 1024]⟩
abbrev S1x1024x2048 : Shape := ⟨3, ![1, 1024, 2048]⟩
abbrev S1x2048 : Shape := ⟨2, ![1, 2048]⟩
abbrev S16384x1024 : Shape := ⟨2, ![16384, 1024]⟩
abbrev S1x1024 : Shape := ⟨2, ![1, 1024]⟩
abbrev S1024 : Shape := ⟨1, ![1024]⟩
abbrev S1024x2048 : Shape := ⟨2, ![1024, 2048]⟩
abbrev S2048 : Shape := ⟨1, ![2048]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 13
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x2048, .f32⟩
  | .hbm, ⟨9, _⟩ => ⟨S1024x2048, .bf16⟩
  | .hbm, ⟨10, _⟩ => ⟨S2048, .f32⟩
  | .hbm, ⟨11, _⟩ => ⟨S1x2048, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S512x1024, .f32⟩
  | .local _ .vmem, ⟨6, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvInRefIdeal.lean ====
abbrev S8x2048x1024 : Shape := ⟨3, ![8, 2048, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2048 : Shape := ⟨2, ![1024, 2048]⟩
abbrev S8x2048x2048 : Shape := ⟨3, ![8, 2048, 2048]⟩
abbrev S2048 : Shape := ⟨1, ![2048]⟩
abbrev S1x1x2048 : Shape := ⟨3, ![1, 1, 2048]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x2048, .f32⟩
  | .hbm, ⟨23, _⟩ => ⟨S8x2048x2048, .f32⟩
  | .hbm, ⟨24, _⟩ => ⟨S2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== ConvStep.lean ====
abbrev S1x32x30x1024 : Shape := ⟨4, ![1, 32, 30, 1024]⟩
abbrev S32x1024 : Shape := ⟨2, ![32, 1024]⟩
abbrev S32x1x1024 : Shape := ⟨3, ![32, 1, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S32x30x1024 : Shape := ⟨3, ![32, 30, 1024]⟩
abbrev S30x32x1024 : Shape := ⟨3, ![30, 32, 1024]⟩
abbrev S31x1024 : Shape := ⟨2, ![31, 1024]⟩
abbrev S1024 : Shape := ⟨1, ![1024]⟩
abbrev S1024x1024 : Shape := ⟨2, ![1024, 1024]⟩
abbrev S1x32x1024 : Shape := ⟨3, ![1, 32, 1024]⟩
abbrev S32 : Shape := ⟨1, ![32]⟩
abbrev S32x1 : Shape := ⟨2, ![32, 1]⟩

abbrev nBuf : Space → Nat
  | .hbm => 25
  | .vmem => 11
  | .smem => 0
  | _ => 0

abbrev bufTy : (tb : Table) → Fin (tcTables nBuf tb) → BufTy
  | .hbm, ⟨0, _⟩ => ⟨S1x32x30x1024, .f32⟩
  | .hbm, ⟨1, _⟩ => ⟨S32x1024, .f32⟩
  | .hbm, ⟨2, _⟩ => ⟨S32x1x1024, .f32⟩
  | .hbm, ⟨3, _⟩ => ⟨S1x31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S32x30x1024, .f32⟩
  | .hbm, ⟨10, _⟩ => ⟨S30x32x1024, .f32⟩
  | .hbm, ⟨11, _⟩ => ⟨S32x1024, .f32⟩
  | .hbm, ⟨12, _⟩ => ⟨S31x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S32x1024, .f32⟩
  | .hbm, ⟨24, _⟩ => ⟨S30x32x1024, .f32⟩
  | .local _ .vmem, ⟨0, _⟩ => ⟨S30x32x1024, .f32⟩
  | .local _ .vmem, ⟨1, _⟩ => ⟨S32x1024, .f32⟩
  | .local _ .vmem, ⟨2, _⟩ => ⟨S32x1024, .f32⟩
  | .local _ .vmem, ⟨3, _⟩ => ⟨S31x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S32x1024, .f32⟩
  | .local _ .vmem, ⟨10, _⟩ => ⟨S30x32x1024, .f32⟩
  | _, _ => ⟨S1x32x30x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S30x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S30x32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvStepRefIdeal.lean ====
abbrev S1x32x30x1024 : Shape := ⟨4, ![1, 32, 30, 1024]⟩
abbrev S32x1024 : Shape := ⟨2, ![32, 1024]⟩
abbrev S32x1x1024 : Shape := ⟨3, ![32, 1, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S32x30x1024 : Shape := ⟨3, ![32, 30, 1024]⟩
abbrev S32x31x1024 : Shape := ⟨3, ![32, 31, 1024]⟩
abbrev S1x1x1024 : Shape := ⟨3, ![1, 1, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1024x1024 : Shape := ⟨2, ![1024, 1024]⟩
abbrev S30x32x1024 : Shape := ⟨3, ![30, 32, 1024]⟩

abbrev nBuf : Space → Nat
  | .hbm => 285
  | .vmem => 0
  | .smem => 0
  | _ => 0

abbrev hbmTy0_0 (i : Nat) : BufTy := match i % 128 with
  | 0 => ⟨S1x32x30x1024, .f32⟩
  | 1 => ⟨S32x1024, .f32⟩
  | 2 => ⟨S32x1x1024, .f32⟩
  | 3 => ⟨S1x31x1024, .f32⟩
  | 4 => ⟨S1x1024, .f32⟩
  | 5 => ⟨S1x1024, .f32⟩
  | 6 => ⟨S1x1024, .f32⟩
  | 7 => ⟨S1x1024x1024, .f32⟩
  | 8 => ⟨S1x1024, .f32⟩
  | 9 => ⟨S32x30x1024, .f32⟩
  | 10 => ⟨S32x1x1024, .f32⟩
  | 11 => ⟨S32x31x1024, .f32⟩
  | 12 => ⟨S32x1x1024, .f32⟩
  | 13 => ⟨S1x1x1024, .f32⟩
  | 14 => ⟨S1024, .f32⟩
  | 15 => ⟨S1x1x1024, .f32⟩
  | 16 => ⟨S32x1x1024, .f32⟩
  | 17 => ⟨S32x1x1024, .f32⟩
  | 18 => ⟨S_, .f32⟩
  | 19 => ⟨S32x1x1024, .f32⟩
  | 20 => ⟨S32x1x1024, .f32⟩
  | 21 => ⟨S32x1x1024, .f32⟩
  | 22 => ⟨S1x1x1024, .f32⟩
  | 23 => ⟨S1024, .f32⟩
  | 24 => ⟨S1x1x1024, .f32⟩
  | 25 => ⟨S32x1x1024, .f32⟩
  | 26 => ⟨S32x1x1024, .f32⟩
  | 27 => ⟨S32x1x1024, .f32⟩
  | 28 => ⟨S32x1x1024, .f32⟩
  | 29 => ⟨S1x1x1024, .f32⟩
  | 30 => ⟨S1024, .f32⟩
  | 31 => ⟨S1x1x1024, .f32⟩
  | 32 => ⟨S32x1x1024, .f32⟩
  | 33 => ⟨S32x1x1024, .f32⟩
  | 34 => ⟨S32x1x1024, .f32⟩
  | 35 => ⟨S32x1x1024, .f32⟩
  | 36 => ⟨S1x1x1024, .f32⟩
  | 37 => ⟨S1024, .f32⟩
  | 38 => ⟨S1x1x1024, .f32⟩
  | 39 => ⟨S32x1x1024, .f32⟩
  | 40 => ⟨S32x1x1024, .f32⟩
  | 41 => ⟨S32x1x1024, .f32⟩
  | 42 => ⟨S32x1x1024, .f32⟩
  | 43 => ⟨S1x1x1024, .f32⟩
  | 44 => ⟨S1024, .f32⟩
  | 45 => ⟨S1x1x1024, .f32⟩
  | 46 => ⟨S32x1x1024, .f32⟩
  | 47 => ⟨S32x1x1024, .f32⟩
  | 48 => ⟨S32x1x1024, .f32⟩
  | 49 => ⟨S32x1x1024, .f32⟩
  | 50 => ⟨S1x1x1024, .f32⟩
  | 51 => ⟨S1024, .f32⟩
  | 52 => ⟨S1x1x1024, .f32⟩
  | 53 => ⟨S32x1x1024, .f32⟩
  | 54 => ⟨S32x1x1024, .f32⟩
  | 55 => ⟨S32x1x1024, .f32⟩
  | 56 => ⟨S32x1x1024, .f32⟩
  | 57 => ⟨S1x1x1024, .f32⟩
  | 58 => ⟨S1024, .f32⟩
  | 59 => ⟨S1x1x1024, .f32⟩
  | 60 => ⟨S32x1x1024, .f32⟩
  | 61 => ⟨S32x1x1024, .f32⟩
  | 62 => ⟨S32x1x1024, .f32⟩
  | 63 => ⟨S32x1x1024, .f32⟩
  | 64 => ⟨S1x1x1024, .f32⟩
  | 65 => ⟨S1024, .f32⟩
  | 66 => ⟨S1x1x1024, .f32⟩
  | 67 => ⟨S32x1x1024, .f32⟩
  | 68 => ⟨S32x1x1024, .f32⟩
  | 69 => ⟨S32x1x1024, .f32⟩
  | 70 => ⟨S32x1x1024, .f32⟩
  | 71 => ⟨S1x1x1024, .f32⟩
  | 72 => ⟨S1024, .f32⟩
  | 73 => ⟨S1x1x1024, .f32⟩
  | 74 => ⟨S32x1x1024, .f32⟩
  | 75 => ⟨S32x1x1024, .f32⟩
  | 76 => ⟨S32x1x1024, .f32⟩
  | 77 => ⟨S32x1x1024, .f32⟩
  | 78 => ⟨S1x1x1024, .f32⟩
  | 79 => ⟨S1024, .f32⟩
  | 80 => ⟨S1x1x1024, .f32⟩
  | 81 => ⟨S32x1x1024, .f32⟩
  | 82 => ⟨S32x1x1024, .f32⟩
  | 83 => ⟨S32x1x1024, .f32⟩
  | 84 => ⟨S32x1x1024, .f32⟩
  | 85 => ⟨S1x1x1024, .f32⟩
  | 86 => ⟨S1024, .f32⟩
  | 87 => ⟨S1x1x1024, .f32⟩
  | 88 => ⟨S32x1x1024, .f32⟩
  | 89 => ⟨S32x1x1024, .f32⟩
  | 90 => ⟨S32x1x1024, .f32⟩
  | 91 => ⟨S32x1x1024, .f32⟩
  | 92 => ⟨S1x1x1024, .f32⟩
  | 93 => ⟨S1024, .f32⟩
  | 94 => ⟨S1x1x1024, .f32⟩
  | 95 => ⟨S32x1x1024, .f32⟩
  | 96 => ⟨S32x1x1024, .f32⟩
  | 97 => ⟨S32x1x1024, .f32⟩
  | 98 => ⟨S32x1x1024, .f32⟩
  | 99 => ⟨S1x1x1024, .f32⟩
  | 100 => ⟨S1024, .f32⟩
  | 101 => ⟨S1x1x1024, .f32⟩
  | 102 => ⟨S32x1x1024, .f32⟩
  | 103 => ⟨S32x1x1024, .f32⟩
  | 104 => ⟨S32x1x1024, .f32⟩
  | 105 => ⟨S32x1x1024, .f32⟩
  | 106 => ⟨S1x1x1024, .f32⟩
  | 107 => ⟨S1024, .f32⟩
  | 108 => ⟨S1x1x1024, .f32⟩
  | 109 => ⟨S32x1x1024, .f32⟩
  | 110 => ⟨S32x1x1024, .f32⟩
  | 111 => ⟨S32x1x1024, .f32⟩
  | 112 => ⟨S32x1x1024, .f32⟩
  | 113 => ⟨S1x1x1024, .f32⟩
  | 114 => ⟨S1024, .f32⟩
  | 115 => ⟨S1x1x1024, .f32⟩
  | 116 => ⟨S32x1x1024, .f32⟩
  | 117 => ⟨S32x1x1024, .f32⟩
  | 118 => ⟨S32x1x1024, .f32⟩
  | 119 => ⟨S32x1x1024, .f32⟩
  | 120 => ⟨S1x1x1024, .f32⟩
  | 121 => ⟨S1024, .f32⟩
  | 122 => ⟨S1x1x1024, .f32⟩
  | 123 => ⟨S32x1x1024, .f32⟩
  | 124 => ⟨S32x1x1024, .f32⟩
  | 125 => ⟨S32x1x1024, .f32⟩
  | 126 => ⟨S32x1x1024, .f32⟩
  | 127 => ⟨S1x1x1024, .f32⟩
  | _ => ⟨S1x32x30x1024, .f32⟩

abbrev hbmTy0_1 (i : Nat) : BufTy := match i % 128 with
  | 0 => ⟨S1024, .f32⟩
  | 1 => ⟨S1x1x1024, .f32⟩
  | 2 => ⟨S32x1x1024, .f32⟩
  | 3 => ⟨S32x1x1024, .f32⟩
  | 4 => ⟨S32x1x1024, .f32⟩
  | 5 => ⟨S32x1x1024, .f32⟩
  | 6 => ⟨S1x1x1024, .f32⟩
  | 7 => ⟨S1024, .f32⟩
  | 8 => ⟨S1x1x1024, .f32⟩
  | 9 => ⟨S32x1x1024, .f32⟩
  | 10 => ⟨S32x1x1024, .f32⟩
  | 11 => ⟨S32x1x1024, .f32⟩
  | 12 => ⟨S32x1x1024, .f32⟩
  | 13 => ⟨S1x1x1024, .f32⟩
  | 14 => ⟨S1024, .f32⟩
  | 15 => ⟨S1x1x1024, .f32⟩
  | 16 => ⟨S32x1x1024, .f32⟩
  | 17 => ⟨S32x1x1024, .f32⟩
  | 18 => ⟨S32x1x1024, .f32⟩
  | 19 => ⟨S32x1x1024, .f32⟩
  | 20 => ⟨S1x1x1024, .f32⟩
  | 21 => ⟨S1024, .f32⟩
  | 22 => ⟨S1x1x1024, .f32⟩
  | 23 => ⟨S32x1x1024, .f32⟩
  | 24 => ⟨S32x1x1024, .f32⟩
  | 25 => ⟨S32x1x1024, .f32⟩
  | 26 => ⟨S32x1x1024, .f32⟩
  | 27 => ⟨S1x1x1024, .f32⟩
  | 28 => ⟨S1024, .f32⟩
  | 29 => ⟨S1x1x1024, .f32⟩
  | 30 => ⟨S32x1x1024, .f32⟩
  | 31 => ⟨S32x1x1024, .f32⟩
  | 32 => ⟨S32x1x1024, .f32⟩
  | 33 => ⟨S32x1x1024, .f32⟩
  | 34 => ⟨S1x1x1024, .f32⟩
  | 35 => ⟨S1024, .f32⟩
  | 36 => ⟨S1x1x1024, .f32⟩
  | 37 => ⟨S32x1x1024, .f32⟩
  | 38 => ⟨S32x1x1024, .f32⟩
  | 39 => ⟨S32x1x1024, .f32⟩
  | 40 => ⟨S32x1x1024, .f32⟩
  | 41 => ⟨S1x1x1024, .f32⟩
  | 42 => ⟨S1024, .f32⟩
  | 43 => ⟨S1x1x1024, .f32⟩
  | 44 => ⟨S32x1x1024, .f32⟩
  | 45 => ⟨S32x1x1024, .f32⟩
  | 46 => ⟨S32x1x1024, .f32⟩
  | 47 => ⟨S32x1x1024, .f32⟩
  | 48 => ⟨S1x1x1024, .f32⟩
  | 49 => ⟨S1024, .f32⟩
  | 50 => ⟨S1x1x1024, .f32⟩
  | 51 => ⟨S32x1x1024, .f32⟩
  | 52 => ⟨S32x1x1024, .f32⟩
  | 53 => ⟨S32x1x1024, .f32⟩
  | 54 => ⟨S32x1x1024, .f32⟩
  | 55 => ⟨S1x1x1024, .f32⟩
  | 56 => ⟨S1024, .f32⟩
  | 57 => ⟨S1x1x1024, .f32⟩
  | 58 => ⟨S32x1x1024, .f32⟩
  | 59 => ⟨S32x1x1024, .f32⟩
  | 60 => ⟨S32x1x1024, .f32⟩
  | 61 => ⟨S32x1x1024, .f32⟩
  | 62 => ⟨S1x1x1024, .f32⟩
  | 63 => ⟨S1024, .f32⟩
  | 64 => ⟨S1x1x1024, .f32⟩
  | 65 => ⟨S32x1x1024, .f32⟩
  | 66 => ⟨S32x1x1024, .f32⟩
  | 67 => ⟨S32x1x1024, .f32⟩
  | 68 => ⟨S32x1x1024, .f32⟩
  | 69 => ⟨S1x1x1024, .f32⟩
  | 70 => ⟨S1024, .f32⟩
  | 71 => ⟨S1x1x1024, .f32⟩
  | 72 => ⟨S32x1x1024, .f32⟩
  | 73 => ⟨S32x1x1024, .f32⟩
  | 74 => ⟨S32x1x1024, .f32⟩
  | 75 => ⟨S32x1x1024, .f32⟩
  | 76 => ⟨S1x1x1024, .f32⟩
  | 77 => ⟨S1024, .f32⟩
  | 78 => ⟨S1x1x1024, .f32⟩
  | 79 => ⟨S32x1x1024, .f32⟩
  | 80 => ⟨S32x1x1024, .f32⟩
  | 81 => ⟨S32x1x1024, .f32⟩
  | 82 => ⟨S32x1x1024, .f32⟩
  | 83 => ⟨S1x1x1024, .f32⟩
  | 84 => ⟨S1024, .f32⟩
  | 85 => ⟨S1x1x1024, .f32⟩
  | 86 => ⟨S32x1x1024, .f32⟩
  | 87 => ⟨S32x1x1024, .f32⟩
  | 88 => ⟨S32x1x1024, .f32⟩
  | 89 => ⟨S32x1x1024, .f32⟩
  | 90 => ⟨S1x1x1024, .f32⟩
  | 91 => ⟨S1024, .f32⟩
  | 92 => ⟨S1x1x1024, .f32⟩
  | 93 => ⟨S32x1x1024, .f32⟩
  | 94 => ⟨S32x1x1024, .f32⟩
  | 95 => ⟨S32x1x1024, .f32⟩
  | 96 => ⟨S32x1x1024, .f32⟩
  | 97 => ⟨S1x1x1024, .f32⟩
  | 98 => ⟨S1024, .f32⟩
  | 99 => ⟨S1x1x1024, .f32⟩
  | 100 => ⟨S32x1x1024, .f32⟩
  | 101 => ⟨S32x1x1024, .f32⟩
  | 102 => ⟨S32x1x1024, .f32⟩
  | 103 => ⟨S1024, .f32⟩
  | 104 => ⟨S1x1x1024, .f32⟩
  | 105 => ⟨S32x1x1024, .f32⟩
  | 106 => ⟨S32x1x1024, .f32⟩
  | 107 => ⟨S1024, .f32⟩
  | 108 => ⟨S1024, .f32⟩
  | 109 => ⟨S_, .f32⟩
  | 110 => ⟨S32x1, .f32⟩
  | 111 => ⟨S32x1x1, .f32⟩
  | 112 => ⟨S_, .f32⟩
  | 113 => ⟨S32x1x1, .f32⟩
  | 114 => ⟨S32x1x1, .f32⟩
  | 115 => ⟨S32x1x1024, .f32⟩
  | 116 => ⟨S32x1x1024, .f32⟩
  | 117 => ⟨S32x1x1024, .f32⟩
  | 118 => ⟨S_, .f32⟩
  | 119 => ⟨S32x1, .f32⟩
  | 120 => ⟨S32x1x1, .f32⟩
  | 121 => ⟨S_, .f32⟩
  | 122 => ⟨S32x1x1, .f32⟩
  | 123 => ⟨S32x1x1, .f32⟩
  | 124 => ⟨S32x1x1024, .f32⟩
  | 125 => ⟨S32x1x1024, .f32⟩
  | 126 => ⟨S_, .f32⟩
  | 127 => ⟨S32x1x1, .f32⟩
  | _ => ⟨S1x32x30x1024, .f32⟩

abbrev hbmTy0_2 (i : Nat) : BufTy := match i % 128 with
  | 0 => ⟨S32x1x1, .f32⟩
  | 1 => ⟨S32x1x1, .f32⟩
  | 2 => ⟨S32x1x1024, .f32⟩
  | 3 => ⟨S32x1x1024, .f32⟩
  | 4 => ⟨S1x1x1024, .f32⟩
  | 5 => ⟨S32x1x1024, .f32⟩
  | 6 => ⟨S32x1x1024, .f32⟩
  | 7 => ⟨S1x1x1024, .f32⟩
  | 8 => ⟨S32x1x1024, .f32⟩
  | 9 => ⟨S32x1x1024, .f32⟩
  | 10 => ⟨S32x1x1024, .f32⟩
  | 11 => ⟨S32x1x1024, .f32⟩
  | 12 => ⟨S_, .f32⟩
  | 13 => ⟨S32x1x1024, .f32⟩
  | 14 => ⟨S32x1x1024, .f32⟩
  | 15 => ⟨S_, .f32⟩
  | 16 => ⟨S32x1x1024, .f32⟩
  | 17 => ⟨S32x1x1024, .f32⟩
  | 18 => ⟨S32x1x1024, .f32⟩
  | 19 => ⟨S1024x1024, .f32⟩
  | 20 => ⟨S32x1x1024, .f32⟩
  | 21 => ⟨S1024, .f32⟩
  | 22 => ⟨S1x1x1024, .f32⟩
  | 23 => ⟨S32x1x1024, .f32⟩
  | 24 => ⟨S32x1x1024, .f32⟩
  | 25 => ⟨S32x1x1024, .f32⟩
  | 26 => ⟨S32x1024, .f32⟩
  | 27 => ⟨S32x30x1024, .f32⟩
  | 28 => ⟨S30x32x1024, .f32⟩
  | _ => ⟨S1x32x30x1024, .f32⟩

abbrev hbmTy (i : Nat) : BufTy := match i / 128 with
  | 0 => hbmTy0_0 i
  | 1 => hbmTy0_1 i
  | 2 => hbmTy0_2 i
  | _ => ⟨S1x32x30x1024, .f32⟩

abbrev bufTy : (tb : Table) → Fin (tcTables nBuf tb) → BufTy
  | .hbm, ⟨i, _⟩ => hbmTy i
  | _, _ => ⟨S1x32x30x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_cst_0 : Ref sig .tc := ⟨.hbm, 237, rfl⟩
abbrev main_v227 : Ref sig .tc := ⟨.hbm, 238, rfl⟩
abbrev main_v228 : Ref sig .tc := ⟨.hbm, 239, rfl⟩
abbrev main_cst_1 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_cst_2 : Ref sig .tc := ⟨.hbm, 246, rfl⟩
abbrev main_v234 : Ref sig .tc := ⟨.hbm, 247, rfl⟩
abbrev main_v235 : Ref sig .tc := ⟨.hbm, 248, rfl⟩
abbrev main_cst_3 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_cst_4 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_call0_v0 : Ref sig .tc := ⟨.hbm, 266, rfl⟩
abbrev main_call0_v1 : Ref sig .tc := ⟨.hbm, 267, rfl⟩
abbrev main_call0_cst : Ref sig .tc := ⟨.hbm, 268, rfl⟩
abbrev main_call0_v2 : Ref sig .tc := ⟨.hbm, 269, rfl⟩
abbrev main_call0_v3 : Ref sig .tc := ⟨.hbm, 270, rfl⟩
abbrev main_call0_cst_0 : Ref sig .tc := ⟨.hbm, 271, rfl⟩
abbrev main_call0_v4 : Ref sig .tc := ⟨.hbm, 272, rfl⟩
abbrev main_call0_v5 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩

abbrev nD : Nat := 1
abbrev τ : Topo := Topo.v7x

variable {F : FTy → Type} [FloatOps F]
-- ==== Mlp.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x8x2048x256 : Shape := ⟨4, ![2, 8, 2048, 256]⟩
abbrev S2x256x1024 : Shape := ⟨3, ![2, 256, 1024]⟩
abbrev S1024 : Shape := ⟨1, ![1024]⟩
abbrev S2x16384x256 : Shape := ⟨3, ![2, 16384, 256]⟩
abbrev S16384x1024 : Shape := ⟨2, ![16384, 1024]⟩
abbrev S1x1024 : Shape := ⟨2, ![1, 1024]⟩
abbrev S1024x1024 : Shape := ⟨2, ![1024, 1024]⟩
abbrev S512x1024 : Shape := ⟨2, ![512, 1024]⟩
abbrev S1x1024x4096 : Shape := ⟨3, ![1, 1024, 4096]⟩
abbrev S1x4096x1024 : Shape := ⟨3, ![1, 4096, 1024]⟩
abbrev S1x512x256 : Shape := ⟨3, ![1, 512, 256]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S256x1024 : Shape := ⟨2, ![256, 1024]⟩

abbrev nBuf : Space → Nat
  | .hbm => 28
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S2x1024, .f32⟩
  | .hbm, ⟨7, _⟩ => ⟨S2x1024x1024, .f32⟩
  | .hbm, ⟨8, _⟩ => ⟨S2x8x2048x256, .f32⟩
  | .hbm, ⟨9, _⟩ => ⟨S2x256x1024, .f32⟩
  | .hbm, ⟨10, _⟩ => ⟨S1024, .f32⟩
  | .hbm, ⟨11, _⟩ => ⟨S2x16384x256, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S2x1024x4096, .bf16⟩
  | .hbm, ⟨17, _⟩ => ⟨S2x4096x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S2x1024x1024, .bf16⟩
  | .hbm, ⟨22, _⟩ => ⟨S2x256x1024, .bf16⟩
  | .hbm, ⟨23, _⟩ => ⟨S1x1024, .f32⟩
  | .hbm, ⟨24, _⟩ => ⟨S16384x1024, .f32⟩
  | .hbm, ⟨25, _⟩ => ⟨S1024x1024, .f32⟩
  | .hbm, ⟨26, _⟩ => ⟨S1024x1024, .bf16⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S1x1024x1024, .bf16⟩
  | .local _ .vmem, ⟨10, _⟩ => ⟨S1x512x256, .f32⟩
  | .local _ .vmem, ⟨11, _⟩ => ⟨S1x512x256, .f32⟩
  | .local _ .vmem, ⟨12, _⟩ => ⟨S1x256x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MlpRefIdeal.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x8x2048x256 : Shape := ⟨4, ![2, 8, 2048, 256]⟩
abbrev S2x256x1024 : Shape := ⟨3, ![2, 256, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S2x1024, .f32⟩
  | .hbm, ⟨7, _⟩ => ⟨S2x1024x1024, .f32⟩
  | .hbm, ⟨8, _⟩ => ⟨S2x8x2048x256, .f32⟩
  | .hbm, ⟨9, _⟩ => ⟨S2x256x1024, .f32⟩
  | .hbm, ⟨10, _⟩ => ⟨S1024, .f32⟩
  | .hbm, ⟨11, _⟩ => ⟨S1024x1024, .f32⟩
  | .hbm, ⟨12, _⟩ => ⟨S8x2048x1024, .f32⟩
  | .hbm, ⟨13, _⟩ => ⟨S8x2048x1024, .f32⟩
  | .hbm, ⟨14, _⟩ => ⟨S1x1024, .f32⟩
  | .hbm, ⟨15, _⟩ => ⟨S1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S1x1024x4096, .f32⟩
  | .hbm, ⟨33, _⟩ => ⟨S1024x4096, .f32⟩
  | .hbm, ⟨34, _⟩ => ⟨S8x2048x4096, .f32⟩
  | .hbm, ⟨35, _⟩ => ⟨S_, .f32⟩
  | .hbm, ⟨36, _⟩ => ⟨S8x2048x4096, .f32⟩
  | .hbm, ⟨37, _⟩ => ⟨S8x2048x4096, .f32⟩
  | .hbm, ⟨38, _⟩ => ⟨S8x2048x4096, .f32⟩
  | .hbm, ⟨39, _⟩ => ⟨S1x4096x1024, .f32⟩
  | .hbm, ⟨40, _⟩ => ⟨S4096x1024, .f32⟩
  | .hbm, ⟨41, _⟩ => ⟨S8x2048x1024, .f32⟩
  | .hbm, ⟨42, _⟩ => ⟨S8x2048x1024, .f32⟩
  | .hbm, ⟨43, _⟩ => ⟨S1x1024, .f32⟩
  | .hbm, ⟨44, _⟩ => ⟨S1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S1x1024x1024, .f32⟩
  | .hbm, ⟨62, _⟩ => ⟨S1024x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S_, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048x1024, .f32⟩
  | .hbm, ⟨71, _⟩ => ⟨S8x2048x1024, .f32⟩
  | .hbm, ⟨72, _⟩ => ⟨S1x8x2048x256, .f32⟩
  | .hbm, ⟨73, _⟩ => ⟨S8x2048x256, .f32⟩
  | .hbm, ⟨74, _⟩ => ⟨S1x256x1024, .f32⟩
  | .hbm, ⟨75, _⟩ => ⟨S256x1024, .f32⟩
  | .hbm, ⟨76, _⟩ => ⟨S8x2048x1024, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x2048, .f32⟩
  | .hbm, ⟨82, _⟩ => ⟨S8x2048x1, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x1024, .f32⟩
  | .hbm, ⟨91, _⟩ => ⟨S8x2048x1024, .f32⟩
  | .hbm, ⟨92, _⟩ => ⟨S1x1x1024, .f32⟩
  | .hbm, ⟨93, _⟩ => ⟨S8x2048x1024, .f32⟩
  | .hbm, ⟨94, _⟩ => ⟨S8x2048x1024, .f32⟩
  | .hbm, ⟨95, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== AttnIn.lean ====
abbrev S8x2048x1024 : Shape := ⟨3, ![8, 2048, 1024]⟩
abbrev S2x1024 : Shape := ⟨2, ![2, 1024]⟩
abbrev S1x1024x2608 : Shape := ⟨3, ![1, 1024, 2608]⟩
abbrev S1024x2608 : Shape := ⟨2, ![1024, 2608]⟩
abbrev S16384x1024 : Shape := ⟨2, ![16384, 1024]⟩
abbrev S1x1024 : Shape := ⟨2, ![1, 1024]⟩
abbrev S1024 : Shape := ⟨1, ![1024]⟩
abbrev S1024x1024 : Shape := ⟨2, ![1024, 1024]⟩
abbrev S1024x1536 : Shape := ⟨2, ![1024, 1536]⟩
abbrev S1024x48 : Shape := ⟨2, ![1024, 48]⟩
abbrev S_ : Shape := ⟨0, ![]⟩
abbrev S1024x128 : Shape := ⟨2, ![1024, 128]⟩
abbrev S16384x128 : Shape := ⟨2, ![16384, 128]⟩
abbrev S16384x256 : Shape := ⟨2, ![16384, 256]⟩
abbrev S8x4x64x2048 : Shape := ⟨4, ![8, 4, 64, 2048]⟩
abbrev S8x4x64x512 : Shape := ⟨4, ![8, 4, 64, 512]⟩
abbrev S512x1024 : Shape := ⟨2, ![512, 1024]⟩
abbrev S512x128 : Shape := ⟨2, ![512, 128]⟩
abbrev S512x256 : Shape := ⟨2, ![512, 256]⟩
abbrev S1x4x64x512 : Shape := ⟨4, ![1, 4, 64, 512]⟩
abbrev S512 : Shape := ⟨1, ![512]⟩
abbrev S512x1 : Shape := ⟨2, ![512, 1]⟩
abbrev S512x1536 : Shape := ⟨2, ![512, 1536]⟩
abbrev S256x512 : Shape := ⟨2, ![256, 512]⟩
abbrev S64x512 : Shape := ⟨2, ![64, 512]⟩
abbrev S1x1x64x512 : Shape := ⟨4, ![1, 1, 64, 512]⟩

abbrev nBuf : Space → Nat
  | .hbm => 33
  | .vmem => 38
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2608, .f32⟩
  | .hbm, ⟨3, _⟩ => ⟨S1024x2608, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S1024x1536, .f32⟩
  | .hbm, ⟨11, _⟩ => ⟨S1024x1536, .bf16⟩
  | .hbm, ⟨12, _⟩ => ⟨S1024x48, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S16384x1024, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x256, .f32⟩
  | .hbm, ⟨24, _⟩ => ⟨S16384x256, .f32⟩
  | .hbm, ⟨25, _⟩ => ⟨S8x4x64x2048, .f32⟩
  | .hbm, ⟨26, _⟩ => ⟨S8x4x64x2048, .f32⟩
  | .hbm, ⟨27, _⟩ => ⟨S8x4x64x2048, .f32⟩
  | .hbm, ⟨28, _⟩ => ⟨S8x4x64x2048, .f32⟩
  | .hbm, ⟨29, _⟩ => ⟨S8x4x64x2048, .f32⟩
  | .hbm, ⟨30, _⟩ => ⟨S8x4x64x2048, .f32⟩
  | .hbm, ⟨31, _⟩ => ⟨S8x4x64x512, .f32⟩
  | .hbm, ⟨32, _⟩ => ⟨S8x4x64x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S1024x128, .bf16⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S1x4x64x512, .f32⟩
  | .local _ .vmem, ⟨23, _⟩ => ⟨S1x4x64x512, .f32⟩
  | .local _ .vmem, ⟨24, _⟩ => ⟨S1x4x64x512, .f32⟩
  | .local _ .vmem, ⟨25, _⟩ => ⟨S1x4x64x512, .f32⟩
  | .local _ .vmem, ⟨26, _⟩ => ⟨S1x4x64x512, .f32⟩
  | .local _ .vmem, ⟨27, _⟩ => ⟨S1x4x64x512, .f32⟩
  | .local _ .vmem, ⟨28, _⟩ => ⟨S1x4x64x512, .f32⟩
  | .local _ .vmem, ⟨29, _⟩ => ⟨S1x4x64x512, .f32⟩
  | .local _ .vmem, ⟨30, _⟩ => ⟨S1x4x64x512, .f32⟩
  | .local _ .vmem, ⟨31, _⟩ => ⟨S1x4x64x512, .f32⟩
  | .local _ .vmem, ⟨32, _⟩ => ⟨S1x4x64x512, .f32⟩
  | .local _ .vmem, ⟨33, _⟩ => ⟨S1x4x64x512, .f32⟩
  | .local _ .vmem, ⟨34, _⟩ => ⟨S1x4x64x512, .f32⟩
  | .local _ .vmem, ⟨35, _⟩ => ⟨S1x4x64x512, .f32⟩
  | .local _ .vmem, ⟨36, _⟩ => ⟨S1x4x64x512, .f32⟩
  | .local _ .vmem, ⟨37, _⟩ => ⟨S1x4x64x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev main_v12_8 : Ref sig .tc := ⟨.hbm, 25, rfl⟩
abbrev main_v12_9 : Ref sig .tc := ⟨.hbm, 26, rfl⟩
abbrev main_v12_10 : Ref sig .tc := ⟨.hbm, 27, rfl⟩
abbrev main_v12_11 : Ref sig .tc := ⟨.hbm, 28, rfl⟩
abbrev main_v12_12 : Ref sig .tc := ⟨.hbm, 29, rfl⟩
abbrev main_v12_13 : Ref sig .tc := ⟨.hbm, 30, rfl⟩
abbrev main_v12_14 : Ref sig .tc := ⟨.hbm, 31, rfl⟩
abbrev main_v12_15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg0 v52
  let c0_i32_34 : BitVec 32 := 0#32
  let v55 : BitVec 1 := Scalar.cmpi .slt v53 c0_i32_34
  let c0_i32_35 : BitVec 32 := 0#32
  let v56 : BitVec 1 := Scalar.cmpi .slt v52 c0_i32_35
  let v57 : BitVec 1 := Scalar.xori v55 v56
  let c0_i32_33 : BitVec 32 := 0#32
  let v54 : BitVec 1 := Scalar.cmpi .ne v53 c0_i32_33
  let v58 : BitVec 1 := Scalar.andi v57 v54
  let v59 : BitVec 32 := Scalar.addi v53 v52
  let v60 : BitVec 32 := Scalar.select v58 v59 v53
  let c3_i32 : BitVec 32 := 3#32
  let v61 : BitVec 1 := Scalar.cmpi .eq v60 c3_i32
  let v147 : BitVec 32 := Scalar.extui v61
  let c0_i32_113 : BitVec 32 := 0#32
  let v148 : BitVec 1 := Scalar.cmpi .ne v147 c0_i32_113
  v148

def k0_cond2 (i : grid0.Coords) : BitVec 1 :=
  let arg0 : BitVec 32 := BitVec.ofNat 32 (i 0).val
  let c4_i32 : BitVec 32 := 4#32
  let c0_i32 : BitVec 32 := 0#32
  let v51 : BitVec 1 := Scalar.cmpi .eq c4_i32 c0_i32
  let c1_i32 : BitVec 32 := 1#32
  let v52 : BitVec 32 := Scalar.select v51 c1_i32 c4_i32
  let v53 : BitVec 32 := Scalar.remsi arg0 v52
  let c0_i32_34 : BitVec 32 := 0#32
  let v55 : BitVec 1 := Scalar.cmpi .slt v53 c0_i32_34
  let c0_i32_35 : BitVec 32 := 0#32
  let v56 : BitVec 1 := Scalar.cmpi .slt v52 c0_i32_35
  let v57 : BitVec 1 := Scalar.xori v55 v56
  let c0_i32_33 : BitVec 32 := 0#32
  let v54 : BitVec 1 := Scalar.cmpi .ne v53 c0_i32_33
  let v58 : BitVec 1 := Scalar.andi v57 v54
  let v59 : BitVec 32 := Scalar.addi v53 v52
  let v60 : BitVec 32 := Scalar.select v58 v59 v53
  let c3_i32 : BitVec 32 := 3#32
  let v61 : BitVec 1 := Scalar.cmpi .eq v60 c3_i32
  let v166 : BitVec 32 := Scalar.extui v61
  let c0_i32_130 : BitVec 32 := 0#32
  let v167 : BitVec 1 := Scalar.cmpi .ne v166 c0_i32_130
  v167

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_14 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_17 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_18 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_19 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_20 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x64x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x4x64x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== AttnInRefIdeal.lean ====
abbrev S8x2048x1024 : Shape := ⟨3, ![8, 2048, 1024]⟩
abbrev S2x1024 : Shape := ⟨2, ![2, 1024]⟩
abbrev S1x1024x2608 : Shape := ⟨3, ![1, 1024, 2608]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2608 : Shape := ⟨2, ![1024, 2608]⟩
abbrev S8x2048x2608 : Shape := ⟨3, ![8, 2048, 2608]⟩
abbrev S8x2048x256 : Shape := ⟨3, ![8, 2048, 256]⟩
abbrev S8x2048x48 : Shape := ⟨3, ![8, 2048, 48]⟩
abbrev S8x2048x128 : Shape := ⟨3, ![8, 2048, 128]⟩
abbrev S8x2048x4x64 : Shape := ⟨4, ![8, 2048, 4, 64]⟩
abbrev S8x4x64x2048 : Shape := ⟨4, ![8, 4, 64, 2048]⟩
abbrev S8x4x64x512 : Shape := ⟨4, ![8, 4, 64, 512]⟩
abbrev S16384x256 : Shape := ⟨2, ![16384, 256]⟩
abbrev S16384x1024 : Shape := ⟨2, ![16384, 1024]⟩
abbrev S16384x128 : Shape := ⟨2, ![16384, 128]⟩

abbrev nBuf : Space → Nat
  | .hbm => 68
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2608, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x2608, .f32⟩
  | .hbm, ⟨22, _⟩ => ⟨S8x2048x2608, .f32⟩
  | .hbm, ⟨23, _⟩ => ⟨S8x2048x1024, .f32⟩
  | .hbm, ⟨24, _⟩ => ⟨S8x2048x256, .f32⟩
  | .hbm, ⟨25, _⟩ => ⟨S8x2048x256, .f32⟩
  | .hbm, ⟨26, _⟩ => ⟨S8x2048x256, .f32⟩
  | .hbm, ⟨27, _⟩ => ⟨S8x2048x256, .f32⟩
  | .hbm, ⟨28, _⟩ => ⟨S8x2048x256, .f32⟩
  | .hbm, ⟨29, _⟩ => ⟨S8x2048x256, .f32⟩
  | .hbm, ⟨30, _⟩ => ⟨S8x2048x48, .f32⟩
  | .hbm, ⟨31, _⟩ => ⟨S8x2048x48, .f32⟩
  | .hbm, ⟨32, _⟩ => ⟨S8x2048x48, .f32⟩
  | .hbm, ⟨33, _⟩ => ⟨S_, .f32⟩
  | .hbm, ⟨34, _⟩ => ⟨S8x2048x48, .f32⟩
  | .hbm, ⟨35, _⟩ => ⟨S8x2048x48, .f32⟩
  | .hbm, ⟨36, _⟩ => ⟨S_, .f32⟩
  | .hbm, ⟨37, _⟩ => ⟨S8x2048x48, .f32⟩
  | .hbm, ⟨38, _⟩ => ⟨S8x2048x48, .f32⟩
  | .hbm, ⟨39, _⟩ => ⟨S_, .f32⟩
  | .hbm, ⟨40, _⟩ => ⟨S_, .f32⟩
  | .hbm, ⟨41, _⟩ => ⟨S8x2048x128, .f32⟩
  | .hbm, ⟨42, _⟩ => ⟨S8x2048x4x64, .f32⟩
  | .hbm, ⟨43, _⟩ => ⟨S8x4x64x2048, .f32⟩
  | .hbm, ⟨44, _⟩ => ⟨S8x2048x4x64, .f32⟩
  | .hbm, ⟨45, _⟩ => ⟨S8x4x64x2048, .f32⟩
  | .hbm, ⟨46, _⟩ => ⟨S8x2048x4x64, .f32⟩
  | .hbm, ⟨47, _⟩ => ⟨S8x4x64x2048, .f32⟩
  | .hbm, ⟨48, _⟩ => ⟨S8x2048x4x64, .f32⟩
  | .hbm, ⟨49, _⟩ => ⟨S8x4x64x2048, .f32⟩
  | .hbm, ⟨50, _⟩ => ⟨S8x2048x4x64, .f32⟩
  | .hbm, ⟨51, _⟩ => ⟨S8x4x64x2048, .f32⟩
  | .hbm, ⟨52, _⟩ => ⟨S8x2048x4x64, .f32⟩
  | .hbm, ⟨53, _⟩ => ⟨S8x4x64x2048, .f32⟩
  | .hbm, ⟨54, _⟩ => ⟨S8x4x64x512, .f32⟩
  | .hbm, ⟨55, _⟩ => ⟨S8x4x64x512, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S16384x256, .f32⟩
  | .hbm, ⟨61, _⟩ => ⟨S16384x256, .f32⟩
  | .hbm, ⟨62, _⟩ => ⟨S16384x1024, .f32⟩
  | .hbm, ⟨63, _⟩ => ⟨S16384x128, .f32⟩
  | .hbm, ⟨64, _⟩ => ⟨S16384x128, .f32⟩
  | .hbm, ⟨65, _⟩ => ⟨S16384x128, .f32⟩
  | .hbm, ⟨66, _⟩ => ⟨S16384x128, .f32⟩
  | .hbm, ⟨67, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩

abbrev nD : Nat := 1
abbrev τ : Topo := Topo.v7x

variable {F : FTy → Type} [FloatOps F]
-- ==== AttnInS.lean ====
abbrev S32x1x1024 : Shape := ⟨3, ![32, 1, 1024]⟩
abbrev S2x1024 : Shape := ⟨2, ![2, 1024]⟩
abbrev S1x1024x2608 : Shape := ⟨3, ![1, 1024, 2608]⟩
abbrev S1024x2608 : Shape := ⟨2, ![1024, 2608]⟩
abbrev S32x1024 : Shape := ⟨2, ![32, 1024]⟩
abbrev S1x1024 : Shape := ⟨2, ![1, 1024]⟩
abbrev S1024 : Shape := ⟨1, ![1024]⟩
abbrev S1024x1024 : Shape := ⟨2, ![1024, 1024]⟩
abbrev S1024x1536 : Shape := ⟨2, ![1024, 1536]⟩
abbrev S1024x48 : Shape := ⟨2, ![1024, 48]⟩
abbrev S_ : Shape := ⟨0, ![]⟩
abbrev S1024x128 : Shape := ⟨2, ![1024, 128]⟩
abbrev S32x128 : Shape := ⟨2, ![32, 128]⟩
abbrev S32x256 : Shape := ⟨2, ![32, 256]⟩
abbrev S32 : Shape := ⟨1, ![32]⟩
abbrev S32x1 : Shape := ⟨2, ![32, 1]⟩
abbrev S32x1536 : Shape := ⟨2, ![32, 1536]⟩

abbrev nBuf : Space → Nat
  | .hbm => 25
  | .vmem => 13
  | .smem => 0
  | _ => 0

abbrev bufTy : (tb : Table) → Fin (tcTables nBuf tb) → BufTy
  | .hbm, ⟨0, _⟩ => ⟨S32x1x1024, .f32⟩
  | .hbm, ⟨1, _⟩ => ⟨S2x1024, .f32⟩
  | .hbm, ⟨2, _⟩ => ⟨S1x1024x2608, .f32⟩
  | .hbm, ⟨3, _⟩ => ⟨S1024x2608, .f32⟩
  | .hbm, ⟨4, _⟩ => ⟨S32x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S1024x1536, .f32⟩
  | .hbm, ⟨11, _⟩ => ⟨S1024x1536, .bf16⟩
  | .hbm, ⟨12, _⟩ => ⟨S1024x48, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S32x1024, .f32⟩
  | .hbm, ⟨18, _⟩ => ⟨S32x128, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S32x256, .f32⟩
  | .hbm, ⟨23, _⟩ => ⟨S32x256, .f32⟩
  | .hbm, ⟨24, _⟩ => ⟨S32x256, .f32⟩
  | .local _ .vmem, ⟨0, _⟩ => ⟨S32x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1536, .bf16⟩
  | .local _ .vmem, ⟨4, _⟩ => ⟨S1024x128, .bf16⟩
  | .local _ .vmem, ⟨5, _⟩ => ⟨S32x1024, .f32⟩
  | .local _ .vmem, ⟨6, _⟩ => ⟨S32x128, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== AttnInSRefIdeal.lean ====
abbrev S32x1x1024 : Shape := ⟨3, ![32, 1, 1024]⟩
abbrev S2x1024 : Shape := ⟨2, ![2, 1024]⟩
abbrev S1x1024x2608 : Shape := ⟨3, ![1, 1024, 2608]⟩
abbrev S1x1024 : Shape := ⟨2, ![1, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x2608 : Shape := ⟨2, ![1024, 2608]⟩
abbrev S32x1x2608 : Shape := ⟨3, ![32, 1, 2608]⟩
abbrev S32x1x256 : Shape := ⟨3, ![32, 1, 256]⟩
abbrev S32x1x48 : Shape := ⟨3, ![32, 1, 48]⟩
abbrev S32x1x128 : Shape := ⟨3, ![32, 1, 128]⟩
abbrev S32x1024 : Shape := ⟨2, ![32, 1024]⟩
abbrev S32x128 : Shape := ⟨2, ![32, 128]⟩
abbrev S32x256 : Shape := ⟨2, ![32, 256]⟩

abbrev nBuf : Space → Nat
  | .hbm => 50
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S2x1024, .f32⟩
  | .hbm, ⟨2, _⟩ => ⟨S1x1024x2608, .f32⟩
  | .hbm, ⟨3, _⟩ => ⟨S1x1024, .f32⟩
  | .hbm, ⟨4, _⟩ => ⟨S1024, .f32⟩
  | .hbm, ⟨5, _⟩ => ⟨S32x1x1024, .f32⟩
  | .hbm, ⟨6, _⟩ => ⟨S_, .f32⟩
  | .hbm, ⟨7, _⟩ => ⟨S32x1, .f32⟩
  | .hbm, ⟨8, _⟩ => ⟨S32x1x1, .f32⟩
  | .hbm, ⟨9, _⟩ => ⟨S_, .f32⟩
  | .hbm, ⟨10, _⟩ => ⟨S32x1x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S32x1x1, .f32⟩
  | .hbm, ⟨16, _⟩ => ⟨S32x1x1024, .f32⟩
  | .hbm, ⟨17, _⟩ => ⟨S32x1x1024, .f32⟩
  | .hbm, ⟨18, _⟩ => ⟨S1x1x1024, .f32⟩
  | .hbm, ⟨19, _⟩ => ⟨S32x1x1024, .f32⟩
  | .hbm, ⟨20, _⟩ => ⟨S32x1x1024, .f32⟩
  | .hbm, ⟨21, _⟩ => ⟨S1024x2608, .f32⟩
  | .hbm, ⟨22, _⟩ => ⟨S32x1x2608, .f32⟩
  | .hbm, ⟨23, _⟩ => ⟨S32x1x1024, .f32⟩
  | .hbm, ⟨24, _⟩ => ⟨S32x1x256, .f32⟩
  | .hbm, ⟨25, _⟩ => ⟨S32x1x256, .f32⟩
  | .hbm, ⟨26, _⟩ => ⟨S32x1x256, .f32⟩
  | .hbm, ⟨27, _⟩ => ⟨S32x1x256, .f32⟩
  | .hbm, ⟨28, _⟩ => ⟨S32x1x256, .f32⟩
  | .hbm, ⟨29, _⟩ => ⟨S32x1x256, .f32⟩
  | .hbm, ⟨30, _⟩ => ⟨S32x1x48, .f32⟩
  | .hbm, ⟨31, _⟩ => ⟨S32x1x48, .f32⟩
  | .hbm, ⟨32, _⟩ => ⟨S32x1x48, .f32⟩
  | .hbm, ⟨33, _⟩ => ⟨S_, .f32⟩
  | .hbm, ⟨34, _⟩ => ⟨S32x1x48, .f32⟩
  | .hbm, ⟨35, _⟩ => ⟨S32x1x48, .f32⟩
  | .hbm, ⟨36, _⟩ => ⟨S_, .f32⟩
  | .hbm, ⟨37, _⟩ => ⟨S32x1x48, .f32⟩
  | .hbm, ⟨38, _⟩ => ⟨S32x1x48, .f32⟩
  | .hbm, ⟨39, _⟩ => ⟨S_, .f32⟩
  | .hbm, ⟨40, _⟩ => ⟨S_, .f32⟩
  | .hbm, ⟨41, _⟩ => ⟨S32x1x128, .f32⟩
  | .hbm, ⟨42, _⟩ => ⟨S32x1024, .f32⟩
  | .hbm, ⟨43, _⟩ => ⟨S32x128, .f32⟩
  | .hbm, ⟨44, _⟩ => ⟨S32x256, .f32⟩
  | .hbm, ⟨45, _⟩ => ⟨S32x256, .f32⟩
  | .hbm, ⟨46, _⟩ => ⟨S32x256, .f32⟩
  | .hbm, ⟨47, _⟩ => ⟨S32x256, .f32⟩
  | .hbm, ⟨48, _⟩ => ⟨S32x256, .f32⟩
  | .hbm, ⟨49, _⟩ => ⟨S32x256, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== MlpS.lean ====
abbrev S32x1x1024 : Shape := ⟨3, ![32, 1, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x32x1x256 : Shape := ⟨4, ![2, 32, 1, 256]⟩
abbrev S2x256x1024 : Shape := ⟨3, ![2, 256, 1024]⟩
abbrev S1024 : Shape := ⟨1, ![1024]⟩
abbrev S2x32x256 : Shape := ⟨3, ![2, 32, 256]⟩
abbrev S32x1024 : Shape := ⟨2, ![32, 1024]⟩
abbrev S1x1024 : Shape := ⟨2, ![1, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1x32x256 : Shape := ⟨3, ![1, 32, 256]⟩
abbrev S1x256x1024 : Shape := ⟨3, ![1, 256, 1024]⟩
abbrev S32 : Shape := ⟨1, ![32]⟩
abbrev S32x1 : Shape := ⟨2, ![32, 1]⟩
abbrev S32x256 : Shape := ⟨2, ![32, 256]⟩
abbrev S256x1024 : Shape := ⟨2, ![256, 1024]⟩

abbrev nBuf : Space → Nat
  | .hbm => 28
  | .vmem => 12
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S2x1024, .f32⟩
  | .hbm, ⟨7, _⟩ => ⟨S2x1024x1024, .f32⟩
  | .hbm, ⟨8, _⟩ => ⟨S2x32x1x256, .f32⟩
  | .hbm, ⟨9, _⟩ => ⟨S2x256x1024, .f32⟩
  | .hbm, ⟨10, _⟩ => ⟨S1024, .f32⟩
  | .hbm, ⟨11, _⟩ => ⟨S2x32x256, .f32⟩
  | .hbm, ⟨12, _⟩ => ⟨S32x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S2x1024x4096, .bf16⟩
  | .hbm, ⟨17, _⟩ => ⟨S2x4096x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S2x1024x1024, .bf16⟩
  | .hbm, ⟨22, _⟩ => ⟨S2x256x1024, .bf16⟩
  | .hbm, ⟨23, _⟩ => ⟨S1x1024, .f32⟩
  | .hbm, ⟨24, _⟩ => ⟨S32x1024, .f32⟩
  | .hbm, ⟨25, _⟩ => ⟨S1024x1024, .f32⟩
  | .hbm, ⟨26, _⟩ => ⟨S1024x1024, .bf16⟩
  | .hbm, ⟨27, _⟩ => ⟨S32x1024, .f32⟩
  | .local _ .vmem, ⟨0, _⟩ => ⟨S32x1024, .f32⟩
  | .local _ .vmem, ⟨1, _⟩ => ⟨S1024x1024, .bf16⟩
  | .local _ .vmem, ⟨2, _⟩ => ⟨S32x1024, .f32⟩
  | .local _ .vmem, ⟨3, _⟩ => ⟨S1x1024, .f32⟩
  | .local _ .vmem, ⟨4, _⟩ => ⟨S1x1024x4096, .bf16⟩
  | .local _ .vmem, ⟨5, _⟩ => ⟨S1x4096x1024, .bf16⟩
  | .local _ .vmem, ⟨6, _⟩ => ⟨S1x1024, .f32⟩
  | .local _ .vmem, ⟨7, _⟩ => ⟨S1x1024x1024, .bf16⟩
  | .local _ .vmem, ⟨8, _⟩ => ⟨S1x32x256, .f32⟩
  | .local _ .vmem, ⟨9, _⟩ => ⟨S1x256x1024, .bf16⟩
  | .local _ .vmem, ⟨10, _⟩ => ⟨S1x1024, .f32⟩
  | .local _ .vmem, ⟨11, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== MlpSRefIdeal.lean ====
abbrev S32x1x1024 : Shape := ⟨3, ![32, 1, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x32x1x256 : Shape := ⟨4, ![2, 32, 1, 256]⟩
abbrev S2x256x1024 : Shape := ⟨3, ![2, 256, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S32x1x4096 : Shape := ⟨3, ![32, 1, 4096]⟩
abbrev S1x4096x1024 : Shape := ⟨3, ![1, 4096, 1024]⟩
abbrev S4096x1024 : Shape := ⟨2, ![4096, 1024]⟩
abbrev S1x32x1x256 : Shape := ⟨4, ![1, 32, 1, 256]⟩
abbrev S32x1x256 : Shape := ⟨3, ![32, 1, 256]⟩
abbrev S1x256x1024 : Shape := ⟨3, ![1, 256, 1024]⟩
abbrev S256x1024 : Shape := ⟨2, ![256, 1024]⟩
abbrev S32x1024 : Shape := ⟨2, ![32, 1024]⟩

abbrev nBuf : Space → Nat
  | .hbm => 96
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S2x1024, .f32⟩
  | .hbm, ⟨7, _⟩ => ⟨S2x1024x1024, .f32⟩
  | .hbm, ⟨8, _⟩ => ⟨S2x32x1x256, .f32⟩
  | .hbm, ⟨9, _⟩ => ⟨S2x256x1024, .f32⟩
  | .hbm, ⟨10, _⟩ => ⟨S1024, .f32⟩
  | .hbm, ⟨11, _⟩ => ⟨S1024x1024, .f32⟩
  | .hbm, ⟨12, _⟩ => ⟨S32x1x1024, .f32⟩
  | .hbm, ⟨13, _⟩ => ⟨S32x1x1024, .f32⟩
  | .hbm, ⟨14, _⟩ => ⟨S1x1024, .f32⟩
  | .hbm, ⟨15, _⟩ => ⟨S1024, .f32⟩
  | .hbm, ⟨16, _⟩ => ⟨S32x1x1024, .f32⟩
  | .hbm, ⟨17, _⟩ => ⟨S_, .f32⟩
  | .hbm, ⟨18, _⟩ => ⟨S32x1, .f32⟩
  | .hbm, ⟨19, _⟩ => ⟨S32x1x1, .f32⟩
  | .hbm, ⟨20, _⟩ => ⟨S_, .f32⟩
  | .hbm, ⟨21, _⟩ => ⟨S32x1x1, .f32⟩
  | .hbm, ⟨22, _⟩ => ⟨S32x1x1, .f32⟩
  | .hbm, ⟨23, _⟩ => ⟨S_, .f32⟩
  | .hbm, ⟨24, _⟩ => ⟨S32x1x1, .f32⟩
  | .hbm, ⟨25, _⟩ => ⟨S32x1x1, .f32⟩
  | .hbm, ⟨26, _⟩ => ⟨S32x1x1, .f32⟩
  | .hbm, ⟨27, _⟩ => ⟨S32x1x1024, .f32⟩
  | .hbm, ⟨28, _⟩ => ⟨S32x1x1024, .f32⟩
  | .hbm, ⟨29, _⟩ => ⟨S1x1x1024, .f32⟩
  | .hbm, ⟨30, _⟩ => ⟨S32x1x1024, .f32⟩
  | .hbm, ⟨31, _⟩ => ⟨S32x1x1024, .f32⟩
  | .hbm, ⟨32, _⟩ => ⟨S1x1024x4096, .f32⟩
  | .hbm, ⟨33, _⟩ => ⟨S1024x4096, .f32⟩
  | .hbm, ⟨34, _⟩ => ⟨S32x1x4096, .f32⟩
  | .hbm, ⟨35, _⟩ => ⟨S_, .f32⟩
  | .hbm, ⟨36, _⟩ => ⟨S32x1x4096, .f32⟩
  | .hbm, ⟨37, _⟩ => ⟨S32x1x4096, .f32⟩
  | .hbm, ⟨38, _⟩ => ⟨S32x1x4096, .f32⟩
  | .hbm, ⟨39, _⟩ => ⟨S1x4096x1024, .f32⟩
  | .hbm, ⟨40, _⟩ => ⟨S4096x1024, .f32⟩
  | .hbm, ⟨41, _⟩ => ⟨S32x1x1024, .f32⟩
  | .hbm, ⟨42, _⟩ => ⟨S32x1x1024, .f32⟩
  | .hbm, ⟨43, _⟩ => ⟨S1x1024, .f32⟩
  | .hbm, ⟨44, _⟩ => ⟨S1024, .f32⟩
  | .hbm, ⟨45, _⟩ => ⟨S32x1x1024, .f32⟩
  | .hbm, ⟨46, _⟩ => ⟨S_, .f32⟩
  | .hbm, ⟨47, _⟩ => ⟨S32x1, .f32⟩
  | .hbm, ⟨48, _⟩ => ⟨S32x1x1, .f32⟩
  | .hbm, ⟨49, _⟩ => ⟨S_, .f32⟩
  | .hbm, ⟨50, _⟩ => ⟨S32x1x1, .f32⟩
  | .hbm, ⟨51, _⟩ => ⟨S32x1x1, .f32⟩
  | .hbm, ⟨52, _⟩ => ⟨S_, .f32⟩
  | .hbm, ⟨53, _⟩ => ⟨S32x1x1, .f32⟩
  | .hbm, ⟨54, _⟩ => ⟨S32x1x1, .f32⟩
  | .hbm, ⟨55, _⟩ => ⟨S32x1x1, .f32⟩
  | .hbm, ⟨56, _⟩ => ⟨S32x1x1024, .f32⟩
  | .hbm, ⟨57, _⟩ => ⟨S32x1x1024, .f32⟩
  | .hbm, ⟨58, _⟩ => ⟨S1x1x1024, .f32⟩
  | .hbm, ⟨59, _⟩ => ⟨S32x1x1024, .f32⟩
  | .hbm, ⟨60, _⟩ => ⟨S32x1x1024, .f32⟩
  | .hbm, ⟨61, _⟩ => ⟨S1x1024x1024, .f32⟩
  | .hbm, ⟨62, _⟩ => ⟨S1024x1024, .f32⟩
  | .hbm, ⟨63, _⟩ => ⟨S32x1x1024, .f32⟩
  | .hbm, ⟨64, _⟩ => ⟨S32x1x1024, .f32⟩
  | .hbm, ⟨65, _⟩ => ⟨S32x1x1024, .f32⟩
  | .hbm, ⟨66, _⟩ => ⟨S_, .f32⟩
  | .hbm, ⟨67, _⟩ => ⟨S32x1x1024, .f32⟩
  | .hbm, ⟨68, _⟩ => ⟨S32x1x1024, .f32⟩
  | .hbm, ⟨69, _⟩ => ⟨S_, .f32⟩
  | .hbm, ⟨70, _⟩ => ⟨S32x1x1024, .f32⟩
  | .hbm, ⟨71, _⟩ => ⟨S32x1x1024, .f32⟩
  | .hbm, ⟨72, _⟩ => ⟨S1x32x1x256, .f32⟩
  | .hbm, ⟨73, _⟩ => ⟨S32x1x256, .f32⟩
  | .hbm, ⟨74, _⟩ => ⟨S1x256x1024, .f32⟩
  | .hbm, ⟨75, _⟩ => ⟨S256x1024, .f32⟩
  | .hbm, ⟨76, _⟩ => ⟨S32x1x1024, .f32⟩
  | .hbm, ⟨77, _⟩ => ⟨S32x1x1024, .f32⟩
  | .hbm, ⟨78, _⟩ => ⟨S32x1x1024, .f32⟩
  | .hbm, ⟨79, _⟩ => ⟨S32x1x1024, .f32⟩
  | .hbm, ⟨80, _⟩ => ⟨S_, .f32⟩
  | .hbm, ⟨81, _⟩ => ⟨S32x1, .f32⟩
  | .hbm, ⟨82, _⟩ => ⟨S32x1x1, .f32⟩
  | .hbm, ⟨83, _⟩ => ⟨S_, .f32⟩
  | .hbm, ⟨84, _⟩ => ⟨S32x1x1, .f32⟩
  | .hbm, ⟨85, _⟩ => ⟨S32x1x1, .f32⟩
  | .hbm, ⟨86, _⟩ => ⟨S_, .f32⟩
  | .hbm, ⟨87, _⟩ => ⟨S32x1x1, .f32⟩
  | .hbm, ⟨88, _⟩ => ⟨S32x1x1, .f32⟩
  | .hbm, ⟨89, _⟩ => ⟨S32x1x1, .f32⟩
  | .hbm, ⟨90, _⟩ => ⟨S32x1x1024, .f32⟩
  | .hbm, ⟨91, _⟩ => ⟨S32x1x1024, .f32⟩
  | .hbm, ⟨92, _⟩ => ⟨S1x1x1024, .f32⟩
  | .hbm, ⟨93, _⟩ => ⟨S32x1x1024, .f32⟩
  | .hbm, ⟨94, _⟩ => ⟨S32x1x1024, .f32⟩
  | .hbm, ⟨95, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== MlpE.lean ====
abbrev S8x2048x1024 : Shape := ⟨3, ![8, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x8x2048x256 : Shape := ⟨4, ![2, 8, 2048, 256]⟩
abbrev S2x256x1024 : Shape := ⟨3, ![2, 256, 1024]⟩
abbrev S1024 : Shape := ⟨1, ![1024]⟩
abbrev S2x16384x256 : Shape := ⟨3, ![2, 16384, 256]⟩
abbrev S16384x1024 : Shape := ⟨2, ![16384, 1024]⟩
abbrev S1x1024 : Shape := ⟨2, ![1, 1024]⟩
abbrev S512x1024 : Shape := ⟨2, ![512, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x512x256 : Shape := ⟨3, ![1, 512, 256]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S256x1024 : Shape := ⟨2, ![256, 1024]⟩
abbrev S1024x1024 : Shape := ⟨2, ![1024, 1024]⟩

abbrev nBuf : Space → Nat
  | .hbm => 23
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S2x1024, .f32⟩
  | .hbm, ⟨5, _⟩ => ⟨S2x1024x1024, .f32⟩
  | .hbm, ⟨6, _⟩ => ⟨S2x8x2048x256, .f32⟩
  | .hbm, ⟨7, _⟩ => ⟨S2x256x1024, .f32⟩
  | .hbm, ⟨8, _⟩ => ⟨S1024, .f32⟩
  | .hbm, ⟨9, _⟩ => ⟨S2x16384x256, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S2x1024x4096, .bf16⟩
  | .hbm, ⟨15, _⟩ => ⟨S2x4096x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2x1024x1024, .bf16⟩
  | .hbm, ⟨20, _⟩ => ⟨S2x256x1024, .bf16⟩
  | .hbm, ⟨21, _⟩ => ⟨S1x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1x1024, .f32⟩
  | .local _ .vmem, ⟨6, _⟩ => ⟨S1x1024x1024, .bf16⟩
  | .local _ .vmem, ⟨7, _⟩ => ⟨S1x512x256, .f32⟩
  | .local _ .vmem, ⟨8, _⟩ => ⟨S1x512x256, .f32⟩
  | .local _ .vmem, ⟨9, _⟩ => ⟨S1x256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlpERefIdeal.lean ====
abbrev S8x2048x1024 : Shape := ⟨3, ![8, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x8x2048x256 : Shape := ⟨4, ![2, 8, 2048, 256]⟩
abbrev S2x256x1024 : Shape := ⟨3, ![2, 256, 1024]⟩
abbrev S1024 : Shape := ⟨1, ![1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S2x1024, .f32⟩
  | .hbm, ⟨5, _⟩ => ⟨S2x1024x1024, .f32⟩
  | .hbm, ⟨6, _⟩ => ⟨S2x8x2048x256, .f32⟩
  | .hbm, ⟨7, _⟩ => ⟨S2x256x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S1x1024x4096, .f32⟩
  | .hbm, ⟨28, _⟩ => ⟨S1024x4096, .f32⟩
  | .hbm, ⟨29, _⟩ => ⟨S8x2048x4096, .f32⟩
  | .hbm, ⟨30, _⟩ => ⟨S_, .f32⟩
  | .hbm, ⟨31, _⟩ => ⟨S8x2048x4096, .f32⟩
  | .hbm, ⟨32, _⟩ => ⟨S8x2048x4096, .f32⟩
  | .hbm, ⟨33, _⟩ => ⟨S8x2048x4096, .f32⟩
  | .hbm, ⟨34, _⟩ => ⟨S1x4096x1024, .f32⟩
  | .hbm, ⟨35, _⟩ => ⟨S4096x1024, .f32⟩
  | .hbm, ⟨36, _⟩ => ⟨S8x2048x1024, .f32⟩
  | .hbm, ⟨37, _⟩ => ⟨S8x2048x1024, .f32⟩
  | .hbm, ⟨38, _⟩ => ⟨S1x1024, .f32⟩
  | .hbm, ⟨39, _⟩ => ⟨S1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S1x1024x1024, .f32⟩
  | .hbm, ⟨57, _⟩ => ⟨S1024x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048x1024, .f32⟩
  | .hbm, ⟨66, _⟩ => ⟨S8x2048x1024, .f32⟩
  | .hbm, ⟨67, _⟩ => ⟨S1x8x2048x256, .f32⟩
  | .hbm, ⟨68, _⟩ => ⟨S8x2048x256, .f32⟩
  | .hbm, ⟨69, _⟩ => ⟨S1x256x1024, .f32⟩
  | .hbm, ⟨70, _⟩ => ⟨S256x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== MlpES.lean ====
abbrev S32x1x1024 : Shape := ⟨3, ![32, 1, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x32x1x256 : Shape := ⟨4, ![2, 32, 1, 256]⟩
abbrev S2x256x1024 : Shape := ⟨3, ![2, 256, 1024]⟩
abbrev S1024 : Shape := ⟨1, ![1024]⟩
abbrev S2x32x256 : Shape := ⟨3, ![2, 32, 256]⟩
abbrev S32x1024 : Shape := ⟨2, ![32, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x32x256 : Shape := ⟨3, ![1, 32, 256]⟩
abbrev S1x256x1024 : Shape := ⟨3, ![1, 256, 1024]⟩
abbrev S32 : Shape := ⟨1, ![32]⟩
abbrev S32x1 : Shape := ⟨2, ![32, 1]⟩
abbrev S32x256 : Shape := ⟨2, ![32, 256]⟩
abbrev S256x1024 : Shape := ⟨2, ![256, 1024]⟩
abbrev S1024x1024 : Shape := ⟨2, ![1024, 1024]⟩

abbrev nBuf : Space → Nat
  | .hbm => 23
  | .vmem => 10
  | .smem => 0
  | _ => 0

abbrev bufTy : (tb : Table) → Fin (tcTables nBuf tb) → BufTy
  | .hbm, ⟨0, _⟩ => ⟨S32x1x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S2x1024, .f32⟩
  | .hbm, ⟨5, _⟩ => ⟨S2x1024x1024, .f32⟩
  | .hbm, ⟨6, _⟩ => ⟨S2x32x1x256, .f32⟩
  | .hbm, ⟨7, _⟩ => ⟨S2x256x1024, .f32⟩
  | .hbm, ⟨8, _⟩ => ⟨S1024, .f32⟩
  | .hbm, ⟨9, _⟩ => ⟨S2x32x256, .f32⟩
  | .hbm, ⟨10, _⟩ => ⟨S32x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S2x1024x4096, .bf16⟩
  | .hbm, ⟨15, _⟩ => ⟨S2x4096x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2x1024x1024, .bf16⟩
  | .hbm, ⟨20, _⟩ => ⟨S2x256x1024, .bf16⟩
  | .hbm, ⟨21, _⟩ => ⟨S1x1024, .f32⟩
  | .hbm, ⟨22, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1x1024x4096, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024x1024, .bf16⟩
  | .local _ .vmem, ⟨6, _⟩ => ⟨S1x32x256, .f32⟩
  | .local _ .vmem, ⟨7, _⟩ => ⟨S1x256x1024, .bf16⟩
  | .local _ .vmem, ⟨8, _⟩ => ⟨S1x1024, .f32⟩
  | .local _ .vmem, ⟨9, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MlpESRefIdeal.lean ====
abbrev S32x1x1024 : Shape := ⟨3, ![32, 1, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x32x1x256 : Shape := ⟨4, ![2, 32, 1, 256]⟩
abbrev S2x256x1024 : Shape := ⟨3, ![2, 256, 1024]⟩
abbrev S1024 : Shape := ⟨1, ![1024]⟩
abbrev S1x1024 : Shape := ⟨2, ![1, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S32x1x4096 : Shape := ⟨3, ![32, 1, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S1x32x1x256 : Shape := ⟨4, ![1, 32, 1, 256]⟩
abbrev S32x1x256 : Shape := ⟨3, ![32, 1, 256]⟩
abbrev S1x256x1024 : Shape := ⟨3, ![1, 256, 1024]⟩
abbrev S256x1024 : Shape := ⟨2, ![256, 1024]⟩
abbrev S32x1024 : Shape := ⟨2, ![32, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S2x1024, .f32⟩
  | .hbm, ⟨5, _⟩ => ⟨S2x1024x1024, .f32⟩
  | .hbm, ⟨6, _⟩ => ⟨S2x32x1x256, .f32⟩
  | .hbm, ⟨7, _⟩ => ⟨S2x256x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S32x1x1024, .f32⟩
  | .hbm, ⟨12, _⟩ => ⟨S_, .f32⟩
  | .hbm, ⟨13, _⟩ => ⟨S32x1, .f32⟩
  | .hbm, ⟨14, _⟩ => ⟨S32x1x1, .f32⟩
  | .hbm, ⟨15, _⟩ => ⟨S_, .f32⟩
  | .hbm, ⟨16, _⟩ => ⟨S32x1x1, .f32⟩
  | .hbm, ⟨17, _⟩ => ⟨S32x1x1, .f32⟩
  | .hbm, ⟨18, _⟩ => ⟨S_, .f32⟩
  | .hbm, ⟨19, _⟩ => ⟨S32x1x1, .f32⟩
  | .hbm, ⟨20, _⟩ => ⟨S32x1x1, .f32⟩
  | .hbm, ⟨21, _⟩ => ⟨S32x1x1, .f32⟩
  | .hbm, ⟨22, _⟩ => ⟨S32x1x1024, .f32⟩
  | .hbm, ⟨23, _⟩ => ⟨S32x1x1024, .f32⟩
  | .hbm, ⟨24, _⟩ => ⟨S1x1x1024, .f32⟩
  | .hbm, ⟨25, _⟩ => ⟨S32x1x1024, .f32⟩
  | .hbm, ⟨26, _⟩ => ⟨S32x1x1024, .f32⟩
  | .hbm, ⟨27, _⟩ => ⟨S1x1024x4096, .f32⟩
  | .hbm, ⟨28, _⟩ => ⟨S1024x4096, .f32⟩
  | .hbm, ⟨29, _⟩ => ⟨S32x1x4096, .f32⟩
  | .hbm, ⟨30, _⟩ => ⟨S_, .f32⟩
  | .hbm, ⟨31, _⟩ => ⟨S32x1x4096, .f32⟩
  | .hbm, ⟨32, _⟩ => ⟨S32x1x4096, .f32⟩
  | .hbm, ⟨33, _⟩ => ⟨S32x1x4096, .f32⟩
  | .hbm, ⟨34, _⟩ => ⟨S1x4096x1024, .f32⟩
  | .hbm, ⟨35, _⟩ => ⟨S4096x1024, .f32⟩
  | .hbm, ⟨36, _⟩ => ⟨S32x1x1024, .f32⟩
  | .hbm, ⟨37, _⟩ => ⟨S32x1x1024, .f32⟩
  | .hbm, ⟨38, _⟩ => ⟨S1x1024, .f32⟩
  | .hbm, ⟨39, _⟩ => ⟨S1024, .f32⟩
  | .hbm, ⟨40, _⟩ => ⟨S32x1x1024, .f32⟩
  | .hbm, ⟨41, _⟩ => ⟨S_, .f32⟩
  | .hbm, ⟨42, _⟩ => ⟨S32x1, .f32⟩
  | .hbm, ⟨43, _⟩ => ⟨S32x1x1, .f32⟩
  | .hbm, ⟨44, _⟩ => ⟨S_, .f32⟩
  | .hbm, ⟨45, _⟩ => ⟨S32x1x1, .f32⟩
  | .hbm, ⟨46, _⟩ => ⟨S32x1x1, .f32⟩
  | .hbm, ⟨47, _⟩ => ⟨S_, .f32⟩
  | .hbm, ⟨48, _⟩ => ⟨S32x1x1, .f32⟩
  | .hbm, ⟨49, _⟩ => ⟨S32x1x1, .f32⟩
  | .hbm, ⟨50, _⟩ => ⟨S32x1x1, .f32⟩
  | .hbm, ⟨51, _⟩ => ⟨S32x1x1024, .f32⟩
  | .hbm, ⟨52, _⟩ => ⟨S32x1x1024, .f32⟩
  | .hbm, ⟨53, _⟩ => ⟨S1x1x1024, .f32⟩
  | .hbm, ⟨54, _⟩ => ⟨S32x1x1024, .f32⟩
  | .hbm, ⟨55, _⟩ => ⟨S32x1x1024, .f32⟩
  | .hbm, ⟨56, _⟩ => ⟨S1x1024x1024, .f32⟩
  | .hbm, ⟨57, _⟩ => ⟨S1024x1024, .f32⟩
  | .hbm, ⟨58, _⟩ => ⟨S32x1x1024, .f32⟩
  | .hbm, ⟨59, _⟩ => ⟨S32x1x1024, .f32⟩
  | .hbm, ⟨60, _⟩ => ⟨S32x1x1024, .f32⟩
  | .hbm, ⟨61, _⟩ => ⟨S_, .f32⟩
  | .hbm, ⟨62, _⟩ => ⟨S32x1x1024, .f32⟩
  | .hbm, ⟨63, _⟩ => ⟨S32x1x1024, .f32⟩
  | .hbm, ⟨64, _⟩ => ⟨S_, .f32⟩
  | .hbm, ⟨65, _⟩ => ⟨S32x1x1024, .f32⟩
  | .hbm, ⟨66, _⟩ => ⟨S32x1x1024, .f32⟩
  | .hbm, ⟨67, _⟩ => ⟨S1x32x1x256, .f32⟩
  | .hbm, ⟨68, _⟩ => ⟨S32x1x256, .f32⟩
  | .hbm, ⟨69, _⟩ => ⟨S1x256x1024, .f32⟩
  | .hbm, ⟨70, _⟩ => ⟨S256x1024, .f32⟩
  | .hbm, ⟨71, _⟩ => ⟨S32x1x1024, .f32⟩
  | .hbm, ⟨72, _⟩ => ⟨S32x1x1024, .f32⟩
  | .hbm, ⟨73, _⟩ => ⟨S32x1x1024, .f32⟩
  | .hbm, ⟨74, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== ConvInS.lean ====
abbrev S32x1x1024 : Shape := ⟨3, ![32, 1, 1024]⟩
abbrev S2x1024 : Shape := ⟨2, ![2, 1024]⟩
abbrev S1x1024x2048 : Shape := ⟨3, ![1, 1024, 2048]⟩
abbrev S1x2048 : Shape := ⟨2, ![1, 2048]⟩
abbrev S32x1024 : Shape := ⟨2, ![32, 1024]⟩
abbrev S1x1024 : Shape := ⟨2, ![1, 1024]⟩
abbrev S1024 : Shape := ⟨1, ![1024]⟩
abbrev S1024x2048 : Shape := ⟨2, ![1024, 2048]⟩
abbrev S2048 : Shape := ⟨1, ![2048]⟩
abbrev S32 : Shape := ⟨1, ![32]⟩
abbrev S32x1 : Shape := ⟨2, ![32, 1]⟩
abbrev S32x2048 : Shape := ⟨2, ![32, 2048]⟩

abbrev nBuf : Space → Nat
  | .hbm => 13
  | .vmem => 5
  | .smem => 0
  | _ => 0

abbrev bufTy : (tb : Table) → Fin (tcTables nBuf tb) → BufTy
  | .hbm, ⟨0, _⟩ => ⟨S32x1x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S32x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x2048, .f32⟩
  | .hbm, ⟨9, _⟩ => ⟨S1024x2048, .bf16⟩
  | .hbm, ⟨10, _⟩ => ⟨S2048, .f32⟩
  | .hbm, ⟨11, _⟩ => ⟨S1x2048, .f32⟩
  | .hbm, ⟨12, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x2048, .bf16⟩
  | .local _ .vmem, ⟨3, _⟩ => ⟨S1x2048, .f32⟩
  | .local _ .vmem, ⟨4, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ConvInSRefIdeal.lean ====
abbrev S32x1x1024 : Shape := ⟨3, ![32, 1, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x2048 : Shape := ⟨2, ![1024, 2048]⟩
abbrev S32x1x2048 : Shape := ⟨3, ![32, 1, 2048]⟩
abbrev S2048 : Shape := ⟨1, ![2048]⟩
abbrev S1x1x2048 : Shape := ⟨3, ![1, 1, 2048]⟩
abbrev S32x1024 : Shape := ⟨2, ![32, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1024, .f32⟩
  | .hbm, ⟨6, _⟩ => ⟨S32x1x1024, .f32⟩
  | .hbm, ⟨7, _⟩ => ⟨S_, .f32⟩
  | .hbm, ⟨8, _⟩ => ⟨S32x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S32x1x1, .f32⟩
  | .hbm, ⟨17, _⟩ => ⟨S32x1x1024, .f32⟩
  | .hbm, ⟨18, _⟩ => ⟨S32x1x1024, .f32⟩
  | .hbm, ⟨19, _⟩ => ⟨S1x1x1024, .f32⟩
  | .hbm, ⟨20, _⟩ => ⟨S32x1x1024, .f32⟩
  | .hbm, ⟨21, _⟩ => ⟨S32x1x1024, .f32⟩
  | .hbm, ⟨22, _⟩ => ⟨S1024x2048, .f32⟩
  | .hbm, ⟨23, _⟩ => ⟨S32x1x2048, .f32⟩
  | .hbm, ⟨24, _⟩ => ⟨S2048, .f32⟩
  | .hbm, ⟨25, _⟩ => ⟨S1x1x2048, .f32⟩
  | .hbm, ⟨26, _⟩ => ⟨S32x1x2048, .f32⟩
  | .hbm, ⟨27, _⟩ => ⟨S32x1x2048, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S_, .f32⟩
  | .hbm, ⟨33, _⟩ => ⟨S32x1x1024, .f32⟩
  | .hbm, ⟨34, _⟩ => ⟨S32x1x1024, .f32⟩
  | .hbm, ⟨35, _⟩ => ⟨S_, .f32⟩
  | .hbm, ⟨36, _⟩ => ⟨S32x1x1024, .f32⟩
  | .hbm, ⟨37, _⟩ => ⟨S32x1x1024, .f32⟩
  | .hbm, ⟨38, _⟩ => ⟨S32x1x1024, .f32⟩
  | .hbm, ⟨39, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.Row.lean ====
/- The mathematics of one row: what each call computes of one row of its arrays, at the ideal instance, written over
   plain functions of indices. A kernel's block and a reference's array are read against these. -/
module

public import Idealize.ShloMosaic.Lib.Pointwise

@[expose] public section

noncomputable section

namespace Cert.Row

open Idealize.ShloMosaic

/-- RMSNorm of one row of 1024 entries with weights `g`. -/
def rms (x g : Fin 1024 → EReal) (k : Fin 1024) : EReal :=
  x k * Ideal.rsqrt (Ideal.div (∑ l, x l * x l) (Ideal.ofBits .f32 0x44800000#32) + Ideal.ofBits .f32 0x358637BD#32) * g k

/-- One row of the gated projection: the normed row times the weight plus the bias, the first 1024 columns times the
    logistic function of the others. -/
def gate (x g : Fin 1024 → EReal) (w : Fin 1024 → Fin 2048 → EReal) (b : Fin 2048 → EReal) (n : Fin 1024) : EReal :=
  (∑ k, rms x g k * w k ⟨n, by omega⟩ + b ⟨n, by omega⟩)
    * Ideal.div 1 (1 + Ideal.exp (-(∑ k, rms x g k * w k ⟨1024 + n, by omega⟩ + b ⟨1024 + n, by omega⟩)))

/-- One row plus another row's product with a square weight. -/
def addDot (x o : Fin 1024 → EReal) (w : Fin 1024 → Fin 1024 → EReal) (n : Fin 1024) : EReal :=
  x n + ∑ k, o k * w k n

/-- One hidden unit of the feed-forward layer: the squared rectifier of the normed row's product with one column of `U`. -/
def unit {N : ℕ} (a : Fin 1024 → EReal) (U : Fin 1024 → Fin N → EReal) (f : Fin N) : EReal :=
  max (∑ k, a k * U k f) 0 * max (∑ k, a k * U k f) 0

/-- The feed-forward layer on one row: `h` plus the 4096 hidden units of `a` times `D`. -/
def ffn (h a : Fin 1024 → EReal) (U : Fin 1024 → Fin 4096 → EReal) (D : Fin 4096 → Fin 1024 → EReal) (n : Fin 1024) : EReal :=
  h n + ∑ f, unit a U f * D f n

/-- The per-layer embedding's gate on one row: `h` plus the logistic function of `a` times `W`, times `p` times `Q`. -/
def ple (h a : Fin 1024 → EReal) (W : Fin 1024 → Fin 1024 → EReal) (p : Fin 256 → EReal) (Q : Fin 256 → Fin 1024 → EReal)
    (n : Fin 1024) : EReal :=
  h n + Ideal.div 1 (1 + Ideal.exp (-(∑ k, a k * W k n))) * ∑ l, p l * Q l n

/-- The second half of the last layer on one row: the attention's output projected and added, the feed-forward layer,
    the per-layer embedding's gate, and the final norm. -/
def half (x o : Fin 1024 → EReal) (Wo : Fin 1024 → Fin 1024 → EReal) (g₁ : Fin 1024 → EReal)
    (U : Fin 1024 → Fin 4096 → EReal) (D : Fin 4096 → Fin 1024 → EReal) (g₂ : Fin 1024 → EReal)
    (W : Fin 1024 → Fin 1024 → EReal) (p : Fin 256 → EReal) (Q : Fin 256 → Fin 1024 → EReal) (g₃ : Fin 1024 → EReal) :
    Fin 1024 → EReal :=
  rms (ple (ffn (addDot x o Wo) (rms (addDot x o Wo) g₁) U D)
    (rms (ffn (addDot x o Wo) (rms (addDot x o Wo) g₁) U D) g₂) W p Q) g₃

/-- One output of the depthwise convolution: the bias plus the 31 taps, added one after another. -/
def conv (b : EReal) (d x : Fin 31 → EReal) : EReal :=
  b + ∑ j, x j * d j

/-- The same with the 31 taps written out, in the order in which they are added to the bias. -/
theorem conv_eq (b : EReal) (d x : Fin 31 → EReal) :
    b + x ⟨0, by omega⟩ * d ⟨0, by omega⟩ + x ⟨1, by omega⟩ * d ⟨1, by omega⟩ + x ⟨2, by omega⟩ * d ⟨2, by
      omega⟩ + x ⟨3, by omega⟩ * d ⟨3, by omega⟩ + x ⟨4, by omega⟩ * d ⟨4, by omega⟩ + x ⟨5, by omega⟩ * d
      ⟨5, by omega⟩ + x ⟨6, by omega⟩ * d ⟨6, by omega⟩ + x ⟨7, by omega⟩ * d ⟨7, by omega⟩ + x ⟨8, by
      omega⟩ * d ⟨8, by omega⟩ + x ⟨9, by omega⟩ * d ⟨9, by omega⟩ + x ⟨10, by omega⟩ * d ⟨10, by omega⟩ +
      x ⟨11, by omega⟩ * d ⟨11, by omega⟩ + x ⟨12, by omega⟩ * d ⟨12, by omega⟩ + x ⟨13, by omega⟩ * d
      ⟨13, by omega⟩ + x ⟨14, by omega⟩ * d ⟨14, by omega⟩ + x ⟨15, by omega⟩ * d ⟨15, by omega⟩ + x ⟨16,
      by omega⟩ * d ⟨16, by omega⟩ + x ⟨17, by omega⟩ * d ⟨17, by omega⟩ + x ⟨18, by omega⟩ * d ⟨18, by
      omega⟩ + x ⟨19, by omega⟩ * d ⟨19, by omega⟩ + x ⟨20, by omega⟩ * d ⟨20, by omega⟩ + x ⟨21, by
      omega⟩ * d ⟨21, by omega⟩ + x ⟨22, by omega⟩ * d ⟨22, by omega⟩ + x ⟨23, by omega⟩ * d ⟨23, by
      omega⟩ + x ⟨24, by omega⟩ * d ⟨24, by omega⟩ + x ⟨25, by omega⟩ * d ⟨25, by omega⟩ + x ⟨26, by
      omega⟩ * d ⟨26, by omega⟩ + x ⟨27, by omega⟩ * d ⟨27, by omega⟩ + x ⟨28, by omega⟩ * d ⟨28, by
      omega⟩ + x ⟨29, by omega⟩ * d ⟨29, by omega⟩ + x ⟨30, by omega⟩ * d ⟨30, by omega⟩ = conv b d x := by
  unfold conv
  simp only [Fin.sum_univ_castSucc, Fin.sum_univ_zero, zero_add, ← add_assoc]
  rfl

/-- The same sum begun at zero, with the bias added last. -/
theorem conv_eq' (b : EReal) (d x : Fin 31 → EReal) :
    0 + x ⟨0, by omega⟩ * d ⟨0, by omega⟩ + x ⟨1, by omega⟩ * d ⟨1, by omega⟩ + x ⟨2, by omega⟩ * d ⟨2, by
      omega⟩ + x ⟨3, by omega⟩ * d ⟨3, by omega⟩ + x ⟨4, by omega⟩ * d ⟨4, by omega⟩ + x ⟨5, by omega⟩ * d
      ⟨5, by omega⟩ + x ⟨6, by omega⟩ * d ⟨6, by omega⟩ + x ⟨7, by omega⟩ * d ⟨7, by omega⟩ + x ⟨8, by
      omega⟩ * d ⟨8, by omega⟩ + x ⟨9, by omega⟩ * d ⟨9, by omega⟩ + x ⟨10, by omega⟩ * d ⟨10, by omega⟩ +
      x ⟨11, by omega⟩ * d ⟨11, by omega⟩ + x ⟨12, by omega⟩ * d ⟨12, by omega⟩ + x ⟨13, by omega⟩ * d
      ⟨13, by omega⟩ + x ⟨14, by omega⟩ * d ⟨14, by omega⟩ + x ⟨15, by omega⟩ * d ⟨15, by omega⟩ + x ⟨16,
      by omega⟩ * d ⟨16, by omega⟩ + x ⟨17, by omega⟩ * d ⟨17, by omega⟩ + x ⟨18, by omega⟩ * d ⟨18, by
      omega⟩ + x ⟨19, by omega⟩ * d ⟨19, by omega⟩ + x ⟨20, by omega⟩ * d ⟨20, by omega⟩ + x ⟨21, by
      omega⟩ * d ⟨21, by omega⟩ + x ⟨22, by omega⟩ * d ⟨22, by omega⟩ + x ⟨23, by omega⟩ * d ⟨23, by
      omega⟩ + x ⟨24, by omega⟩ * d ⟨24, by omega⟩ + x ⟨25, by omega⟩ * d ⟨25, by omega⟩ + x ⟨26, by
      omega⟩ * d ⟨26, by omega⟩ + x ⟨27, by omega⟩ * d ⟨27, by omega⟩ + x ⟨28, by omega⟩ * d ⟨28, by
      omega⟩ + x ⟨29, by omega⟩ * d ⟨29, by omega⟩ + x ⟨30, by omega⟩ * d ⟨30, by omega⟩ + b = conv b d x := by
  rw [← conv_eq, zero_add, add_comm]
  simp only [← add_assoc]

/-- The same sum begun at the last tap and the bias. -/
theorem conv_eq'' (b : EReal) (d x : Fin 31 → EReal) :
    x ⟨30, by omega⟩ * d ⟨30, by omega⟩ + b + x ⟨0, by omega⟩ * d ⟨0, by omega⟩ + x ⟨1, by omega⟩ * d ⟨1, by
      omega⟩ + x ⟨2, by omega⟩ * d ⟨2, by omega⟩ + x ⟨3, by omega⟩ * d ⟨3, by omega⟩ + x ⟨4, by omega⟩ * d ⟨4, by
      omega⟩ + x ⟨5, by omega⟩ * d ⟨5, by omega⟩ + x ⟨6, by omega⟩ * d ⟨6, by omega⟩ + x ⟨7, by omega⟩ * d ⟨7, by
      omega⟩ + x ⟨8, by omega⟩ * d ⟨8, by omega⟩ + x ⟨9, by omega⟩ * d ⟨9, by omega⟩ + x ⟨10, by omega⟩ * d ⟨10, by
      omega⟩ + x ⟨11, by omega⟩ * d ⟨11, by omega⟩ + x ⟨12, by omega⟩ * d ⟨12, by omega⟩ + x ⟨13, by omega⟩ * d ⟨13,
      by omega⟩ + x ⟨14, by omega⟩ * d ⟨14, by omega⟩ + x ⟨15, by omega⟩ * d ⟨15, by omega⟩ + x ⟨16, by omega⟩ * d
      ⟨16, by omega⟩ + x ⟨17, by omega⟩ * d ⟨17, by omega⟩ + x ⟨18, by omega⟩ * d ⟨18, by omega⟩ + x ⟨19, by omega⟩
      * d ⟨19, by omega⟩ + x ⟨20, by omega⟩ * d ⟨20, by omega⟩ + x ⟨21, by omega⟩ * d ⟨21, by omega⟩ + x ⟨22, by
      omega⟩ * d ⟨22, by omega⟩ + x ⟨23, by omega⟩ * d ⟨23, by omega⟩ + x ⟨24, by omega⟩ * d ⟨24, by omega⟩ + x ⟨25,
      by omega⟩ * d ⟨25, by omega⟩ + x ⟨26, by omega⟩ * d ⟨26, by omega⟩ + x ⟨27, by omega⟩ * d ⟨27, by omega⟩ + x
      ⟨28, by omega⟩ * d ⟨28, by omega⟩ + x ⟨29, by omega⟩ * d ⟨29, by omega⟩ = conv b d x := by
  rw [← conv_eq]
  abel

/-- What tap `j` of the output at time `t` reads of a sequence that is zero before its first entry. -/
def back (x : Fin 2048 → EReal) (t : Fin 2048) (j : Fin 31) : EReal :=
  if h : 30 ≤ t.val + j.val then x ⟨t.val + j.val - 30, by omega⟩ else 0

/-- The mean of one row of 1024 entries. -/
def mean (y : Fin 1024 → EReal) : EReal :=
  Ideal.div (∑ l, y l) (Ideal.ofBits .f32 0x44800000#32)

/-- LayerNorm of one row of 1024 entries with weights `g` and bias `b`. -/
def lnorm (y g b : Fin 1024 → EReal) (n : Fin 1024) : EReal :=
  (y n - mean y) * Ideal.rsqrt (mean (fun l => (y l - mean y) * (y l - mean y)) + Ideal.ofBits .f32 0x358637BD#32) * g n + b n

/-- The swish of one entry. -/
def swish (a : EReal) : EReal :=
  a * Ideal.div 1 (1 + Ideal.exp (-a))

/-- One row of the convolution mixer after the convolution: LayerNorm, swish, the projection with its bias, the residual. -/
def mixOut (x y g b : Fin 1024 → EReal) (w : Fin 1024 → Fin 1024 → EReal) (c : Fin 1024 → EReal) (n : Fin 1024) : EReal :=
  x n + (∑ k, swish (lnorm y g b k) * w k n + c n)

/-- A sum over 4096 terms is the sum of its four quarters, added to `h` one after another. -/
theorem quarters (h : EReal) (F : Fin 4096 → EReal) :
    h + ∑ f : Fin 1024, F ⟨f, by omega⟩ + ∑ f : Fin 1024, F ⟨1024 + f, by omega⟩ + ∑ f : Fin 1024, F ⟨2048 + f, by omega⟩
      + ∑ f : Fin 1024, F ⟨3072 + f, by omega⟩ = h + ∑ f, F f := by
  have e := Fin.sum_univ_tiles 4 1024 rfl F
  rw [e, Fin.sum_univ_four]
  simp only [add_assoc]
  refine congrArg (h + ·) ?_
  refine congrArg₂ (· + ·) (Finset.sum_congr rfl fun k _ => congrArg F (Fin.ext (by simp))) ?_
  refine congrArg₂ (· + ·) (Finset.sum_congr rfl fun k _ => congrArg F (Fin.ext (by simp))) ?_
  exact congrArg₂ (· + ·) (Finset.sum_congr rfl fun k _ => congrArg F (Fin.ext (by simp)))
    (Finset.sum_congr rfl fun k _ => congrArg F (Fin.ext (by simp)))

end Cert.Row

end
-- ==== Proof.RowAttn.lean ====
/- The projections of the attention layer on one row: the normed row times one column of the weight, and the logistic
   function that makes a gate of it. -/
module

public import proofs.«01_k».proof.Proof.Row

@[expose] public section

noncomputable section

namespace Cert.Row

open Idealize.ShloMosaic

/-- One entry of the projection: the normed row times one column `w` of the weight. -/
def proj (x g w : Fin 1024 → EReal) : EReal :=
  ∑ k, rms x g k * w k

/-- Equal rows, weights of the norm and columns give the same entry. -/
theorem proj_congr {x x' g g' w w' : Fin 1024 → EReal} (hx : ∀ k, x k = x' k) (hg : ∀ k, g k = g' k)
    (hw : ∀ k, w k = w' k) : proj x g w = proj x' g' w' := by
  rw [funext hx, funext hg, funext hw]

/-- The logistic function. -/
def logistic (z : EReal) : EReal :=
  Ideal.div 1 (1 + Ideal.exp (-z))

/-- A gate of the projection: its logistic function; one of a column of zeros, a half. -/
theorem gate_zero (x g : Fin 1024 → EReal) : logistic (proj x g fun _ => 0) = Ideal.ofBits .f32 0x3F000000#32 := by
  unfold logistic proj
  simp only [mul_zero, Finset.sum_const_zero, neg_zero]
  have e1 : Ideal.exp 0 = 1 := by
    rw [← EReal.coe_zero, Ideal.exp_coe, Real.exp_zero, EReal.coe_one]
  have e2 : (1 : EReal) + 1 = ((2 : ℝ) : EReal) := by
    rw [← EReal.coe_one, ← EReal.coe_add]
    norm_num
  have e3 : Ideal.ofBits .f32 0x3F000000#32 = (((1 : ℝ) / 2 : ℝ) : EReal) := by
    simp [Ideal.ofBits, Ideal.ieee, -EReal.coe_mul]
    norm_num
  rw [e1, e2, Ideal.div_coe two_ne_zero, one_mul, e3]

end Cert.Row

end
-- ==== Proof.AttnInRef.lean ====
/- The reference of the call that projects the attention layer's input for the prompt (`AttnIn`), read entry by entry: the
   queries, the gates, and the key and value rows in the three layouts in which the call stores them. -/
module

public import proofs.«01_k».proof.Proof.Gen.AttnInRefIdeal.Run
public import proofs.«01_k».proof.Proof.RowAttn
public import Idealize.ShloMosaic.Lib.Pipeline.ValueKit

@[expose] public section

set_option maxRecDepth 16384

noncomputable section

namespace Cert.AttnInRefIdeal.Term

open Cert.AttnInRefIdeal Cert.AttnInRefIdeal.Gen Idealize.ShloMosaic Idealize.ShloMosaic.TcCoe Idealize.SL.Sem

/-- RMSNorm along the last axis. -/
def norm (h : FVec Ideal S8x2048x1024 .f32) (g : FVec Ideal S1024 .f32) : FVec Ideal S8x2048x1024 .f32 :=
  mulf (mulf h (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf h h) (constant S_ .f32 0x00000000#32)
      reducesTo_S8x2048x1024_S8x2048_d2 h_S_)) (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 g))

theorem norm_apply (h : FVec Ideal S8x2048x1024 .f32) (g : FVec Ideal S1024 .f32) (b : Fin 8) (t : Fin 2048) (n : Fin 1024) :
    norm h g (ix3 b t n) = Row.rms (fun k => h (ix3 b t k)) (fun k => g (ix1 k)) n := by
  pointwise [norm]
  rfl

variable (x0 : FVec Ideal S8x2048x1024 .f32) (x1 : FVec Ideal S2x1024 .f32) (x2 : FVec Ideal S1x1024x2608 .f32)

/-- The normed rows times the whole weight. -/
def proj : FVec Ideal S8x2048x2608 .f32 :=
  Host.dotGeneral dot_S8x2048x1024_S1024x2608_S8x2048x2608_2_0_01_1_n_n none
    (norm x0 (shapeCast _ (extractStridedSlice S1x1024 ![1, 0] x1 slices_S2x1024_S1x1024_1_0) shapeCasts_S1x1024_S1024))
    (shapeCast _ x2 shapeCasts_S1x1024x2608_S1024x2608)

theorem proj_apply (b : Fin 8) (t : Fin 2048) (n : Fin 2608) :
    proj x0 x1 x2 (ix3 b t n)
      = Row.proj (fun k => x0 (ix3 b t k)) (fun k => x1 (ix2 1 k)) (fun k => x2 (ix3 0 k n)) := by
  pointwise [proj, norm_apply]
  rfl

/-- One entry of the projection by the numbers of its token among all tokens and of its column. -/
def at_ (r n : Nat) (hr : r < 16384) (hn : n < 2608) : EReal :=
  Row.proj (fun k => x0 (ix3 ⟨r / 2048, by omega⟩ ⟨r % 2048, by omega⟩ k)) (fun k => x1 (ix2 1 k))
    (fun k => x2 (ix3 0 k ⟨n, hn⟩))

/-- The queries. -/
def q : FVec Ideal S16384x1024 .f32 :=
  shapeCast _ (extractStridedSlice S8x2048x1024 ![0, 0, 0] (proj x0 x1 x2) slices_S8x2048x2608_S8x2048x1024_0_0_0)
    shapeCasts_S8x2048x1024_S16384x1024

theorem q_apply (r : Fin 16384) (n : Fin 1024) : q x0 x1 x2 (ix2 r n) = at_ x0 x1 x2 r.val n.val r.isLt (by omega) := by
  pointwise [q, proj_apply, at_]
  try rfl

/-- The gates, in the first 48 of 128 columns. -/
def gates : FVec Ideal S16384x128 .f32 :=
  shapeCast _ (pad S8x2048x128 ![0, 0, 0] ![0, 0, 80] ![0, 0, 0] (Host.divf (broadcastInDim S8x2048x48 ![] bcast_S_S8x2048x48
    (constant S_ .f32 0x3F800000#32)) (addf (broadcastInDim S8x2048x48 ![] bcast_S_S8x2048x48 (constant S_ .f32 0x3F800000#32))
      (Host.exp (Host.negf (extractStridedSlice S8x2048x48 ![0, 0, 2560] (proj x0 x1 x2) slices_S8x2048x2608_S8x2048x48_0_0_2560)))))
    (id (constant S_ .f32 0x3F000000#32)) pads_S8x2048x48_S8x2048x128_000_000_0800 h_S_) shapeCasts_S8x2048x128_S16384x128

theorem gates_apply (r : Fin 16384) (n : Fin 128) : gates x0 x1 x2 (ix2 r n) = if h : n.val < 48 then
      Row.logistic (at_ x0 x1 x2 r.val (2560 + n.val) r.isLt (by omega)) else Ideal.ofBits .f32 0x3F000000#32 := by
  pointwise [gates, proj_apply, at_]
  split_ifs with a b b
  · rfl
  · exact absurd a.2.2 b
  · exact absurd ⟨by omega, by omega, b⟩ a
  · rfl

/-- The rows `kc`, a token a row. -/
def kc : FVec Ideal S16384x256 .f32 :=
  shapeCast _ (extractStridedSlice S8x2048x256 ![0, 0, 1024] (proj x0 x1 x2) slices_S8x2048x2608_S8x2048x256_0_0_1024)
    shapeCasts_S8x2048x256_S16384x256

theorem kc_apply (r : Fin 16384) (n : Fin 256) :
    kc x0 x1 x2 (ix2 r n) = at_ x0 x1 x2 r.val (1024 + n.val) r.isLt (by omega) := by
  pointwise [kc, proj_apply, at_]
  try rfl

/-- `kc` with a sequence's tokens along the last axis and its four heads along the second. -/
def kc_fm : FVec Ideal S8x4x64x2048 .f32 :=
  transpose S8x4x64x2048 [0, 2, 3, 1] (shapeCast _ (extractStridedSlice S8x2048x256 ![0, 0, 1024] (proj x0 x1 x2)
    slices_S8x2048x2608_S8x2048x256_0_0_1024) shapeCasts_S8x2048x256_S8x2048x4x64) transposes_S8x2048x4x64_S8x4x64x2048_0_2_3_1

theorem kc_fm_apply (b : Fin 8) (e : Fin 4) (d : Fin 64) (s : Fin 2048) : kc_fm x0 x1 x2 (ix4 b e d s)
    = Row.proj (fun k => x0 (ix3 b s k)) (fun k => x1 (ix2 1 k))
        (fun k => x2 (ix3 0 k ⟨1024 + (64 * e.val + d.val), by omega⟩)) := by
  pointwise [kc_fm, proj_apply]
  exact Row.proj_congr (fun k => rfl) (fun k => rfl) (fun k => congrArg (fun a => x2 (ix3 0 k a)) (Fin.ext (by dsimp only; omega)))

/-- The rows `vc`, a token a row. -/
def vc : FVec Ideal S16384x256 .f32 :=
  shapeCast _ (extractStridedSlice S8x2048x256 ![0, 0, 1280] (proj x0 x1 x2) slices_S8x2048x2608_S8x2048x256_0_0_1280)
    shapeCasts_S8x2048x256_S16384x256

theorem vc_apply (r : Fin 16384) (n : Fin 256) :
    vc x0 x1 x2 (ix2 r n) = at_ x0 x1 x2 r.val (1280 + n.val) r.isLt (by omega) := by
  pointwise [vc, proj_apply, at_]
  try rfl

/-- `vc` with a sequence's tokens along the last axis and its four heads along the second. -/
def vc_fm : FVec Ideal S8x4x64x2048 .f32 :=
  transpose S8x4x64x2048 [0, 2, 3, 1] (shapeCast _ (extractStridedSlice S8x2048x256 ![0, 0, 1280] (proj x0 x1 x2)
    slices_S8x2048x2608_S8x2048x256_0_0_1280) shapeCasts_S8x2048x256_S8x2048x4x64) transposes_S8x2048x4x64_S8x4x64x2048_0_2_3_1

theorem vc_fm_apply (b : Fin 8) (e : Fin 4) (d : Fin 64) (s : Fin 2048) : vc_fm x0 x1 x2 (ix4 b e d s)
    = Row.proj (fun k => x0 (ix3 b s k)) (fun k => x1 (ix2 1 k))
        (fun k => x2 (ix3 0 k ⟨1280 + (64 * e.val + d.val), by omega⟩)) := by
  pointwise [vc_fm, proj_apply]
  exact Row.proj_congr (fun k => rfl) (fun k => rfl) (fun k => congrArg (fun a => x2 (ix3 0 k a)) (Fin.ext (by dsimp only; omega)))

/-- The rows `ks`, a token a row. -/
def ks : FVec Ideal S16384x256 .f32 :=
  shapeCast _ (extractStridedSlice S8x2048x256 ![0, 0, 1536] (proj x0 x1 x2) slices_S8x2048x2608_S8x2048x256_0_0_1536)
    shapeCasts_S8x2048x256_S16384x256

theorem ks_apply (r : Fin 16384) (n : Fin 256) :
    ks x0 x1 x2 (ix2 r n) = at_ x0 x1 x2 r.val (1536 + n.val) r.isLt (by omega) := by
  pointwise [ks, proj_apply, at_]
  try rfl

/-- `ks` with a sequence's tokens along the last axis and its four heads along the second. -/
def ks_fm : FVec Ideal S8x4x64x2048 .f32 :=
  transpose S8x4x64x2048 [0, 2, 3, 1] (shapeCast _ (extractStridedSlice S8x2048x256 ![0, 0, 1536] (proj x0 x1 x2)
    slices_S8x2048x2608_S8x2048x256_0_0_1536) shapeCasts_S8x2048x256_S8x2048x4x64) transposes_S8x2048x4x64_S8x4x64x2048_0_2_3_1

theorem ks_fm_apply (b : Fin 8) (e : Fin 4) (d : Fin 64) (s : Fin 2048) : ks_fm x0 x1 x2 (ix4 b e d s)
    = Row.proj (fun k => x0 (ix3 b s k)) (fun k => x1 (ix2 1 k))
        (fun k => x2 (ix3 0 k ⟨1536 + (64 * e.val + d.val), by omega⟩)) := by
  pointwise [ks_fm, proj_apply]
  exact Row.proj_congr (fun k => rfl) (fun k => rfl) (fun k => congrArg (fun a => x2 (ix3 0 k a)) (Fin.ext (by dsimp only; omega)))

/-- The rows `vs`, a token a row. -/
def vs : FVec Ideal S16384x256 .f32 :=
  shapeCast _ (extractStridedSlice S8x2048x256 ![0, 0, 1792] (proj x0 x1 x2) slices_S8x2048x2608_S8x2048x256_0_0_1792)
    shapeCasts_S8x2048x256_S16384x256

theorem vs_apply (r : Fin 16384) (n : Fin 256) :
    vs x0 x1 x2 (ix2 r n) = at_ x0 x1 x2 r.val (1792 + n.val) r.isLt (by omega) := by
  pointwise [vs, proj_apply, at_]
  try rfl

/-- `vs` with a sequence's tokens along the last axis and its four heads along the second. -/
def vs_fm : FVec Ideal S8x4x64x2048 .f32 :=
  transpose S8x4x64x2048 [0, 2, 3, 1] (shapeCast _ (extractStridedSlice S8x2048x256 ![0, 0, 1792] (proj x0 x1 x2)
    slices_S8x2048x2608_S8x2048x256_0_0_1792) shapeCasts_S8x2048x256_S8x2048x4x64) transposes_S8x2048x4x64_S8x4x64x2048_0_2_3_1

theorem vs_fm_apply (b : Fin 8) (e : Fin 4) (d : Fin 64) (s : Fin 2048) : vs_fm x0 x1 x2 (ix4 b e d s)
    = Row.proj (fun k => x0 (ix3 b s k)) (fun k => x1 (ix2 1 k))
        (fun k => x2 (ix3 0 k ⟨1792 + (64 * e.val + d.val), by omega⟩)) := by
  pointwise [vs_fm, proj_apply]
  exact Row.proj_congr (fun k => rfl) (fun k => rfl) (fun k => congrArg (fun a => x2 (ix3 0 k a)) (Fin.ext (by dsimp only; omega)))

/-- The rows `kw`, a token a row. -/
def kw : FVec Ideal S16384x256 .f32 :=
  shapeCast _ (extractStridedSlice S8x2048x256 ![0, 0, 2048] (proj x0 x1 x2) slices_S8x2048x2608_S8x2048x256_0_0_2048)
    shapeCasts_S8x2048x256_S16384x256

theorem kw_apply (r : Fin 16384) (n : Fin 256) :
    kw x0 x1 x2 (ix2 r n) = at_ x0 x1 x2 r.val (2048 + n.val) r.isLt (by omega) := by
  pointwise [kw, proj_apply, at_]
  try rfl

/-- `kw` with a sequence's tokens along the last axis and its four heads along the second. -/
def kw_fm : FVec Ideal S8x4x64x2048 .f32 :=
  transpose S8x4x64x2048 [0, 2, 3, 1] (shapeCast _ (extractStridedSlice S8x2048x256 ![0, 0, 2048] (proj x0 x1 x2)
    slices_S8x2048x2608_S8x2048x256_0_0_2048) shapeCasts_S8x2048x256_S8x2048x4x64) transposes_S8x2048x4x64_S8x4x64x2048_0_2_3_1

theorem kw_fm_apply (b : Fin 8) (e : Fin 4) (d : Fin 64) (s : Fin 2048) : kw_fm x0 x1 x2 (ix4 b e d s)
    = Row.proj (fun k => x0 (ix3 b s k)) (fun k => x1 (ix2 1 k))
        (fun k => x2 (ix3 0 k ⟨2048 + (64 * e.val + d.val), by omega⟩)) := by
  pointwise [kw_fm, proj_apply]
  exact Row.proj_congr (fun k => rfl) (fun k => rfl) (fun k => congrArg (fun a => x2 (ix3 0 k a)) (Fin.ext (by dsimp only; omega)))

/-- The rows `vw`, a token a row. -/
def vw : FVec Ideal S16384x256 .f32 :=
  shapeCast _ (extractStridedSlice S8x2048x256 ![0, 0, 2304] (proj x0 x1 x2) slices_S8x2048x2608_S8x2048x256_0_0_2304)
    shapeCasts_S8x2048x256_S16384x256

theorem vw_apply (r : Fin 16384) (n : Fin 256) :
    vw x0 x1 x2 (ix2 r n) = at_ x0 x1 x2 r.val (2304 + n.val) r.isLt (by omega) := by
  pointwise [vw, proj_apply, at_]
  try rfl

/-- `vw` with a sequence's tokens along the last axis and its four heads along the second. -/
def vw_fm : FVec Ideal S8x4x64x2048 .f32 :=
  transpose S8x4x64x2048 [0, 2, 3, 1] (shapeCast _ (extractStridedSlice S8x2048x256 ![0, 0, 2304] (proj x0 x1 x2)
    slices_S8x2048x2608_S8x2048x256_0_0_2304) shapeCasts_S8x2048x256_S8x2048x4x64) transposes_S8x2048x4x64_S8x4x64x2048_0_2_3_1

theorem vw_fm_apply (b : Fin 8) (e : Fin 4) (d : Fin 64) (s : Fin 2048) : vw_fm x0 x1 x2 (ix4 b e d s)
    = Row.proj (fun k => x0 (ix3 b s k)) (fun k => x1 (ix2 1 k))
        (fun k => x2 (ix3 0 k ⟨2304 + (64 * e.val + d.val), by omega⟩)) := by
  pointwise [vw_fm, proj_apply]
  exact Row.proj_congr (fun k => rfl) (fun k => rfl) (fun k => congrArg (fun a => x2 (ix3 0 k a)) (Fin.ext (by dsimp only; omega)))

/-- Half of the columns of `kc`, from column 0 on. -/
def kc_lo : FVec Ideal S16384x128 .f32 :=
  extractStridedSlice S16384x128 ![0, 0] (kc x0 x1 x2) slices_S16384x256_S16384x128_0_0

theorem kc_lo_apply (r : Fin 16384) (n : Fin 128) :
    kc_lo x0 x1 x2 (ix2 r n) = at_ x0 x1 x2 r.val (1024 + n.val) r.isLt (by omega) := by
  pointwise [kc_lo, kc_apply, at_]
  try exact Row.proj_congr (fun k => rfl) (fun k => rfl) (fun k => congrArg (fun a => x2 (ix3 0 k a)) (Fin.ext (by dsimp only; omega)))

/-- Half of the columns of `kc`, from column 128 on. -/
def kc_hi : FVec Ideal S16384x128 .f32 :=
  extractStridedSlice S16384x128 ![0, 128] (kc x0 x1 x2) slices_S16384x256_S16384x128_0_128

theorem kc_hi_apply (r : Fin 16384) (n : Fin 128) :
    kc_hi x0 x1 x2 (ix2 r n) = at_ x0 x1 x2 r.val (1152 + n.val) r.isLt (by omega) := by
  pointwise [kc_hi, kc_apply, at_]
  try exact Row.proj_congr (fun k => rfl) (fun k => rfl) (fun k => congrArg (fun a => x2 (ix3 0 k a)) (Fin.ext (by dsimp only; omega)))

/-- Half of the columns of `vc`, from column 0 on. -/
def vc_lo : FVec Ideal S16384x128 .f32 :=
  extractStridedSlice S16384x128 ![0, 0] (vc x0 x1 x2) slices_S16384x256_S16384x128_0_0

theorem vc_lo_apply (r : Fin 16384) (n : Fin 128) :
    vc_lo x0 x1 x2 (ix2 r n) = at_ x0 x1 x2 r.val (1280 + n.val) r.isLt (by omega) := by
  pointwise [vc_lo, vc_apply, at_]
  try exact Row.proj_congr (fun k => rfl) (fun k => rfl) (fun k => congrArg (fun a => x2 (ix3 0 k a)) (Fin.ext (by dsimp only; omega)))

/-- Half of the columns of `vc`, from column 128 on. -/
def vc_hi : FVec Ideal S16384x128 .f32 :=
  extractStridedSlice S16384x128 ![0, 128] (vc x0 x1 x2) slices_S16384x256_S16384x128_0_128

theorem vc_hi_apply (r : Fin 16384) (n : Fin 128) :
    vc_hi x0 x1 x2 (ix2 r n) = at_ x0 x1 x2 r.val (1408 + n.val) r.isLt (by omega) := by
  pointwise [vc_hi, vc_apply, at_]
  try exact Row.proj_congr (fun k => rfl) (fun k => rfl) (fun k => congrArg (fun a => x2 (ix3 0 k a)) (Fin.ext (by dsimp only; omega)))

/-- The last 512 tokens of `kw_fm`. -/
def kw_last : FVec Ideal S8x4x64x512 .f32 :=
  extractStridedSlice S8x4x64x512 ![0, 0, 0, 1536] (kw_fm x0 x1 x2) slices_S8x4x64x2048_S8x4x64x512_0_0_0_1536

theorem kw_last_apply (b : Fin 8) (e : Fin 4) (d : Fin 64) (s : Fin 512) : kw_last x0 x1 x2 (ix4 b e d s)
    = Row.proj (fun k => x0 (ix3 b ⟨1536 + s.val, by omega⟩ k)) (fun k => x1 (ix2 1 k))
        (fun k => x2 (ix3 0 k ⟨2048 + (64 * e.val + d.val), by omega⟩)) := by
  pointwise [kw_last, kw_fm_apply]
  try rfl

/-- The last 512 tokens of `vw_fm`. -/
def vw_last : FVec Ideal S8x4x64x512 .f32 :=
  extractStridedSlice S8x4x64x512 ![0, 0, 0, 1536] (vw_fm x0 x1 x2) slices_S8x4x64x2048_S8x4x64x512_0_0_0_1536

theorem vw_last_apply (b : Fin 8) (e : Fin 4) (d : Fin 64) (s : Fin 512) : vw_last x0 x1 x2 (ix4 b e d s)
    = Row.proj (fun k => x0 (ix3 b ⟨1536 + s.val, by omega⟩ k)) (fun k => x1 (ix2 1 k))
        (fun k => x2 (ix3 0 k ⟨2304 + (64 * e.val + d.val), by omega⟩)) := by
  pointwise [vw_last, vw_fm_apply]
  try rfl

end Cert.AttnInRefIdeal.Term

end
-- ==== Proof.AttnInBody.lean ====
/- The stored values of the call that projects the attention layer's input for the prompt (`AttnIn`), entry by entry: each
   is one entry of the projection of a row of the block, in the place that the store's layout gives it. -/
module

public import proofs.«01_k».proof.Proof.Gen.AttnInIdeal.Skeleton
public import proofs.«01_k».proof.Proof.RowAttn
public import Idealize.ShloMosaic.Lib.Pipeline.ValueKit

@[expose] public section

set_option maxRecDepth 16384

noncomputable section

namespace Cert.AttnInIdeal.Body

open Cert.AttnInIdeal Cert.AttnInIdeal.Gen Idealize.ShloMosaic Idealize.ShloMosaic.TcCoe Idealize.SL.Sem

variable (x0 : Vec Ideal S512x1024 .f32) (x1 : Vec Ideal S1x1024 .f32) (x2 : Vec Ideal S1024x1024 .bf16)
  (x3 : Vec Ideal S1024x1536 .bf16) (x4 : Vec Ideal S1024x128 .bf16)

/-- The norm of a row of the block. -/
theorem norm_apply (r : Fin 512) (n : Fin 1024) :
    k0_pay14 (F := Ideal) x0 x1 (ix2 r n) = Row.rms (fun k => x0 (ix2 r k)) (fun k => x1 (ix2 0 k)) n := by
  pointwise [k0_pay14]
  rfl

theorem q_apply (r : Fin 512) (n : Fin 1024) : k0_pay15 (F := Ideal) x0 x1 x2 (ix2 r n)
    = Row.proj (fun k => x0 (ix2 r k)) (fun k => x1 (ix2 0 k)) (fun k => x2 (ix2 k n)) := by
  pointwise [k0_pay15, norm_apply]
  rfl

theorem gates_apply (r : Fin 512) (n : Fin 128) : k0_pay16 (F := Ideal) x0 x1 x4 (ix2 r n)
    = Row.logistic (Row.proj (fun k => x0 (ix2 r k)) (fun k => x1 (ix2 0 k)) (fun k => x4 (ix2 k n))) := by
  pointwise [k0_pay16, norm_apply]
  simp only [zero_sub]
  rfl

/-- The product with the six key and value weights. -/
def kv : FVec Ideal S512x1536 .f32 :=
  k0_pay18 (F := Ideal) (k0_pay14 x0 x1) (k0_pay17 x3) (constant S512x1536 .f32 0x00000000#32)

theorem kv_apply (r : Fin 512) (n : Fin 1536) : kv x0 x1 x3 (ix2 r n)
    = Row.proj (fun k => x0 (ix2 r k)) (fun k => x1 (ix2 0 k)) (fun k => x3 (ix2 k n)) := by
  pointwise [kv, k0_pay18, k0_pay17, norm_apply]
  rfl

variable (a : FVec Ideal S512x1024 .bf16) (w : FVec Ideal S1024x1536 .bf16) (z : FVec Ideal S512x1536 .f32)

theorem pay19_apply (r : Fin 512) (n : Fin 256) :
    k0_pay19 (F := Ideal) a w z (ix2 r n) = k0_pay18 (F := Ideal) a w z (ix2 r ⟨0 + n.val, by omega⟩) := by
  pointwise [k0_pay19]
  try rfl

theorem pay20_apply (r : Fin 512) (n : Fin 256) :
    k0_pay20 (F := Ideal) a w z (ix2 r n) = k0_pay18 (F := Ideal) a w z (ix2 r ⟨256 + n.val, by omega⟩) := by
  pointwise [k0_pay20]
  try rfl

theorem pay21_apply (r : Fin 512) (n : Fin 256) :
    k0_pay21 (F := Ideal) a w z (ix2 r n) = k0_pay18 (F := Ideal) a w z (ix2 r ⟨512 + n.val, by omega⟩) := by
  pointwise [k0_pay21]
  try rfl

theorem pay22_apply (r : Fin 512) (n : Fin 256) :
    k0_pay22 (F := Ideal) a w z (ix2 r n) = k0_pay18 (F := Ideal) a w z (ix2 r ⟨768 + n.val, by omega⟩) := by
  pointwise [k0_pay22]
  try rfl

theorem pay23_apply (r : Fin 512) (n : Fin 256) :
    k0_pay23 (F := Ideal) a w z (ix2 r n) = k0_pay18 (F := Ideal) a w z (ix2 r ⟨1024 + n.val, by omega⟩) := by
  pointwise [k0_pay23]
  try rfl

theorem pay24_apply (r : Fin 512) (n : Fin 256) :
    k0_pay24 (F := Ideal) a w z (ix2 r n) = k0_pay18 (F := Ideal) a w z (ix2 r ⟨1280 + n.val, by omega⟩) := by
  pointwise [k0_pay24]
  try rfl

theorem pay25_apply (r : Fin 512) (n : Fin 128) :
    k0_pay25 (F := Ideal) a w z (ix2 r n) = k0_pay18 (F := Ideal) a w z (ix2 r ⟨0 + n.val, by omega⟩) := by
  pointwise [k0_pay25, pay19_apply]
  try exact congrArg (fun i => k0_pay18 (F := Ideal) a w z (ix2 r i)) (Fin.ext (by dsimp only; omega))

theorem pay26_apply (r : Fin 512) (n : Fin 128) :
    k0_pay26 (F := Ideal) a w z (ix2 r n) = k0_pay18 (F := Ideal) a w z (ix2 r ⟨128 + n.val, by omega⟩) := by
  pointwise [k0_pay26, pay19_apply]
  try exact congrArg (fun i => k0_pay18 (F := Ideal) a w z (ix2 r i)) (Fin.ext (by dsimp only; omega))

theorem pay27_apply (r : Fin 512) (n : Fin 128) :
    k0_pay27 (F := Ideal) a w z (ix2 r n) = k0_pay18 (F := Ideal) a w z (ix2 r ⟨256 + n.val, by omega⟩) := by
  pointwise [k0_pay27, pay20_apply]
  try exact congrArg (fun i => k0_pay18 (F := Ideal) a w z (ix2 r i)) (Fin.ext (by dsimp only; omega))

theorem pay28_apply (r : Fin 512) (n : Fin 128) :
    k0_pay28 (F := Ideal) a w z (ix2 r n) = k0_pay18 (F := Ideal) a w z (ix2 r ⟨384 + n.val, by omega⟩) := by
  pointwise [k0_pay28, pay20_apply]
  try exact congrArg (fun i => k0_pay18 (F := Ideal) a w z (ix2 r i)) (Fin.ext (by dsimp only; omega))

/-! One head of a slice, its tokens along the last axis: entry `(d, s)` of head `e` is the slice's at token `s` and column
`64 e + d`. -/

variable (v : FVec Ideal S512x256 .f32)

theorem w13_0 (d : Fin 64) (s : Fin 512) :
    k0_pay31 (F := Ideal) (k0_pay30 a w z) (ix4 0 0 d s) = k0_pay19 (F := Ideal) a w z (ix2 s ⟨0 + d.val, by omega⟩) := by
  pointwise [k0_pay31, k0_pay30, k0_pay29]
  try rfl

theorem w13_1 (d : Fin 64) (s : Fin 512) :
    k0_pay32 (F := Ideal) (k0_pay29 a w z) (ix4 0 0 d s) = k0_pay19 (F := Ideal) a w z (ix2 s ⟨64 + d.val, by omega⟩) := by
  pointwise [k0_pay32, k0_pay29]
  try rfl

theorem w13_2 (d : Fin 64) (s : Fin 512) :
    k0_pay33 (F := Ideal) (k0_pay29 a w z) (ix4 0 0 d s) = k0_pay19 (F := Ideal) a w z (ix2 s ⟨128 + d.val, by omega⟩) := by
  pointwise [k0_pay33, k0_pay29]
  try rfl

theorem w13_3 (d : Fin 64) (s : Fin 512) :
    k0_pay34 (F := Ideal) (k0_pay29 a w z) (ix4 0 0 d s) = k0_pay19 (F := Ideal) a w z (ix2 s ⟨192 + d.val, by omega⟩) := by
  pointwise [k0_pay34, k0_pay29]
  try rfl

theorem w14_0 (d : Fin 64) (s : Fin 512) : k0_pay36 (F := Ideal) v (ix4 0 0 d s) = v (ix2 s ⟨0 + d.val, by omega⟩) := by
  pointwise [k0_pay36, k0_pay35]
  try rfl

theorem w14_1 (d : Fin 64) (s : Fin 512) : k0_pay37 (F := Ideal) v (ix4 0 0 d s) = v (ix2 s ⟨64 + d.val, by omega⟩) := by
  pointwise [k0_pay37, k0_pay35]
  try rfl

theorem w14_2 (d : Fin 64) (s : Fin 512) : k0_pay38 (F := Ideal) v (ix4 0 0 d s) = v (ix2 s ⟨128 + d.val, by omega⟩) := by
  pointwise [k0_pay38, k0_pay35]
  try rfl

theorem w14_3 (d : Fin 64) (s : Fin 512) : k0_pay40 (F := Ideal) (k0_pay39 v) (ix4 0 0 d s) = v (ix2 s ⟨192 + d.val, by omega⟩) := by
  pointwise [k0_pay40, k0_pay39, k0_pay35]
  try rfl

theorem w15_0 (d : Fin 64) (s : Fin 512) : k0_pay42 (F := Ideal) v (ix4 0 0 d s) = v (ix2 s ⟨0 + d.val, by omega⟩) := by
  pointwise [k0_pay42, k0_pay41]
  try rfl

theorem w15_1 (d : Fin 64) (s : Fin 512) : k0_pay43 (F := Ideal) v (ix4 0 0 d s) = v (ix2 s ⟨64 + d.val, by omega⟩) := by
  pointwise [k0_pay43, k0_pay41]
  try rfl

theorem w15_2 (d : Fin 64) (s : Fin 512) : k0_pay44 (F := Ideal) v (ix4 0 0 d s) = v (ix2 s ⟨128 + d.val, by omega⟩) := by
  pointwise [k0_pay44, k0_pay41]
  try rfl

theorem w15_3 (d : Fin 64) (s : Fin 512) : k0_pay45 (F := Ideal) v (ix4 0 0 d s) = v (ix2 s ⟨192 + d.val, by omega⟩) := by
  pointwise [k0_pay45, k0_pay41]
  try rfl

theorem w16_0 (d : Fin 64) (s : Fin 512) : k0_pay47 (F := Ideal) v (ix4 0 0 d s) = v (ix2 s ⟨0 + d.val, by omega⟩) := by
  pointwise [k0_pay47, k0_pay46]
  try rfl

theorem w16_1 (d : Fin 64) (s : Fin 512) : k0_pay49 (F := Ideal) (k0_pay48 v) (ix4 0 0 d s) = v (ix2 s ⟨64 + d.val, by omega⟩) := by
  pointwise [k0_pay49, k0_pay48, k0_pay46]
  try rfl

theorem w16_2 (d : Fin 64) (s : Fin 512) : k0_pay50 (F := Ideal) (k0_pay46 v) (ix4 0 0 d s) = v (ix2 s ⟨128 + d.val, by omega⟩) := by
  pointwise [k0_pay50, k0_pay46]
  try rfl

theorem w16_3 (d : Fin 64) (s : Fin 512) : k0_pay51 (F := Ideal) (k0_pay46 v) (ix4 0 0 d s) = v (ix2 s ⟨192 + d.val, by omega⟩) := by
  pointwise [k0_pay51, k0_pay46]
  try rfl

theorem w17_0 (d : Fin 64) (s : Fin 512) : k0_pay53 (F := Ideal) v (ix4 0 0 d s) = v (ix2 s ⟨0 + d.val, by omega⟩) := by
  pointwise [k0_pay53, k0_pay52]
  try rfl

theorem w17_1 (d : Fin 64) (s : Fin 512) : k0_pay54 (F := Ideal) v (ix4 0 0 d s) = v (ix2 s ⟨64 + d.val, by omega⟩) := by
  pointwise [k0_pay54, k0_pay52]
  try rfl

theorem w17_2 (d : Fin 64) (s : Fin 512) : k0_pay55 (F := Ideal) v (ix4 0 0 d s) = v (ix2 s ⟨128 + d.val, by omega⟩) := by
  pointwise [k0_pay55, k0_pay52]
  try rfl

theorem w17_3 (d : Fin 64) (s : Fin 512) : k0_pay56 (F := Ideal) v (ix4 0 0 d s) = v (ix2 s ⟨192 + d.val, by omega⟩) := by
  pointwise [k0_pay56, k0_pay52]
  try rfl

theorem w18_0 (d : Fin 64) (s : Fin 512) : k0_pay6 (F := Ideal) v (ix4 0 0 d s) = v (ix2 s ⟨0 + d.val, by omega⟩) := by
  pointwise [k0_pay6, k0_pay5]
  try rfl

theorem w18_1 (d : Fin 64) (s : Fin 512) : k0_pay7 (F := Ideal) v (ix4 0 0 d s) = v (ix2 s ⟨64 + d.val, by omega⟩) := by
  pointwise [k0_pay7, k0_pay5]
  try rfl

theorem w18_2 (d : Fin 64) (s : Fin 512) : k0_pay8 (F := Ideal) v (ix4 0 0 d s) = v (ix2 s ⟨128 + d.val, by omega⟩) := by
  pointwise [k0_pay8, k0_pay5]
  try rfl

theorem w18_3 (d : Fin 64) (s : Fin 512) : k0_pay9 (F := Ideal) v (ix4 0 0 d s) = v (ix2 s ⟨192 + d.val, by omega⟩) := by
  pointwise [k0_pay9, k0_pay5]
  try rfl

theorem w19_0 (d : Fin 64) (s : Fin 512) : k0_pay1 (F := Ideal) (k0_pay52 v) (ix4 0 0 d s) = v (ix2 s ⟨0 + d.val, by omega⟩) := by
  pointwise [k0_pay1, k0_pay52]
  try rfl

theorem w19_1 (d : Fin 64) (s : Fin 512) : k0_pay2 (F := Ideal) (k0_pay52 v) (ix4 0 0 d s) = v (ix2 s ⟨64 + d.val, by omega⟩) := by
  pointwise [k0_pay2, k0_pay52]
  try rfl

theorem w19_2 (d : Fin 64) (s : Fin 512) : k0_pay3 (F := Ideal) (k0_pay52 v) (ix4 0 0 d s) = v (ix2 s ⟨128 + d.val, by omega⟩) := by
  pointwise [k0_pay3, k0_pay52]
  try rfl

theorem w19_3 (d : Fin 64) (s : Fin 512) : k0_pay4 (F := Ideal) (k0_pay52 v) (ix4 0 0 d s) = v (ix2 s ⟨192 + d.val, by omega⟩) := by
  pointwise [k0_pay4, k0_pay52]
  try rfl

theorem w20_0 (d : Fin 64) (s : Fin 512) : k0_pay10 (F := Ideal) v (ix4 0 0 d s) = v (ix2 s ⟨0 + d.val, by omega⟩) := by
  pointwise [k0_pay10, k0_pay5]
  try rfl

theorem w20_1 (d : Fin 64) (s : Fin 512) : k0_pay11 (F := Ideal) v (ix4 0 0 d s) = v (ix2 s ⟨64 + d.val, by omega⟩) := by
  pointwise [k0_pay11, k0_pay5]
  try rfl

theorem w20_2 (d : Fin 64) (s : Fin 512) : k0_pay12 (F := Ideal) v (ix4 0 0 d s) = v (ix2 s ⟨128 + d.val, by omega⟩) := by
  pointwise [k0_pay12, k0_pay5]
  try rfl

theorem w20_3 (d : Fin 64) (s : Fin 512) : k0_pay13 (F := Ideal) v (ix4 0 0 d s) = v (ix2 s ⟨192 + d.val, by omega⟩) := by
  pointwise [k0_pay13, k0_pay5]
  try rfl

end Cert.AttnInIdeal.Body

end
-- ==== Proof.AttnInValue.lean ====
/- The values of the call that projects the attention layer's input for the prompt (`AttnIn`): the queries, the gates and
   the key and value rows of every token, in the layouts the later calls read. At the ideal instance each of its sixteen
   result arrays is the reference's, entry by entry. -/
module

public import proofs.«01_k».proof.Defs
public import proofs.«01_k».proof.Proof.Gen.AttnInIdeal.Frame
public import proofs.«01_k».proof.Proof.AttnInRef
public import proofs.«01_k».proof.Proof.AttnInBody
public import Idealize.ShloMosaic.Lib.Pipeline.ValueKit

@[expose] public section

set_option maxRecDepth 16384

noncomputable section

namespace Cert.AttnInIdeal.Final

open Cert.AttnInIdeal Cert.AttnInIdeal.Gen Idealize.ShloMosaic Idealize.ShloMosaic.TcCoe Idealize.SL.Sem
open Idealize.ShloMosaic.Pipeline (Dat)

variable (m : (ℓ : Loc nD τ sig) → Buf (Elt Ideal) ℓ)

/-- A point's sequence. -/
theorem seq_lt (t : Fin cfg0.N) : t.val / 4 < 8 := by
  have hN : t.val < 32 := lt_of_lt_of_eq t.isLt N_0
  omega

/-- A row of a point's block, by its number among all tokens. -/
theorem row_lt (t : Fin cfg0.N) (r : Fin 512) : t.val * 512 + r.val < 16384 := by
  have hN : t.val < 32 := lt_of_lt_of_eq t.isLt N_0
  omega

/-- The blocks of the windows: a point's rows, the whole weights, a point's stretch of its sequence, and its sequence. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val / 4, 0, 0, t.val % 4] ∧ win0_14.index t = ![t.val / 4, 0, 0, t.val % 4] ∧ win0_15.index t = ![t.val / 4, 0, 0, t.val % 4] ∧ win0_16.index t = ![t.val / 4, 0, 0, t.val % 4] ∧ win0_17.index t = ![t.val / 4, 0, 0, t.val % 4] ∧ win0_18.index t = ![t.val / 4, 0, 0, t.val % 4] ∧
    win0_19.index t = ![t.val / 4, 0, 0, 0] ∧ win0_20.index t = ![t.val / 4, 0, 0, 0] :=
  (by decide +kernel : ∀ t : Fin grid0.N, _)

/-- The tokens of all sequences, one after the other. -/
theorem cast_apply (x : FVec Ideal S8x2048x1024 .f32) (r : Fin 16384) (k : Fin 1024) :
    shapeCast S16384x1024 x shapeCasts_S8x2048x1024_S16384x1024 (ix2 r k)
      = x (ix3 ⟨r.val / 2048, by omega⟩ ⟨r.val % 2048, by omega⟩ k) := by
  pointwise
  try rfl

/-- A token's row, by the numbers of its sequence and of its place there. -/
theorem rowx (x : FVec Ideal S8x2048x1024 .f32) (k : Fin 1024) (b b' : Fin 8) (s s' : Fin 2048) (hb : b.val = b'.val)
    (hs : s.val = s'.val) : x (ix3 b s k) = x (ix3 b' s' k) := by
  rw [Fin.ext hb, Fin.ext hs]

theorem flat (c : Dev nD) (b : Ref sig .tc) :
    V m c b = StableHlo.after (hostOps0 ++ (hostOps0_1 ++ hostOps0_2)) (fun b => m (c, b)) b := rfl

/-! The five input arrays of the call, as the lines before it make them of the arguments. -/

theorem v1 (c : Dev nD) : V m c main_v1
    = shapeCast S16384x1024 (m ((c : Thread nD τ).loc main_arg0)) shapeCasts_S8x2048x1024_S16384x1024 := by
  rw [flat]
  simp only [List.cons_append, List.nil_append]
  entry_read
  try rfl

theorem v4 (c : Dev nD) : V m c main_v4 = shapeCast S1x1024 (shapeCast S1024 (extractStridedSlice S1x1024 ![1, 0]
    (m ((c : Thread nD τ).loc main_arg1) : Vec Ideal S2x1024 .f32) slices_S2x1024_S1x1024_1_0) shapeCasts_S1x1024_S1024)
    shapeCasts_S1024_S1x1024 := by
  rw [flat]
  simp only [List.cons_append, List.nil_append]
  entry_read
  try rfl

/-- The weight without its leading axis. -/
def w2 (w : FVec Ideal S1x1024x2608 .f32) : FVec Ideal S1024x2608 .f32 := shapeCast _ w shapeCasts_S1x1024x2608_S1024x2608

theorem w2_apply (w : FVec Ideal S1x1024x2608 .f32) (k : Fin 1024) (n : Fin 2608) : w2 w (ix2 k n) = w (ix3 0 k n) := by
  pointwise [w2]
  try rfl

theorem v6 (c : Dev nD) : V m c main_v6 = truncf .bf16 (extractStridedSlice S1024x1024 ![0, 0]
    (w2 (m ((c : Thread nD τ).loc main_arg2))) slices_S1024x2608_S1024x1024_0_0) bitsLt_bf16_f32 := by
  rw [flat]
  simp only [List.cons_append, List.nil_append]
  entry_read
  try rfl

theorem v8 (c : Dev nD) : V m c main_v8 = truncf .bf16 (extractStridedSlice S1024x1536 ![0, 1024]
    (w2 (m ((c : Thread nD τ).loc main_arg2))) slices_S1024x2608_S1024x1536_0_1024) bitsLt_bf16_f32 := by
  rw [flat]
  simp only [List.cons_append, List.nil_append]
  entry_read
  try rfl

theorem v11 (c : Dev nD) : V m c main_v11 = truncf .bf16 (pad S1024x128 ![0, 0] ![0, 80] ![0, 0]
    (extractStridedSlice S1024x48 ![0, 2560] (w2 (m ((c : Thread nD τ).loc main_arg2))) slices_S1024x2608_S1024x48_0_2560)
    (sitofp .f32 (constantI S_ 32 0#32)) pads_S1024x48_S1024x128_000_0800 h_S_) bitsLt_bf16_f32 := by
  rw [flat]
  simp only [List.cons_append, List.nil_append]
  entry_read
  try rfl

/-! The blocks of the five input windows at a point, entry by entry. -/

/-- A column of the weight, by its number. -/
theorem col (w : Vec Ideal S1x1024x2608 .f32) (k : Fin 1024) (a b : Fin 2608) (h : a.val = b.val) :
    w (ix3 0 k a) = w (ix3 0 k b) := by
  rw [Fin.ext h]

theorem in0 (c : Dev nD) (t : Fin cfg0.N) (r : Fin 512) (k : Fin 1024) : (iblk m c 0 t : Vec Ideal S512x1024 .f32) (ix2 r k)
    = (m ((c : Thread nD τ).loc main_arg0) : Vec Ideal S8x2048x1024 .f32)
      (ix3 ⟨t.val / 4, seq_lt t⟩ ⟨t.val % 4 * 512 + r.val, by omega⟩ k) := by
  have e : ((cfg0.win 0).blk t).view.emb (ix2 r k) = ix2 ⟨t.val * 512 + r.val, row_lt t r⟩ k := by
    blk_ext [idx t]
  refine (congrArg (V m c main_v1) e).trans ?_
  rw [v1]
  exact (cast_apply _ _ k).trans (rowx _ k _ _ _ _ (by dsimp only; omega) (by dsimp only; omega))

theorem in1 (c : Dev nD) (t : Fin cfg0.N) (k : Fin 1024) : (iblk m c 1 t : Vec Ideal S1x1024 .f32) (ix2 0 k)
    = (m ((c : Thread nD τ).loc main_arg1) : Vec Ideal S2x1024 .f32) (ix2 1 k) := by
  have e : ((cfg0.win 1).blk t).view.emb (ix2 0 k) = ix2 0 k := by
    blk_ext [idx t]
  refine (congrArg (V m c main_v4) e).trans ?_
  rw [v4]
  pointwise
  try rfl

theorem in2 (c : Dev nD) (t : Fin cfg0.N) (k n : Fin 1024) : (iblk m c 2 t : Vec Ideal S1024x1024 .bf16) (ix2 k n)
    = (m ((c : Thread nD τ).loc main_arg2) : Vec Ideal S1x1024x2608 .f32) (ix3 0 k ⟨n.val, by omega⟩) := by
  have e : ((cfg0.win 2).blk t).view.emb (ix2 k n) = ix2 k n := by
    blk_ext [idx t]
  refine (congrArg (V m c main_v6) e).trans ?_
  rw [v6]
  pointwise [w2_apply]
  try rfl

theorem in3 (c : Dev nD) (t : Fin cfg0.N) (k : Fin 1024) (n : Fin 1536) :
    (iblk m c 3 t : Vec Ideal S1024x1536 .bf16) (ix2 k n)
      = (m ((c : Thread nD τ).loc main_arg2) : Vec Ideal S1x1024x2608 .f32) (ix3 0 k ⟨1024 + n.val, by omega⟩) := by
  have e : ((cfg0.win 3).blk t).view.emb (ix2 k n) = ix2 k n := by
    blk_ext [idx t]
  refine (congrArg (V m c main_v8) e).trans ?_
  rw [v8]
  pointwise [w2_apply]
  try rfl

/-- The columns of the gates are padded with columns of zeros. -/
theorem in4 (c : Dev nD) (t : Fin cfg0.N) (k : Fin 1024) (n : Fin 128) :
    (iblk m c 4 t : Vec Ideal S1024x128 .bf16) (ix2 k n) = (if h : n.val < 48 then
      (m ((c : Thread nD τ).loc main_arg2) : FVec Ideal S1x1024x2608 .f32) (ix3 0 k ⟨2560 + n.val, by omega⟩)
      else 0 : EReal) := by
  have e : ((cfg0.win 4).blk t).view.emb (ix2 k n) = ix2 k n := by
    blk_ext [idx t]
  refine (congrArg (V m c main_v11) e).trans ?_
  rw [v11]
  pointwise [w2_apply]
  have z : FloatOps.sitofp (F := Ideal) .f32 (0#32) = 0 := by
    change (((0#32 : BitVec 32).toInt : ℝ) : EReal) = 0
    simp
  by_cases h : n.val < 48
  · rw [dif_pos h, dif_pos h]
  · rw [dif_neg h, dif_neg h, z]

/-- What the run leaves in a window that the body fills with one store, at a point. -/
theorem after_5 (c : Dev nD) (t : Fin cfg0.N) : (dats m 0 c).after 5 t
    = (k0_pay15 (iblk m c 0 t) (iblk m c 1 t) (iblk m c 2 t) : FVec Ideal S512x1024 .f32) := by
  rw [after0_5]
  by_cases j : t.val % 4 = 3
  · rw [outsAt0_B m c t j j]
    frame_out
  · rw [outsAt0_A m c t j j]
    frame_out

theorem after_6 (c : Dev nD) (t : Fin cfg0.N) : (dats m 0 c).after 6 t
    = (k0_pay16 (iblk m c 0 t) (iblk m c 1 t) (iblk m c 4 t) : FVec Ideal S512x128 .f32) := by
  rw [after0_6]
  by_cases j : t.val % 4 = 3
  · rw [outsAt0_B m c t j j]
    frame_out
  · rw [outsAt0_A m c t j j]
    frame_out

theorem after_7 (c : Dev nD) (t : Fin cfg0.N) : (dats m 0 c).after 7 t
    = (k0_pay25 (k0_pay14 (iblk m c 0 t) (iblk m c 1 t)) (k0_pay17 (iblk m c 3 t)) (constant S512x1536 .f32 0x00000000#32) : FVec Ideal S512x128 .f32) := by
  rw [after0_7]
  by_cases j : t.val % 4 = 3
  · rw [outsAt0_B m c t j j]
    frame_out
  · rw [outsAt0_A m c t j j]
    frame_out

theorem after_8 (c : Dev nD) (t : Fin cfg0.N) : (dats m 0 c).after 8 t
    = (k0_pay26 (k0_pay14 (iblk m c 0 t) (iblk m c 1 t)) (k0_pay17 (iblk m c 3 t)) (constant S512x1536 .f32 0x00000000#32) : FVec Ideal S512x128 .f32) := by
  rw [after0_8]
  by_cases j : t.val % 4 = 3
  · rw [outsAt0_B m c t j j]
    frame_out
  · rw [outsAt0_A m c t j j]
    frame_out

theorem after_9 (c : Dev nD) (t : Fin cfg0.N) : (dats m 0 c).after 9 t
    = (k0_pay27 (k0_pay14 (iblk m c 0 t) (iblk m c 1 t)) (k0_pay17 (iblk m c 3 t)) (constant S512x1536 .f32 0x00000000#32) : FVec Ideal S512x128 .f32) := by
  rw [after0_9]
  by_cases j : t.val % 4 = 3
  · rw [outsAt0_B m c t j j]
    frame_out
  · rw [outsAt0_A m c t j j]
    frame_out

theorem after_10 (c : Dev nD) (t : Fin cfg0.N) : (dats m 0 c).after 10 t
    = (k0_pay28 (k0_pay14 (iblk m c 0 t) (iblk m c 1 t)) (k0_pay17 (iblk m c 3 t)) (constant S512x1536 .f32 0x00000000#32) : FVec Ideal S512x128 .f32) := by
  rw [after0_10]
  by_cases j : t.val % 4 = 3
  · rw [outsAt0_B m c t j j]
    frame_out
  · rw [outsAt0_A m c t j j]
    frame_out

theorem after_11 (c : Dev nD) (t : Fin cfg0.N) : (dats m 0 c).after 11 t
    = (k0_pay21 (k0_pay14 (iblk m c 0 t) (iblk m c 1 t)) (k0_pay17 (iblk m c 3 t)) (constant S512x1536 .f32 0x00000000#32) : FVec Ideal S512x256 .f32) := by
  rw [after0_11]
  by_cases j : t.val % 4 = 3
  · rw [outsAt0_B m c t j j]
    frame_out
  · rw [outsAt0_A m c t j j]
    frame_out

theorem after_12 (c : Dev nD) (t : Fin cfg0.N) : (dats m 0 c).after 12 t
    = (k0_pay23 (k0_pay14 (iblk m c 0 t) (iblk m c 1 t)) (k0_pay17 (iblk m c 3 t)) (constant S512x1536 .f32 0x00000000#32) : FVec Ideal S512x256 .f32) := by
  rw [after0_12]
  by_cases j : t.val % 4 = 3
  · rw [outsAt0_B m c t j j]
    frame_out
  · rw [outsAt0_A m c t j j]
    frame_out

theorem after_13 (c : Dev nD) (t : Fin cfg0.N) (e : Fin 4) (d : Fin 64) (s : Fin 512) :
    ((dats m 0 c).after 13 t : FVec Ideal S1x4x64x512 .f32) (ix4 0 e d s)
      = (k0_pay19 (k0_pay14 (iblk m c 0 t) (iblk m c 1 t)) (k0_pay17 (iblk m c 3 t)) (constant S512x1536 .f32 0x00000000#32) : FVec Ideal S512x256 .f32) (ix2 s ⟨64 * e.val + d.val, by omega⟩) := by
  rw [after0_13]
  by_cases j : t.val % 4 = 3
  · rw [outsAt0_B m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w13_3 _ _ _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w13_2 _ _ _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w13_1 _ _ _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w13_0 _ _ _ _ _
  · rw [outsAt0_A m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w13_3 _ _ _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w13_2 _ _ _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w13_1 _ _ _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w13_0 _ _ _ _ _

theorem after_14 (c : Dev nD) (t : Fin cfg0.N) (e : Fin 4) (d : Fin 64) (s : Fin 512) :
    ((dats m 0 c).after 14 t : FVec Ideal S1x4x64x512 .f32) (ix4 0 e d s)
      = (k0_pay20 (k0_pay14 (iblk m c 0 t) (iblk m c 1 t)) (k0_pay17 (iblk m c 3 t)) (constant S512x1536 .f32 0x00000000#32) : FVec Ideal S512x256 .f32) (ix2 s ⟨64 * e.val + d.val, by omega⟩) := by
  rw [after0_14]
  by_cases j : t.val % 4 = 3
  · rw [outsAt0_B m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w14_3 _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w14_2 _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w14_1 _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w14_0 _ _ _
  · rw [outsAt0_A m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w14_3 _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w14_2 _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w14_1 _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w14_0 _ _ _

theorem after_15 (c : Dev nD) (t : Fin cfg0.N) (e : Fin 4) (d : Fin 64) (s : Fin 512) :
    ((dats m 0 c).after 15 t : FVec Ideal S1x4x64x512 .f32) (ix4 0 e d s)
      = (k0_pay21 (k0_pay14 (iblk m c 0 t) (iblk m c 1 t)) (k0_pay17 (iblk m c 3 t)) (constant S512x1536 .f32 0x00000000#32) : FVec Ideal S512x256 .f32) (ix2 s ⟨64 * e.val + d.val, by omega⟩) := by
  rw [after0_15]
  by_cases j : t.val % 4 = 3
  · rw [outsAt0_B m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w15_3 _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w15_2 _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w15_1 _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w15_0 _ _ _
  · rw [outsAt0_A m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w15_3 _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w15_2 _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w15_1 _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w15_0 _ _ _

theorem after_16 (c : Dev nD) (t : Fin cfg0.N) (e : Fin 4) (d : Fin 64) (s : Fin 512) :
    ((dats m 0 c).after 16 t : FVec Ideal S1x4x64x512 .f32) (ix4 0 e d s)
      = (k0_pay22 (k0_pay14 (iblk m c 0 t) (iblk m c 1 t)) (k0_pay17 (iblk m c 3 t)) (constant S512x1536 .f32 0x00000000#32) : FVec Ideal S512x256 .f32) (ix2 s ⟨64 * e.val + d.val, by omega⟩) := by
  rw [after0_16]
  by_cases j : t.val % 4 = 3
  · rw [outsAt0_B m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w16_3 _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w16_2 _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w16_1 _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w16_0 _ _ _
  · rw [outsAt0_A m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w16_3 _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w16_2 _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w16_1 _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w16_0 _ _ _

theorem after_17 (c : Dev nD) (t : Fin cfg0.N) (e : Fin 4) (d : Fin 64) (s : Fin 512) :
    ((dats m 0 c).after 17 t : FVec Ideal S1x4x64x512 .f32) (ix4 0 e d s)
      = (k0_pay23 (k0_pay14 (iblk m c 0 t) (iblk m c 1 t)) (k0_pay17 (iblk m c 3 t)) (constant S512x1536 .f32 0x00000000#32) : FVec Ideal S512x256 .f32) (ix2 s ⟨64 * e.val + d.val, by omega⟩) := by
  rw [after0_17]
  by_cases j : t.val % 4 = 3
  · rw [outsAt0_B m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w17_3 _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w17_2 _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w17_1 _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w17_0 _ _ _
  · rw [outsAt0_A m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w17_3 _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w17_2 _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w17_1 _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w17_0 _ _ _

theorem after_18 (c : Dev nD) (t : Fin cfg0.N) (e : Fin 4) (d : Fin 64) (s : Fin 512) :
    ((dats m 0 c).after 18 t : FVec Ideal S1x4x64x512 .f32) (ix4 0 e d s)
      = (k0_pay24 (k0_pay14 (iblk m c 0 t) (iblk m c 1 t)) (k0_pay17 (iblk m c 3 t)) (constant S512x1536 .f32 0x00000000#32) : FVec Ideal S512x256 .f32) (ix2 s ⟨64 * e.val + d.val, by omega⟩) := by
  rw [after0_18]
  by_cases j : t.val % 4 = 3
  · rw [outsAt0_B m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w18_3 _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w18_2 _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w18_1 _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w18_0 _ _ _
  · rw [outsAt0_A m c t j j]
    frame_out
    canon_tiles q h
    · obtain rfl : e = 3 := Fin.ext (by
        have i1 : e.val = 3 + (q 1).val := h1
        have i2 : (q 1).val < 1 := (q 1).isLt
        change e.val = 3
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w18_3 _ _ _
    · obtain rfl : e = 2 := Fin.ext (by
        have i1 : e.val = 2 + (q 1).val := h1
        have i2 : (q 1).val < 1 := (q 1).isLt
        change e.val = 2
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w18_2 _ _ _
    · obtain rfl : e = 1 := Fin.ext (by
        have i1 : e.val = 1 + (q 1).val := h1
        have i2 : (q 1).val < 1 := (q 1).isLt
        change e.val = 1
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w18_1 _ _ _
    · obtain rfl : e = 0 := Fin.ext (by
        have i1 : e.val = 0 + (q 1).val := h1.trans (Nat.zero_add _).symm
        have i2 : (q 1).val < 1 := (q 1).isLt
        change e.val = 0
        omega)
      obtain rfl : d = q 2 := Fin.ext (h2.trans (by simp))
      obtain rfl : s = q 3 := Fin.ext (h3.trans (by simp))
      idx_vars q
      obtain rfl : q0 = 0 := Subsingleton.elim _ _
      obtain rfl : q1 = 0 := Subsingleton.elim _ _
      exact Body.w18_0 _ _ _

theorem after_19 (c : Dev nD) (t : Fin cfg0.N) (j : t.val % 4 = 3) (e : Fin 4) (d : Fin 64) (s : Fin 512) :
    ((dats m 0 c).after 19 t : FVec Ideal S1x4x64x512 .f32) (ix4 0 e d s)
      = (k0_pay23 (k0_pay14 (iblk m c 0 t) (iblk m c 1 t)) (k0_pay17 (iblk m c 3 t)) (constant S512x1536 .f32 0x00000000#32) : FVec Ideal S512x256 .f32) (ix2 s ⟨64 * e.val + d.val, by omega⟩) := by
  rw [after0_19]
  rw [outsAt0_B m c t j j]
  frame_out
  canon_tiles q h
  · obtain rfl : e = 3 := Fin.ext (by
      have i1 : e.val = 3 + (q 1).val := h1
      have i2 : (q 1).val < 1 := (q 1).isLt
      change e.val = 3
      omega)
    obtain rfl : d = q 2 := Fin.ext (h2.trans (by simp))
    obtain rfl : s = q 3 := Fin.ext (h3.trans (by simp))
    idx_vars q
    obtain rfl : q0 = 0 := Subsingleton.elim _ _
    obtain rfl : q1 = 0 := Subsingleton.elim _ _
    exact Body.w19_3 _ _ _
  · obtain rfl : e = 2 := Fin.ext (by
      have i1 : e.val = 2 + (q 1).val := h1
      have i2 : (q 1).val < 1 := (q 1).isLt
      change e.val = 2
      omega)
    obtain rfl : d = q 2 := Fin.ext (h2.trans (by simp))
    obtain rfl : s = q 3 := Fin.ext (h3.trans (by simp))
    idx_vars q
    obtain rfl : q0 = 0 := Subsingleton.elim _ _
    obtain rfl : q1 = 0 := Subsingleton.elim _ _
    exact Body.w19_2 _ _ _
  · obtain rfl : e = 1 := Fin.ext (by
      have i1 : e.val = 1 + (q 1).val := h1
      have i2 : (q 1).val < 1 := (q 1).isLt
      change e.val = 1
      omega)
    obtain rfl : d = q 2 := Fin.ext (h2.trans (by simp))
    obtain rfl : s = q 3 := Fin.ext (h3.trans (by simp))
    idx_vars q
    obtain rfl : q0 = 0 := Subsingleton.elim _ _
    obtain rfl : q1 = 0 := Subsingleton.elim _ _
    exact Body.w19_1 _ _ _
  · obtain rfl : e = 0 := Fin.ext (by
      have i1 : e.val = 0 + (q 1).val := h1.trans (Nat.zero_add _).symm
      have i2 : (q 1).val < 1 := (q 1).isLt
      change e.val = 0
      omega)
    obtain rfl : d = q 2 := Fin.ext (h2.trans (by simp))
    obtain rfl : s = q 3 := Fin.ext (h3.trans (by simp))
    idx_vars q
    obtain rfl : q0 = 0 := Subsingleton.elim _ _
    obtain rfl : q1 = 0 := Subsingleton.elim _ _
    exact Body.w19_0 _ _ _

theorem after_20 (c : Dev nD) (t : Fin cfg0.N) (j : t.val % 4 = 3) (e : Fin 4) (d : Fin 64) (s : Fin 512) :
    ((dats m 0 c).after 20 t : FVec Ideal S1x4x64x512 .f32) (ix4 0 e d s)
      = (k0_pay24 (k0_pay14 (iblk m c 0 t) (iblk m c 1 t)) (k0_pay17 (iblk m c 3 t)) (constant S512x1536 .f32 0x00000000#32) : FVec Ideal S512x256 .f32) (ix2 s ⟨64 * e.val + d.val, by omega⟩) := by
  rw [after0_20]
  rw [outsAt0_B m c t j j]
  frame_out
  canon_tiles q h
  · obtain rfl : e = 3 := Fin.ext (by
      have i1 : e.val = 3 + (q 1).val := h1
      have i2 : (q 1).val < 1 := (q 1).isLt
      change e.val = 3
      omega)
    obtain rfl : d = q 2 := Fin.ext (h2.trans (by simp))
    obtain rfl : s = q 3 := Fin.ext (h3.trans (by simp))
    idx_vars q
    obtain rfl : q0 = 0 := Subsingleton.elim _ _
    obtain rfl : q1 = 0 := Subsingleton.elim _ _
    exact Body.w20_3 _ _ _
  · obtain rfl : e = 2 := Fin.ext (by
      have i1 : e.val = 2 + (q 1).val := h1
      have i2 : (q 1).val < 1 := (q 1).isLt
      change e.val = 2
      omega)
    obtain rfl : d = q 2 := Fin.ext (h2.trans (by simp))
    obtain rfl : s = q 3 := Fin.ext (h3.trans (by simp))
    idx_vars q
    obtain rfl : q0 = 0 := Subsingleton.elim _ _
    obtain rfl : q1 = 0 := Subsingleton.elim _ _
    exact Body.w20_2 _ _ _
  · obtain rfl : e = 1 := Fin.ext (by
      have i1 : e.val = 1 + (q 1).val := h1
      have i2 : (q 1).val < 1 := (q 1).isLt
      change e.val = 1
      omega)
    obtain rfl : d = q 2 := Fin.ext (h2.trans (by simp))
    obtain rfl : s = q 3 := Fin.ext (h3.trans (by simp))
    idx_vars q
    obtain rfl : q0 = 0 := Subsingleton.elim _ _
    obtain rfl : q1 = 0 := Subsingleton.elim _ _
    exact Body.w20_1 _ _ _
  · obtain rfl : e = 0 := Fin.ext (by
      have i1 : e.val = 0 + (q 1).val := h1.trans (Nat.zero_add _).symm
      have i2 : (q 1).val < 1 := (q 1).isLt
      change e.val = 0
      omega)
    obtain rfl : d = q 2 := Fin.ext (h2.trans (by simp))
    obtain rfl : s = q 3 := Fin.ext (h3.trans (by simp))
    idx_vars q
    obtain rfl : q0 = 0 := Subsingleton.elim _ _
    obtain rfl : q1 = 0 := Subsingleton.elim _ _
    exact Body.w20_0 _ _ _

theorem point_5 (c : Dev nD) (t : Fin cfg0.N) (y : S512x1024.Idx) : ((dats m 0 c).after 5 t : FVec Ideal S512x1024 .f32) y
    = Cert.AttnInRefIdeal.Term.q (m ((c : Thread nD τ).loc main_arg0)) (m ((c : Thread nD τ).loc main_arg1))
    (m ((c : Thread nD τ).loc main_arg2)) (((cfg0.win 5).blk t).view.emb y) := by
  idx_vars y
  have e : ((cfg0.win 5).blk t).view.emb (ix2 y0 y1) = ix2 ⟨t.val * 512 + y0.val, row_lt t y0⟩ y1 := by
    blk_ext [idx t]
  rw [e, Cert.AttnInRefIdeal.Term.q_apply]
  unfold Cert.AttnInRefIdeal.Term.at_
  refine (congrFun (after_5 m c t) (ix2 y0 y1)).trans ?_
  refine (Body.q_apply _ _ _ y0 y1).trans ?_
  exact Row.proj_congr (fun k => (in0 m c t y0 k).trans (rowx _ k _ _ _ _ (by dsimp only; omega) (by dsimp only; omega)))
    (fun k => in1 m c t k)
    (fun k => (in2 m c t k y1).trans (col _ k _ _ rfl))

/-- The result array `q` after the run is the reference's. -/
theorem final_5 (c : Dev nD) : (dats m 0 c).arrAt 5 (cfgs 0).N = Cert.AttnInRefIdeal.Term.q (m ((c : Thread nD τ).loc main_arg0)) (m ((c : Thread nD τ).loc main_arg1))
    (m ((c : Thread nD τ).loc main_arg2)) := by
  refine (dats m 0 c).arrAt_eq_of_covers 5 _ (by decide +kernel) fun t _ y => ?_
  blk_simp
  exact point_5 m c t y

theorem point_6 (c : Dev nD) (t : Fin cfg0.N) (y : S512x128.Idx) : ((dats m 0 c).after 6 t : FVec Ideal S512x128 .f32) y
    = Cert.AttnInRefIdeal.Term.gates (m ((c : Thread nD τ).loc main_arg0)) (m ((c : Thread nD τ).loc main_arg1))
    (m ((c : Thread nD τ).loc main_arg2)) (((cfg0.win 6).blk t).view.emb y) := by
  idx_vars y
  have e : ((cfg0.win 6).blk t).view.emb (ix2 y0 y1) = ix2 ⟨t.val * 512 + y0.val, row_lt t y0⟩ y1 := by
    blk_ext [idx t]
  rw [e, Cert.AttnInRefIdeal.Term.gates_apply]
  unfold Cert.AttnInRefIdeal.Term.at_
  refine (congrFun (after_6 m c t) (ix2 y0 y1)).trans ?_
  refine (Body.gates_apply _ _ _ y0 y1).trans ?_
  by_cases j : y1.val < 48
  · rw [dif_pos j]
    exact congrArg Row.logistic (Row.proj_congr (fun k => (in0 m c t y0 k).trans (rowx _ k _ _ _ _ (by dsimp only; omega) (by dsimp only; omega)))
    (fun k => in1 m c t k)
      (fun k => (in4 m c t k y1).trans (dif_pos j)))
  · rw [dif_neg j]
    exact (congrArg Row.logistic (Row.proj_congr (fun k => in0 m c t y0 k) (fun k => in1 m c t k)
      (fun k => (in4 m c t k y1).trans (dif_neg j)))).trans (Row.gate_zero _ _)

/-- The result array `gates` after the run is the reference's. -/
theorem final_6 (c : Dev nD) : (dats m 0 c).arrAt 6 (cfgs 0).N = Cert.AttnInRefIdeal.Term.gates (m ((c : Thread nD τ).loc main_arg0)) (m ((c : Thread nD τ).loc main_arg1))
    (m ((c : Thread nD τ).loc main_arg2)) := by
  refine (dats m 0 c).arrAt_eq_of_covers 6 _ (by decide +kernel) fun t _ y => ?_
  blk_simp
  exact point_6 m c t y

theorem point_7 (c : Dev nD) (t : Fin cfg0.N) (y : S512x128.Idx) : ((dats m 0 c).after 7 t : FVec Ideal S512x128 .f32) y
    = Cert.AttnInRefIdeal.Term.kc_lo (m ((c : Thread nD τ).loc main_arg0)) (m ((c : Thread nD τ).loc main_arg1))
    (m ((c : Thread nD τ).loc main_arg2)) (((cfg0.win 7).blk t).view.emb y) := by
  idx_vars y
  have e : ((cfg0.win 7).blk t).view.emb (ix2 y0 y1) = ix2 ⟨t.val * 512 + y0.val, row_lt t y0⟩ y1 := by
    blk_ext [idx t]
  rw [e, Cert.AttnInRefIdeal.Term.kc_lo_apply]
  unfold Cert.AttnInRefIdeal.Term.at_
  refine (congrFun (after_7 m c t) (ix2 y0 y1)).trans ?_
  refine (Body.pay25_apply _ _ _ y0 y1).trans ((Body.kv_apply _ _ _ y0 _).trans ?_)
  exact Row.proj_congr (fun k => (in0 m c t y0 k).trans (rowx _ k _ _ _ _ (by dsimp only; omega) (by dsimp only; omega)))
    (fun k => in1 m c t k)
    (fun k => (in3 m c t k _).trans (col _ k _ _ (by dsimp only; omega)))

/-- The result array `kc_lo` after the run is the reference's. -/
theorem final_7 (c : Dev nD) : (dats m 0 c).arrAt 7 (cfgs 0).N = Cert.AttnInRefIdeal.Term.kc_lo (m ((c : Thread nD τ).loc main_arg0)) (m ((c : Thread nD τ).loc main_arg1))
    (m ((c : Thread nD τ).loc main_arg2)) := by
  refine (dats m 0 c).arrAt_eq_of_covers 7 _ (by decide +kernel) fun t _ y => ?_
  blk_simp
  exact point_7 m c t y

theorem point_8 (c : Dev nD) (t : Fin cfg0.N) (y : S512x128.Idx) : ((dats m 0 c).after 8 t : FVec Ideal S512x128 .f32) y
    = Cert.AttnInRefIdeal.Term.kc_hi (m ((c : Thread nD τ).loc main_arg0)) (m ((c : Thread nD τ).loc main_arg1))
    (m ((c : Thread nD τ).loc main_arg2)) (((cfg0.win 8).blk t).view.emb y) := by
  idx_vars y
  have e : ((cfg0.win 8).blk t).view.emb (ix2 y0 y1) = ix2 ⟨t.val * 512 + y0.val, row_lt t y0⟩ y1 := by
    blk_ext [idx t]
  rw [e, Cert.AttnInRefIdeal.Term.kc_hi_apply]
  unfold Cert.AttnInRefIdeal.Term.at_
  refine (congrFun (after_8 m c t) (ix2 y0 y1)).trans ?_
  refine (Body.pay26_apply _ _ _ y0 y1).trans ((Body.kv_apply _ _ _ y0 _).trans ?_)
  exact Row.proj_congr (fun k => (in0 m c t y0 k).trans (rowx _ k _ _ _ _ (by dsimp only; omega) (by dsimp only; omega)))
    (fun k => in1 m c t k)
    (fun k => (in3 m c t k _).trans (col _ k _ _ (by dsimp only; omega)))

/-- The result array `kc_hi` after the run is the reference's. -/
theorem final_8 (c : Dev nD) : (dats m 0 c).arrAt 8 (cfgs 0).N = Cert.AttnInRefIdeal.Term.kc_hi (m ((c : Thread nD τ).loc main_arg0)) (m ((c : Thread nD τ).loc main_arg1))
    (m ((c : Thread nD τ).loc main_arg2)) := by
  refine (dats m 0 c).arrAt_eq_of_covers 8 _ (by decide +kernel) fun t _ y => ?_
  blk_simp
  exact point_8 m c t y

theorem point_9 (c : Dev nD) (t : Fin cfg0.N) (y : S512x128.Idx) : ((dats m 0 c).after 9 t : FVec Ideal S512x128 .f32) y
    = Cert.AttnInRefIdeal.Term.vc_lo (m ((c : Thread nD τ).loc main_arg0)) (m ((c : Thread nD τ).loc main_arg1))
    (m ((c : Thread nD τ).loc main_arg2)) (((cfg0.win 9).blk t).view.emb y) := by
  idx_vars y
  have e : ((cfg0.win 9).blk t).view.emb (ix2 y0 y1) = ix2 ⟨t.val * 512 + y0.val, row_lt t y0⟩ y1 := by
    blk_ext [idx t]
  rw [e, Cert.AttnInRefIdeal.Term.vc_lo_apply]
  unfold Cert.AttnInRefIdeal.Term.at_
  refine (congrFun (after_9 m c t) (ix2 y0 y1)).trans ?_
  refine (Body.pay27_apply _ _ _ y0 y1).trans ((Body.kv_apply _ _ _ y0 _).trans ?_)
  exact Row.proj_congr (fun k => (in0 m c t y0 k).trans (rowx _ k _ _ _ _ (by dsimp only; omega) (by dsimp only; omega)))
    (fun k => in1 m c t k)
    (fun k => (in3 m c t k _).trans (col _ k _ _ (by dsimp only; omega)))

/-- The result array `vc_lo` after the run is the reference's. -/
theorem final_9 (c : Dev nD) : (dats m 0 c).arrAt 9 (cfgs 0).N = Cert.AttnInRefIdeal.Term.vc_lo (m ((c : Thread nD τ).loc main_arg0)) (m ((c : Thread nD τ).loc main_arg1))
    (m ((c : Thread nD τ).loc main_arg2)) := by
  refine (dats m 0 c).arrAt_eq_of_covers 9 _ (by decide +kernel) fun t _ y => ?_
  blk_simp
  exact point_9 m c t y

theorem point_10 (c : Dev nD) (t : Fin cfg0.N) (y : S512x128.Idx) : ((dats m 0 c).after 10 t : FVec Ideal S512x128 .f32) y
    = Cert.AttnInRefIdeal.Term.vc_hi (m ((c : Thread nD τ).loc main_arg0)) (m ((c : Thread nD τ).loc main_arg1))
    (m ((c : Thread nD τ).loc main_arg2)) (((cfg0.win 10).blk t).view.emb y) := by
  idx_vars y
  have e : ((cfg0.win 10).blk t).view.emb (ix2 y0 y1) = ix2 ⟨t.val * 512 + y0.val, row_lt t y0⟩ y1 := by
    blk_ext [idx t]
  rw [e, Cert.AttnInRefIdeal.Term.vc_hi_apply]
  unfold Cert.AttnInRefIdeal.Term.at_
  refine (congrFun (after_10 m c t) (ix2 y0 y1)).trans ?_
  refine (Body.pay28_apply _ _ _ y0 y1).trans ((Body.kv_apply _ _ _ y0 _).trans ?_)
  exact Row.proj_congr (fun k => (in0 m c t y0 k).trans (rowx _ k _ _ _ _ (by dsimp only; omega) (by dsimp only; omega)))
    (fun k => in1 m c t k)
    (fun k => (in3 m c t k _).trans (col _ k _ _ (by dsimp only; omega)))

/-- The result array `vc_hi` after the run is the reference's. -/
theorem final_10 (c : Dev nD) : (dats m 0 c).arrAt 10 (cfgs 0).N = Cert.AttnInRefIdeal.Term.vc_hi (m ((c : Thread nD τ).loc main_arg0)) (m ((c : Thread nD τ).loc main_arg1))
    (m ((c : Thread nD τ).loc main_arg2)) := by
  refine (dats m 0 c).arrAt_eq_of_covers 10 _ (by decide +kernel) fun t _ y => ?_
  blk_simp
  exact point_10 m c t y

theorem point_11 (c : Dev nD) (t : Fin cfg0.N) (y : S512x256.Idx) : ((dats m 0 c).after 11 t : FVec Ideal S512x256 .f32) y
    = Cert.AttnInRefIdeal.Term.ks (m ((c : Thread nD τ).loc main_arg0)) (m ((c : Thread nD τ).loc main_arg1))
    (m ((c : Thread nD τ).loc main_arg2)) (((cfg0.win 11).blk t).view.emb y) := by
  idx_vars y
  have e : ((cfg0.win 11).blk t).view.emb (ix2 y0 y1) = ix2 ⟨t.val * 512 + y0.val, row_lt t y0⟩ y1 := by
    blk_ext [idx t]
  rw [e, Cert.AttnInRefIdeal.Term.ks_apply]
  unfold Cert.AttnInRefIdeal.Term.at_
  refine (congrFun (after_11 m c t) (ix2 y0 y1)).trans ?_
  refine (Body.pay21_apply _ _ _ y0 y1).trans ((Body.kv_apply _ _ _ y0 _).trans ?_)
  exact Row.proj_congr (fun k => (in0 m c t y0 k).trans (rowx _ k _ _ _ _ (by dsimp only; omega) (by dsimp only; omega)))
    (fun k => in1 m c t k)
    (fun k => (in3 m c t k _).trans (col _ k _ _ (by dsimp only; omega)))

/-- The result array `ks` after the run is the reference's. -/
theorem final_11 (c : Dev nD) : (dats m 0 c).arrAt 11 (cfgs 0).N = Cert.AttnInRefIdeal.Term.ks (m ((c : Thread nD τ).loc main_arg0)) (m ((c : Thread nD τ).loc main_arg1))
    (m ((c : Thread nD τ).loc main_arg2)) := by
  refine (dats m 0 c).arrAt_eq_of_covers 11 _ (by decide +kernel) fun t _ y => ?_
  blk_simp
  exact point_11 m c t y

theorem point_12 (c : Dev nD) (t : Fin cfg0.N) (y : S512x256.Idx) : ((dats m 0 c).after 12 t : FVec Ideal S512x256 .f32) y
    = Cert.AttnInRefIdeal.Term.kw (m ((c : Thread nD τ).loc main_arg0)) (m ((c : Thread nD τ).loc main_arg1))
    (m ((c : Thread nD τ).loc main_arg2)) (((cfg0.win 12).blk t).view.emb y) := by
  idx_vars y
  have e : ((cfg0.win 12).blk t).view.emb (ix2 y0 y1) = ix2 ⟨t.val * 512 + y0.val, row_lt t y0⟩ y1 := by
    blk_ext [idx t]
  rw [e, Cert.AttnInRefIdeal.Term.kw_apply]
  unfold Cert.AttnInRefIdeal.Term.at_
  refine (congrFun (after_12 m c t) (ix2 y0 y1)).trans ?_
  refine (Body.pay23_apply _ _ _ y0 y1).trans ((Body.kv_apply _ _ _ y0 _).trans ?_)
  exact Row.proj_congr (fun k => (in0 m c t y0 k).trans (rowx _ k _ _ _ _ (by dsimp only; omega) (by dsimp only; omega)))
    (fun k => in1 m c t k)
    (fun k => (in3 m c t k _).trans (col _ k _ _ (by dsimp only; omega)))

/-- The result array `kw` after the run is the reference's. -/
theorem final_12 (c : Dev nD) : (dats m 0 c).arrAt 12 (cfgs 0).N = Cert.AttnInRefIdeal.Term.kw (m ((c : Thread nD τ).loc main_arg0)) (m ((c : Thread nD τ).loc main_arg1))
    (m ((c : Thread nD τ).loc main_arg2)) := by
  refine (dats m 0 c).arrAt_eq_of_covers 12 _ (by decide +kernel) fun t _ y => ?_
  blk_simp
  exact point_12 m c t y

theorem point_13 (c : Dev nD) (t : Fin cfg0.N) (y : S1x4x64x512.Idx) :
    ((dats m 0 c).after 13 t : FVec Ideal S1x4x64x512 .f32) y
      = Cert.AttnInRefIdeal.Term.kc_fm (m ((c : Thread nD τ).loc main_arg0)) (m ((c : Thread nD τ).loc main_arg1))
    (m ((c : Thread nD τ).loc main_arg2)) (((cfg0.win 13).blk t).view.emb y) := by
  idx_vars y
  obtain rfl : y0 = 0 := Subsingleton.elim _ _
  have e : ((cfg0.win 13).blk t).view.emb (ix4 0 y1 y2 y3) = ix4 ⟨t.val / 4, seq_lt t⟩ y1 y2 ⟨t.val % 4 * 512 + y3.val, by omega⟩ := by
    blk_ext [idx t]
  rw [e, Cert.AttnInRefIdeal.Term.kc_fm_apply]
  refine (after_13 m c t y1 y2 y3).trans ?_
  refine (Body.pay19_apply _ _ _ y3 _).trans ((Body.kv_apply _ _ _ y3 _).trans ?_)
  exact Row.proj_congr (fun k => in0 m c t y3 k) (fun k => in1 m c t k)
    (fun k => (in3 m c t k _).trans (col _ k _ _ (by dsimp only; omega)))

/-- The result array `kc_fm` after the run is the reference's. -/
theorem final_13 (c : Dev nD) : (dats m 0 c).arrAt 13 (cfgs 0).N = Cert.AttnInRefIdeal.Term.kc_fm (m ((c : Thread nD τ).loc main_arg0)) (m ((c : Thread nD τ).loc main_arg1))
    (m ((c : Thread nD τ).loc main_arg2)) := by
  refine (dats m 0 c).arrAt_eq_of_covers 13 _ (by decide +kernel) fun t _ y => ?_
  blk_simp
  exact point_13 m c t y

theorem point_14 (c : Dev nD) (t : Fin cfg0.N) (y : S1x4x64x512.Idx) :
    ((dats m 0 c).after 14 t : FVec Ideal S1x4x64x512 .f32) y
      = Cert.AttnInRefIdeal.Term.vc_fm (m ((c : Thread nD τ).loc main_arg0)) (m ((c : Thread nD τ).loc main_arg1))
    (m ((c : Thread nD τ).loc main_arg2)) (((cfg0.win 14).blk t).view.emb y) := by
  idx_vars y
  obtain rfl : y0 = 0 := Subsingleton.elim _ _
  have e : ((cfg0.win 14).blk t).view.emb (ix4 0 y1 y2 y3) = ix4 ⟨t.val / 4, seq_lt t⟩ y1 y2 ⟨t.val % 4 * 512 + y3.val, by omega⟩ := by
    blk_ext [idx t]
  rw [e, Cert.AttnInRefIdeal.Term.vc_fm_apply]
  refine (after_14 m c t y1 y2 y3).trans ?_
  refine (Body.pay20_apply _ _ _ y3 _).trans ((Body.kv_apply _ _ _ y3 _).trans ?_)
  exact Row.proj_congr (fun k => in0 m c t y3 k) (fun k => in1 m c t k)
    (fun k => (in3 m c t k _).trans (col _ k _ _ (by dsimp only; omega)))

/-- The result array `vc_fm` after the run is the reference's. -/
theorem final_14 (c : Dev nD) : (dats m 0 c).arrAt 14 (cfgs 0).N = Cert.AttnInRefIdeal.Term.vc_fm (m ((c : Thread nD τ).loc main_arg0)) (m ((c : Thread nD τ).loc main_arg1))
    (m ((c : Thread nD τ).loc main_arg2)) := by
  refine (dats m 0 c).arrAt_eq_of_covers 14 _ (by decide +kernel) fun t _ y => ?_
  blk_simp
  exact point_14 m c t y

theorem point_15 (c : Dev nD) (t : Fin cfg0.N) (y : S1x4x64x512.Idx) :
    ((dats m 0 c).after 15 t : FVec Ideal S1x4x64x512 .f32) y
      = Cert.AttnInRefIdeal.Term.ks_fm (m ((c : Thread nD τ).loc main_arg0)) (m ((c : Thread nD τ).loc main_arg1))
    (m ((c : Thread nD τ).loc main_arg2)) (((cfg0.win 15).blk t).view.emb y) := by
  idx_vars y
  obtain rfl : y0 = 0 := Subsingleton.elim _ _
  have e : ((cfg0.win 15).blk t).view.emb (ix4 0 y1 y2 y3) = ix4 ⟨t.val / 4, seq_lt t⟩ y1 y2 ⟨t.val % 4 * 512 + y3.val, by omega⟩ := by
    blk_ext [idx t]
  rw [e, Cert.AttnInRefIdeal.Term.ks_fm_apply]
  refine (after_15 m c t y1 y2 y3).trans ?_
  refine (Body.pay21_apply _ _ _ y3 _).trans ((Body.kv_apply _ _ _ y3 _).trans ?_)
  exact Row.proj_congr (fun k => in0 m c t y3 k) (fun k => in1 m c t k)
    (fun k => (in3 m c t k _).trans (col _ k _ _ (by dsimp only; omega)))

/-- The result array `ks_fm` after the run is the reference's. -/
theorem final_15 (c : Dev nD) : (dats m 0 c).arrAt 15 (cfgs 0).N = Cert.AttnInRefIdeal.Term.ks_fm (m ((c : Thread nD τ).loc main_arg0)) (m ((c : Thread nD τ).loc main_arg1))
    (m ((c : Thread nD τ).loc main_arg2)) := by
  refine (dats m 0 c).arrAt_eq_of_covers 15 _ (by decide +kernel) fun t _ y => ?_
  blk_simp
  exact point_15 m c t y

theorem point_16 (c : Dev nD) (t : Fin cfg0.N) (y : S1x4x64x512.Idx) :
    ((dats m 0 c).after 16 t : FVec Ideal S1x4x64x512 .f32) y
      = Cert.AttnInRefIdeal.Term.vs_fm (m ((c : Thread nD τ).loc main_arg0)) (m ((c : Thread nD τ).loc main_arg1))
    (m ((c : Thread nD τ).loc main_arg2)) (((cfg0.win 16).blk t).view.emb y) := by
  idx_vars y
  obtain rfl : y0 = 0 := Subsingleton.elim _ _
  have e : ((cfg0.win 16).blk t).view.emb (ix4 0 y1 y2 y3) = ix4 ⟨t.val / 4, seq_lt t⟩ y1 y2 ⟨t.val % 4 * 512 + y3.val, by omega⟩ := by
    blk_ext [idx t]
  rw [e, Cert.AttnInRefIdeal.Term.vs_fm_apply]
  refine (after_16 m c t y1 y2 y3).trans ?_
  refine (Body.pay22_apply _ _ _ y3 _).trans ((Body.kv_apply _ _ _ y3 _).trans ?_)
  exact Row.proj_congr (fun k => in0 m c t y3 k) (fun k => in1 m c t k)
    (fun k => (in3 m c t k _).trans (col _ k _ _ (by dsimp only; omega)))

/-- The result array `vs_fm` after the run is the reference's. -/
theorem final_16 (c : Dev nD) : (dats m 0 c).arrAt 16 (cfgs 0).N = Cert.AttnInRefIdeal.Term.vs_fm (m ((c : Thread nD τ).loc main_arg0)) (m ((c : Thread nD τ).loc main_arg1))
    (m ((c : Thread nD τ).loc main_arg2)) := by
  refine (dats m 0 c).arrAt_eq_of_covers 16 _ (by decide +kernel) fun t _ y => ?_
  blk_simp
  exact point_16 m c t y

theorem point_17 (c : Dev nD) (t : Fin cfg0.N) (y : S1x4x64x512.Idx) :
    ((dats m 0 c).after 17 t : FVec Ideal S1x4x64x512 .f32) y
      = Cert.AttnInRefIdeal.Term.kw_fm (m ((c : Thread nD τ).loc main_arg0)) (m ((c : Thread nD τ).loc main_arg1))
    (m ((c : Thread nD τ).loc main_arg2)) (((cfg0.win 17).blk t).view.emb y) := by
  idx_vars y
  obtain rfl : y0 = 0 := Subsingleton.elim _ _
  have e : ((cfg0.win 17).blk t).view.emb (ix4 0 y1 y2 y3) = ix4 ⟨t.val / 4, seq_lt t⟩ y1 y2 ⟨t.val % 4 * 512 + y3.val, by omega⟩ := by
    blk_ext [idx t]
  rw [e, Cert.AttnInRefIdeal.Term.kw_fm_apply]
  refine (after_17 m c t y1 y2 y3).trans ?_
  refine (Body.pay23_apply _ _ _ y3 _).trans ((Body.kv_apply _ _ _ y3 _).trans ?_)
  exact Row.proj_congr (fun k => in0 m c t y3 k) (fun k => in1 m c t k)
    (fun k => (in3 m c t k _).trans (col _ k _ _ (by dsimp only; omega)))

/-- The result array `kw_fm` after the run is the reference's. -/
theorem final_17 (c : Dev nD) : (dats m 0 c).arrAt 17 (cfgs 0).N = Cert.AttnInRefIdeal.Term.kw_fm (m ((c : Thread nD τ).loc main_arg0)) (m ((c : Thread nD τ).loc main_arg1))
    (m ((c : Thread nD τ).loc main_arg2)) := by
  refine (dats m 0 c).arrAt_eq_of_covers 17 _ (by decide +kernel) fun t _ y => ?_
  blk_simp
  exact point_17 m c t y

theorem point_18 (c : Dev nD) (t : Fin cfg0.N) (y : S1x4x64x512.Idx) :
    ((dats m 0 c).after 18 t : FVec Ideal S1x4x64x512 .f32) y
      = Cert.AttnInRefIdeal.Term.vw_fm (m ((c : Thread nD τ).loc main_arg0)) (m ((c : Thread nD τ).loc main_arg1))
    (m ((c : Thread nD τ).loc main_arg2)) (((cfg0.win 18).blk t).view.emb y) := by
  idx_vars y
  obtain rfl : y0 = 0 := Subsingleton.elim _ _
  have e : ((cfg0.win 18).blk t).view.emb (ix4 0 y1 y2 y3) = ix4 ⟨t.val / 4, seq_lt t⟩ y1 y2 ⟨t.val % 4 * 512 + y3.val, by omega⟩ := by
    blk_ext [idx t]
  rw [e, Cert.AttnInRefIdeal.Term.vw_fm_apply]
  refine (after_18 m c t y1 y2 y3).trans ?_
  refine (Body.pay24_apply _ _ _ y3 _).trans ((Body.kv_apply _ _ _ y3 _).trans ?_)
  exact Row.proj_congr (fun k => in0 m c t y3 k) (fun k => in1 m c t k)
    (fun k => (in3 m c t k _).trans (col _ k _ _ (by dsimp only; omega)))

/-- The result array `vw_fm` after the run is the reference's. -/
theorem final_18 (c : Dev nD) : (dats m 0 c).arrAt 18 (cfgs 0).N = Cert.AttnInRefIdeal.Term.vw_fm (m ((c : Thread nD τ).loc main_arg0)) (m ((c : Thread nD τ).loc main_arg1))
    (m ((c : Thread nD τ).loc main_arg2)) := by
  refine (dats m 0 c).arrAt_eq_of_covers 18 _ (by decide +kernel) fun t _ y => ?_
  blk_simp
  exact point_18 m c t y

/-- The window is written back at the last point of a sequence only. -/
theorem flush_19 : ∀ t : Fin cfg0.N, (cfg0.win 19).flush t = true → t.val % 4 = 3 :=
  (by decide +kernel : ∀ t : Fin grid0.N, _)

theorem point_19 (c : Dev nD) (t : Fin cfg0.N) (j : t.val % 4 = 3) (y : S1x4x64x512.Idx) :
    ((dats m 0 c).after 19 t : FVec Ideal S1x4x64x512 .f32) y
      = Cert.AttnInRefIdeal.Term.kw_last (m ((c : Thread nD τ).loc main_arg0)) (m ((c : Thread nD τ).loc main_arg1))
    (m ((c : Thread nD τ).loc main_arg2)) (((cfg0.win 19).blk t).view.emb y) := by
  idx_vars y
  obtain rfl : y0 = 0 := Subsingleton.elim _ _
  have e : ((cfg0.win 19).blk t).view.emb (ix4 0 y1 y2 y3) = ix4 ⟨t.val / 4, seq_lt t⟩ y1 y2 y3 := by
    blk_ext [idx t]
  rw [e, Cert.AttnInRefIdeal.Term.kw_last_apply]
  refine (after_19 m c t j y1 y2 y3).trans ?_
  refine (Body.pay23_apply _ _ _ y3 _).trans ((Body.kv_apply _ _ _ y3 _).trans ?_)
  exact Row.proj_congr (fun k => (in0 m c t y3 k).trans (rowx _ k _ _ _ _ rfl (by dsimp only; omega))) (fun k => in1 m c t k)
    (fun k => (in3 m c t k _).trans (col _ k _ _ (by dsimp only; omega)))

/-- The result array `kw_last` after the run is the reference's. -/
theorem final_19 (c : Dev nD) : (dats m 0 c).arrAt 19 (cfgs 0).N = Cert.AttnInRefIdeal.Term.kw_last (m ((c : Thread nD τ).loc main_arg0)) (m ((c : Thread nD τ).loc main_arg1))
    (m ((c : Thread nD τ).loc main_arg2)) := by
  refine (dats m 0 c).arrAt_eq_of_covers 19 _ (by decide +kernel) fun t hf y => ?_
  blk_simp
  exact point_19 m c t (flush_19 t hf) y

/-- The window is written back at the last point of a sequence only. -/
theorem flush_20 : ∀ t : Fin cfg0.N, (cfg0.win 20).flush t = true → t.val % 4 = 3 :=
  (by decide +kernel : ∀ t : Fin grid0.N, _)

theorem point_20 (c : Dev nD) (t : Fin cfg0.N) (j : t.val % 4 = 3) (y : S1x4x64x512.Idx) :
    ((dats m 0 c).after 20 t : FVec Ideal S1x4x64x512 .f32) y
      = Cert.AttnInRefIdeal.Term.vw_last (m ((c : Thread nD τ).loc main_arg0)) (m ((c : Thread nD τ).loc main_arg1))
    (m ((c : Thread nD τ).loc main_arg2)) (((cfg0.win 20).blk t).view.emb y) := by
  idx_vars y
  obtain rfl : y0 = 0 := Subsingleton.elim _ _
  have e : ((cfg0.win 20).blk t).view.emb (ix4 0 y1 y2 y3) = ix4 ⟨t.val / 4, seq_lt t⟩ y1 y2 y3 := by
    blk_ext [idx t]
  rw [e, Cert.AttnInRefIdeal.Term.vw_last_apply]
  refine (after_20 m c t j y1 y2 y3).trans ?_
  refine (Body.pay24_apply _ _ _ y3 _).trans ((Body.kv_apply _ _ _ y3 _).trans ?_)
  exact Row.proj_congr (fun k => (in0 m c t y3 k).trans (rowx _ k _ _ _ _ rfl (by dsimp only; omega))) (fun k => in1 m c t k)
    (fun k => (in3 m c t k _).trans (col _ k _ _ (by dsimp only; omega)))

/-- The result array `vw_last` after the run is the reference's. -/
theorem final_20 (c : Dev nD) : (dats m 0 c).arrAt 20 (cfgs 0).N = Cert.AttnInRefIdeal.Term.vw_last (m ((c : Thread nD τ).loc main_arg0)) (m ((c : Thread nD τ).loc main_arg1))
    (m ((c : Thread nD τ).loc main_arg2)) := by
  refine (dats m 0 c).arrAt_eq_of_covers 20 _ (by decide +kernel) fun t hf y => ?_
  blk_simp
  exact point_20 m c t (flush_20 t hf) y

end Cert.AttnInIdeal.Final

end
-- ==== Proof.AttnInClaim.lean ====
/- The claim on the prompt's projections before attention: the two runs joined, the arrays the kernel ends with (final_5 …
final_20 of AttnInValue.lean) against the arrays the reference ends with. -/
module

public import proofs.«01_k».proof.Proof.AttnInValue
public import Idealize.ShloMosaic.Lib.Claim

@[expose] public section

noncomputable section

namespace Cert.Proof

open Idealize.ShloMosaic Idealize.SL.Sem Cert.AttnInIdeal.Final

set_option maxHeartbeats 4000000 in
/-- The kernel's run: its sixteen result arrays are what the proof data compute, and the three arguments are unchanged. -/
theorem attn_in_run (m : (ℓ : Loc Cert.AttnInIdeal.nD Cert.AttnInIdeal.τ Cert.AttnInIdeal.sig) → Buf (Elt Ideal) ℓ)
    (g : Dev Cert.AttnInIdeal.nD → PrngReg) :
    θ_run (Cert.AttnInIdeal.defs (F := Ideal)) (onTc (τ := Cert.AttnInIdeal.τ) (Cert.AttnInIdeal.main (F := Ideal)))
      ⟨m, fun _ => 0, g⟩ (fun r => ∀ c : Dev Cert.AttnInIdeal.nD,
        r.2.mem ((c.tc : Thread Cert.AttnInIdeal.nD Cert.AttnInIdeal.τ).loc Cert.AttnInIdeal.main_v12_0) = (Cert.AttnInIdeal.Gen.dats m 0 c).arrAt 5 (Cert.AttnInIdeal.cfgs 0).N
        ∧ r.2.mem ((c.tc : Thread Cert.AttnInIdeal.nD Cert.AttnInIdeal.τ).loc Cert.AttnInIdeal.main_v12_1) = (Cert.AttnInIdeal.Gen.dats m 0 c).arrAt 6 (Cert.AttnInIdeal.cfgs 0).N
        ∧ r.2.mem ((c.tc : Thread Cert.AttnInIdeal.nD Cert.AttnInIdeal.τ).loc Cert.AttnInIdeal.main_v12_2) = (Cert.AttnInIdeal.Gen.dats m 0 c).arrAt 7 (Cert.AttnInIdeal.cfgs 0).N
        ∧ r.2.mem ((c.tc : Thread Cert.AttnInIdeal.nD Cert.AttnInIdeal.τ).loc Cert.AttnInIdeal.main_v12_3) = (Cert.AttnInIdeal.Gen.dats m 0 c).arrAt 8 (Cert.AttnInIdeal.cfgs 0).N
        ∧ r.2.mem ((c.tc : Thread Cert.AttnInIdeal.nD Cert.AttnInIdeal.τ).loc Cert.AttnInIdeal.main_v12_4) = (Cert.AttnInIdeal.Gen.dats m 0 c).arrAt 9 (Cert.AttnInIdeal.cfgs 0).N
        ∧ r.2.mem ((c.tc : Thread Cert.AttnInIdeal.nD Cert.AttnInIdeal.τ).loc Cert.AttnInIdeal.main_v12_5) = (Cert.AttnInIdeal.Gen.dats m 0 c).arrAt 10 (Cert.AttnInIdeal.cfgs 0).N
        ∧ r.2.mem ((c.tc : Thread Cert.AttnInIdeal.nD Cert.AttnInIdeal.τ).loc Cert.AttnInIdeal.main_v12_6) = (Cert.AttnInIdeal.Gen.dats m 0 c).arrAt 11 (Cert.AttnInIdeal.cfgs 0).N
        ∧ r.2.mem ((c.tc : Thread Cert.AttnInIdeal.nD Cert.AttnInIdeal.τ).loc Cert.AttnInIdeal.main_v12_7) = (Cert.AttnInIdeal.Gen.dats m 0 c).arrAt 12 (Cert.AttnInIdeal.cfgs 0).N
        ∧ r.2.mem ((c.tc : Thread Cert.AttnInIdeal.nD Cert.AttnInIdeal.τ).loc Cert.AttnInIdeal.main_v12_8) = (Cert.AttnInIdeal.Gen.dats m 0 c).arrAt 13 (Cert.AttnInIdeal.cfgs 0).N
        ∧ r.2.mem ((c.tc : Thread Cert.AttnInIdeal.nD Cert.AttnInIdeal.τ).loc Cert.AttnInIdeal.main_v12_9) = (Cert.AttnInIdeal.Gen.dats m 0 c).arrAt 14 (Cert.AttnInIdeal.cfgs 0).N
        ∧ r.2.mem ((c.tc : Thread Cert.AttnInIdeal.nD Cert.AttnInIdeal.τ).loc Cert.AttnInIdeal.main_v12_10) = (Cert.AttnInIdeal.Gen.dats m 0 c).arrAt 15 (Cert.AttnInIdeal.cfgs 0).N
        ∧ r.2.mem ((c.tc : Thread Cert.AttnInIdeal.nD Cert.AttnInIdeal.τ).loc Cert.AttnInIdeal.main_v12_11) = (Cert.AttnInIdeal.Gen.dats m 0 c).arrAt 16 (Cert.AttnInIdeal.cfgs 0).N
        ∧ r.2.mem ((c.tc : Thread Cert.AttnInIdeal.nD Cert.AttnInIdeal.τ).loc Cert.AttnInIdeal.main_v12_12) = (Cert.AttnInIdeal.Gen.dats m 0 c).arrAt 17 (Cert.AttnInIdeal.cfgs 0).N
        ∧ r.2.mem ((c.tc : Thread Cert.AttnInIdeal.nD Cert.AttnInIdeal.τ).loc Cert.AttnInIdeal.main_v12_13) = (Cert.AttnInIdeal.Gen.dats m 0 c).arrAt 18 (Cert.AttnInIdeal.cfgs 0).N
        ∧ r.2.mem ((c.tc : Thread Cert.AttnInIdeal.nD Cert.AttnInIdeal.τ).loc Cert.AttnInIdeal.main_v12_14) = (Cert.AttnInIdeal.Gen.dats m 0 c).arrAt 19 (Cert.AttnInIdeal.cfgs 0).N
        ∧ r.2.mem ((c.tc : Thread Cert.AttnInIdeal.nD Cert.AttnInIdeal.τ).loc Cert.AttnInIdeal.main_v12_15) = (Cert.AttnInIdeal.Gen.dats m 0 c).arrAt 20 (Cert.AttnInIdeal.cfgs 0).N
        ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
        ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
        ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)) :=
  θ_run_mono (θ_run_and (Cert.AttnInIdeal.Gen.run_main m g) (Cert.AttnInIdeal.Gen.unchanged m g)) fun _ h c =>
    ⟨(h.1 c).1 5, (h.1 c).1 6, (h.1 c).1 7, (h.1 c).1 8, (h.1 c).1 9, (h.1 c).1 10, (h.1 c).1 11, (h.1 c).1 12, (h.1 c).1 13, (h.1 c).1 14, (h.1 c).1 15, (h.1 c).1 16, (h.1 c).1 17, (h.1 c).1 18, (h.1 c).1 19, (h.1 c).1 20, (h.2 c).1, (h.2 c).2.1, (h.2 c).2.2⟩

set_option maxHeartbeats 4000000 in
/-- All sixteen results of the prompt's projections are the reference's on every device, from the same arguments. -/
theorem algebraic_attn_in : Cert.algebraic_AttnInIdeal_AttnInRefIdeal := by
  intro m g m' g' _ hagree
  refine ⟨fun c => (Cert.AttnInIdeal.Gen.dats m 0 c).arrAt 5 (Cert.AttnInIdeal.cfgs 0).N, fun c => (Cert.AttnInIdeal.Gen.dats m 0 c).arrAt 6 (Cert.AttnInIdeal.cfgs 0).N, fun c => (Cert.AttnInIdeal.Gen.dats m 0 c).arrAt 7 (Cert.AttnInIdeal.cfgs 0).N, fun c => (Cert.AttnInIdeal.Gen.dats m 0 c).arrAt 8 (Cert.AttnInIdeal.cfgs 0).N, fun c => (Cert.AttnInIdeal.Gen.dats m 0 c).arrAt 9 (Cert.AttnInIdeal.cfgs 0).N, fun c => (Cert.AttnInIdeal.Gen.dats m 0 c).arrAt 10 (Cert.AttnInIdeal.cfgs 0).N, fun c => (Cert.AttnInIdeal.Gen.dats m 0 c).arrAt 11 (Cert.AttnInIdeal.cfgs 0).N, fun c => (Cert.AttnInIdeal.Gen.dats m 0 c).arrAt 12 (Cert.AttnInIdeal.cfgs 0).N, fun c => (Cert.AttnInIdeal.Gen.dats m 0 c).arrAt 13 (Cert.AttnInIdeal.cfgs 0).N, fun c => (Cert.AttnInIdeal.Gen.dats m 0 c).arrAt 14 (Cert.AttnInIdeal.cfgs 0).N, fun c => (Cert.AttnInIdeal.Gen.dats m 0 c).arrAt 15 (Cert.AttnInIdeal.cfgs 0).N, fun c => (Cert.AttnInIdeal.Gen.dats m 0 c).arrAt 16 (Cert.AttnInIdeal.cfgs 0).N, fun c => (Cert.AttnInIdeal.Gen.dats m 0 c).arrAt 17 (Cert.AttnInIdeal.cfgs 0).N, fun c => (Cert.AttnInIdeal.Gen.dats m 0 c).arrAt 18 (Cert.AttnInIdeal.cfgs 0).N, fun c => (Cert.AttnInIdeal.Gen.dats m 0 c).arrAt 19 (Cert.AttnInIdeal.cfgs 0).N, fun c => (Cert.AttnInIdeal.Gen.dats m 0 c).arrAt 20 (Cert.AttnInIdeal.cfgs 0).N, attn_in_run m g, ?_⟩
  refine θ_run_mono (Cert.AttnInRefIdeal.Value.run m' g') fun r hr c => ?_
  obtain ⟨a0, a1, a2⟩ := hagree c
  obtain ⟨h5, h6, h7, h8, h9, h10, h11, h12, h13, h14, h15, h16, h17, h18, h19, h20, u0, u1, u2⟩ := hr c
  refine ⟨?_, ?_, ?_, ?_, ?_, ?_, ?_, ?_, ?_, ?_, ?_, ?_, ?_, ?_, ?_, ?_, u0, u1, u2⟩
  · refine h5.trans ((show _ = Cert.AttnInRefIdeal.Term.q (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_5 m c).symm
  · refine h6.trans ((show _ = Cert.AttnInRefIdeal.Term.gates (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_6 m c).symm
  · refine h7.trans ((show _ = Cert.AttnInRefIdeal.Term.kc_lo (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_7 m c).symm
  · refine h8.trans ((show _ = Cert.AttnInRefIdeal.Term.kc_hi (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_8 m c).symm
  · refine h9.trans ((show _ = Cert.AttnInRefIdeal.Term.vc_lo (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_9 m c).symm
  · refine h10.trans ((show _ = Cert.AttnInRefIdeal.Term.vc_hi (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_10 m c).symm
  · refine h11.trans ((show _ = Cert.AttnInRefIdeal.Term.ks (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_11 m c).symm
  · refine h12.trans ((show _ = Cert.AttnInRefIdeal.Term.kw (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_12 m c).symm
  · refine h13.trans ((show _ = Cert.AttnInRefIdeal.Term.kc_fm (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_13 m c).symm
  · refine h14.trans ((show _ = Cert.AttnInRefIdeal.Term.vc_fm (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_14 m c).symm
  · refine h15.trans ((show _ = Cert.AttnInRefIdeal.Term.ks_fm (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_15 m c).symm
  · refine h16.trans ((show _ = Cert.AttnInRefIdeal.Term.vs_fm (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_16 m c).symm
  · refine h17.trans ((show _ = Cert.AttnInRefIdeal.Term.kw_fm (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_17 m c).symm
  · refine h18.trans ((show _ = Cert.AttnInRefIdeal.Term.vw_fm (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_18 m c).symm
  · refine h19.trans ((show _ = Cert.AttnInRefIdeal.Term.kw_last (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_19 m c).symm
  · refine h20.trans ((show _ = Cert.AttnInRefIdeal.Term.vw_last (m' ((c.tc : Thread Cert.AttnInRefIdeal.nD Cert.AttnInRefIdeal.τ).loc Cert.AttnInRefIdeal.main_arg0))
      (m' ((c.tc : Thread Cert.AttnInRefIdeal.nD Cert.AttnInRefIdeal.τ).loc Cert.AttnInRefIdeal.main_arg1)) (m' ((c.tc : Thread Cert.AttnInRefIdeal.nD Cert.AttnInRefIdeal.τ).loc Cert.AttnInRefIdeal.main_arg2)) from rfl).trans ?_)
    rw [a0, a1, a2]
    exact (final_20 m c).symm

end Cert.Proof

end
-- ==== Proof.AttnInSValue.lean ====
/- The values of the call that projects the attention layer's input for the sample (`AttnInS`): the queries, the gates and
   the six key and value rows of one token of each sequence. At the ideal instance each of its eight result arrays is the
   reference's, entry by entry. -/
module

public import proofs.«01_k».proof.Defs
public import proofs.«01_k».proof.Proof.Gen.AttnInSIdeal.Frame
public import proofs.«01_k».proof.Proof.Gen.AttnInSRefIdeal.Run
public import proofs.«01_k».proof.Proof.RowAttn
public import Idealize.ShloMosaic.Lib.Pipeline.ValueKit

@[expose] public section

set_option maxRecDepth 16384

noncomputable section

/-! ## The reference -/

namespace Cert.AttnInSRefIdeal.Term

open Cert.AttnInSRefIdeal Cert.AttnInSRefIdeal.Gen Idealize.ShloMosaic Idealize.ShloMosaic.TcCoe Idealize.SL.Sem

/-- RMSNorm along the last axis. -/
def norm (h : FVec Ideal S32x1x1024 .f32) (g : FVec Ideal S1024 .f32) : FVec Ideal S32x1x1024 .f32 :=
  mulf (mulf h (broadcastInDim S32x1x1024 ![0, 1, 2] bcast_S32x1x1_S32x1x1024_0_1_2 (Host.rsqrt (addf (Host.divf
    (broadcastInDim S32x1x1 ![0, 1] bcast_S32x1_S32x1x1_0_1 (Host.reduceAdd (mulf h h) (constant S_ .f32 0x00000000#32)
      reducesTo_S32x1x1024_S32x1_d2 h_S_)) (broadcastInDim S32x1x1 ![] bcast_S_S32x1x1 (constant S_ .f32 0x44800000#32)))
    (broadcastInDim S32x1x1 ![] bcast_S_S32x1x1 (constant S_ .f32 0x358637BD#32))))))
    (broadcastInDim S32x1x1024 ![0, 1, 2] bcast_S1x1x1024_S32x1x1024_0_1_2
      (broadcastInDim S1x1x1024 ![2] bcast_S1024_S1x1x1024_2 g))

theorem norm_apply (h : FVec Ideal S32x1x1024 .f32) (g : FVec Ideal S1024 .f32) (b : Fin 32) (t : Fin 1) (n : Fin 1024) :
    norm h g (ix3 b t n) = Row.rms (fun k => h (ix3 b t k)) (fun k => g (ix1 k)) n := by
  obtain rfl : t = 0 := Subsingleton.elim _ _
  pointwise [norm]
  rfl

variable (x0 : FVec Ideal S32x1x1024 .f32) (x1 : FVec Ideal S2x1024 .f32) (x2 : FVec Ideal S1x1024x2608 .f32)

/-- The normed rows times the whole weight. -/
def proj : FVec Ideal S32x1x2608 .f32 :=
  Host.dotGeneral dot_S32x1x1024_S1024x2608_S32x1x2608_2_0_01_1_n_n none
    (norm x0 (shapeCast _ (extractStridedSlice S1x1024 ![1, 0] x1 slices_S2x1024_S1x1024_1_0) shapeCasts_S1x1024_S1024))
    (shapeCast _ x2 shapeCasts_S1x1024x2608_S1024x2608)

theorem proj_apply (b : Fin 32) (t : Fin 1) (n : Fin 2608) :
    proj x0 x1 x2 (ix3 b t n)
      = Row.proj (fun k => x0 (ix3 b t k)) (fun k => x1 (ix2 1 k)) (fun k => x2 (ix3 0 k n)) := by
  pointwise [proj, norm_apply]
  rfl

/-- The queries. -/
def q : FVec Ideal S32x1024 .f32 :=
  shapeCast _ (extractStridedSlice S32x1x1024 ![0, 0, 0] (proj x0 x1 x2) slices_S32x1x2608_S32x1x1024_0_0_0) shapeCasts_S32x1x1024_S32x1024

theorem q_apply (r : Fin 32) (n : Fin 1024) : q x0 x1 x2 (ix2 r n)
    = Row.proj (fun k => x0 (ix3 r 0 k)) (fun k => x1 (ix2 1 k)) (fun k => x2 (ix3 0 k ⟨n.val, by omega⟩)) := by
  pointwise [q, proj_apply]
  try rfl

/-- The gates, in the first 48 of 128 columns. -/
def gates : FVec Ideal S32x128 .f32 :=
  shapeCast _ (pad S32x1x128 ![0, 0, 0] ![0, 0, 80] ![0, 0, 0] (Host.divf (broadcastInDim S32x1x48 ![] bcast_S_S32x1x48
    (constant S_ .f32 0x3F800000#32)) (addf (broadcastInDim S32x1x48 ![] bcast_S_S32x1x48 (constant S_ .f32 0x3F800000#32))
      (Host.exp (Host.negf (extractStridedSlice S32x1x48 ![0, 0, 2560] (proj x0 x1 x2) slices_S32x1x2608_S32x1x48_0_0_2560)))))
    (id (constant S_ .f32 0x3F000000#32)) pads_S32x1x48_S32x1x128_000_000_0800 h_S_) shapeCasts_S32x1x128_S32x128

theorem gates_apply (r : Fin 32) (n : Fin 128) : gates x0 x1 x2 (ix2 r n) = if h : n.val < 48 then
      Row.logistic (Row.proj (fun k => x0 (ix3 r 0 k)) (fun k => x1 (ix2 1 k)) (fun k => x2 (ix3 0 k ⟨2560 + n.val, by omega⟩)))
    else Ideal.ofBits .f32 0x3F000000#32 := by
  pointwise [gates, proj_apply]
  rfl

/-- The rows `kc`. -/
def kc : FVec Ideal S32x256 .f32 :=
  shapeCast _ (extractStridedSlice S32x1x256 ![0, 0, 1024] (proj x0 x1 x2) slices_S32x1x2608_S32x1x256_0_0_1024) shapeCasts_S32x1x256_S32x256

theorem kc_apply (r : Fin 32) (n : Fin 256) : kc x0 x1 x2 (ix2 r n)
    = Row.proj (fun k => x0 (ix3 r 0 k)) (fun k => x1 (ix2 1 k)) (fun k => x2 (ix3 0 k ⟨1024 + n.val, by omega⟩)) := by
  pointwise [kc, proj_apply]
  try rfl

/-- The rows `vc`. -/
def vc : FVec Ideal S32x256 .f32 :=
  shapeCast _ (extractStridedSlice S32x1x256 ![0, 0, 1280] (proj x0 x1 x2) slices_S32x1x2608_S32x1x256_0_0_1280) shapeCasts_S32x1x256_S32x256

theorem vc_apply (r : Fin 32) (n : Fin 256) : vc x0 x1 x2 (ix2 r n)
    = Row.proj (fun k => x0 (ix3 r 0 k)) (fun k => x1 (ix2 1 k)) (fun k => x2 (ix3 0 k ⟨1280 + n.val, by omega⟩)) := by
  pointwise [vc, proj_apply]
  try rfl

/-- The rows `ks`. -/
def ks : FVec Ideal S32x256 .f32 :=
  shapeCast _ (extractStridedSlice S32x1x256 ![0, 0, 1536] (proj x0 x1 x2) slices_S32x1x2608_S32x1x256_0_0_1536) shapeCasts_S32x1x256_S32x256

theorem ks_apply (r : Fin 32) (n : Fin 256) : ks x0 x1 x2 (ix2 r n)
    = Row.proj (fun k => x0 (ix3 r 0 k)) (fun k => x1 (ix2 1 k)) (fun k => x2 (ix3 0 k ⟨1536 + n.val, by omega⟩)) := by
  pointwise [ks, proj_apply]
  try rfl

/-- The rows `vs`. -/
def vs : FVec Ideal S32x256 .f32 :=
  shapeCast _ (extractStridedSlice S32x1x256 ![0, 0, 1792] (proj x0 x1 x2) slices_S32x1x2608_S32x1x256_0_0_1792) shapeCasts_S32x1x256_S32x256

theorem vs_apply (r : Fin 32) (n : Fin 256) : vs x0 x1 x2 (ix2 r n)
    = Row.proj (fun k => x0 (ix3 r 0 k)) (fun k => x1 (ix2 1 k)) (fun k => x2 (ix3 0 k ⟨1792 + n.val, by omega⟩)) := by
  pointwise [vs, proj_apply]
  try rfl

/-- The rows `kw`. -/
def kw : FVec Ideal S32x256 .f32 :=
  shapeCast _ (extractStridedSlice S32x1x256 ![0, 0, 2048] (proj x0 x1 x2) slices_S32x1x2608_S32x1x256_0_0_2048) shapeCasts_S32x1x256_S32x256

theorem kw_apply (r : Fin 32) (n : Fin 256) : kw x0 x1 x2 (ix2 r n)
    = Row.proj (fun k => x0 (ix3 r 0 k)) (fun k => x1 (ix2 1 k)) (fun k => x2 (ix3 0 k ⟨2048 + n.val, by omega⟩)) := by
  pointwise [kw, proj_apply]
  try rfl

/-- The rows `vw`. -/
def vw : FVec Ideal S32x256 .f32 :=
  shapeCast _ (extractStridedSlice S32x1x256 ![0, 0, 2304] (proj x0 x1 x2) slices_S32x1x2608_S32x1x256_0_0_2304) shapeCasts_S32x1x256_S32x256

theorem vw_apply (r : Fin 32) (n : Fin 256) : vw x0 x1 x2 (ix2 r n)
    = Row.proj (fun k => x0 (ix3 r 0 k)) (fun k => x1 (ix2 1 k)) (fun k => x2 (ix3 0 k ⟨2304 + n.val, by omega⟩)) := by
  pointwise [vw, proj_apply]
  try rfl

end Cert.AttnInSRefIdeal.Term

/-! ## The kernel -/

namespace Cert.AttnInSIdeal.Final

open Cert.AttnInSIdeal Cert.AttnInSIdeal.Gen Idealize.ShloMosaic Idealize.ShloMosaic.TcCoe Idealize.SL.Sem
open Idealize.ShloMosaic.Pipeline (Dat)

/-- The offsets of a store that begins at the array's first entry. -/
theorem off : (![0, 0] : Fin 2 → Nat) = fun _ => 0 := funext fun a => by fin_cases a <;> rfl

/-- The norm of a row of the block. -/
theorem pay8_apply (v0 : Vec Ideal S32x1024 .f32) (v2 : Vec Ideal S1x1024 .f32) (r : Fin 32) (n : Fin 1024) :
    k0_pay8 (F := Ideal) v0 v2 (ix2 r n) = Row.rms (fun k => v0 (ix2 r k)) (fun k => v2 (ix2 0 k)) n := by
  pointwise [k0_pay8]
  rfl

variable (x0 : Vec Ideal S32x1024 .f32) (x1 : Vec Ideal S1x1024 .f32) (x2 : Vec Ideal S1024x1024 .bf16)
  (x3 : Vec Ideal S1024x1536 .bf16) (x4 : Vec Ideal S1024x128 .bf16)

theorem q_apply (r : Fin 32) (n : Fin 1024) : out0_5 (F := Ideal) x0 x1 x2 x3 x4 (ix2 r n)
    = Row.proj (fun k => x0 (ix2 r k)) (fun k => x1 (ix2 0 k)) (fun k => x2 (ix2 k n)) := by
  unfold_out out0_5
  rw [View.canon_unit_zero off]
  pointwise [k0_pay9, pay8_apply]
  rfl

theorem gates_apply (r : Fin 32) (n : Fin 128) : out0_6 (F := Ideal) x0 x1 x2 x3 x4 (ix2 r n)
    = Row.logistic (Row.proj (fun k => x0 (ix2 r k)) (fun k => x1 (ix2 0 k)) (fun k => x4 (ix2 k n))) := by
  unfold_out out0_6
  rw [View.canon_unit_zero off]
  pointwise [k0_pay10, pay8_apply]
  simp only [zero_sub]
  rfl

theorem kc_apply (r : Fin 32) (n : Fin 256) : out0_7 (F := Ideal) x0 x1 x2 x3 x4 (ix2 r n)
    = Row.proj (fun k => x0 (ix2 r k)) (fun k => x1 (ix2 0 k)) (fun k => x3 (ix2 k ⟨0 + n.val, by omega⟩)) := by
  unfold_out out0_7
  rw [View.canon_unit_zero off]
  pointwise [k0_pay2, k0_pay1, k0_pay11, pay8_apply]
  try rfl

theorem vc_apply (r : Fin 32) (n : Fin 256) : out0_8 (F := Ideal) x0 x1 x2 x3 x4 (ix2 r n)
    = Row.proj (fun k => x0 (ix2 r k)) (fun k => x1 (ix2 0 k)) (fun k => x3 (ix2 k ⟨256 + n.val, by omega⟩)) := by
  unfold_out out0_8
  rw [View.canon_unit_zero off]
  pointwise [k0_pay3, k0_pay1, k0_pay11, pay8_apply]
  try rfl

theorem ks_apply (r : Fin 32) (n : Fin 256) : out0_9 (F := Ideal) x0 x1 x2 x3 x4 (ix2 r n)
    = Row.proj (fun k => x0 (ix2 r k)) (fun k => x1 (ix2 0 k)) (fun k => x3 (ix2 k ⟨512 + n.val, by omega⟩)) := by
  unfold_out out0_9
  rw [View.canon_unit_zero off]
  pointwise [k0_pay4, k0_pay1, k0_pay11, pay8_apply]
  try rfl

theorem vs_apply (r : Fin 32) (n : Fin 256) : out0_10 (F := Ideal) x0 x1 x2 x3 x4 (ix2 r n)
    = Row.proj (fun k => x0 (ix2 r k)) (fun k => x1 (ix2 0 k)) (fun k => x3 (ix2 k ⟨768 + n.val, by omega⟩)) := by
  unfold_out out0_10
  rw [View.canon_unit_zero off]
  pointwise [k0_pay5, k0_pay1, k0_pay11, pay8_apply]
  try rfl

theorem kw_apply (r : Fin 32) (n : Fin 256) : out0_11 (F := Ideal) x0 x1 x2 x3 x4 (ix2 r n)
    = Row.proj (fun k => x0 (ix2 r k)) (fun k => x1 (ix2 0 k)) (fun k => x3 (ix2 k ⟨1024 + n.val, by omega⟩)) := by
  unfold_out out0_11
  rw [View.canon_unit_zero off]
  pointwise [k0_pay6, k0_pay1, k0_pay11, pay8_apply]
  try rfl

theorem vw_apply (r : Fin 32) (n : Fin 256) : out0_12 (F := Ideal) x0 x1 x2 x3 x4 (ix2 r n)
    = Row.proj (fun k => x0 (ix2 r k)) (fun k => x1 (ix2 0 k)) (fun k => x3 (ix2 k ⟨1280 + n.val, by omega⟩)) := by
  unfold_out out0_12
  rw [View.canon_unit_zero off]
  pointwise [k0_pay7, k0_pay1, k0_pay11, pay8_apply]
  try rfl

variable (m : (ℓ : Loc nD τ sig) → Buf (Elt Ideal) ℓ)

/-- One point: every window holds its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

theorem flat (c : Dev nD) (b : Ref sig .tc) :
    V m c b = StableHlo.after (hostOps0 ++ (hostOps0_1 ++ hostOps0_2)) (fun b => m (c, b)) b := rfl

/-! The five input arrays of the call, as the lines before it make them of the arguments. -/

theorem v1 (c : Dev nD) : V m c main_v1
    = shapeCast S32x1024 (m ((c : Thread nD τ).loc main_arg0)) shapeCasts_S32x1x1024_S32x1024 := by
  rw [flat]
  simp only [List.cons_append, List.nil_append]
  entry_read
  try rfl

theorem v4 (c : Dev nD) : V m c main_v4 = shapeCast S1x1024 (shapeCast S1024 (extractStridedSlice S1x1024 ![1, 0]
    (m ((c : Thread nD τ).loc main_arg1) : Vec Ideal S2x1024 .f32) slices_S2x1024_S1x1024_1_0) shapeCasts_S1x1024_S1024)
    shapeCasts_S1024_S1x1024 := by
  rw [flat]
  simp only [List.cons_append, List.nil_append]
  entry_read
  try rfl

/-- The weight without its leading axis. -/
def w2 (w : FVec Ideal S1x1024x2608 .f32) : FVec Ideal S1024x2608 .f32 := shapeCast _ w shapeCasts_S1x1024x2608_S1024x2608

theorem w2_apply (w : FVec Ideal S1x1024x2608 .f32) (k : Fin 1024) (n : Fin 2608) : w2 w (ix2 k n) = w (ix3 0 k n) := by
  pointwise [w2]
  try rfl

theorem v6 (c : Dev nD) : V m c main_v6 = truncf .bf16 (extractStridedSlice S1024x1024 ![0, 0]
    (w2 (m ((c : Thread nD τ).loc main_arg2))) slices_S1024x2608_S1024x1024_0_0) bitsLt_bf16_f32 := by
  rw [flat]
  simp only [List.cons_append, List.nil_append]
  entry_read
  try rfl

theorem v8 (c : Dev nD) : V m c main_v8 = truncf .bf16 (extractStridedSlice S1024x1536 ![0, 1024]
    (w2 (m ((c : Thread nD τ).loc main_arg2))) slices_S1024x2608_S1024x1536_0_1024) bitsLt_bf16_f32 := by
  rw [flat]
  simp only [List.cons_append, List.nil_append]
  entry_read
  try rfl

theorem v11 (c : Dev nD) : V m c main_v11 = truncf .bf16 (pad S1024x128 ![0, 0] ![0, 80] ![0, 0]
    (extractStridedSlice S1024x48 ![0, 2560] (w2 (m ((c : Thread nD τ).loc main_arg2))) slices_S1024x2608_S1024x48_0_2560)
    (sitofp .f32 (constantI S_ 32 0#32)) pads_S1024x48_S1024x128_000_0800 h_S_) bitsLt_bf16_f32 := by
  rw [flat]
  simp only [List.cons_append, List.nil_append]
  entry_read
  try rfl

/-! The blocks of the five input windows at a point, entry by entry. -/

/-- A column of the weight, by its number. -/
theorem col (w : Vec Ideal S1x1024x2608 .f32) (k : Fin 1024) (a b : Fin 2608) (h : a.val = b.val) :
    w (ix3 0 k a) = w (ix3 0 k b) := by
  rw [Fin.ext h]

theorem in0 (c : Dev nD) (t : Fin cfg0.N) (r : Fin 32) (k : Fin 1024) : (iblk m c 0 t : Vec Ideal S32x1024 .f32) (ix2 r k)
    = (m ((c : Thread nD τ).loc main_arg0) : Vec Ideal S32x1x1024 .f32) (ix3 r 0 k) := by
  have e : ((cfg0.win 0).blk t).view.emb (ix2 r k) = ix2 r k := by
    blk_ext [idx t]
  refine (congrArg (V m c main_v1) e).trans ?_
  rw [v1]
  pointwise
  try rfl

theorem in1 (c : Dev nD) (t : Fin cfg0.N) (k : Fin 1024) : (iblk m c 1 t : Vec Ideal S1x1024 .f32) (ix2 0 k)
    = (m ((c : Thread nD τ).loc main_arg1) : Vec Ideal S2x1024 .f32) (ix2 1 k) := by
  have e : ((cfg0.win 1).blk t).view.emb (ix2 0 k) = ix2 0 k := by
    blk_ext [idx t]
  refine (congrArg (V m c main_v4) e).trans ?_
  rw [v4]
  pointwise
  try rfl

theorem in2 (c : Dev nD) (t : Fin cfg0.N) (k n : Fin 1024) : (iblk m c 2 t : Vec Ideal S1024x1024 .bf16) (ix2 k n)
    = (m ((c : Thread nD τ).loc main_arg2) : Vec Ideal S1x1024x2608 .f32) (ix3 0 k ⟨n.val, by omega⟩) := by
  have e : ((cfg0.win 2).blk t).view.emb (ix2 k n) = ix2 k n := by
    blk_ext [idx t]
  refine (congrArg (V m c main_v6) e).trans ?_
  rw [v6]
  pointwise [w2_apply]
  try rfl

theorem in3 (c : Dev nD) (t : Fin cfg0.N) (k : Fin 1024) (n : Fin 1536) :
    (iblk m c 3 t : Vec Ideal S1024x1536 .bf16) (ix2 k n)
      = (m ((c : Thread nD τ).loc main_arg2) : Vec Ideal S1x1024x2608 .f32) (ix3 0 k ⟨1024 + n.val, by omega⟩) := by
  have e : ((cfg0.win 3).blk t).view.emb (ix2 k n) = ix2 k n := by
    blk_ext [idx t]
  refine (congrArg (V m c main_v8) e).trans ?_
  rw [v8]
  pointwise [w2_apply]
  try rfl

/-- The columns of the gates are padded with columns of zeros. -/
theorem in4 (c : Dev nD) (t : Fin cfg0.N) (k : Fin 1024) (n : Fin 128) :
    (iblk m c 4 t : Vec Ideal S1024x128 .bf16) (ix2 k n) = (if h : n.val < 48 then
      (m ((c : Thread nD τ).loc main_arg2) : FVec Ideal S1x1024x2608 .f32) (ix3 0 k ⟨2560 + n.val, by omega⟩)
      else 0 : EReal) := by
  have e : ((cfg0.win 4).blk t).view.emb (ix2 k n) = ix2 k n := by
    blk_ext [idx t]
  refine (congrArg (V m c main_v11) e).trans ?_
  rw [v11]
  pointwise [w2_apply]
  have z : FloatOps.sitofp (F := Ideal) .f32 (0#32) = 0 := by
    change (((0#32 : BitVec 32).toInt : ℝ) : EReal) = 0
    simp
  by_cases h : n.val < 48
  · rw [dif_pos h, dif_pos h]
  · rw [dif_neg h, dif_neg h, z]

theorem point_q (c : Dev nD) (t : Fin cfg0.N) (y : S32x1024.Idx) :
    out0_5 (F := Ideal) (iblk m c 0 t) (iblk m c 1 t) (iblk m c 2 t) (iblk m c 3 t) (iblk m c 4 t) y
      = Cert.AttnInSRefIdeal.Term.q (m ((c : Thread nD τ).loc main_arg0)) (m ((c : Thread nD τ).loc main_arg1))
    (m ((c : Thread nD τ).loc main_arg2)) (((cfg0.win 5).blk t).view.emb y) := by
  idx_vars y
  have e : ((cfg0.win 5).blk t).view.emb (ix2 y0 y1) = ix2 y0 y1 := by
    blk_ext [idx t]
  rw [e, Cert.AttnInSRefIdeal.Term.q_apply]
  refine (q_apply _ _ _ _ _ y0 y1).trans ?_
  exact Row.proj_congr (fun k => in0 m c t y0 k) (fun k => in1 m c t k) (fun k => in2 m c t k y1)

/-- The result array `q` after the run is the reference's. -/
theorem final_q (c : Dev nD) : (dats m 0 c).arrAt 5 (cfgs 0).N = Cert.AttnInSRefIdeal.Term.q (m ((c : Thread nD τ).loc main_arg0)) (m ((c : Thread nD τ).loc main_arg1))
    (m ((c : Thread nD τ).loc main_arg2)) := by
  refine (dats m 0 c).arrAt_eq_of_covers 5 _ (by decide +kernel) fun t _ y => ?_
  blk_simp
  rw [after0_5]
  exact point_q m c t y

theorem point_gates (c : Dev nD) (t : Fin cfg0.N) (y : S32x128.Idx) :
    out0_6 (F := Ideal) (iblk m c 0 t) (iblk m c 1 t) (iblk m c 2 t) (iblk m c 3 t) (iblk m c 4 t) y
      = Cert.AttnInSRefIdeal.Term.gates (m ((c : Thread nD τ).loc main_arg0)) (m ((c : Thread nD τ).loc main_arg1))
    (m ((c : Thread nD τ).loc main_arg2)) (((cfg0.win 6).blk t).view.emb y) := by
  idx_vars y
  have e : ((cfg0.win 6).blk t).view.emb (ix2 y0 y1) = ix2 y0 y1 := by
    blk_ext [idx t]
  rw [e, Cert.AttnInSRefIdeal.Term.gates_apply]
  refine (gates_apply _ _ _ _ _ y0 y1).trans ?_
  by_cases h : y1.val < 48
  · rw [dif_pos h]
    exact congrArg Row.logistic (Row.proj_congr (fun k => in0 m c t y0 k) (fun k => in1 m c t k)
      (fun k => (in4 m c t k y1).trans (dif_pos h)))
  · rw [dif_neg h]
    exact (congrArg Row.logistic (Row.proj_congr (fun k => in0 m c t y0 k) (fun k => in1 m c t k)
      (fun k => (in4 m c t k y1).trans (dif_neg h)))).trans (Row.gate_zero _ _)

/-- The result array `gates` after the run is the reference's. -/
theorem final_gates (c : Dev nD) : (dats m 0 c).arrAt 6 (cfgs 0).N = Cert.AttnInSRefIdeal.Term.gates (m ((c : Thread nD τ).loc main_arg0)) (m ((c : Thread nD τ).loc main_arg1))
    (m ((c : Thread nD τ).loc main_arg2)) := by
  refine (dats m 0 c).arrAt_eq_of_covers 6 _ (by decide +kernel) fun t _ y => ?_
  blk_simp
  rw [after0_6]
  exact point_gates m c t y

theorem point_kc (c : Dev nD) (t : Fin cfg0.N) (y : S32x256.Idx) :
    out0_7 (F := Ideal) (iblk m c 0 t) (iblk m c 1 t) (iblk m c 2 t) (iblk m c 3 t) (iblk m c 4 t) y
      = Cert.AttnInSRefIdeal.Term.kc (m ((c : Thread nD τ).loc main_arg0)) (m ((c : Thread nD τ).loc main_arg1))
    (m ((c : Thread nD τ).loc main_arg2)) (((cfg0.win 7).blk t).view.emb y) := by
  idx_vars y
  have e : ((cfg0.win 7).blk t).view.emb (ix2 y0 y1) = ix2 y0 y1 := by
    blk_ext [idx t]
  rw [e, Cert.AttnInSRefIdeal.Term.kc_apply]
  refine (kc_apply _ _ _ _ _ y0 y1).trans ?_
  exact Row.proj_congr (fun k => in0 m c t y0 k) (fun k => in1 m c t k)
    (fun k => (in3 m c t k ⟨0 + y1.val, by omega⟩).trans (col _ k _ _ (by dsimp only; omega)))

/-- The result array `kc` after the run is the reference's. -/
theorem final_kc (c : Dev nD) : (dats m 0 c).arrAt 7 (cfgs 0).N = Cert.AttnInSRefIdeal.Term.kc (m ((c : Thread nD τ).loc main_arg0)) (m ((c : Thread nD τ).loc main_arg1))
    (m ((c : Thread nD τ).loc main_arg2)) := by
  refine (dats m 0 c).arrAt_eq_of_covers 7 _ (by decide +kernel) fun t _ y => ?_
  blk_simp
  rw [after0_7]
  exact point_kc m c t y

theorem point_vc (c : Dev nD) (t : Fin cfg0.N) (y : S32x256.Idx) :
    out0_8 (F := Ideal) (iblk m c 0 t) (iblk m c 1 t) (iblk m c 2 t) (iblk m c 3 t) (iblk m c 4 t) y
      = Cert.AttnInSRefIdeal.Term.vc (m ((c : Thread nD τ).loc main_arg0)) (m ((c : Thread nD τ).loc main_arg1))
    (m ((c : Thread nD τ).loc main_arg2)) (((cfg0.win 8).blk t).view.emb y) := by
  idx_vars y
  have e : ((cfg0.win 8).blk t).view.emb (ix2 y0 y1) = ix2 y0 y1 := by
    blk_ext [idx t]
  rw [e, Cert.AttnInSRefIdeal.Term.vc_apply]
  refine (vc_apply _ _ _ _ _ y0 y1).trans ?_
  exact Row.proj_congr (fun k => in0 m c t y0 k) (fun k => in1 m c t k)
    (fun k => (in3 m c t k ⟨256 + y1.val, by omega⟩).trans (col _ k _ _ (by dsimp only; omega)))

/-- The result array `vc` after the run is the reference's. -/
theorem final_vc (c : Dev nD) : (dats m 0 c).arrAt 8 (cfgs 0).N = Cert.AttnInSRefIdeal.Term.vc (m ((c : Thread nD τ).loc main_arg0)) (m ((c : Thread nD τ).loc main_arg1))
    (m ((c : Thread nD τ).loc main_arg2)) := by
  refine (dats m 0 c).arrAt_eq_of_covers 8 _ (by decide +kernel) fun t _ y => ?_
  blk_simp
  rw [after0_8]
  exact point_vc m c t y

theorem point_ks (c : Dev nD) (t : Fin cfg0.N) (y : S32x256.Idx) :
    out0_9 (F := Ideal) (iblk m c 0 t) (iblk m c 1 t) (iblk m c 2 t) (iblk m c 3 t) (iblk m c 4 t) y
      = Cert.AttnInSRefIdeal.Term.ks (m ((c : Thread nD τ).loc main_arg0)) (m ((c : Thread nD τ).loc main_arg1))
    (m ((c : Thread nD τ).loc main_arg2)) (((cfg0.win 9).blk t).view.emb y) := by
  idx_vars y
  have e : ((cfg0.win 9).blk t).view.emb (ix2 y0 y1) = ix2 y0 y1 := by
    blk_ext [idx t]
  rw [e, Cert.AttnInSRefIdeal.Term.ks_apply]
  refine (ks_apply _ _ _ _ _ y0 y1).trans ?_
  exact Row.proj_congr (fun k => in0 m c t y0 k) (fun k => in1 m c t k)
    (fun k => (in3 m c t k ⟨512 + y1.val, by omega⟩).trans (col _ k _ _ (by dsimp only; omega)))

/-- The result array `ks` after the run is the reference's. -/
theorem final_ks (c : Dev nD) : (dats m 0 c).arrAt 9 (cfgs 0).N = Cert.AttnInSRefIdeal.Term.ks (m ((c : Thread nD τ).loc main_arg0)) (m ((c : Thread nD τ).loc main_arg1))
    (m ((c : Thread nD τ).loc main_arg2)) := by
  refine (dats m 0 c).arrAt_eq_of_covers 9 _ (by decide +kernel) fun t _ y => ?_
  blk_simp
  rw [after0_9]
  exact point_ks m c t y

theorem point_vs (c : Dev nD) (t : Fin cfg0.N) (y : S32x256.Idx) :
    out0_10 (F := Ideal) (iblk m c 0 t) (iblk m c 1 t) (iblk m c 2 t) (iblk m c 3 t) (iblk m c 4 t) y
      = Cert.AttnInSRefIdeal.Term.vs (m ((c : Thread nD τ).loc main_arg0)) (m ((c : Thread nD τ).loc main_arg1))
    (m ((c : Thread nD τ).loc main_arg2)) (((cfg0.win 10).blk t).view.emb y) := by
  idx_vars y
  have e : ((cfg0.win 10).blk t).view.emb (ix2 y0 y1) = ix2 y0 y1 := by
    blk_ext [idx t]
  rw [e, Cert.AttnInSRefIdeal.Term.vs_apply]
  refine (vs_apply _ _ _ _ _ y0 y1).trans ?_
  exact Row.proj_congr (fun k => in0 m c t y0 k) (fun k => in1 m c t k)
    (fun k => (in3 m c t k ⟨768 + y1.val, by omega⟩).trans (col _ k _ _ (by dsimp only; omega)))

/-- The result array `vs` after the run is the reference's. -/
theorem final_vs (c : Dev nD) : (dats m 0 c).arrAt 10 (cfgs 0).N = Cert.AttnInSRefIdeal.Term.vs (m ((c : Thread nD τ).loc main_arg0)) (m ((c : Thread nD τ).loc main_arg1))
    (m ((c : Thread nD τ).loc main_arg2)) := by
  refine (dats m 0 c).arrAt_eq_of_covers 10 _ (by decide +kernel) fun t _ y => ?_
  blk_simp
  rw [after0_10]
  exact point_vs m c t y

theorem point_kw (c : Dev nD) (t : Fin cfg0.N) (y : S32x256.Idx) :
    out0_11 (F := Ideal) (iblk m c 0 t) (iblk m c 1 t) (iblk m c 2 t) (iblk m c 3 t) (iblk m c 4 t) y
      = Cert.AttnInSRefIdeal.Term.kw (m ((c : Thread nD τ).loc main_arg0)) (m ((c : Thread nD τ).loc main_arg1))
    (m ((c : Thread nD τ).loc main_arg2)) (((cfg0.win 11).blk t).view.emb y) := by
  idx_vars y
  have e : ((cfg0.win 11).blk t).view.emb (ix2 y0 y1) = ix2 y0 y1 := by
    blk_ext [idx t]
  rw [e, Cert.AttnInSRefIdeal.Term.kw_apply]
  refine (kw_apply _ _ _ _ _ y0 y1).trans ?_
  exact Row.proj_congr (fun k => in0 m c t y0 k) (fun k => in1 m c t k)
    (fun k => (in3 m c t k ⟨1024 + y1.val, by omega⟩).trans (col _ k _ _ (by dsimp only; omega)))

/-- The result array `kw` after the run is the reference's. -/
theorem final_kw (c : Dev nD) : (dats m 0 c).arrAt 11 (cfgs 0).N = Cert.AttnInSRefIdeal.Term.kw (m ((c : Thread nD τ).loc main_arg0)) (m ((c : Thread nD τ).loc main_arg1))
    (m ((c : Thread nD τ).loc main_arg2)) := by
  refine (dats m 0 c).arrAt_eq_of_covers 11 _ (by decide +kernel) fun t _ y => ?_
  blk_simp
  rw [after0_11]
  exact point_kw m c t y

theorem point_vw (c : Dev nD) (t : Fin cfg0.N) (y : S32x256.Idx) :
    out0_12 (F := Ideal) (iblk m c 0 t) (iblk m c 1 t) (iblk m c 2 t) (iblk m c 3 t) (iblk m c 4 t) y
      = Cert.AttnInSRefIdeal.Term.vw (m ((c : Thread nD τ).loc main_arg0)) (m ((c : Thread nD τ).loc main_arg1))
    (m ((c : Thread nD τ).loc main_arg2)) (((cfg0.win 12).blk t).view.emb y) := by
  idx_vars y
  have e : ((cfg0.win 12).blk t).view.emb (ix2 y0 y1) = ix2 y0 y1 := by
    blk_ext [idx t]
  rw [e, Cert.AttnInSRefIdeal.Term.vw_apply]
  refine (vw_apply _ _ _ _ _ y0 y1).trans ?_
  exact Row.proj_congr (fun k => in0 m c t y0 k) (fun k => in1 m c t k)
    (fun k => (in3 m c t k ⟨1280 + y1.val, by omega⟩).trans (col _ k _ _ (by dsimp only; omega)))

/-- The result array `vw` after the run is the reference's. -/
theorem final_vw (c : Dev nD) : (dats m 0 c).arrAt 12 (cfgs 0).N = Cert.AttnInSRefIdeal.Term.vw (m ((c : Thread nD τ).loc main_arg0)) (m ((c : Thread nD τ).loc main_arg1))
    (m ((c : Thread nD τ).loc main_arg2)) := by
  refine (dats m 0 c).arrAt_eq_of_covers 12 _ (by decide +kernel) fun t _ y => ?_
  blk_simp
  rw [after0_12]
  exact point_vw m c t y

end Cert.AttnInSIdeal.Final

namespace Cert.Proof

open Idealize.ShloMosaic Idealize.SL.Sem Cert.AttnInSIdeal.Final

set_option maxHeartbeats 4000000 in
/-- All eight results of the sample's projections are the reference's on every device, from the same arguments. -/
theorem algebraic_attn_in_s : Cert.algebraic_AttnInSIdeal_AttnInSRefIdeal := by
  pair_intro
  · run_from Cert.AttnInSIdeal.Gen.run_main m g
    · exact Cert.AttnInSIdeal.Gen.V_main_arg0 m _
    · exact Cert.AttnInSIdeal.Gen.V_main_arg1 m _
    · exact Cert.AttnInSIdeal.Gen.V_main_arg2 m _
  · run_from Cert.AttnInSRefIdeal.Value.run m' g'
    · exact (final_q m _).symm
    · exact (final_gates m _).symm
    · exact (final_kc m _).symm
    · exact (final_vc m _).symm
    · exact (final_ks m _).symm
    · exact (final_vs m _).symm
    · exact (final_kw m _).symm
    · exact (final_vw m _).symm

end Cert.Proof

end
-- ==== Proof.MlpSValue.lean ====
/- The values of the call that ends a layer for the sample, one token of each sequence (`MlpS`): the attention's output projection, the feed-forward layer, the
   per-layer embedding's gate and the final norm. At the ideal instance its result array is the reference's, entry by
   entry: both are the row function `Cert.Row.half` of the same rows. -/
module

public import proofs.«01_k».proof.Defs
public import proofs.«01_k».proof.Proof.Gen.MlpSIdeal.Frame
public import proofs.«01_k».proof.Proof.Gen.MlpSRefIdeal.Run
public import proofs.«01_k».proof.Proof.Row
public import Idealize.ShloMosaic.Lib.Pipeline.ValueKit

@[expose] public section

set_option maxRecDepth 16384

noncomputable section

/-! ## The reference, stage by stage -/

namespace Cert.MlpSRefIdeal.Term

open Cert.MlpSRefIdeal Cert.MlpSRefIdeal.Gen Idealize.ShloMosaic Idealize.ShloMosaic.TcCoe Idealize.SL.Sem

/-- RMSNorm along the last axis. -/
def norm (h : FVec Ideal S32x1x1024 .f32) (g : FVec Ideal S1024 .f32) : FVec Ideal S32x1x1024 .f32 :=
  mulf (mulf h (broadcastInDim S32x1x1024 ![0, 1, 2] bcast_S32x1x1_S32x1x1024_0_1_2 (Host.rsqrt (addf (Host.divf
    (broadcastInDim S32x1x1 ![0, 1] bcast_S32x1_S32x1x1_0_1 (Host.reduceAdd (mulf h h) (constant S_ .f32 0x00000000#32)
      reducesTo_S32x1x1024_S32x1_d2 h_S_)) (broadcastInDim S32x1x1 ![] bcast_S_S32x1x1 (constant S_ .f32 0x44800000#32)))
    (broadcastInDim S32x1x1 ![] bcast_S_S32x1x1 (constant S_ .f32 0x358637BD#32))))))
    (broadcastInDim S32x1x1024 ![0, 1, 2] bcast_S1x1x1024_S32x1x1024_0_1_2
      (broadcastInDim S1x1x1024 ![2] bcast_S1024_S1x1x1024_2 g))

/-- The residual plus the attention's output projected. -/
def pre (x o : FVec Ideal S32x1x1024 .f32) (w : FVec Ideal S1024x1024 .f32) : FVec Ideal S32x1x1024 .f32 :=
  addf x (Host.dotGeneral dot_S32x1x1024_S1024x1024_S32x1x1024_2_0_01_1_n_n none o w)

/-- The residual plus the feed-forward layer of `n`. -/
def ffn (h n : FVec Ideal S32x1x1024 .f32) (U : FVec Ideal S1024x4096 .f32) (D : FVec Ideal S4096x1024 .f32) :
    FVec Ideal S32x1x1024 .f32 :=
  addf h (Host.dotGeneral dot_S32x1x4096_S4096x1024_S32x1x1024_2_0_01_1_n_n none
    (mulf (maximumf (Host.dotGeneral dot_S32x1x1024_S1024x4096_S32x1x4096_2_0_01_1_n_n none n U)
        (broadcastInDim S32x1x4096 ![] bcast_S_S32x1x4096 (constant S_ .f32 0x00000000#32)))
      (maximumf (Host.dotGeneral dot_S32x1x1024_S1024x4096_S32x1x4096_2_0_01_1_n_n none n U)
        (broadcastInDim S32x1x4096 ![] bcast_S_S32x1x4096 (constant S_ .f32 0x00000000#32)))) D)

/-- The residual plus the per-layer embedding `p` projected by `Q`, gated by the logistic function of `n` times `W`. -/
def ple (h n : FVec Ideal S32x1x1024 .f32) (W : FVec Ideal S1024x1024 .f32) (p : FVec Ideal S32x1x256 .f32)
    (Q : FVec Ideal S256x1024 .f32) : FVec Ideal S32x1x1024 .f32 :=
  addf h (mulf (Host.divf (broadcastInDim S32x1x1024 ![] bcast_S_S32x1x1024 (constant S_ .f32 0x3F800000#32))
      (addf (broadcastInDim S32x1x1024 ![] bcast_S_S32x1x1024 (constant S_ .f32 0x3F800000#32))
        (Host.exp (Host.negf (Host.dotGeneral dot_S32x1x1024_S1024x1024_S32x1x1024_2_0_01_1_n_n none n W)))))
    (Host.dotGeneral dot_S32x1x256_S256x1024_S32x1x1024_2_0_01_1_n_n none p Q))

/-- What the reference computes of its arguments, its rows in one axis. -/
def ref (x0 x1 : FVec Ideal S32x1x1024 .f32) (x2 : FVec Ideal S1x1024x1024 .f32) (x3 : FVec Ideal S2x1024 .f32)
    (x4 : FVec Ideal S2x1024x4096 .f32) (x5 : FVec Ideal S2x4096x1024 .f32) (x6 : FVec Ideal S2x1024 .f32)
    (x7 : FVec Ideal S2x1024x1024 .f32) (x8 : FVec Ideal S2x32x1x256 .f32) (x9 : FVec Ideal S2x256x1024 .f32)
    (x10 : FVec Ideal S1024 .f32) : FVec Ideal S32x1024 .f32 :=
  have h₁ := pre x1 x0 (shapeCast _ x2 shapeCasts_S1x1024x1024_S1024x1024)
  have h₂ := ffn h₁ (norm h₁ (shapeCast _ (extractStridedSlice S1x1024 ![1, 0] x3 slices_S2x1024_S1x1024_1_0) shapeCasts_S1x1024_S1024))
    (shapeCast _ (extractStridedSlice S1x1024x4096 ![1, 0, 0] x4 slices_S2x1024x4096_S1x1024x4096_1_0_0) shapeCasts_S1x1024x4096_S1024x4096)
    (shapeCast _ (extractStridedSlice S1x4096x1024 ![1, 0, 0] x5 slices_S2x4096x1024_S1x4096x1024_1_0_0) shapeCasts_S1x4096x1024_S4096x1024)
  have h₃ := ple h₂ (norm h₂ (shapeCast _ (extractStridedSlice S1x1024 ![1, 0] x6 slices_S2x1024_S1x1024_1_0) shapeCasts_S1x1024_S1024))
    (shapeCast _ (extractStridedSlice S1x1024x1024 ![1, 0, 0] x7 slices_S2x1024x1024_S1x1024x1024_1_0_0) shapeCasts_S1x1024x1024_S1024x1024)
    (shapeCast _ (extractStridedSlice S1x32x1x256 ![1, 0, 0, 0] x8 slices_S2x32x1x256_S1x32x1x256_1_0_0_0) shapeCasts_S1x32x1x256_S32x1x256)
    (shapeCast _ (extractStridedSlice S1x256x1024 ![1, 0, 0] x9 slices_S2x256x1024_S1x256x1024_1_0_0) shapeCasts_S1x256x1024_S256x1024)
  shapeCast _ (norm h₃ x10) shapeCasts_S32x1x1024_S32x1024

/-- The reference's result buffer holds that term. -/
theorem res_eq (m : (ℓ : Loc nD τ sig) → Buf (Elt Ideal) ℓ) (c : Dev nD) : Value.res_main_v71 m c =
    ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := by
  unfold Value.res_main_v71
  rfl

/-- The norm of a row is the row's norm. -/
theorem norm_apply (h : FVec Ideal S32x1x1024 .f32) (g : FVec Ideal S1024 .f32) (b : Fin 32) (t : Fin 1) (n : Fin 1024) :
    norm h g (ix3 b t n) = Row.rms (fun k => h (ix3 b t k)) (fun k => g (ix1 k)) n := by
  obtain rfl : t = 0 := Subsingleton.elim _ _
  pointwise [norm]
  rfl

theorem pre_apply (x o : FVec Ideal S32x1x1024 .f32) (w : FVec Ideal S1024x1024 .f32) (b : Fin 32) (t : Fin 1) (n : Fin 1024) :
    pre x o w (ix3 b t n) = Row.addDot (fun k => x (ix3 b t k)) (fun k => o (ix3 b t k)) (fun k l => w (ix2 k l)) n := by
  pointwise [pre]
  rfl

theorem ffn_apply (h a : FVec Ideal S32x1x1024 .f32) (U : FVec Ideal S1024x4096 .f32) (D : FVec Ideal S4096x1024 .f32)
    (b : Fin 32) (t : Fin 1) (n : Fin 1024) :
    ffn h a U D (ix3 b t n) = Row.ffn (fun k => h (ix3 b t k)) (fun k => a (ix3 b t k)) (fun k l => U (ix2 k l))
      (fun k l => D (ix2 k l)) n := by
  pointwise [ffn]
  rfl

theorem ple_apply (h a : FVec Ideal S32x1x1024 .f32) (W : FVec Ideal S1024x1024 .f32) (p : FVec Ideal S32x1x256 .f32)
    (Q : FVec Ideal S256x1024 .f32) (b : Fin 32) (t : Fin 1) (n : Fin 1024) :
    ple h a W p Q (ix3 b t n) = Row.ple (fun k => h (ix3 b t k)) (fun k => a (ix3 b t k)) (fun k l => W (ix2 k l))
      (fun l => p (ix3 b t l)) (fun l k => Q (ix2 l k)) n := by
  pointwise [ple]
  rfl

/-- The reference's term at row `r` is the row function of row `r`. -/
theorem ref_apply (x0 x1 : FVec Ideal S32x1x1024 .f32) (x2 : FVec Ideal S1x1024x1024 .f32) (x3 : FVec Ideal S2x1024 .f32)
    (x4 : FVec Ideal S2x1024x4096 .f32) (x5 : FVec Ideal S2x4096x1024 .f32) (x6 : FVec Ideal S2x1024 .f32)
    (x7 : FVec Ideal S2x1024x1024 .f32) (x8 : FVec Ideal S2x32x1x256 .f32) (x9 : FVec Ideal S2x256x1024 .f32)
    (x10 : FVec Ideal S1024 .f32) (r : Fin 32) (n : Fin 1024) :
    ref x0 x1 x2 x3 x4 x5 x6 x7 x8 x9 x10 (ix2 r n)
      = Row.half (fun k => x1 (ix3 r 0 k))
          (fun k => x0 (ix3 r 0 k)) (fun k l => x2 (ix3 0 k l)) (fun k => x3 (ix2 1 k))
          (fun k l => x4 (ix3 1 k l)) (fun k l => x5 (ix3 1 k l)) (fun k => x6 (ix2 1 k)) (fun k l => x7 (ix3 1 k l))
          (fun k => x8 (ix4 1 r 0 k)) (fun k l => x9 (ix3 1 k l)) (fun k => x10 (ix1 k)) n := by
  pointwise [ref, norm_apply, ple_apply, ffn_apply, pre_apply]
  rfl

end Cert.MlpSRefIdeal.Term

/-! ## The kernel's block -/

namespace Cert.MlpSIdeal.Final

open Cert.MlpSIdeal Cert.MlpSIdeal.Gen Idealize.ShloMosaic Idealize.ShloMosaic.TcCoe Idealize.SL.Sem
open Idealize.ShloMosaic.Pipeline (Dat)

/-- The residual plus the projected attention output. -/
theorem pay2_apply (v0 v2 : Vec Ideal S32x1024 .f32) (v5 : Vec Ideal S1024x1024 .bf16) (r : Fin 32) (n : Fin 1024) :
    k0_pay2 (F := Ideal) v0 v2 v5 (ix2 r n)
      = Row.addDot (fun k => v0 (ix2 r k)) (fun k => v2 (ix2 r k)) (fun k l => v5 (ix2 k l)) n := by
  pointwise [k0_pay2]
  rfl

/-- Its norm. -/
theorem pay3_apply (v0 v2 : Vec Ideal S32x1024 .f32) (v5 : Vec Ideal S1024x1024 .bf16) (v9 : Vec Ideal S1x1024 .f32)
    (r : Fin 32) (n : Fin 1024) :
    k0_pay3 (F := Ideal) v0 v2 v5 v9 (ix2 r n)
      = Row.rms (fun k => k0_pay2 (F := Ideal) v0 v2 v5 (ix2 r k)) (fun k => v9 (ix2 0 k)) n := by
  pointwise [k0_pay3]
  rfl

/-- The per-layer embedding projected. -/
theorem pay4_apply (v24 : Vec Ideal S1x32x256 .f32) (v27 : Vec Ideal S1x256x1024 .bf16) (r : Fin 32) (n : Fin 1024) :
    k0_pay4 (F := Ideal) v24 v27 (ix2 r n) = ∑ l : Fin 256, v24 (ix3 0 r l) * v27 (ix3 0 l n) := by
  pointwise [k0_pay4]

/-- The rectifier of the first quarter of the hidden units. -/
theorem pay5_apply (v0 v2 : Vec Ideal S32x1024 .f32) (v5 : Vec Ideal S1024x1024 .bf16) (v9 : Vec Ideal S1x1024 .f32)
    (v30 : Vec Ideal S1x1024x1024 .bf16) (r : Fin 32) (f : Fin 1024) :
    k0_pay5 (F := Ideal) v0 v2 v5 v9 v30 (ix2 r f)
      = max (∑ k, k0_pay3 (F := Ideal) v0 v2 v5 v9 (ix2 r k) * v30 (ix3 0 k f)) 0 := by
  pointwise [k0_pay5]

/-- Three quarters of the feed-forward layer added up. -/
theorem pay6_apply (v8 v34 : FVec Ideal S32x1024 .f32) (v23 : FVec Ideal S32x1024 .bf16)
    (v37 v41 v48 v52 v59 : Vec Ideal S1x1024x1024 .bf16) (r : Fin 32) (n : Fin 1024) :
    k0_pay6 (F := Ideal) v8 v23 v34 v37 v41 v48 v52 v59 (ix2 r n)
      = v8 (ix2 r n) + (∑ f : Fin 1024, v34 (ix2 r f) * v34 (ix2 r f) * v37 (ix3 0 f n))
          + (∑ f : Fin 1024, Row.unit (fun k => v23 (ix2 r k)) (fun k l => v41 (ix3 0 k l)) f * v48 (ix3 0 f n))
          + (∑ f : Fin 1024, Row.unit (fun k => v23 (ix2 r k)) (fun k l => v52 (ix3 0 k l)) f * v59 (ix3 0 f n)) := by
  pointwise [k0_pay6]
  rfl

/-- The rectifier of the last quarter of the hidden units. -/
theorem pay7_apply (v23 : FVec Ideal S32x1024 .bf16) (v63 : Vec Ideal S1x1024x1024 .bf16) (r : Fin 32) (f : Fin 1024) :
    k0_pay7 (F := Ideal) v23 v63 (ix2 r f) = max (∑ k, v23 (ix2 r k) * v63 (ix3 0 k f)) 0 := by
  pointwise [k0_pay7]

/-- The last quarter added, and the per-layer embedding's gate on the sum. -/
theorem pay8_apply (v29 v62 v67 : FVec Ideal S32x1024 .f32) (v70 v89 : Vec Ideal S1x1024x1024 .bf16)
    (v74 : Vec Ideal S1x1024 .f32) (p : Fin 256 → EReal) (Q : Fin 256 → Fin 1024 → EReal) (h : Fin 1024 → EReal) (r : Fin 32)
    (hp : ∀ n, v29 (ix2 r n) = ∑ l, p l * Q l n)
    (hh : ∀ n, v62 (ix2 r n) + ∑ f : Fin 1024, v67 (ix2 r f) * v67 (ix2 r f) * v70 (ix3 0 f n) = h n) (n : Fin 1024) :
    k0_pay8 (F := Ideal) v29 v62 v67 v70 v74 v89 (ix2 r n)
      = Row.ple h (Row.rms h (fun k => v74 (ix2 0 k))) (fun k l => v89 (ix3 0 k l)) p Q n := by
  pointwise [k0_pay8]
  simp only [zero_sub, hh, hp]
  rfl

/-- The final norm. -/
theorem pay1_apply (v29 v62 v67 : FVec Ideal S32x1024 .f32) (v70 v89 : Vec Ideal S1x1024x1024 .bf16)
    (v74 v101 : Vec Ideal S1x1024 .f32) (r : Fin 32) (n : Fin 1024) :
    k0_pay1 (F := Ideal) (k0_pay8 v29 v62 v67 v70 v74 v89) (k0_pay9 v101) (k0_pay10 v29 v62 v67 v70 v74 v89) (ix2 r n)
      = Row.rms (fun k => k0_pay8 (F := Ideal) v29 v62 v67 v70 v74 v89 (ix2 r k)) (fun k => v101 (ix2 0 k)) n := by
  pointwise [k0_pay1, k0_pay9, k0_pay10]
  rfl

/-- The two inner norms agree where the rows do. -/
theorem pay11_apply (x0 : Vec Ideal S32x1024 .f32) (x1 : Vec Ideal S1024x1024 .bf16) (x2 : Vec Ideal S32x1024 .f32)
    (x3 : Vec Ideal S1x1024 .f32) (x4 : Vec Ideal S1x1024x4096 .bf16) (x5 : Vec Ideal S1x4096x1024 .bf16)
    (x6 : Vec Ideal S1x1024 .f32) (x7 : Vec Ideal S1x1024x1024 .bf16) (x8 : Vec Ideal S1x32x256 .f32)
    (x9 : Vec Ideal S1x256x1024 .bf16) (x10 : Vec Ideal S1x1024 .f32) (r : Fin 32) (n : Fin 1024) :
    k0_pay11 (F := Ideal) x0 x1 x2 x3 x4 x5 x6 x7 x8 x9 x10 (ix2 r n)
      = Row.rms (Row.addDot (fun k => x2 (ix2 r k)) (fun k => x0 (ix2 r k)) (fun k l => x1 (ix2 k l))) (fun k => x3 (ix2 0 k)) n := by
  unfold k0_pay11
  rw [pay3_apply]
  pointwise [pay2_apply]

/-- What the body stores at row `r` of its block is the row function of row `r` of its input blocks. -/
theorem block (x0 : Vec Ideal S32x1024 .f32) (x1 : Vec Ideal S1024x1024 .bf16) (x2 : Vec Ideal S32x1024 .f32)
    (x3 : Vec Ideal S1x1024 .f32) (x4 : Vec Ideal S1x1024x4096 .bf16) (x5 : Vec Ideal S1x4096x1024 .bf16)
    (x6 : Vec Ideal S1x1024 .f32) (x7 : Vec Ideal S1x1024x1024 .bf16) (x8 : Vec Ideal S1x32x256 .f32)
    (x9 : Vec Ideal S1x256x1024 .bf16) (x10 : Vec Ideal S1x1024 .f32) (r : Fin 32) (n : Fin 1024) :
    out0_11 (F := Ideal) x0 x1 x2 x3 x4 x5 x6 x7 x8 x9 x10 (ix2 r n)
      = Row.half (fun k => x2 (ix2 r k)) (fun k => x0 (ix2 r k)) (fun k l => x1 (ix2 k l)) (fun k => x3 (ix2 0 k))
          (fun k l => x4 (ix3 0 k l)) (fun k l => x5 (ix3 0 k l)) (fun k => x6 (ix2 0 k)) (fun k l => x7 (ix3 0 k l))
          (fun k => x8 (ix3 0 r k)) (fun k l => x9 (ix3 0 k l)) (fun k => x10 (ix2 0 k)) n := by
  have hz : (![0, 0] : Fin 2 → Nat) = fun _ => 0 := funext fun a => by fin_cases a <;> rfl
  unfold out0_11
  rw [View.canon_unit_zero hz, pay1_apply]
  have h8 : ∀ k, k0_pay8 (F := Ideal) (k0_pay12 x0 x1 x2 x3 x4 x5 x6 x7 x8 x9 x10) (k0_pay13 x0 x1 x2 x3 x4 x5 x6 x7 x8 x9 x10)
      (k0_pay14 x0 x1 x2 x3 x4 x5 x6 x7 x8 x9 x10) (View.ld x5 r0_12) (View.ld x6 r0_2) (View.ld x7 r0_13) (ix2 r k)
      = Row.ple _ _ _ _ _ k := fun k => by
    refine (pay8_apply _ _ _ _ _ _ (fun l => x8 (ix3 0 r l)) (fun l k => x9 (ix3 0 l k))
      (Row.ffn (Row.addDot (fun k => x2 (ix2 r k)) (fun k => x0 (ix2 r k)) (fun k l => x1 (ix2 k l)))
        (Row.rms (Row.addDot (fun k => x2 (ix2 r k)) (fun k => x0 (ix2 r k)) (fun k l => x1 (ix2 k l))) (fun k => x3 (ix2 0 k)))
        (fun k l => x4 (ix3 0 k l)) (fun k l => x5 (ix3 0 k l))) r (fun n => ?_) (fun n => ?_) k)
    · unfold k0_pay12
      rw [pay4_apply]
      pointwise
    · unfold k0_pay13 k0_pay14
      rw [pay6_apply]
      pointwise [pay7_apply, pay5_apply, pay3_apply, pay2_apply, pay11_apply]
      exact Row.quarters _ fun f => Row.unit (Row.rms (Row.addDot (fun k => x2 (ix2 r k)) (fun k => x0 (ix2 r k))
        (fun k l => x1 (ix2 k l))) (fun k => x3 (ix2 0 k))) (fun k l => x4 (ix3 0 k l)) f * x5 (ix3 0 f n)
  simp only [h8]
  pointwise
  rfl

variable (m : (ℓ : Loc nD τ sig) → Buf (Elt Ideal) ℓ)

/-- The block of every window at every grid point: one point, the whole arrays; the weights are the last layer's. -/
theorem idx : ∀ t : Fin cfg0.N, win0_0.index t = ![0, 0] ∧ win0_1.index t = ![0, 0] ∧ win0_2.index t = ![0, 0]
    ∧ win0_3.index t = ![0, 0] ∧ win0_4.index t = ![1, 0, 0] ∧ win0_5.index t = ![1, 0, 0] ∧ win0_6.index t = ![0, 0]
    ∧ win0_7.index t = ![1, 0, 0] ∧ win0_8.index t = ![1, 0, 0] ∧ win0_9.index t = ![1, 0, 0] ∧ win0_10.index t = ![0, 0]
    ∧ win0_11.index t = ![0, 0] :=
  (by decide +kernel : ∀ t : Fin grid0.N, _)

/-- The reference's term of device `c`'s argument arrays. -/
abbrev G (c : Dev nD) : FVec Ideal S32x1024 .f32 :=
  Cert.MlpSRefIdeal.Term.ref (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- What the body stores at index `y` of point `t`'s block is the reference's term at the array index where `y` lies. -/
theorem point (c : Dev nD) (t : Fin cfg0.N) (y) :
    out0_11 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) y
      = G m c (((cfg0.win 11).blk t).view.emb y) := by
  idx_vars y
  have e : ((cfg0.win 11).blk t).view.emb (ix2 y0 y1) = ix2 y0 y1 := by
    blk_ext [idx t]
  rw [e, G, Cert.MlpSRefIdeal.Term.ref_apply]
  refine (block _ _ _ _ _ _ _ _ _ _ _ y0 y1).trans ?_
  blk_point [iblk, V, idx t]

/-- The result array after the run is the reference's term of the arguments. -/
theorem final (c : Dev nD) : (dats m 0 c).arrAt 11 (cfgs 0).N = G m c := by
  refine (dats m 0 c).arrAt_eq_of_covers 11 _ (by decide +kernel) fun t _ y => ?_
  blk_simp
  rw [after0_11]
  exact point m c t y

end Cert.MlpSIdeal.Final

namespace Cert.Proof

open Idealize.ShloMosaic Idealize.SL.Sem

/-- The sample's result is the reference's on every device, from the same arguments. -/
theorem algebraic_mlp_s : Cert.algebraic_MlpSIdeal_MlpSRefIdeal := by
  pair_intro
  · run_from Cert.MlpSIdeal.Gen.run_main m g
  · run_from Cert.MlpSRefIdeal.Value.run m' g'
    obtain ⟨h0, h1, h2, h3, h4, h5, h6, h7, h8, h9, h10⟩ := hagree c
    rw [Cert.MlpSIdeal.Final.final m, Cert.MlpSRefIdeal.Term.res_eq, h0, h1, h2, h3, h4, h5, h6, h7, h8, h9, h10]

end Cert.Proof

end
-- ==== Proof.RowEven.lean ====
/- One row of the call that ends the even layer. -/
module

public import proofs.«01_k».proof.Proof.Row

@[expose] public section

noncomputable section

namespace Cert.Row

/-- The second half of the even layer on one row: the feed-forward layer and the per-layer embedding's gate. -/
def even (x g₁ : Fin 1024 → EReal) (U : Fin 1024 → Fin 4096 → EReal) (D : Fin 4096 → Fin 1024 → EReal)
    (g₂ : Fin 1024 → EReal) (W : Fin 1024 → Fin 1024 → EReal) (p : Fin 256 → EReal) (Q : Fin 256 → Fin 1024 → EReal) :
    Fin 1024 → EReal :=
  ple (ffn x (rms x g₁) U D) (rms (ffn x (rms x g₁) U D) g₂) W p Q

end Cert.Row

end
-- ==== Proof.MlpEValue.lean ====
/- The values of the call that ends the even layer (`MlpE`): the feed-forward layer and the
   per-layer embedding's gate. At the ideal instance its result array is the reference's, entry by entry: both are the
   row function `Cert.Row.even` of the same rows. -/
module

public import proofs.«01_k».proof.Defs
public import proofs.«01_k».proof.Proof.Gen.MlpEIdeal.Frame
public import proofs.«01_k».proof.Proof.Gen.MlpERefIdeal.Run
public import proofs.«01_k».proof.Proof.RowEven
public import Idealize.ShloMosaic.Lib.Pipeline.ValueKit

@[expose] public section

set_option maxRecDepth 16384

noncomputable section

/-! ## The reference, stage by stage -/

namespace Cert.MlpERefIdeal.Term

open Cert.MlpERefIdeal Cert.MlpERefIdeal.Gen Idealize.ShloMosaic Idealize.ShloMosaic.TcCoe Idealize.SL.Sem

/-- RMSNorm along the last axis. -/
def norm (h : FVec Ideal S8x2048x1024 .f32) (g : FVec Ideal S1024 .f32) : FVec Ideal S8x2048x1024 .f32 :=
  mulf (mulf h (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf h h) (constant S_ .f32 0x00000000#32)
      reducesTo_S8x2048x1024_S8x2048_d2 h_S_)) (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 g))

/-- The residual plus the feed-forward layer of `n`. -/
def ffn (h n : FVec Ideal S8x2048x1024 .f32) (U : FVec Ideal S1024x4096 .f32) (D : FVec Ideal S4096x1024 .f32) :
    FVec Ideal S8x2048x1024 .f32 :=
  addf h (Host.dotGeneral dot_S8x2048x4096_S4096x1024_S8x2048x1024_2_0_01_1_n_n none
    (mulf (maximumf (Host.dotGeneral dot_S8x2048x1024_S1024x4096_S8x2048x4096_2_0_01_1_n_n none n U)
        (broadcastInDim S8x2048x4096 ![] bcast_S_S8x2048x4096 (constant S_ .f32 0x00000000#32)))
      (maximumf (Host.dotGeneral dot_S8x2048x1024_S1024x4096_S8x2048x4096_2_0_01_1_n_n none n U)
        (broadcastInDim S8x2048x4096 ![] bcast_S_S8x2048x4096 (constant S_ .f32 0x00000000#32)))) D)

/-- The residual plus the per-layer embedding `p` projected by `Q`, gated by the logistic function of `n` times `W`. -/
def ple (h n : FVec Ideal S8x2048x1024 .f32) (W : FVec Ideal S1024x1024 .f32) (p : FVec Ideal S8x2048x256 .f32)
    (Q : FVec Ideal S256x1024 .f32) : FVec Ideal S8x2048x1024 .f32 :=
  addf h (mulf (Host.divf (broadcastInDim S8x2048x1024 ![] bcast_S_S8x2048x1024 (constant S_ .f32 0x3F800000#32))
      (addf (broadcastInDim S8x2048x1024 ![] bcast_S_S8x2048x1024 (constant S_ .f32 0x3F800000#32))
        (Host.exp (Host.negf (Host.dotGeneral dot_S8x2048x1024_S1024x1024_S8x2048x1024_2_0_01_1_n_n none n W)))))
    (Host.dotGeneral dot_S8x2048x256_S256x1024_S8x2048x1024_2_0_01_1_n_n none p Q))

/-- What the reference computes of its arguments, its rows in one axis. -/
def ref (x0 : FVec Ideal S8x2048x1024 .f32) (x1 : FVec Ideal S2x1024 .f32) (x2 : FVec Ideal S2x1024x4096 .f32)
    (x3 : FVec Ideal S2x4096x1024 .f32) (x4 : FVec Ideal S2x1024 .f32) (x5 : FVec Ideal S2x1024x1024 .f32)
    (x6 : FVec Ideal S2x8x2048x256 .f32) (x7 : FVec Ideal S2x256x1024 .f32) : FVec Ideal S16384x1024 .f32 :=
  have h₂ := ffn x0 (norm x0 (shapeCast _ (extractStridedSlice S1x1024 ![0, 0] x1 slices_S2x1024_S1x1024_0_0) shapeCasts_S1x1024_S1024))
    (shapeCast _ (extractStridedSlice S1x1024x4096 ![0, 0, 0] x2 slices_S2x1024x4096_S1x1024x4096_0_0_0) shapeCasts_S1x1024x4096_S1024x4096)
    (shapeCast _ (extractStridedSlice S1x4096x1024 ![0, 0, 0] x3 slices_S2x4096x1024_S1x4096x1024_0_0_0) shapeCasts_S1x4096x1024_S4096x1024)
  have h₃ := ple h₂ (norm h₂ (shapeCast _ (extractStridedSlice S1x1024 ![0, 0] x4 slices_S2x1024_S1x1024_0_0) shapeCasts_S1x1024_S1024))
    (shapeCast _ (extractStridedSlice S1x1024x1024 ![0, 0, 0] x5 slices_S2x1024x1024_S1x1024x1024_0_0_0) shapeCasts_S1x1024x1024_S1024x1024)
    (shapeCast _ (extractStridedSlice S1x8x2048x256 ![0, 0, 0, 0] x6 slices_S2x8x2048x256_S1x8x2048x256_0_0_0_0) shapeCasts_S1x8x2048x256_S8x2048x256)
    (shapeCast _ (extractStridedSlice S1x256x1024 ![0, 0, 0] x7 slices_S2x256x1024_S1x256x1024_0_0_0) shapeCasts_S1x256x1024_S256x1024)
  shapeCast _ h₃ shapeCasts_S8x2048x1024_S16384x1024

/-- The reference's result buffer holds that term. -/
theorem res_eq (m : (ℓ : Loc nD τ sig) → Buf (Elt Ideal) ℓ) (c : Dev nD) : Value.res_main_v55 m c =
    ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v55
  rfl

/-- The norm of a row is the row's norm. -/
theorem norm_apply (h : FVec Ideal S8x2048x1024 .f32) (g : FVec Ideal S1024 .f32) (b : Fin 8) (t : Fin 2048) (n : Fin 1024) :
    norm h g (ix3 b t n) = Row.rms (fun k => h (ix3 b t k)) (fun k => g (ix1 k)) n := by
  pointwise [norm]
  rfl

theorem ffn_apply (h a : FVec Ideal S8x2048x1024 .f32) (U : FVec Ideal S1024x4096 .f32) (D : FVec Ideal S4096x1024 .f32)
    (b : Fin 8) (t : Fin 2048) (n : Fin 1024) :
    ffn h a U D (ix3 b t n) = Row.ffn (fun k => h (ix3 b t k)) (fun k => a (ix3 b t k)) (fun k l => U (ix2 k l))
      (fun k l => D (ix2 k l)) n := by
  pointwise [ffn]
  rfl

theorem ple_apply (h a : FVec Ideal S8x2048x1024 .f32) (W : FVec Ideal S1024x1024 .f32) (p : FVec Ideal S8x2048x256 .f32)
    (Q : FVec Ideal S256x1024 .f32) (b : Fin 8) (t : Fin 2048) (n : Fin 1024) :
    ple h a W p Q (ix3 b t n) = Row.ple (fun k => h (ix3 b t k)) (fun k => a (ix3 b t k)) (fun k l => W (ix2 k l))
      (fun l => p (ix3 b t l)) (fun l k => Q (ix2 l k)) n := by
  pointwise [ple]
  rfl

/-- The reference's term at row `r` is the row function of row `r`. -/
theorem ref_apply (x0 : FVec Ideal S8x2048x1024 .f32) (x1 : FVec Ideal S2x1024 .f32) (x2 : FVec Ideal S2x1024x4096 .f32)
    (x3 : FVec Ideal S2x4096x1024 .f32) (x4 : FVec Ideal S2x1024 .f32) (x5 : FVec Ideal S2x1024x1024 .f32)
    (x6 : FVec Ideal S2x8x2048x256 .f32) (x7 : FVec Ideal S2x256x1024 .f32) (r : Fin 16384) (n : Fin 1024) :
    ref x0 x1 x2 x3 x4 x5 x6 x7 (ix2 r n)
      = Row.even (fun k => x0 (ix3 ⟨r / 2048, by omega⟩ ⟨r % 2048, by omega⟩ k)) (fun k => x1 (ix2 0 k))
          (fun k l => x2 (ix3 0 k l)) (fun k l => x3 (ix3 0 k l)) (fun k => x4 (ix2 0 k)) (fun k l => x5 (ix3 0 k l))
          (fun k => x6 (ix4 0 ⟨r / 2048, by omega⟩ ⟨r % 2048, by omega⟩ k)) (fun k l => x7 (ix3 0 k l)) n := by
  pointwise [ref, norm_apply, ple_apply, ffn_apply]
  rfl

end Cert.MlpERefIdeal.Term

/-! ## The kernel's block -/

namespace Cert.MlpEIdeal.Final

open Cert.MlpEIdeal Cert.MlpEIdeal.Gen Idealize.ShloMosaic Idealize.ShloMosaic.TcCoe Idealize.SL.Sem
open Idealize.ShloMosaic.Pipeline (Dat)

/-- The norm of the rows. -/
theorem pay3_apply (v0 : Vec Ideal S512x1024 .f32) (v2 : Vec Ideal S1x1024 .f32) (r : Fin 512) (n : Fin 1024) :
    k0_pay3 (F := Ideal) v0 v2 (ix2 r n) = Row.rms (fun k => v0 (ix2 r k)) (fun k => v2 (ix2 0 k)) n := by
  pointwise [k0_pay3, k0_pay2]
  rfl

/-- The per-layer embedding projected. -/
theorem pay4_apply (v17 : Vec Ideal S1x512x256 .f32) (v20 : Vec Ideal S1x256x1024 .bf16) (r : Fin 512) (n : Fin 1024) :
    k0_pay4 (F := Ideal) v17 v20 (ix2 r n) = ∑ l : Fin 256, v17 (ix3 0 r l) * v20 (ix3 0 l n) := by
  pointwise [k0_pay4]

/-- The rows plus the first quarter of the feed-forward layer. -/
theorem pay5_apply (v0 : Vec Ideal S512x1024 .f32) (v2 : Vec Ideal S1x1024 .f32) (v23 v30 : Vec Ideal S1x1024x1024 .bf16)
    (r : Fin 512) (n : Fin 1024) :
    k0_pay5 (F := Ideal) v0 v2 v23 v30 (ix2 r n)
      = v0 (ix2 r n) + ∑ f : Fin 1024, Row.unit (fun k => k0_pay3 (F := Ideal) v0 v2 (ix2 r k)) (fun k l => v23 (ix3 0 k l)) f
          * v30 (ix3 0 f n) := by
  pointwise [k0_pay5, k0_pay2]
  rfl

/-- The other three quarters added. -/
theorem pay6_apply (v16 : FVec Ideal S512x1024 .bf16) (v33 : FVec Ideal S512x1024 .f32)
    (v34 v41 v45 v52 v56 v63 : Vec Ideal S1x1024x1024 .bf16) (r : Fin 512) (n : Fin 1024) :
    k0_pay6 (F := Ideal) v16 v33 v34 v41 v45 v52 v56 v63 (ix2 r n)
      = v33 (ix2 r n) + (∑ f : Fin 1024, Row.unit (fun k => v16 (ix2 r k)) (fun k l => v34 (ix3 0 k l)) f * v41 (ix3 0 f n))
          + (∑ f : Fin 1024, Row.unit (fun k => v16 (ix2 r k)) (fun k l => v45 (ix3 0 k l)) f * v52 (ix3 0 f n))
          + (∑ f : Fin 1024, Row.unit (fun k => v16 (ix2 r k)) (fun k l => v56 (ix3 0 k l)) f * v63 (ix3 0 f n)) := by
  pointwise [k0_pay6]
  rfl

/-- The per-layer embedding's gate. -/
theorem pay1_apply (v22 v66 : FVec Ideal S512x1024 .f32) (v67 : Vec Ideal S1x1024 .f32) (v82 : Vec Ideal S1x1024x1024 .bf16)
    (p : Fin 256 → EReal) (Q : Fin 256 → Fin 1024 → EReal) (h : Fin 1024 → EReal) (r : Fin 512)
    (hp : ∀ n, v22 (ix2 r n) = ∑ l, p l * Q l n) (hh : ∀ n, v66 (ix2 r n) = h n) (n : Fin 1024) :
    k0_pay1 (F := Ideal) v22 v66 v67 v82 (ix2 r n)
      = Row.ple h (Row.rms h (fun k => v67 (ix2 0 k))) (fun k l => v82 (ix3 0 k l)) p Q n := by
  pointwise [k0_pay1]
  simp only [zero_sub, hh, hp]
  rfl

/-- What the body stores at row `r` of its block is the row function of row `r` of its input blocks. -/
theorem block (x0 : Vec Ideal S512x1024 .f32) (x1 : Vec Ideal S1x1024 .f32) (x2 : Vec Ideal S1x1024x4096 .bf16)
    (x3 : Vec Ideal S1x4096x1024 .bf16) (x4 : Vec Ideal S1x1024 .f32) (x5 : Vec Ideal S1x1024x1024 .bf16)
    (x6 : Vec Ideal S1x512x256 .f32) (x7 : Vec Ideal S1x256x1024 .bf16) (x8 : Vec Ideal S1x1024 .f32) (r : Fin 512) (n : Fin 1024) :
    out0_9 (F := Ideal) x0 x1 x2 x3 x4 x5 x6 x7 x8 (ix2 r n)
      = Row.even (fun k => x0 (ix2 r k)) (fun k => x1 (ix2 0 k)) (fun k l => x2 (ix3 0 k l)) (fun k l => x3 (ix3 0 k l))
          (fun k => x4 (ix2 0 k)) (fun k l => x5 (ix3 0 k l)) (fun k => x6 (ix3 0 r k)) (fun k l => x7 (ix3 0 k l)) n := by
  have hz : (![0, 0] : Fin 2 → Nat) = fun _ => 0 := funext fun a => by fin_cases a <;> rfl
  unfold out0_9
  rw [View.canon_unit_zero hz]
  refine (pay1_apply _ _ _ _ (fun l => x6 (ix3 0 r l)) (fun l k => x7 (ix3 0 l k))
    (Row.ffn (fun k => x0 (ix2 r k)) (Row.rms (fun k => x0 (ix2 r k)) (fun k => x1 (ix2 0 k)))
      (fun k l => x2 (ix3 0 k l)) (fun k l => x3 (ix3 0 k l))) r (fun n => ?_) (fun n => ?_) n).trans ?_
  · rw [pay4_apply]
    pointwise
  · rw [pay6_apply]
    pointwise [pay5_apply, pay3_apply]
    exact Row.quarters _ fun f => Row.unit (Row.rms (fun k => x0 (ix2 r k)) (fun k => x1 (ix2 0 k)))
      (fun k l => x2 (ix3 0 k l)) f * x3 (ix3 0 f n)
  · pointwise
    rfl

variable (m : (ℓ : Loc nD τ sig) → Buf (Elt Ideal) ℓ)

/-- The block of every window at every grid point: the rows move with the point; the weights are the first layer's. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![0, 0, 0] ∧ win0_6.index t = ![0, t.val, 0]
    ∧ win0_7.index t = ![0, 0, 0] ∧ win0_8.index t = ![0, 0] ∧ win0_9.index t = ![t.val, 0] :=
  (by decide +kernel : ∀ t : Fin grid0.N, _)

/-- The reference's term of device `c`'s argument arrays. -/
abbrev G (c : Dev nD) : FVec Ideal S16384x1024 .f32 :=
  Cert.MlpERefIdeal.Term.ref (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What the body stores at index `y` of point `t`'s block is the reference's term at the array index where `y` lies. -/
theorem point (c : Dev nD) (t : Fin cfg0.N) (y) :
    out0_9 (F := Ideal) (iblk m c 0 t) (iblk m c 1 t) (iblk m c 2 t) (iblk m c 3 t) (iblk m c 4 t) (iblk m c 5 t)
      (iblk m c 6 t) (iblk m c 7 t) (iblk m c 8 t) y
      = G m c (((cfg0.win 9).blk t).view.emb y) := by
  idx_vars y
  have ht : t.val < 32 := t.isLt.trans_eq N_0
  have e : ((cfg0.win 9).blk t).view.emb (ix2 y0 y1) = ix2 (⟨t.val * 512 + y0, by omega⟩ : Fin 16384) y1 := by
    blk_ext [idx t]
  rw [e, G, Cert.MlpERefIdeal.Term.ref_apply]
  refine (block _ _ _ _ _ _ _ _ _ y0 y1).trans ?_
  blk_point [iblk, V, idx t]

/-- The result array after the run is the reference's term of the arguments. -/
theorem final (c : Dev nD) : (dats m 0 c).arrAt 9 (cfgs 0).N = G m c := by
  refine (dats m 0 c).arrAt_eq_of_covers 9 _ (by decide +kernel) fun t _ y => ?_
  blk_simp
  rw [after0_9]
  exact point m c t y

end Cert.MlpEIdeal.Final

namespace Cert.Proof

open Idealize.ShloMosaic Idealize.SL.Sem

/-- The call's result is the reference's on every device, from the same arguments. -/
theorem algebraic_mlp_e : Cert.algebraic_MlpEIdeal_MlpERefIdeal := by
  pair_intro
  · run_from Cert.MlpEIdeal.Gen.run_main m g
  · run_from Cert.MlpERefIdeal.Value.run m' g'
    obtain ⟨h0, h1, h2, h3, h4, h5, h6, h7, _⟩ := hagree c
    rw [Cert.MlpEIdeal.Final.final m, Cert.MlpERefIdeal.Term.res_eq, h0, h1, h2, h3, h4, h5, h6, h7]

end Cert.Proof

end
-- ==== Proof.MlpESValue.lean ====
/- The values of the call that ends the even layer for the sample, one token of each sequence (`MlpES`): the feed-forward layer and the
   per-layer embedding's gate. At the ideal instance its result array is the reference's, entry by entry: both are the
   row function `Cert.Row.even` of the same rows. -/
module

public import proofs.«01_k».proof.Defs
public import proofs.«01_k».proof.Proof.Gen.MlpESIdeal.Frame
public import proofs.«01_k».proof.Proof.Gen.MlpESRefIdeal.Run
public import proofs.«01_k».proof.Proof.RowEven
public import Idealize.ShloMosaic.Lib.Pipeline.ValueKit

@[expose] public section

set_option maxRecDepth 16384

noncomputable section

/-! ## The reference, stage by stage -/

namespace Cert.MlpESRefIdeal.Term

open Cert.MlpESRefIdeal Cert.MlpESRefIdeal.Gen Idealize.ShloMosaic Idealize.ShloMosaic.TcCoe Idealize.SL.Sem

/-- RMSNorm along the last axis. -/
def norm (h : FVec Ideal S32x1x1024 .f32) (g : FVec Ideal S1024 .f32) : FVec Ideal S32x1x1024 .f32 :=
  mulf (mulf h (broadcastInDim S32x1x1024 ![0, 1, 2] bcast_S32x1x1_S32x1x1024_0_1_2 (Host.rsqrt (addf (Host.divf
    (broadcastInDim S32x1x1 ![0, 1] bcast_S32x1_S32x1x1_0_1 (Host.reduceAdd (mulf h h) (constant S_ .f32 0x00000000#32)
      reducesTo_S32x1x1024_S32x1_d2 h_S_)) (broadcastInDim S32x1x1 ![] bcast_S_S32x1x1 (constant S_ .f32 0x44800000#32)))
    (broadcastInDim S32x1x1 ![] bcast_S_S32x1x1 (constant S_ .f32 0x358637BD#32))))))
    (broadcastInDim S32x1x1024 ![0, 1, 2] bcast_S1x1x1024_S32x1x1024_0_1_2
      (broadcastInDim S1x1x1024 ![2] bcast_S1024_S1x1x1024_2 g))

/-- The residual plus the feed-forward layer of `n`. -/
def ffn (h n : FVec Ideal S32x1x1024 .f32) (U : FVec Ideal S1024x4096 .f32) (D : FVec Ideal S4096x1024 .f32) :
    FVec Ideal S32x1x1024 .f32 :=
  addf h (Host.dotGeneral dot_S32x1x4096_S4096x1024_S32x1x1024_2_0_01_1_n_n none
    (mulf (maximumf (Host.dotGeneral dot_S32x1x1024_S1024x4096_S32x1x4096_2_0_01_1_n_n none n U)
        (broadcastInDim S32x1x4096 ![] bcast_S_S32x1x4096 (constant S_ .f32 0x00000000#32)))
      (maximumf (Host.dotGeneral dot_S32x1x1024_S1024x4096_S32x1x4096_2_0_01_1_n_n none n U)
        (broadcastInDim S32x1x4096 ![] bcast_S_S32x1x4096 (constant S_ .f32 0x00000000#32)))) D)

/-- The residual plus the per-layer embedding `p` projected by `Q`, gated by the logistic function of `n` times `W`. -/
def ple (h n : FVec Ideal S32x1x1024 .f32) (W : FVec Ideal S1024x1024 .f32) (p : FVec Ideal S32x1x256 .f32)
    (Q : FVec Ideal S256x1024 .f32) : FVec Ideal S32x1x1024 .f32 :=
  addf h (mulf (Host.divf (broadcastInDim S32x1x1024 ![] bcast_S_S32x1x1024 (constant S_ .f32 0x3F800000#32))
      (addf (broadcastInDim S32x1x1024 ![] bcast_S_S32x1x1024 (constant S_ .f32 0x3F800000#32))
        (Host.exp (Host.negf (Host.dotGeneral dot_S32x1x1024_S1024x1024_S32x1x1024_2_0_01_1_n_n none n W)))))
    (Host.dotGeneral dot_S32x1x256_S256x1024_S32x1x1024_2_0_01_1_n_n none p Q))

/-- What the reference computes of its arguments, its rows in one axis. -/
def ref (x0 : FVec Ideal S32x1x1024 .f32) (x1 : FVec Ideal S2x1024 .f32) (x2 : FVec Ideal S2x1024x4096 .f32)
    (x3 : FVec Ideal S2x4096x1024 .f32) (x4 : FVec Ideal S2x1024 .f32) (x5 : FVec Ideal S2x1024x1024 .f32)
    (x6 : FVec Ideal S2x32x1x256 .f32) (x7 : FVec Ideal S2x256x1024 .f32) : FVec Ideal S32x1024 .f32 :=
  have h₂ := ffn x0 (norm x0 (shapeCast _ (extractStridedSlice S1x1024 ![0, 0] x1 slices_S2x1024_S1x1024_0_0) shapeCasts_S1x1024_S1024))
    (shapeCast _ (extractStridedSlice S1x1024x4096 ![0, 0, 0] x2 slices_S2x1024x4096_S1x1024x4096_0_0_0) shapeCasts_S1x1024x4096_S1024x4096)
    (shapeCast _ (extractStridedSlice S1x4096x1024 ![0, 0, 0] x3 slices_S2x4096x1024_S1x4096x1024_0_0_0) shapeCasts_S1x4096x1024_S4096x1024)
  have h₃ := ple h₂ (norm h₂ (shapeCast _ (extractStridedSlice S1x1024 ![0, 0] x4 slices_S2x1024_S1x1024_0_0) shapeCasts_S1x1024_S1024))
    (shapeCast _ (extractStridedSlice S1x1024x1024 ![0, 0, 0] x5 slices_S2x1024x1024_S1x1024x1024_0_0_0) shapeCasts_S1x1024x1024_S1024x1024)
    (shapeCast _ (extractStridedSlice S1x32x1x256 ![0, 0, 0, 0] x6 slices_S2x32x1x256_S1x32x1x256_0_0_0_0) shapeCasts_S1x32x1x256_S32x1x256)
    (shapeCast _ (extractStridedSlice S1x256x1024 ![0, 0, 0] x7 slices_S2x256x1024_S1x256x1024_0_0_0) shapeCasts_S1x256x1024_S256x1024)
  shapeCast _ h₃ shapeCasts_S32x1x1024_S32x1024

/-- The reference's result buffer holds that term. -/
theorem res_eq (m : (ℓ : Loc nD τ sig) → Buf (Elt Ideal) ℓ) (c : Dev nD) : Value.res_main_v55 m c =
    ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v55
  rfl

/-- The norm of a row is the row's norm. -/
theorem norm_apply (h : FVec Ideal S32x1x1024 .f32) (g : FVec Ideal S1024 .f32) (b : Fin 32) (t : Fin 1) (n : Fin 1024) :
    norm h g (ix3 b t n) = Row.rms (fun k => h (ix3 b t k)) (fun k => g (ix1 k)) n := by
  obtain rfl : t = 0 := Subsingleton.elim _ _
  pointwise [norm]
  rfl

theorem ffn_apply (h a : FVec Ideal S32x1x1024 .f32) (U : FVec Ideal S1024x4096 .f32) (D : FVec Ideal S4096x1024 .f32)
    (b : Fin 32) (t : Fin 1) (n : Fin 1024) :
    ffn h a U D (ix3 b t n) = Row.ffn (fun k => h (ix3 b t k)) (fun k => a (ix3 b t k)) (fun k l => U (ix2 k l))
      (fun k l => D (ix2 k l)) n := by
  pointwise [ffn]
  rfl

theorem ple_apply (h a : FVec Ideal S32x1x1024 .f32) (W : FVec Ideal S1024x1024 .f32) (p : FVec Ideal S32x1x256 .f32)
    (Q : FVec Ideal S256x1024 .f32) (b : Fin 32) (t : Fin 1) (n : Fin 1024) :
    ple h a W p Q (ix3 b t n) = Row.ple (fun k => h (ix3 b t k)) (fun k => a (ix3 b t k)) (fun k l => W (ix2 k l))
      (fun l => p (ix3 b t l)) (fun l k => Q (ix2 l k)) n := by
  pointwise [ple]
  rfl

/-- The reference's term at row `r` is the row function of row `r`. -/
theorem ref_apply (x0 : FVec Ideal S32x1x1024 .f32) (x1 : FVec Ideal S2x1024 .f32) (x2 : FVec Ideal S2x1024x4096 .f32)
    (x3 : FVec Ideal S2x4096x1024 .f32) (x4 : FVec Ideal S2x1024 .f32) (x5 : FVec Ideal S2x1024x1024 .f32)
    (x6 : FVec Ideal S2x32x1x256 .f32) (x7 : FVec Ideal S2x256x1024 .f32) (r : Fin 32) (n : Fin 1024) :
    ref x0 x1 x2 x3 x4 x5 x6 x7 (ix2 r n)
      = Row.even (fun k => x0 (ix3 r 0 k)) (fun k => x1 (ix2 0 k))
          (fun k l => x2 (ix3 0 k l)) (fun k l => x3 (ix3 0 k l)) (fun k => x4 (ix2 0 k)) (fun k l => x5 (ix3 0 k l))
          (fun k => x6 (ix4 0 r 0 k)) (fun k l => x7 (ix3 0 k l)) n := by
  pointwise [ref, norm_apply, ple_apply, ffn_apply]
  rfl

end Cert.MlpESRefIdeal.Term

/-! ## The kernel's block -/

namespace Cert.MlpESIdeal.Final

open Cert.MlpESIdeal Cert.MlpESIdeal.Gen Idealize.ShloMosaic Idealize.ShloMosaic.TcCoe Idealize.SL.Sem
open Idealize.ShloMosaic.Pipeline (Dat)

/-- The norm of the rows. -/
theorem pay3_apply (v0 : Vec Ideal S32x1024 .f32) (v2 : Vec Ideal S1x1024 .f32) (r : Fin 32) (n : Fin 1024) :
    k0_pay3 (F := Ideal) v0 v2 (ix2 r n) = Row.rms (fun k => v0 (ix2 r k)) (fun k => v2 (ix2 0 k)) n := by
  pointwise [k0_pay3, k0_pay2]
  rfl

/-- The per-layer embedding projected. -/
theorem pay4_apply (v17 : Vec Ideal S1x32x256 .f32) (v20 : Vec Ideal S1x256x1024 .bf16) (r : Fin 32) (n : Fin 1024) :
    k0_pay4 (F := Ideal) v17 v20 (ix2 r n) = ∑ l : Fin 256, v17 (ix3 0 r l) * v20 (ix3 0 l n) := by
  pointwise [k0_pay4]

/-- The rows plus the first quarter of the feed-forward layer. -/
theorem pay5_apply (v0 : Vec Ideal S32x1024 .f32) (v2 : Vec Ideal S1x1024 .f32) (v23 v30 : Vec Ideal S1x1024x1024 .bf16)
    (r : Fin 32) (n : Fin 1024) :
    k0_pay5 (F := Ideal) v0 v2 v23 v30 (ix2 r n)
      = v0 (ix2 r n) + ∑ f : Fin 1024, Row.unit (fun k => k0_pay3 (F := Ideal) v0 v2 (ix2 r k)) (fun k l => v23 (ix3 0 k l)) f
          * v30 (ix3 0 f n) := by
  pointwise [k0_pay5, k0_pay2]
  rfl

/-- The other three quarters added. -/
theorem pay6_apply (v16 : FVec Ideal S32x1024 .bf16) (v33 : FVec Ideal S32x1024 .f32)
    (v34 v41 v45 v52 v56 v63 : Vec Ideal S1x1024x1024 .bf16) (r : Fin 32) (n : Fin 1024) :
    k0_pay6 (F := Ideal) v16 v33 v34 v41 v45 v52 v56 v63 (ix2 r n)
      = v33 (ix2 r n) + (∑ f : Fin 1024, Row.unit (fun k => v16 (ix2 r k)) (fun k l => v34 (ix3 0 k l)) f * v41 (ix3 0 f n))
          + (∑ f : Fin 1024, Row.unit (fun k => v16 (ix2 r k)) (fun k l => v45 (ix3 0 k l)) f * v52 (ix3 0 f n))
          + (∑ f : Fin 1024, Row.unit (fun k => v16 (ix2 r k)) (fun k l => v56 (ix3 0 k l)) f * v63 (ix3 0 f n)) := by
  pointwise [k0_pay6]
  rfl

/-- The per-layer embedding's gate. -/
theorem pay1_apply (v22 v66 : FVec Ideal S32x1024 .f32) (v67 : Vec Ideal S1x1024 .f32) (v82 : Vec Ideal S1x1024x1024 .bf16)
    (p : Fin 256 → EReal) (Q : Fin 256 → Fin 1024 → EReal) (h : Fin 1024 → EReal) (r : Fin 32)
    (hp : ∀ n, v22 (ix2 r n) = ∑ l, p l * Q l n) (hh : ∀ n, v66 (ix2 r n) = h n) (n : Fin 1024) :
    k0_pay1 (F := Ideal) v22 v66 v67 v82 (ix2 r n)
      = Row.ple h (Row.rms h (fun k => v67 (ix2 0 k))) (fun k l => v82 (ix3 0 k l)) p Q n := by
  pointwise [k0_pay1]
  simp only [zero_sub, hh, hp]
  rfl

/-- What the body stores at row `r` of its block is the row function of row `r` of its input blocks. -/
theorem block (x0 : Vec Ideal S32x1024 .f32) (x1 : Vec Ideal S1x1024 .f32) (x2 : Vec Ideal S1x1024x4096 .bf16)
    (x3 : Vec Ideal S1x4096x1024 .bf16) (x4 : Vec Ideal S1x1024 .f32) (x5 : Vec Ideal S1x1024x1024 .bf16)
    (x6 : Vec Ideal S1x32x256 .f32) (x7 : Vec Ideal S1x256x1024 .bf16) (x8 : Vec Ideal S1x1024 .f32) (r : Fin 32) (n : Fin 1024) :
    out0_9 (F := Ideal) x0 x1 x2 x3 x4 x5 x6 x7 x8 (ix2 r n)
      = Row.even (fun k => x0 (ix2 r k)) (fun k => x1 (ix2 0 k)) (fun k l => x2 (ix3 0 k l)) (fun k l => x3 (ix3 0 k l))
          (fun k => x4 (ix2 0 k)) (fun k l => x5 (ix3 0 k l)) (fun k => x6 (ix3 0 r k)) (fun k l => x7 (ix3 0 k l)) n := by
  have hz : (![0, 0] : Fin 2 → Nat) = fun _ => 0 := funext fun a => by fin_cases a <;> rfl
  unfold out0_9
  rw [View.canon_unit_zero hz]
  refine (pay1_apply _ _ _ _ (fun l => x6 (ix3 0 r l)) (fun l k => x7 (ix3 0 l k))
    (Row.ffn (fun k => x0 (ix2 r k)) (Row.rms (fun k => x0 (ix2 r k)) (fun k => x1 (ix2 0 k)))
      (fun k l => x2 (ix3 0 k l)) (fun k l => x3 (ix3 0 k l))) r (fun n => ?_) (fun n => ?_) n).trans ?_
  · rw [pay4_apply]
    pointwise
  · rw [pay6_apply]
    pointwise [pay5_apply, pay3_apply]
    exact Row.quarters _ fun f => Row.unit (Row.rms (fun k => x0 (ix2 r k)) (fun k => x1 (ix2 0 k)))
      (fun k l => x2 (ix3 0 k l)) f * x3 (ix3 0 f n)
  · pointwise
    rfl

variable (m : (ℓ : Loc nD τ sig) → Buf (Elt Ideal) ℓ)

/-- The block of every window at every grid point: one point, the whole arrays; the weights are the first layer's. -/
theorem idx : ∀ t : Fin cfg0.N, win0_0.index t = ![0, 0] ∧ win0_1.index t = ![0, 0] ∧ win0_2.index t = ![0, 0, 0]
    ∧ win0_3.index t = ![0, 0, 0] ∧ win0_4.index t = ![0, 0] ∧ win0_5.index t = ![0, 0, 0] ∧ win0_6.index t = ![0, 0, 0]
    ∧ win0_7.index t = ![0, 0, 0] ∧ win0_8.index t = ![0, 0] ∧ win0_9.index t = ![0, 0] :=
  (by decide +kernel : ∀ t : Fin grid0.N, _)

/-- The reference's term of device `c`'s argument arrays. -/
abbrev G (c : Dev nD) : FVec Ideal S32x1024 .f32 :=
  Cert.MlpESRefIdeal.Term.ref (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What the body stores at index `y` of point `t`'s block is the reference's term at the array index where `y` lies. -/
theorem point (c : Dev nD) (t : Fin cfg0.N) (y) :
    out0_9 (F := Ideal) (iblk m c 0 t) (iblk m c 1 t) (iblk m c 2 t) (iblk m c 3 t) (iblk m c 4 t) (iblk m c 5 t)
      (iblk m c 6 t) (iblk m c 7 t) (iblk m c 8 t) y
      = G m c (((cfg0.win 9).blk t).view.emb y) := by
  idx_vars y
  have e : ((cfg0.win 9).blk t).view.emb (ix2 y0 y1) = ix2 y0 y1 := by
    blk_ext [idx t]
  rw [e, G, Cert.MlpESRefIdeal.Term.ref_apply]
  refine (block _ _ _ _ _ _ _ _ _ y0 y1).trans ?_
  blk_point [iblk, V, idx t]

/-- The result array after the run is the reference's term of the arguments. -/
theorem final (c : Dev nD) : (dats m 0 c).arrAt 9 (cfgs 0).N = G m c := by
  refine (dats m 0 c).arrAt_eq_of_covers 9 _ (by decide +kernel) fun t _ y => ?_
  blk_simp
  rw [after0_9]
  exact point m c t y

end Cert.MlpESIdeal.Final

namespace Cert.Proof

open Idealize.ShloMosaic Idealize.SL.Sem

/-- The sample's result is the reference's on every device, from the same arguments. -/
theorem algebraic_mlp_es : Cert.algebraic_MlpESIdeal_MlpESRefIdeal := by
  pair_intro
  · run_from Cert.MlpESIdeal.Gen.run_main m g
  · run_from Cert.MlpESRefIdeal.Value.run m' g'
    obtain ⟨h0, h1, h2, h3, h4, h5, h6, h7, _⟩ := hagree c
    rw [Cert.MlpESIdeal.Final.final m, Cert.MlpESRefIdeal.Term.res_eq, h0, h1, h2, h3, h4, h5, h6, h7]

end Cert.Proof

end
-- ==== Proof.ConvInSValue.lean ====
/- The values of the call that projects the convolution mixer's input and gates it, for the sample's one token
   (`ConvInS`): at the ideal instance its result array is the reference's term of the same arguments, entry by entry. -/
module

public import proofs.«01_k».proof.Defs
public import proofs.«01_k».proof.Proof.Gen.ConvInSIdeal.Frame
public import proofs.«01_k».proof.Proof.Gen.ConvInSRefIdeal.Run
public import proofs.«01_k».proof.Proof.Row
public import Idealize.ShloMosaic.Lib.Pipeline.ValueKit

@[expose] public section

set_option maxRecDepth 16384

noncomputable section

namespace Cert.ConvInSRefIdeal.Term

open Cert.ConvInSRefIdeal Cert.ConvInSRefIdeal.Gen Idealize.ShloMosaic Idealize.ShloMosaic.TcCoe Idealize.SL.Sem

/-- What the reference computes from the hidden state `x0`, the norm weights `x1`, the first pointwise weight `x2` and its
    bias `x3`: RMSNorm, the product with the weight, the bias, and the gated linear unit, its rows in one axis. -/
def ref (x0 : FVec Ideal S32x1x1024 .f32) (x1 : FVec Ideal S2x1024 .f32) (x2 : FVec Ideal S1x1024x2048 .f32)
    (x3 : FVec Ideal S1x2048 .f32) : FVec Ideal S32x1024 .f32 :=
  shapeCast _ (mulf (extractStridedSlice S32x1x1024 ![0, 0, 0] (addf (Host.dotGeneral dot_S32x1x1024_S1024x2048_S32x1x2048_2_0_01_1_n_n none (mulf
    (mulf x0 (broadcastInDim S32x1x1024 ![0, 1, 2] bcast_S32x1x1_S32x1x1024_0_1_2 (Host.rsqrt (addf (Host.divf (broadcastInDim S32x1x1 ![0, 1]
    bcast_S32x1_S32x1x1_0_1 (Host.reduceAdd (mulf x0 x0) (constant S_ .f32 0x00000000#32) reducesTo_S32x1x1024_S32x1_d2 h_S_)) (broadcastInDim
    S32x1x1 ![] bcast_S_S32x1x1 (constant S_ .f32 0x44800000#32))) (broadcastInDim S32x1x1 ![] bcast_S_S32x1x1 (constant S_ .f32
    0x358637BD#32)))))) (broadcastInDim S32x1x1024 ![0, 1, 2] bcast_S1x1x1024_S32x1x1024_0_1_2 (broadcastInDim S1x1x1024 ![2] bcast_S1024_S1x1x1024_2
    (shapeCast _ (extractStridedSlice S1x1024 ![0, 0] x1 slices_S2x1024_S1x1024_0_0) shapeCasts_S1x1024_S1024)))) (shapeCast _ x2
    shapeCasts_S1x1024x2048_S1024x2048)) (broadcastInDim S32x1x2048 ![0, 1, 2] bcast_S1x1x2048_S32x1x2048_0_1_2 (broadcastInDim S1x1x2048 ![2]
    bcast_S2048_S1x1x2048_2 (shapeCast _ x3 shapeCasts_S1x2048_S2048)))) slices_S32x1x2048_S32x1x1024_0_0_0) (Host.divf (broadcastInDim S32x1x1024
    ![] bcast_S_S32x1x1024 (constant S_ .f32 0x3F800000#32)) (addf (broadcastInDim S32x1x1024 ![] bcast_S_S32x1x1024 (constant S_ .f32
    0x3F800000#32)) (Host.exp (Host.negf (extractStridedSlice S32x1x1024 ![0, 0, 1024] (addf (Host.dotGeneral
    dot_S32x1x1024_S1024x2048_S32x1x2048_2_0_01_1_n_n none (mulf (mulf x0 (broadcastInDim S32x1x1024 ![0, 1, 2] bcast_S32x1x1_S32x1x1024_0_1_2
    (Host.rsqrt (addf (Host.divf (broadcastInDim S32x1x1 ![0, 1] bcast_S32x1_S32x1x1_0_1 (Host.reduceAdd (mulf x0 x0) (constant S_ .f32
    0x00000000#32) reducesTo_S32x1x1024_S32x1_d2 h_S_)) (broadcastInDim S32x1x1 ![] bcast_S_S32x1x1 (constant S_ .f32 0x44800000#32)))
    (broadcastInDim S32x1x1 ![] bcast_S_S32x1x1 (constant S_ .f32 0x358637BD#32)))))) (broadcastInDim S32x1x1024 ![0, 1, 2]
    bcast_S1x1x1024_S32x1x1024_0_1_2 (broadcastInDim S1x1x1024 ![2] bcast_S1024_S1x1x1024_2 (shapeCast _ (extractStridedSlice S1x1024 ![0, 0] x1
    slices_S2x1024_S1x1024_0_0) shapeCasts_S1x1024_S1024)))) (shapeCast _ x2 shapeCasts_S1x1024x2048_S1024x2048)) (broadcastInDim S32x1x2048 ![0, 1, 2]
    bcast_S1x1x2048_S32x1x2048_0_1_2 (broadcastInDim S1x1x2048 ![2] bcast_S2048_S1x1x2048_2 (shapeCast _ x3 shapeCasts_S1x2048_S2048))))
    slices_S32x1x2048_S32x1x1024_0_0_1024)))))) shapeCasts_S32x1x1024_S32x1024

/-- The reference's term at row `r`, column `n` is the gated projection of row `r`. -/
theorem ref_apply (x0 : FVec Ideal S32x1x1024 .f32) (x1 : FVec Ideal S2x1024 .f32) (x2 : FVec Ideal S1x1024x2048 .f32)
    (x3 : FVec Ideal S1x2048 .f32) (r : Fin 32) (n : Fin 1024) :
    ref x0 x1 x2 x3 (ix2 r n) = Cert.Row.gate (fun k => x0 (ix3 r 0 k))
      (fun k => x1 (ix2 0 k)) (fun k l => x2 (ix3 0 k l)) (fun l => x3 (ix2 0 l)) n := by
  pointwise [ref]
  rfl

end Cert.ConvInSRefIdeal.Term

namespace Cert.ConvInSIdeal.Final

open Cert.ConvInSIdeal Cert.ConvInSIdeal.Gen Idealize.ShloMosaic Idealize.ShloMosaic.TcCoe Idealize.SL.Sem
open Idealize.ShloMosaic.Pipeline (Dat)

variable (m : (ℓ : Loc nD τ sig) → Buf (Elt Ideal) ℓ)

/-- The block of every window at every grid point: one point, the whole arrays. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The reference's term of device `c`'s argument arrays. -/
abbrev G (c : Dev nD) : FVec Ideal S32x1024 .f32 :=
  Cert.ConvInSRefIdeal.Term.ref (m ((c : Thread nD τ).loc main_arg0)) (m ((c : Thread nD τ).loc main_arg1))
    (m ((c : Thread nD τ).loc main_arg2)) (m ((c : Thread nD τ).loc main_arg3))

/-- The body's stored value at row `r`, column `n` of its block is the gated projection of the block's row `r`. -/
theorem pay_apply (v0 : Vec Ideal S32x1024 .f32) (v2 : Vec Ideal S1x1024 .f32) (v17 : Vec Ideal S1024x2048 .bf16)
    (v20 : Vec Ideal S1x2048 .f32) (r : Fin 32) (n : Fin 1024) :
    k0_pay1 (F := Ideal) v0 v2 v17 v20 (ix2 r n) = Cert.Row.gate (fun k => v0 (ix2 r k))
      (fun k => v2 (ix2 0 k)) (fun k l => v17 (ix2 k l)) (fun l => v20 (ix2 0 l)) n := by
  pointwise [k0_pay1]
  simp only [zero_sub]
  rfl

/-- What the body stores at index `y` of point `t`'s block is the reference's term at the array index where `y` lies. -/
theorem point (c : Dev nD) (t : Fin cfg0.N) (y) :
    k0_pay1 (F := Ideal) (iblk m c 0 t) (iblk m c 1 t) (iblk m c 2 t) (iblk m c 3 t) y
      = G m c (((cfg0.win 4).blk t).view.emb y) := by
  idx_vars y
  have e : ((cfg0.win 4).blk t).view.emb (ix2 y0 y1) = ix2 y0 y1 := by
    blk_ext [idx t]
  rw [e, G, Cert.ConvInSRefIdeal.Term.ref_apply]
  refine (pay_apply _ _ _ _ y0 y1).trans ?_
  blk_point [iblk, V, idx t]

/-- The result array after the run is the reference's term of the arguments. -/
theorem final (c : Dev nD) : (dats m 0 c).arrAt 4 (cfgs 0).N = G m c := by
  refine (dats m 0 c).arrAt_eq_of_covers 4 _ (by decide +kernel) fun t _ y => ?_
  blk_simp
  rw [after0_4]; frame_out
  exact point m c t y

end Cert.ConvInSIdeal.Final

namespace Cert.Proof

open Idealize.ShloMosaic Idealize.SL.Sem

/-- The projection's result is the reference's on every device, from the same arguments. -/
theorem algebraic_conv_in_s : Cert.algebraic_ConvInSIdeal_ConvInSRefIdeal := by
  pair_intro
  · run_from Cert.ConvInSIdeal.Gen.run_main m g
  · run_from Cert.ConvInSRefIdeal.Value.run m' g'
    exact (Cert.ConvInSIdeal.Final.final m _).symm

end Cert.Proof

end
-- ==== Proof.ConvStrip.lean ====
/- The loop of the convolution call (`Conv`): what its eight trips leave in the buffer of the strips. Each trip convolves
   one strip of 128 channels. -/
module

public import proofs.«01_k».proof.Defs
public import proofs.«01_k».proof.Proof.Gen.ConvIdeal.Value
public import proofs.«01_k».proof.Proof.Row
public import Idealize.ShloMosaic.Lib.Pipeline.ValueKit
public import Idealize.ShloMosaic.Lib.Pipeline.ReadBack

@[expose] public section

set_option maxRecDepth 16384

noncomputable section

/-! ## One trip of the kernel's loop: one strip of 128 channels -/

namespace Cert.ConvIdeal.Final

open Cert.ConvIdeal Cert.ConvIdeal.Gen Idealize.ShloMosaic Idealize.ShloMosaic.TcCoe Idealize.SL.Sem

/-- The convolution strip by strip: channel `l` of strip `s` at time `t` is the bias plus the 31 taps over the window of
    the context that starts two rows past `t`. -/
def taps (D : Vec Ideal S8x31x128 .f32) (B : Vec Ideal S8x1x128 .f32) (X : Vec Ideal S8x288x128 .f32) (s : Fin 8) (t : Fin 256)
    (l : Fin 128) : EReal :=
  Row.conv (B (ix3 s 0 l)) (fun j => D (ix3 s j l)) (fun j => X (ix3 s ⟨j.val + 2 + t.val, by omega⟩ l))

/-- The same, as the contents of the buffer of the strips. -/
def strips (D : Vec Ideal S8x31x128 .f32) (B : Vec Ideal S8x1x128 .f32) (X : Vec Ideal S8x288x128 .f32) : Vec Ideal S8x256x128 .f32 :=
  fun y => taps D B X (y 0) (y 1) (y 2)

/-- The loop's variable at trip `k` is `k`. -/
theorem iv : ∀ k : Fin k0_t1_loop.trips, (Scalar.indexCast (Scf.iv 0#32 1#32 k) : Index).toNat = k.val := by decide +kernel

/-- The offsets of the loop's reads and of its store: strip `k`, from the row the tap begins at. -/
theorem offs : ∀ k : Fin k0_t1_loop.trips, k0_off1 k = ![k.val, 0, 0] ∧ k0_off2 k = ![k.val, 2, 0] ∧ k0_off3 k =
    ![k.val, 0, 0] ∧ k0_off4 k = ![k.val, 3, 0] ∧ k0_off5 k = ![k.val, 1, 0] ∧ k0_off6 k = ![k.val, 4, 0] ∧
    k0_off7 k = ![k.val, 2, 0] ∧ k0_off8 k = ![k.val, 5, 0] ∧ k0_off9 k = ![k.val, 3, 0] ∧ k0_off10 k = ![k.val,
    6, 0] ∧ k0_off11 k = ![k.val, 4, 0] ∧ k0_off12 k = ![k.val, 7, 0] ∧ k0_off13 k = ![k.val, 5, 0] ∧ k0_off14 k
    = ![k.val, 8, 0] ∧ k0_off15 k = ![k.val, 6, 0] ∧ k0_off16 k = ![k.val, 9, 0] ∧ k0_off17 k = ![k.val, 7, 0] ∧
    k0_off18 k = ![k.val, 10, 0] ∧ k0_off19 k = ![k.val, 8, 0] ∧ k0_off20 k = ![k.val, 11, 0] ∧ k0_off21 k =
    ![k.val, 9, 0] ∧ k0_off22 k = ![k.val, 12, 0] ∧ k0_off23 k = ![k.val, 10, 0] ∧ k0_off24 k = ![k.val, 13, 0]
    ∧ k0_off25 k = ![k.val, 11, 0] ∧ k0_off26 k = ![k.val, 14, 0] ∧ k0_off27 k = ![k.val, 12, 0] ∧ k0_off28 k =
    ![k.val, 15, 0] ∧ k0_off29 k = ![k.val, 13, 0] ∧ k0_off30 k = ![k.val, 16, 0] ∧ k0_off31 k = ![k.val, 14, 0]
    ∧ k0_off32 k = ![k.val, 17, 0] ∧ k0_off33 k = ![k.val, 15, 0] ∧ k0_off34 k = ![k.val, 18, 0] ∧ k0_off35 k =
    ![k.val, 16, 0] ∧ k0_off36 k = ![k.val, 19, 0] ∧ k0_off37 k = ![k.val, 17, 0] ∧ k0_off38 k = ![k.val, 20, 0]
    ∧ k0_off39 k = ![k.val, 18, 0] ∧ k0_off40 k = ![k.val, 21, 0] ∧ k0_off41 k = ![k.val, 19, 0] ∧ k0_off42 k =
    ![k.val, 22, 0] ∧ k0_off43 k = ![k.val, 20, 0] ∧ k0_off44 k = ![k.val, 23, 0] ∧ k0_off45 k = ![k.val, 21, 0]
    ∧ k0_off46 k = ![k.val, 24, 0] ∧ k0_off47 k = ![k.val, 22, 0] ∧ k0_off48 k = ![k.val, 25, 0] ∧ k0_off49 k =
    ![k.val, 23, 0] ∧ k0_off50 k = ![k.val, 26, 0] ∧ k0_off51 k = ![k.val, 24, 0] ∧ k0_off52 k = ![k.val, 27, 0]
    ∧ k0_off53 k = ![k.val, 25, 0] ∧ k0_off54 k = ![k.val, 28, 0] ∧ k0_off55 k = ![k.val, 26, 0] ∧ k0_off56 k =
    ![k.val, 29, 0] ∧ k0_off57 k = ![k.val, 27, 0] ∧ k0_off58 k = ![k.val, 30, 0] ∧ k0_off59 k = ![k.val, 28, 0]
    ∧ k0_off60 k = ![k.val, 31, 0] ∧ k0_off61 k = ![k.val, 29, 0] ∧ k0_off62 k = ![k.val, 32, 0] ∧ k0_off63 k =
    ![k.val, 30, 0] ∧ k0_off64 k = ![k.val, 0, 0] :=
  fun k => ⟨congrArg (fun n => ![n, 0, 0]) (iv k) , congrArg (fun n => ![n, 2, 0]) (iv k) , congrArg (fun n => ![n, 0, 0])
    (iv k) , congrArg (fun n => ![n, 3, 0]) (iv k) , congrArg (fun n => ![n, 1, 0]) (iv k) , congrArg
    (fun n => ![n, 4, 0]) (iv k) , congrArg (fun n => ![n, 2, 0]) (iv k) , congrArg (fun n => ![n, 5, 0]) (iv k)
    , congrArg (fun n => ![n, 3, 0]) (iv k) , congrArg (fun n => ![n, 6, 0]) (iv k) , congrArg
    (fun n => ![n, 4, 0]) (iv k) , congrArg (fun n => ![n, 7, 0]) (iv k) , congrArg (fun n => ![n, 5, 0]) (iv k)
    , congrArg (fun n => ![n, 8, 0]) (iv k) , congrArg (fun n => ![n, 6, 0]) (iv k) , congrArg
    (fun n => ![n, 9, 0]) (iv k) , congrArg (fun n => ![n, 7, 0]) (iv k) , congrArg (fun n => ![n, 10, 0])
    (iv k) , congrArg (fun n => ![n, 8, 0]) (iv k) , congrArg (fun n => ![n, 11, 0]) (iv k) , congrArg
    (fun n => ![n, 9, 0]) (iv k) , congrArg (fun n => ![n, 12, 0]) (iv k) , congrArg (fun n => ![n, 10, 0])
    (iv k) , congrArg (fun n => ![n, 13, 0]) (iv k) , congrArg (fun n => ![n, 11, 0]) (iv k) , congrArg
    (fun n => ![n, 14, 0]) (iv k) , congrArg (fun n => ![n, 12, 0]) (iv k) , congrArg (fun n => ![n, 15, 0])
    (iv k) , congrArg (fun n => ![n, 13, 0]) (iv k) , congrArg (fun n => ![n, 16, 0]) (iv k) , congrArg
    (fun n => ![n, 14, 0]) (iv k) , congrArg (fun n => ![n, 17, 0]) (iv k) , congrArg (fun n => ![n, 15, 0])
    (iv k) , congrArg (fun n => ![n, 18, 0]) (iv k) , congrArg (fun n => ![n, 16, 0]) (iv k) , congrArg
    (fun n => ![n, 19, 0]) (iv k) , congrArg (fun n => ![n, 17, 0]) (iv k) , congrArg (fun n => ![n, 20, 0])
    (iv k) , congrArg (fun n => ![n, 18, 0]) (iv k) , congrArg (fun n => ![n, 21, 0]) (iv k) , congrArg
    (fun n => ![n, 19, 0]) (iv k) , congrArg (fun n => ![n, 22, 0]) (iv k) , congrArg (fun n => ![n, 20, 0])
    (iv k) , congrArg (fun n => ![n, 23, 0]) (iv k) , congrArg (fun n => ![n, 21, 0]) (iv k) , congrArg
    (fun n => ![n, 24, 0]) (iv k) , congrArg (fun n => ![n, 22, 0]) (iv k) , congrArg (fun n => ![n, 25, 0])
    (iv k) , congrArg (fun n => ![n, 23, 0]) (iv k) , congrArg (fun n => ![n, 26, 0]) (iv k) , congrArg
    (fun n => ![n, 24, 0]) (iv k) , congrArg (fun n => ![n, 27, 0]) (iv k) , congrArg (fun n => ![n, 25, 0])
    (iv k) , congrArg (fun n => ![n, 28, 0]) (iv k) , congrArg (fun n => ![n, 26, 0]) (iv k) , congrArg
    (fun n => ![n, 29, 0]) (iv k) , congrArg (fun n => ![n, 27, 0]) (iv k) , congrArg (fun n => ![n, 30, 0])
    (iv k) , congrArg (fun n => ![n, 28, 0]) (iv k) , congrArg (fun n => ![n, 31, 0]) (iv k) , congrArg
    (fun n => ![n, 29, 0]) (iv k) , congrArg (fun n => ![n, 32, 0]) (iv k) , congrArg (fun n => ![n, 30, 0])
    (iv k) , congrArg (fun n => ![n, 0, 0]) (iv k) ⟩

variable (c : Dev nD) (i : grid0.Coords) (arg2 : Memref sig .tc .vmem S1x256x1024 .f32) (harg2 : arg2.IsWhole)
  (arg3 : Memref sig .tc .vmem S1x32x1024 .f32) (harg3 : arg3.IsWhole)
  (arg4 : Memref sig .tc .vmem S1x256x1024 .f32) (harg4 : arg4.IsWhole)
  (arg5 : Memref sig .tc .vmem S8x31x128 .f32) (harg5 : arg5.IsWhole)
  (arg6 : Memref sig .tc .vmem S8x1x128 .f32) (harg6 : arg6.IsWhole) (arg7 : Memref sig .tc .vmem S1x1024 .f32)
  (harg7 : arg7.IsWhole) (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x256x1024 .f32) (harg11 : arg11.IsWhole)
  (arg12 : Memref sig .tc .vmem S8x288x128 .f32) (harg12 : arg12.IsWhole)
  (arg13 : Memref sig .tc .vmem S8x256x128 .f32) (harg13 : arg13.IsWhole)

/-- What trip `k` stores is the strips' contents on the rectangle it stores to. -/
theorem trip (v2 v82 X5 X6 X12) (k : Fin k0_t1_loop.trips) :
    ∀ p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 v2 v82 X5 X6 X12 k,
      ∀ x, p.2 x = strips (arg5.view.read (Elt Ideal) X5) (arg6.view.read (Elt Ideal) X6) (arg12.view.read (Elt Ideal) X12) (p.1.emb x) := by
  unfold tripL_k0_t1 trip_k0_t1
  frame_out
  generalize View.read (Elt Ideal) arg5.view X5 = D
  generalize View.read (Elt Ideal) arg6.view X6 = B
  generalize View.read (Elt Ideal) arg12.view X12 = X
  have hk : k.val < 8 := Nat.lt_of_lt_of_le k.isLt k0_t1_abs.2.1
  obtain ⟨h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64⟩ := offs k
  intro p hp x
  rw [List.mem_singleton] at hp
  subst hp
  idx_vars x
  have e : (Rect.unit (k0_off64 k) ![1, 256, 128] (k0_off64_inb k)).emb (ix3 x0 x1 x2) = ix3 (⟨k.val, hk⟩ : Fin 8) x1 x2 := by
    blk_ext [h64]
  refine Eq.trans ?_ (congrArg (strips D B X) e).symm
  refine Eq.trans ?_ (Row.conv_eq _ _ _)
  pointwise [k0_pay31, k0_pay12, k0_pay11, k0_pay10, k0_pay9, k0_pay8, k0_pay7, k0_pay6, k0_pay5, k0_pay4, k0_pay3, k0_pay2]
  simp only [h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, Matrix.cons_val_zero, Matrix.cons_val_one, Matrix.cons_val, Nat.zero_add, Fin.eta]
  rfl

/-- Trip `k` stores to the whole of strip `k`. -/
theorem trip_cover (v2 v82 X5 X6 X12) (k : Fin k0_t1_loop.trips) (y : S8x256x128.Idx) (hy : (y 0).val = k.val) :
    ∃ p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 v2 v82 X5 X6 X12 k, y ∈ p.1.set := by
  unfold tripL_k0_t1 trip_k0_t1
  frame_open
  refine ⟨_, List.mem_singleton.mpr rfl, ?_⟩
  obtain ⟨h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64⟩ := offs k
  show y ∈ (Rect.unit (s := S8x256x128) (k0_off64 k) ![1, 256, 128] (k0_off64_inb k)).set
  refine Rect.mem_set_unit.mpr fun a => ?_
  rw [h64]
  have h1 : (y 1).val < 256 := (y 1).isLt
  have h2 : (y 2).val < 128 := (y 2).isLt
  fin_cases a
  · show k.val ≤ (y 0).val ∧ (y 0).val < k.val + 1
    omega
  · show 0 ≤ (y 1).val ∧ (y 1).val < 0 + 256
    omega
  · show 0 ≤ (y 2).val ∧ (y 2).val < 0 + 128
    omega

/-- What the trips before `n` stored is the strips' contents, piece by piece. -/
theorem trips_mem (v2 v82 X5 X6 X12) : ∀ n : ℕ, n ≤ 8 →
    ∀ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 v2 v82 X5 X6 X12 n,
      ∀ x, p.2 x = strips (arg5.view.read (Elt Ideal) X5) (arg6.view.read (Elt Ideal) X6) (arg12.view.read (Elt Ideal) X12) (p.1.emb x)
  | 0, _, p, hp => by
    rw [show pb_k0_t1 (F := Ideal) Variants.none c none i arg2 harg2 arg3 harg3 arg4 harg4 arg5 harg5 arg6 harg6 arg7 harg7 arg8 harg8 arg9 harg9 arg10 harg10 arg11 harg11 arg12 harg12 arg13 harg13 v2 v82 X5 X6 X12 0 = [] from rfl] at hp
    exact absurd hp List.not_mem_nil
  | n + 1, hn, p, hp => by
    have hk : n < k0_t1_loop.trips := lt_of_lt_of_eq (by omega : n < 8) (by decide : 8 = k0_t1_loop.trips)
    rw [show n + 1 = (⟨n, hk⟩ : Fin k0_t1_loop.trips).val + 1 from rfl, pb_k0_t1_succ] at hp
    rcases List.mem_append.mp hp with hp | hp
    · exact trip c i arg2 harg2 arg3 harg3 arg4 harg4 arg5 harg5 arg6 harg6 arg7 harg7 arg8 harg8 arg9 harg9 arg10 harg10 arg11 harg11 arg12 harg12 arg13 harg13 v2 v82 X5 X6 X12 ⟨n, hk⟩ p hp
    · exact trips_mem v2 v82 X5 X6 X12 n (by omega) p hp

/-- Every entry of strip `s` lies in the rectangle that trip `s` stores to. -/
theorem trips_cover (v2 v82 X5 X6 X12) (y : S8x256x128.Idx) : ∀ n : ℕ, n ≤ 8 → (y 0).val < n →
    ∃ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 v2 v82 X5 X6 X12 n, y ∈ p.1.set
  | 0, _, hy => absurd hy (Nat.not_lt_zero _)
  | n + 1, hn, hy => by
    have hk : n < k0_t1_loop.trips := lt_of_lt_of_eq (by omega : n < 8) (by decide : 8 = k0_t1_loop.trips)
    rw [show n + 1 = (⟨n, hk⟩ : Fin k0_t1_loop.trips).val + 1 from rfl, pb_k0_t1_succ]
    by_cases e : (y 0).val = n
    · obtain ⟨p, hp, hs⟩ := trip_cover c i arg2 harg2 arg3 harg3 arg4 harg4 arg5 harg5 arg6 harg6 arg7 harg7 arg8 harg8 arg9 harg9 arg10 harg10 arg11 harg11 arg12 harg12 arg13 harg13 v2 v82 X5 X6 X12 ⟨n, hk⟩ y e
      exact ⟨p, List.mem_append_left _ hp, hs⟩
    · obtain ⟨p, hp, hs⟩ := trips_cover v2 v82 X5 X6 X12 y n (by omega) (by omega)
      exact ⟨p, List.mem_append_right _ hp, hs⟩

/-- A read of strip `s` after the loop. -/
theorem strip_read (v2 v82 X5 X6 X12) (v : View sig .tc .vmem S8x256x128 .f32) (s : ℕ) (hs : s < 8)
    (inb : ∀ a, (![s, 0, 0] : Fin 3 → ℕ) a + S1x256x128.size a ≤ S8x256x128.size a) :
    v.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 v2 v82 X5 X6 X12
        (Scf.trips (0#32) (Scalar.addi 0#32 8#32) 1#32)) (Rect.unit ![s, 0, 0] ![1, 256, 128] inb).toLoadRect
      = (fun x => strips (arg5.view.read (Elt Ideal) X5) (arg6.view.read (Elt Ideal) X6) (arg12.view.read (Elt Ideal) X12)
          (ix3 (⟨s, hs⟩ : Fin 8) (x 1) (x 2))) := by
  rw [show Scf.trips (0#32) (Scalar.addi 0#32 8#32) 1#32 = 8 from by decide, View.readCov_eq_canon']
  funext x
  have e : (Rect.unit (s := S8x256x128) ![s, 0, 0] ![1, 256, 128] inb).emb x = (ix3 (⟨s, hs⟩ : Fin 8) (x 1) (x 2) : S8x256x128.Idx) := by
    idx_vars x
    blk_ext
  show View.canon _ ((Rect.unit (s := S8x256x128) ![s, 0, 0] ![1, 256, 128] inb).emb x) = _
  rw [e]
  exact View.canon_apply_of_pieces _ _ (trips_mem c i arg2 harg2 arg3 harg3 arg4 harg4 arg5 harg5 arg6 harg6 arg7 harg7 arg8 harg8 arg9 harg9 arg10 harg10 arg11 harg11 arg12 harg12 arg13 harg13 v2 v82 X5 X6 X12 8 le_rfl) _
    (trips_cover c i arg2 harg2 arg3 harg3 arg4 harg4 arg5 harg5 arg6 harg6 arg7 harg7 arg8 harg8 arg9 harg9 arg10 harg10 arg11 harg11 arg12 harg12 arg13 harg13 v2 v82 X5 X6 X12 _ 8 le_rfl hs)

end Cert.ConvIdeal.Final

end
-- ==== Proof.ConvRef.lean ====
/- The reference of the convolution call (`Conv`), read entry by entry: the bias plus 31 taps over a sequence that is
   zero before its first entry, LayerNorm, the swish, the projection and the residual. -/
module

public import proofs.«01_k».proof.Defs
public import proofs.«01_k».proof.Proof.Gen.ConvRefIdeal.Run
public import proofs.«01_k».proof.Proof.Row
public import Idealize.ShloMosaic.Lib.Pipeline.ValueKit
public import Idealize.ShloMosaic.Lib.Tactic.CleanTypes
public import Idealize.ShloMosaic.Lib.KernelVsHost

@[expose] public section

set_option maxRecDepth 16384

noncomputable section

namespace Cert.ConvRefIdeal.Term

open Cert.ConvRefIdeal Cert.ConvRefIdeal.Gen Idealize.ShloMosaic Idealize.ShloMosaic.TcCoe Idealize.SL.Sem

variable (V : Valuation τ sig (Elt Ideal))

/-- The gated inputs as a sequence of 1024 channels that is zero for its first 30 entries. -/
theorem pad_apply (g : FVec Ideal S8x2048x1024 .f32) (b : Fin 8) (r : Fin 2078) (n : Fin 1024) :
    pad S8x2078x1024 ![0, 30, 0] ![0, 0, 0] ![0, 0, 0] g (sitofp .f32 (constantI S_ 32 0#32))
        pads_S8x2048x1024_S8x2078x1024_000_3000_000 h_S_ (ix3 b r n)
      = if h : 30 ≤ r.val then g (ix3 b ⟨r.val - 30, by omega⟩ n) else 0 := by
  have hr := r.isLt
  have e : (FloatOps.sitofp .f32 0#32 : Ideal .f32) = 0 := sitofp_zero
  pointwise
  rw [e]
  by_cases h : 30 ≤ r.val
  · rw [dif_pos ⟨h, by omega⟩, dif_pos h]
  · rw [dif_neg fun h' => h h'.1, dif_neg h]

/-- The convolution: the 31 taps, begun at zero, and the bias. -/
theorem conv_apply (b : Fin 8) (t : Fin 2048) (n : Fin 1024) :
    (Value.res_main_v222 V : FVec Ideal S8x2048x1024 .f32) (ix3 b t n)
      = Row.conv ((V (Proc.devRef .tc main_arg3) : FVec Ideal S1x1024 .f32) (ix2 0 n))
          (fun j => (V (Proc.devRef .tc main_arg2) : FVec Ideal S1x31x1024 .f32) (ix3 0 j n))
          (fun j => (Value.res_main_v0 V : FVec Ideal S8x2078x1024 .f32) (ix3 b ⟨j.val + t.val, by omega⟩ n)) := by
  refine Eq.trans ?_ (Row.conv_eq' _ _ _)
  unfold Value.res_main_v222 Value.res_main_v211 Value.res_main_v141 Value.res_main_v71
  clean_types
  generalize Value.res_main_v0 V = X
  generalize V (Proc.devRef .tc main_arg2) = D
  generalize V (Proc.devRef .tc main_arg3) = B
  pointwise

/-- The mean of each row. -/
def mean (y : FVec Ideal S8x2048x1024 .f32) : FVec Ideal S8x2048x1 .f32 :=
  Host.divf (broadcastInDim S8x2048x1 ![0, 1] bcast_S8x2048_S8x2048x1_0_1 (Host.reduceAdd y (constant S_ .f32 0x00000000#32)
    reducesTo_S8x2048x1024_S8x2048_d2 h_S_)) (broadcastInDim S8x2048x1 ![] bcast_S_S8x2048x1 (constant S_ .f32 0x44800000#32))

theorem mean_apply (y : FVec Ideal S8x2048x1024 .f32) (b : Fin 8) (t : Fin 2048) (u : Fin 1) :
    mean y (ix3 b t u) = Row.mean (fun n => y (ix3 b t n)) := by
  pointwise [mean]
  rfl

/-- One row of weights laid along every row. -/
def along (g : FVec Ideal S1x1024 .f32) : FVec Ideal S8x2048x1024 .f32 :=
  broadcastInDim S8x2048x1024 ![0, 1, 2] bcast_S1x1x1024_S8x2048x1024_0_1_2 (broadcastInDim S1x1x1024 ![2]
    bcast_S1024_S1x1x1024_2 (shapeCast _ g shapeCasts_S1x1024_S1024))

theorem along_apply (g : FVec Ideal S1x1024 .f32) (b : Fin 8) (t : Fin 2048) (n : Fin 1024) :
    along g (ix3 b t n) = g (ix2 0 n) := by
  pointwise [along]

/-- Each row less its mean. -/
def centred (y : FVec Ideal S8x2048x1024 .f32) : FVec Ideal S8x2048x1024 .f32 :=
  subf y (broadcastInDim S8x2048x1024 ![0, 1, 2] bcast_S8x2048x1_S8x2048x1024_0_1_2 (mean y))

theorem centred_apply (y : FVec Ideal S8x2048x1024 .f32) (b : Fin 8) (t : Fin 2048) (n : Fin 1024) :
    centred y (ix3 b t n) = y (ix3 b t n) - Row.mean (fun l => y (ix3 b t l)) := by
  pointwise [centred, mean_apply]

/-- LayerNorm along the last axis. -/
def lnorm (y : FVec Ideal S8x2048x1024 .f32) (g b : FVec Ideal S1x1024 .f32) : FVec Ideal S8x2048x1024 .f32 :=
  addf (mulf (mulf (centred y) (broadcastInDim S8x2048x1024 ![0, 1, 2] bcast_S8x2048x1_S8x2048x1024_0_1_2 (Host.rsqrt (addf
    (mean (mulf (centred y) (centred y)))
    (broadcastInDim S8x2048x1 ![] bcast_S_S8x2048x1 (constant S_ .f32 0x358637BD#32)))))) (along g)) (along b)

theorem lnorm_apply (y : FVec Ideal S8x2048x1024 .f32) (g b : FVec Ideal S1x1024 .f32) (i : Fin 8) (t : Fin 2048) (n : Fin 1024) :
    lnorm y g b (ix3 i t n)
      = Row.lnorm (fun l => y (ix3 i t l)) (fun l => g (ix2 0 l)) (fun l => b (ix2 0 l)) n := by
  pointwise [lnorm, mean_apply, centred_apply, along_apply]
  rfl

/-- The swish, entry by entry. -/
def swish (a : FVec Ideal S8x2048x1024 .f32) : FVec Ideal S8x2048x1024 .f32 :=
  mulf a (Host.divf (broadcastInDim S8x2048x1024 ![] bcast_S_S8x2048x1024 (constant S_ .f32 0x3F800000#32)) (addf
    (broadcastInDim S8x2048x1024 ![] bcast_S_S8x2048x1024 (constant S_ .f32 0x3F800000#32)) (Host.exp (Host.negf a))))

theorem swish_apply (a : FVec Ideal S8x2048x1024 .f32) (i : Fin 8) (t : Fin 2048) (n : Fin 1024) :
    swish a (ix3 i t n) = Row.swish (a (ix3 i t n)) := by
  pointwise [swish]
  rfl

/-- What follows the convolution: LayerNorm, the swish, the projection with its bias, the residual. -/
def tail (x y : FVec Ideal S8x2048x1024 .f32) (g b : FVec Ideal S1x1024 .f32) (w : FVec Ideal S1x1024x1024 .f32)
    (c : FVec Ideal S1x1024 .f32) : FVec Ideal S8x2048x1024 .f32 :=
  addf x (addf (Host.dotGeneral dot_S8x2048x1024_S1024x1024_S8x2048x1024_2_0_01_1_n_n none (swish (lnorm y g b))
    (shapeCast _ w shapeCasts_S1x1024x1024_S1024x1024)) (along c))

theorem tail_apply (x y : FVec Ideal S8x2048x1024 .f32) (g b : FVec Ideal S1x1024 .f32) (w : FVec Ideal S1x1024x1024 .f32)
    (c : FVec Ideal S1x1024 .f32) (i : Fin 8) (t : Fin 2048) (n : Fin 1024) :
    tail x y g b w c (ix3 i t n)
      = Row.mixOut (fun l => x (ix3 i t l)) (fun l => y (ix3 i t l)) (fun l => g (ix2 0 l)) (fun l => b (ix2 0 l))
          (fun k l => w (ix3 0 k l)) (fun l => c (ix2 0 l)) n := by
  pointwise [tail, swish_apply, lnorm_apply, along_apply]
  rfl

/-- The reference's result from its arguments' contents. -/
def res : FVec Ideal S8x2048x1024 .f32 :=
  tail (V (Proc.devRef .tc main_arg1)) (Value.res_main_v222 V) (V (Proc.devRef .tc main_arg4)) (V (Proc.devRef .tc main_arg5))
    (V (Proc.devRef .tc main_arg6)) (V (Proc.devRef .tc main_arg7))

/-- One entry of the reference's result. -/
theorem res_apply (b : Fin 8) (t : Fin 2048) (n : Fin 1024) :
    res V (ix3 b t n)
      = Row.mixOut (fun l => (V (Proc.devRef .tc main_arg1) : FVec Ideal S8x2048x1024 .f32) (ix3 b t l))
          (fun l => Row.conv ((V (Proc.devRef .tc main_arg3) : FVec Ideal S1x1024 .f32) (ix2 0 l))
            (fun j => (V (Proc.devRef .tc main_arg2) : FVec Ideal S1x31x1024 .f32) (ix3 0 j l))
            (Row.back (fun s => (V (Proc.devRef .tc main_arg0) : FVec Ideal S8x2048x1024 .f32) (ix3 b s l)) t))
          (fun l => (V (Proc.devRef .tc main_arg4) : FVec Ideal S1x1024 .f32) (ix2 0 l))
          (fun l => (V (Proc.devRef .tc main_arg5) : FVec Ideal S1x1024 .f32) (ix2 0 l))
          (fun k l => (V (Proc.devRef .tc main_arg6) : FVec Ideal S1x1024x1024 .f32) (ix3 0 k l))
          (fun l => (V (Proc.devRef .tc main_arg7) : FVec Ideal S1x1024 .f32) (ix2 0 l)) n := by
  refine (tail_apply _ _ _ _ _ _ b t n).trans ?_
  refine congrArg (fun y => Row.mixOut _ y _ _ _ _ n) (funext fun l => ?_)
  refine (conv_apply V b t l).trans (congrArg (Row.conv _ _) (funext fun j => ?_))
  refine (pad_apply _ b _ l).trans ?_
  unfold Row.back
  by_cases h : 30 ≤ t.val + j.val
  · rw [dif_pos h, dif_pos (show 30 ≤ j.val + t.val by omega)]
    exact congrArg (fun s => (V (Proc.devRef .tc main_arg0) : FVec Ideal S8x2048x1024 .f32) (ix3 b s l)) (Fin.ext (by
      show j.val + t.val - 30 = t.val + j.val - 30
      omega))
  · rw [dif_neg h, dif_neg (show ¬ 30 ≤ j.val + t.val by omega)]

end Cert.ConvRefIdeal.Term

end
-- ==== Proof.ConvValue.lean ====
/- The values of the convolution call (`Conv`): at the ideal instance its result array is the reference's, entry by
   entry: both are the row function `Cert.Row.mixOut` of the same rows. -/
module

public import proofs.«01_k».proof.Defs
public import proofs.«01_k».proof.Proof.Gen.ConvIdeal.Value
public import proofs.«01_k».proof.Proof.Row
public import proofs.«01_k».proof.Proof.ConvStrip
public import proofs.«01_k».proof.Proof.ConvRef
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.ConvIdeal.Final

open Cert.ConvIdeal Cert.ConvIdeal.Gen Idealize.ShloMosaic Idealize.ShloMosaic.TcCoe Idealize.SL.Sem

/-! ## The context -/

/-- The factor of the 32 rows before a block: zero at the first block of a sequence, one at the others. -/
theorem keep_eq (t : Fin cfg0.N) : k0_pay13 (F := Ideal) (grid0.coords t) = if t.val % 8 = 0 then 0 else 1 := by
  have h : ∀ t : Fin grid0.N, Scalar.extui (Scalar.cmpi .sgt (BitVec.ofNat 32 ((grid0.coords t) 1).val) 0#32)
      = if t.val % 8 = 0 then 0#32 else 1#32 := by decide +kernel
  unfold k0_pay13
  show Scalar.sitofp .f32 (Scalar.extui (Scalar.cmpi .sgt (BitVec.ofNat 32 ((grid0.coords t) 1).val) 0#32)) = _
  rw [h t]
  split
  · exact sitofp_zero
  · rw [Ideal.scalar_sitofp_def]
    norm_num

/-- The context of a block, by strips: 32 rows `y` before the block times `k`, then the block's own 256 rows `x`. -/
def ctx (k : EReal) (x : Vec Ideal S1x256x1024 .f32) (y : Vec Ideal S1x32x1024 .f32) : Vec Ideal S8x288x128 .f32 := fun p =>
  if h : (p 1).val < 32 then y (ix3 0 ⟨(p 1).val, h⟩ ⟨(p 0).val * 128 + (p 2).val, by have := (p 0).isLt; have := (p 2).isLt; show _ < 1024; simp at *; omega⟩) * k
  else x (ix3 0 ⟨(p 1).val - 32, by have := (p 1).isLt; show _ < 256; simp at *; omega⟩ ⟨(p 0).val * 128 + (p 2).val, by have := (p 0).isLt; have := (p 2).isLt; show _ < 1024; simp at *; omega⟩)

/-- The sixteen stores that fill the context, the last one first. -/
def pieces (i : grid0.Coords) (x : Vec Ideal S1x256x1024 .f32) (y : Vec Ideal S1x32x1024 .f32) : List (View.Piece (Elt Ideal) S8x288x128 .f32) :=
  [⟨Rect.unit ![7, 32, 0] ![1, 256, 128] inb_S8x288x128_S1x256x128_7_32_0, k0_pay30 (F := Ideal) (View.ld x (Rect.unit ![0, 0, 896] ![1, 256, 128] inb_S1x256x1024_S1x256x128_0_0_896))⟩,
   ⟨Rect.unit ![7, 0, 0] ![1, 32, 128] inb_S8x288x128_S1x32x128_7_0_0, k0_pay29 (F := Ideal) (k0_pay13 i) (View.ld y (Rect.unit ![0, 0, 896] ![1, 32, 128] inb_S1x32x1024_S1x32x128_0_0_896))⟩,
   ⟨Rect.unit ![6, 32, 0] ![1, 256, 128] inb_S8x288x128_S1x256x128_6_32_0, k0_pay28 (F := Ideal) (View.ld x (Rect.unit ![0, 0, 768] ![1, 256, 128] inb_S1x256x1024_S1x256x128_0_0_768))⟩,
   ⟨Rect.unit ![6, 0, 0] ![1, 32, 128] inb_S8x288x128_S1x32x128_6_0_0, k0_pay27 (F := Ideal) (k0_pay13 i) (View.ld y (Rect.unit ![0, 0, 768] ![1, 32, 128] inb_S1x32x1024_S1x32x128_0_0_768))⟩,
   ⟨Rect.unit ![5, 32, 0] ![1, 256, 128] inb_S8x288x128_S1x256x128_5_32_0, k0_pay26 (F := Ideal) (View.ld x (Rect.unit ![0, 0, 640] ![1, 256, 128] inb_S1x256x1024_S1x256x128_0_0_640))⟩,
   ⟨Rect.unit ![5, 0, 0] ![1, 32, 128] inb_S8x288x128_S1x32x128_5_0_0, k0_pay25 (F := Ideal) (k0_pay13 i) (View.ld y (Rect.unit ![0, 0, 640] ![1, 32, 128] inb_S1x32x1024_S1x32x128_0_0_640))⟩,
   ⟨Rect.unit ![4, 32, 0] ![1, 256, 128] inb_S8x288x128_S1x256x128_4_32_0, k0_pay24 (F := Ideal) (View.ld x (Rect.unit ![0, 0, 512] ![1, 256, 128] inb_S1x256x1024_S1x256x128_0_0_512))⟩,
   ⟨Rect.unit ![4, 0, 0] ![1, 32, 128] inb_S8x288x128_S1x32x128_4_0_0, k0_pay23 (F := Ideal) (k0_pay22 (k0_pay13 i) (View.ld y (Rect.unit ![0, 0, 512] ![1, 32, 128] inb_S1x32x1024_S1x32x128_0_0_512)))⟩,
   ⟨Rect.unit ![3, 32, 0] ![1, 256, 128] inb_S8x288x128_S1x256x128_3_32_0, k0_pay21 (F := Ideal) (View.ld x (Rect.unit ![0, 0, 384] ![1, 256, 128] inb_S1x256x1024_S1x256x128_0_0_384))⟩,
   ⟨Rect.unit ![3, 0, 0] ![1, 32, 128] inb_S8x288x128_S1x32x128_3_0_0, k0_pay20 (F := Ideal) (k0_pay13 i) (View.ld y (Rect.unit ![0, 0, 384] ![1, 32, 128] inb_S1x32x1024_S1x32x128_0_0_384))⟩,
   ⟨Rect.unit ![2, 32, 0] ![1, 256, 128] inb_S8x288x128_S1x256x128_2_32_0, k0_pay19 (F := Ideal) (View.ld x (Rect.unit ![0, 0, 256] ![1, 256, 128] inb_S1x256x1024_S1x256x128_0_0_256))⟩,
   ⟨Rect.unit ![2, 0, 0] ![1, 32, 128] inb_S8x288x128_S1x32x128_2_0_0, k0_pay18 (F := Ideal) (k0_pay13 i) (View.ld y (Rect.unit ![0, 0, 256] ![1, 32, 128] inb_S1x32x1024_S1x32x128_0_0_256))⟩,
   ⟨Rect.unit ![1, 32, 0] ![1, 256, 128] inb_S8x288x128_S1x256x128_1_32_0, k0_pay17 (F := Ideal) (View.ld x (Rect.unit ![0, 0, 128] ![1, 256, 128] inb_S1x256x1024_S1x256x128_0_0_128))⟩,
   ⟨Rect.unit ![1, 0, 0] ![1, 32, 128] inb_S8x288x128_S1x32x128_1_0_0, k0_pay16 (F := Ideal) i (View.ld y (Rect.unit ![0, 0, 128] ![1, 32, 128] inb_S1x32x1024_S1x32x128_0_0_128))⟩,
   ⟨Rect.unit ![0, 32, 0] ![1, 256, 128] inb_S8x288x128_S1x256x128_0_32_0, k0_pay15 (F := Ideal) (View.ld x (Rect.unit ![0, 0, 0] ![1, 256, 128] inb_S1x256x1024_S1x256x128_0_0_0))⟩,
   ⟨Rect.unit ![0, 0, 0] ![1, 32, 128] inb_S8x288x128_S1x32x128_0_0_0, k0_pay14 (F := Ideal) i (View.ld y (Rect.unit ![0, 0, 0] ![1, 32, 128] inb_S1x32x1024_S1x32x128_0_0_0))⟩]

/-- A strip's own rows, at the strip's place in the context. -/
theorem own_at (k : EReal) (x : Vec Ideal S1x256x1024 .f32) (y : Vec Ideal S1x32x1024 .f32) (s : Fin 8) (p : Fin 256) (l : Fin 128) :
    ctx k x y (ix3 s (⟨32 + p.val, by omega⟩ : Fin 288) l) = x (ix3 0 p ⟨s.val * 128 + l.val, by omega⟩) := by
  refine (dif_neg (show ¬ (32 + p.val < 32) by omega)).trans ?_
  exact congrArg x (by congr 1; exact Fin.ext (show 32 + p.val - 32 = p.val by omega))

/-- A strip's rows before the block, at the strip's place in the context. -/
theorem halo_at (k : EReal) (x : Vec Ideal S1x256x1024 .f32) (y : Vec Ideal S1x32x1024 .f32) (s : Fin 8) (p : Fin 32) (l : Fin 128) :
    ctx k x y (ix3 s (⟨p.val, by omega⟩ : Fin 288) l) = y (ix3 0 p ⟨s.val * 128 + l.val, by omega⟩) * k := by
  exact dif_pos (show p.val < 32 by omega)

/-- The store of strip 0's own rows writes the context there. -/
theorem own_0 (i : grid0.Coords) (x : Vec Ideal S1x256x1024 .f32) (y : Vec Ideal S1x32x1024 .f32) (q : (Rect.unit (s := S8x288x128) ![0, 32, 0] ![1, 256, 128] inb_S8x288x128_S1x256x128_0_32_0).shape.Idx) :
    k0_pay15 (F := Ideal) (View.ld x (Rect.unit ![0, 0, 0] ![1, 256, 128] inb_S1x256x1024_S1x256x128_0_0_0)) q
      = ctx (k0_pay13 (F := Ideal) i) x y ((Rect.unit (s := S8x288x128) ![0, 32, 0] ![1, 256, 128] inb_S8x288x128_S1x256x128_0_32_0).emb q) := by
  idx_vars q
  have e : (Rect.unit (s := S8x288x128) ![0, 32, 0] ![1, 256, 128] inb_S8x288x128_S1x256x128_0_32_0).emb (ix3 q0 q1 q2) = ix3 (0 : Fin 8) (⟨32 + q1.val, by omega⟩ : Fin 288) q2 := by
    blk_ext []
  rw [e, own_at]
  pointwise [k0_pay15]

/-- The store of strip 0's rows before the block writes the context there. -/
theorem halo_0 (i : grid0.Coords) (x : Vec Ideal S1x256x1024 .f32) (y : Vec Ideal S1x32x1024 .f32) (q : (Rect.unit (s := S8x288x128) ![0, 0, 0] ![1, 32, 128] inb_S8x288x128_S1x32x128_0_0_0).shape.Idx) :
    k0_pay14 (F := Ideal) i (View.ld y (Rect.unit ![0, 0, 0] ![1, 32, 128] inb_S1x32x1024_S1x32x128_0_0_0)) q
      = ctx (k0_pay13 (F := Ideal) i) x y ((Rect.unit (s := S8x288x128) ![0, 0, 0] ![1, 32, 128] inb_S8x288x128_S1x32x128_0_0_0).emb q) := by
  idx_vars q
  have e : (Rect.unit (s := S8x288x128) ![0, 0, 0] ![1, 32, 128] inb_S8x288x128_S1x32x128_0_0_0).emb (ix3 q0 q1 q2) = ix3 (0 : Fin 8) (⟨q1.val, by omega⟩ : Fin 288) q2 := by
    blk_ext []
  rw [e, halo_at]
  pointwise [k0_pay14, k0_pay16, k0_pay18, k0_pay20, k0_pay22, k0_pay23, k0_pay25, k0_pay27, k0_pay29]

/-- The store of strip 1's own rows writes the context there. -/
theorem own_1 (i : grid0.Coords) (x : Vec Ideal S1x256x1024 .f32) (y : Vec Ideal S1x32x1024 .f32) (q : (Rect.unit (s := S8x288x128) ![1, 32, 0] ![1, 256, 128] inb_S8x288x128_S1x256x128_1_32_0).shape.Idx) :
    k0_pay17 (F := Ideal) (View.ld x (Rect.unit ![0, 0, 128] ![1, 256, 128] inb_S1x256x1024_S1x256x128_0_0_128)) q
      = ctx (k0_pay13 (F := Ideal) i) x y ((Rect.unit (s := S8x288x128) ![1, 32, 0] ![1, 256, 128] inb_S8x288x128_S1x256x128_1_32_0).emb q) := by
  idx_vars q
  have e : (Rect.unit (s := S8x288x128) ![1, 32, 0] ![1, 256, 128] inb_S8x288x128_S1x256x128_1_32_0).emb (ix3 q0 q1 q2) = ix3 (1 : Fin 8) (⟨32 + q1.val, by omega⟩ : Fin 288) q2 := by
    blk_ext []
  rw [e, own_at]
  pointwise [k0_pay17]

/-- The store of strip 1's rows before the block writes the context there. -/
theorem halo_1 (i : grid0.Coords) (x : Vec Ideal S1x256x1024 .f32) (y : Vec Ideal S1x32x1024 .f32) (q : (Rect.unit (s := S8x288x128) ![1, 0, 0] ![1, 32, 128] inb_S8x288x128_S1x32x128_1_0_0).shape.Idx) :
    k0_pay16 (F := Ideal) i (View.ld y (Rect.unit ![0, 0, 128] ![1, 32, 128] inb_S1x32x1024_S1x32x128_0_0_128)) q
      = ctx (k0_pay13 (F := Ideal) i) x y ((Rect.unit (s := S8x288x128) ![1, 0, 0] ![1, 32, 128] inb_S8x288x128_S1x32x128_1_0_0).emb q) := by
  idx_vars q
  have e : (Rect.unit (s := S8x288x128) ![1, 0, 0] ![1, 32, 128] inb_S8x288x128_S1x32x128_1_0_0).emb (ix3 q0 q1 q2) = ix3 (1 : Fin 8) (⟨q1.val, by omega⟩ : Fin 288) q2 := by
    blk_ext []
  rw [e, halo_at]
  pointwise [k0_pay14, k0_pay16, k0_pay18, k0_pay20, k0_pay22, k0_pay23, k0_pay25, k0_pay27, k0_pay29]

/-- The store of strip 2's own rows writes the context there. -/
theorem own_2 (i : grid0.Coords) (x : Vec Ideal S1x256x1024 .f32) (y : Vec Ideal S1x32x1024 .f32) (q : (Rect.unit (s := S8x288x128) ![2, 32, 0] ![1, 256, 128] inb_S8x288x128_S1x256x128_2_32_0).shape.Idx) :
    k0_pay19 (F := Ideal) (View.ld x (Rect.unit ![0, 0, 256] ![1, 256, 128] inb_S1x256x1024_S1x256x128_0_0_256)) q
      = ctx (k0_pay13 (F := Ideal) i) x y ((Rect.unit (s := S8x288x128) ![2, 32, 0] ![1, 256, 128] inb_S8x288x128_S1x256x128_2_32_0).emb q) := by
  idx_vars q
  have e : (Rect.unit (s := S8x288x128) ![2, 32, 0] ![1, 256, 128] inb_S8x288x128_S1x256x128_2_32_0).emb (ix3 q0 q1 q2) = ix3 (2 : Fin 8) (⟨32 + q1.val, by omega⟩ : Fin 288) q2 := by
    blk_ext []
  rw [e, own_at]
  pointwise [k0_pay19]

/-- The store of strip 2's rows before the block writes the context there. -/
theorem halo_2 (i : grid0.Coords) (x : Vec Ideal S1x256x1024 .f32) (y : Vec Ideal S1x32x1024 .f32) (q : (Rect.unit (s := S8x288x128) ![2, 0, 0] ![1, 32, 128] inb_S8x288x128_S1x32x128_2_0_0).shape.Idx) :
    k0_pay18 (F := Ideal) (k0_pay13 i) (View.ld y (Rect.unit ![0, 0, 256] ![1, 32, 128] inb_S1x32x1024_S1x32x128_0_0_256)) q
      = ctx (k0_pay13 (F := Ideal) i) x y ((Rect.unit (s := S8x288x128) ![2, 0, 0] ![1, 32, 128] inb_S8x288x128_S1x32x128_2_0_0).emb q) := by
  idx_vars q
  have e : (Rect.unit (s := S8x288x128) ![2, 0, 0] ![1, 32, 128] inb_S8x288x128_S1x32x128_2_0_0).emb (ix3 q0 q1 q2) = ix3 (2 : Fin 8) (⟨q1.val, by omega⟩ : Fin 288) q2 := by
    blk_ext []
  rw [e, halo_at]
  pointwise [k0_pay14, k0_pay16, k0_pay18, k0_pay20, k0_pay22, k0_pay23, k0_pay25, k0_pay27, k0_pay29]

/-- The store of strip 3's own rows writes the context there. -/
theorem own_3 (i : grid0.Coords) (x : Vec Ideal S1x256x1024 .f32) (y : Vec Ideal S1x32x1024 .f32) (q : (Rect.unit (s := S8x288x128) ![3, 32, 0] ![1, 256, 128] inb_S8x288x128_S1x256x128_3_32_0).shape.Idx) :
    k0_pay21 (F := Ideal) (View.ld x (Rect.unit ![0, 0, 384] ![1, 256, 128] inb_S1x256x1024_S1x256x128_0_0_384)) q
      = ctx (k0_pay13 (F := Ideal) i) x y ((Rect.unit (s := S8x288x128) ![3, 32, 0] ![1, 256, 128] inb_S8x288x128_S1x256x128_3_32_0).emb q) := by
  idx_vars q
  have e : (Rect.unit (s := S8x288x128) ![3, 32, 0] ![1, 256, 128] inb_S8x288x128_S1x256x128_3_32_0).emb (ix3 q0 q1 q2) = ix3 (3 : Fin 8) (⟨32 + q1.val, by omega⟩ : Fin 288) q2 := by
    blk_ext []
  rw [e, own_at]
  pointwise [k0_pay21]

/-- The store of strip 3's rows before the block writes the context there. -/
theorem halo_3 (i : grid0.Coords) (x : Vec Ideal S1x256x1024 .f32) (y : Vec Ideal S1x32x1024 .f32) (q : (Rect.unit (s := S8x288x128) ![3, 0, 0] ![1, 32, 128] inb_S8x288x128_S1x32x128_3_0_0).shape.Idx) :
    k0_pay20 (F := Ideal) (k0_pay13 i) (View.ld y (Rect.unit ![0, 0, 384] ![1, 32, 128] inb_S1x32x1024_S1x32x128_0_0_384)) q
      = ctx (k0_pay13 (F := Ideal) i) x y ((Rect.unit (s := S8x288x128) ![3, 0, 0] ![1, 32, 128] inb_S8x288x128_S1x32x128_3_0_0).emb q) := by
  idx_vars q
  have e : (Rect.unit (s := S8x288x128) ![3, 0, 0] ![1, 32, 128] inb_S8x288x128_S1x32x128_3_0_0).emb (ix3 q0 q1 q2) = ix3 (3 : Fin 8) (⟨q1.val, by omega⟩ : Fin 288) q2 := by
    blk_ext []
  rw [e, halo_at]
  pointwise [k0_pay14, k0_pay16, k0_pay18, k0_pay20, k0_pay22, k0_pay23, k0_pay25, k0_pay27, k0_pay29]

/-- The store of strip 4's own rows writes the context there. -/
theorem own_4 (i : grid0.Coords) (x : Vec Ideal S1x256x1024 .f32) (y : Vec Ideal S1x32x1024 .f32) (q : (Rect.unit (s := S8x288x128) ![4, 32, 0] ![1, 256, 128] inb_S8x288x128_S1x256x128_4_32_0).shape.Idx) :
    k0_pay24 (F := Ideal) (View.ld x (Rect.unit ![0, 0, 512] ![1, 256, 128] inb_S1x256x1024_S1x256x128_0_0_512)) q
      = ctx (k0_pay13 (F := Ideal) i) x y ((Rect.unit (s := S8x288x128) ![4, 32, 0] ![1, 256, 128] inb_S8x288x128_S1x256x128_4_32_0).emb q) := by
  idx_vars q
  have e : (Rect.unit (s := S8x288x128) ![4, 32, 0] ![1, 256, 128] inb_S8x288x128_S1x256x128_4_32_0).emb (ix3 q0 q1 q2) = ix3 (4 : Fin 8) (⟨32 + q1.val, by omega⟩ : Fin 288) q2 := by
    blk_ext []
  rw [e, own_at]
  pointwise [k0_pay24]

/-- The store of strip 4's rows before the block writes the context there. -/
theorem halo_4 (i : grid0.Coords) (x : Vec Ideal S1x256x1024 .f32) (y : Vec Ideal S1x32x1024 .f32) (q : (Rect.unit (s := S8x288x128) ![4, 0, 0] ![1, 32, 128] inb_S8x288x128_S1x32x128_4_0_0).shape.Idx) :
    k0_pay23 (F := Ideal) (k0_pay22 (k0_pay13 i) (View.ld y (Rect.unit ![0, 0, 512] ![1, 32, 128] inb_S1x32x1024_S1x32x128_0_0_512))) q
      = ctx (k0_pay13 (F := Ideal) i) x y ((Rect.unit (s := S8x288x128) ![4, 0, 0] ![1, 32, 128] inb_S8x288x128_S1x32x128_4_0_0).emb q) := by
  idx_vars q
  have e : (Rect.unit (s := S8x288x128) ![4, 0, 0] ![1, 32, 128] inb_S8x288x128_S1x32x128_4_0_0).emb (ix3 q0 q1 q2) = ix3 (4 : Fin 8) (⟨q1.val, by omega⟩ : Fin 288) q2 := by
    blk_ext []
  rw [e, halo_at]
  pointwise [k0_pay14, k0_pay16, k0_pay18, k0_pay20, k0_pay22, k0_pay23, k0_pay25, k0_pay27, k0_pay29]

/-- The store of strip 5's own rows writes the context there. -/
theorem own_5 (i : grid0.Coords) (x : Vec Ideal S1x256x1024 .f32) (y : Vec Ideal S1x32x1024 .f32) (q : (Rect.unit (s := S8x288x128) ![5, 32, 0] ![1, 256, 128] inb_S8x288x128_S1x256x128_5_32_0).shape.Idx) :
    k0_pay26 (F := Ideal) (View.ld x (Rect.unit ![0, 0, 640] ![1, 256, 128] inb_S1x256x1024_S1x256x128_0_0_640)) q
      = ctx (k0_pay13 (F := Ideal) i) x y ((Rect.unit (s := S8x288x128) ![5, 32, 0] ![1, 256, 128] inb_S8x288x128_S1x256x128_5_32_0).emb q) := by
  idx_vars q
  have e : (Rect.unit (s := S8x288x128) ![5, 32, 0] ![1, 256, 128] inb_S8x288x128_S1x256x128_5_32_0).emb (ix3 q0 q1 q2) = ix3 (5 : Fin 8) (⟨32 + q1.val, by omega⟩ : Fin 288) q2 := by
    blk_ext []
  rw [e, own_at]
  pointwise [k0_pay26]

/-- The store of strip 5's rows before the block writes the context there. -/
theorem halo_5 (i : grid0.Coords) (x : Vec Ideal S1x256x1024 .f32) (y : Vec Ideal S1x32x1024 .f32) (q : (Rect.unit (s := S8x288x128) ![5, 0, 0] ![1, 32, 128] inb_S8x288x128_S1x32x128_5_0_0).shape.Idx) :
    k0_pay25 (F := Ideal) (k0_pay13 i) (View.ld y (Rect.unit ![0, 0, 640] ![1, 32, 128] inb_S1x32x1024_S1x32x128_0_0_640)) q
      = ctx (k0_pay13 (F := Ideal) i) x y ((Rect.unit (s := S8x288x128) ![5, 0, 0] ![1, 32, 128] inb_S8x288x128_S1x32x128_5_0_0).emb q) := by
  idx_vars q
  have e : (Rect.unit (s := S8x288x128) ![5, 0, 0] ![1, 32, 128] inb_S8x288x128_S1x32x128_5_0_0).emb (ix3 q0 q1 q2) = ix3 (5 : Fin 8) (⟨q1.val, by omega⟩ : Fin 288) q2 := by
    blk_ext []
  rw [e, halo_at]
  pointwise [k0_pay14, k0_pay16, k0_pay18, k0_pay20, k0_pay22, k0_pay23, k0_pay25, k0_pay27, k0_pay29]

/-- The store of strip 6's own rows writes the context there. -/
theorem own_6 (i : grid0.Coords) (x : Vec Ideal S1x256x1024 .f32) (y : Vec Ideal S1x32x1024 .f32) (q : (Rect.unit (s := S8x288x128) ![6, 32, 0] ![1, 256, 128] inb_S8x288x128_S1x256x128_6_32_0).shape.Idx) :
    k0_pay28 (F := Ideal) (View.ld x (Rect.unit ![0, 0, 768] ![1, 256, 128] inb_S1x256x1024_S1x256x128_0_0_768)) q
      = ctx (k0_pay13 (F := Ideal) i) x y ((Rect.unit (s := S8x288x128) ![6, 32, 0] ![1, 256, 128] inb_S8x288x128_S1x256x128_6_32_0).emb q) := by
  idx_vars q
  have e : (Rect.unit (s := S8x288x128) ![6, 32, 0] ![1, 256, 128] inb_S8x288x128_S1x256x128_6_32_0).emb (ix3 q0 q1 q2) = ix3 (6 : Fin 8) (⟨32 + q1.val, by omega⟩ : Fin 288) q2 := by
    blk_ext []
  rw [e, own_at]
  pointwise [k0_pay28]

/-- The store of strip 6's rows before the block writes the context there. -/
theorem halo_6 (i : grid0.Coords) (x : Vec Ideal S1x256x1024 .f32) (y : Vec Ideal S1x32x1024 .f32) (q : (Rect.unit (s := S8x288x128) ![6, 0, 0] ![1, 32, 128] inb_S8x288x128_S1x32x128_6_0_0).shape.Idx) :
    k0_pay27 (F := Ideal) (k0_pay13 i) (View.ld y (Rect.unit ![0, 0, 768] ![1, 32, 128] inb_S1x32x1024_S1x32x128_0_0_768)) q
      = ctx (k0_pay13 (F := Ideal) i) x y ((Rect.unit (s := S8x288x128) ![6, 0, 0] ![1, 32, 128] inb_S8x288x128_S1x32x128_6_0_0).emb q) := by
  idx_vars q
  have e : (Rect.unit (s := S8x288x128) ![6, 0, 0] ![1, 32, 128] inb_S8x288x128_S1x32x128_6_0_0).emb (ix3 q0 q1 q2) = ix3 (6 : Fin 8) (⟨q1.val, by omega⟩ : Fin 288) q2 := by
    blk_ext []
  rw [e, halo_at]
  pointwise [k0_pay14, k0_pay16, k0_pay18, k0_pay20, k0_pay22, k0_pay23, k0_pay25, k0_pay27, k0_pay29]

/-- The store of strip 7's own rows writes the context there. -/
theorem own_7 (i : grid0.Coords) (x : Vec Ideal S1x256x1024 .f32) (y : Vec Ideal S1x32x1024 .f32) (q : (Rect.unit (s := S8x288x128) ![7, 32, 0] ![1, 256, 128] inb_S8x288x128_S1x256x128_7_32_0).shape.Idx) :
    k0_pay30 (F := Ideal) (View.ld x (Rect.unit ![0, 0, 896] ![1, 256, 128] inb_S1x256x1024_S1x256x128_0_0_896)) q
      = ctx (k0_pay13 (F := Ideal) i) x y ((Rect.unit (s := S8x288x128) ![7, 32, 0] ![1, 256, 128] inb_S8x288x128_S1x256x128_7_32_0).emb q) := by
  idx_vars q
  have e : (Rect.unit (s := S8x288x128) ![7, 32, 0] ![1, 256, 128] inb_S8x288x128_S1x256x128_7_32_0).emb (ix3 q0 q1 q2) = ix3 (7 : Fin 8) (⟨32 + q1.val, by omega⟩ : Fin 288) q2 := by
    blk_ext []
  rw [e, own_at]
  pointwise [k0_pay30]

/-- The store of strip 7's rows before the block writes the context there. -/
theorem halo_7 (i : grid0.Coords) (x : Vec Ideal S1x256x1024 .f32) (y : Vec Ideal S1x32x1024 .f32) (q : (Rect.unit (s := S8x288x128) ![7, 0, 0] ![1, 32, 128] inb_S8x288x128_S1x32x128_7_0_0).shape.Idx) :
    k0_pay29 (F := Ideal) (k0_pay13 i) (View.ld y (Rect.unit ![0, 0, 896] ![1, 32, 128] inb_S1x32x1024_S1x32x128_0_0_896)) q
      = ctx (k0_pay13 (F := Ideal) i) x y ((Rect.unit (s := S8x288x128) ![7, 0, 0] ![1, 32, 128] inb_S8x288x128_S1x32x128_7_0_0).emb q) := by
  idx_vars q
  have e : (Rect.unit (s := S8x288x128) ![7, 0, 0] ![1, 32, 128] inb_S8x288x128_S1x32x128_7_0_0).emb (ix3 q0 q1 q2) = ix3 (7 : Fin 8) (⟨q1.val, by omega⟩ : Fin 288) q2 := by
    blk_ext []
  rw [e, halo_at]
  pointwise [k0_pay14, k0_pay16, k0_pay18, k0_pay20, k0_pay22, k0_pay23, k0_pay25, k0_pay27, k0_pay29]

/-- An index of strip `s` and of rows `a` to `a + n` lies in their rectangle. -/
theorem in_box (p : S8x288x128.Idx) (s a n : ℕ) (inb) (hs : (p 0).val = s) (h1 : a ≤ (p 1).val) (h2 : (p 1).val < a + n) :
    p ∈ (Rect.unit (s := S8x288x128) ![s, a, 0] ![1, n, 128] inb).set := by
  refine Rect.mem_set_unit.mpr fun d => ?_
  have h3 : (p 2).val < 128 := (p 2).isLt
  fin_cases d
  · show s ≤ (p 0).val ∧ (p 0).val < s + 1
    omega
  · exact ⟨h1, h2⟩
  · show 0 ≤ (p 2).val ∧ (p 2).val < 0 + 128
    omega

/-- What the sixteen stores leave in the buffer is the context. -/
theorem pieces_canon (i : grid0.Coords) (x : Vec Ideal S1x256x1024 .f32) (y : Vec Ideal S1x32x1024 .f32) :
    View.canon (pieces i x y) = ctx (k0_pay13 (F := Ideal) i) x y := by
  funext p
  refine View.canon_apply_of_pieces _ (pieces i x y) ?_ p ?_
  · unfold pieces
    simp only [List.forall_mem_cons]
    exact ⟨own_7 i x y, halo_7 i x y, own_6 i x y, halo_6 i x y, own_5 i x y, halo_5 i x y, own_4 i x y, halo_4 i x y, own_3 i x y, halo_3 i x y, own_2 i x y, halo_2 i x y, own_1 i x y, halo_1 i x y, own_0 i x y, halo_0 i x y, fun _ h => absurd h List.not_mem_nil⟩
  · have h0 : (p 0).val < 8 := (p 0).isLt
    have h1 : (p 1).val < 288 := (p 1).isLt
    have h2 : (p 2).val < 128 := (p 2).isLt
    obtain ⟨s, hs⟩ : ∃ s : ℕ, (p 0).val = s := ⟨_, rfl⟩
    have hs8 : s < 8 := hs ▸ h0
    by_cases h : (p 1).val < 32
    · interval_cases s
      · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), in_box p 0 0 32 inb_S8x288x128_S1x32x128_0_0_0 hs (Nat.zero_le _) (by omega)⟩
      · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), in_box p 1 0 32 inb_S8x288x128_S1x32x128_1_0_0 hs (Nat.zero_le _) (by omega)⟩
      · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), in_box p 2 0 32 inb_S8x288x128_S1x32x128_2_0_0 hs (Nat.zero_le _) (by omega)⟩
      · exact ⟨_, List.Mem.tail _ (List.Mem.tail _ (List.Mem.tail _ (List.Mem.tail _ (List.Mem.tail _ (List.Mem.tail _ (List.Mem.tail _ (List.Mem.tail _ (List.Mem.tail _ (List.Mem.head _))))))))), in_box p 3 0 32 inb_S8x288x128_S1x32x128_3_0_0 hs (Nat.zero_le _) (by omega)⟩
      · exact ⟨_, List.Mem.tail _ (List.Mem.tail _ (List.Mem.tail _ (List.Mem.tail _ (List.Mem.tail _ (List.Mem.tail _ (List.Mem.tail _ (List.Mem.head _))))))), in_box p 4 0 32 inb_S8x288x128_S1x32x128_4_0_0 hs (Nat.zero_le _) (by omega)⟩
      · exact ⟨_, List.Mem.tail _ (List.Mem.tail _ (List.Mem.tail _ (List.Mem.tail _ (List.Mem.tail _ (List.Mem.head _))))), in_box p 5 0 32 inb_S8x288x128_S1x32x128_5_0_0 hs (Nat.zero_le _) (by omega)⟩
      · exact ⟨_, List.Mem.tail _ (List.Mem.tail _ (List.Mem.tail _ (List.Mem.head _))), in_box p 6 0 32 inb_S8x288x128_S1x32x128_6_0_0 hs (Nat.zero_le _) (by omega)⟩
      · exact ⟨_, List.Mem.tail _ (List.Mem.head _), in_box p 7 0 32 inb_S8x288x128_S1x32x128_7_0_0 hs (Nat.zero_le _) (by omega)⟩
    · interval_cases s
      · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), in_box p 0 32 256 inb_S8x288x128_S1x256x128_0_32_0 hs (by omega) (by omega)⟩
      · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), in_box p 1 32 256 inb_S8x288x128_S1x256x128_1_32_0 hs (by omega) (by omega)⟩
      · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), in_box p 2 32 256 inb_S8x288x128_S1x256x128_2_32_0 hs (by omega) (by omega)⟩
      · exact ⟨_, List.Mem.tail _ (List.Mem.tail _ (List.Mem.tail _ (List.Mem.tail _ (List.Mem.tail _ (List.Mem.tail _ (List.Mem.tail _ (List.Mem.tail _ (List.Mem.head _)))))))), in_box p 3 32 256 inb_S8x288x128_S1x256x128_3_32_0 hs (by omega) (by omega)⟩
      · exact ⟨_, List.Mem.tail _ (List.Mem.tail _ (List.Mem.tail _ (List.Mem.tail _ (List.Mem.tail _ (List.Mem.tail _ (List.Mem.head _)))))), in_box p 4 32 256 inb_S8x288x128_S1x256x128_4_32_0 hs (by omega) (by omega)⟩
      · exact ⟨_, List.Mem.tail _ (List.Mem.tail _ (List.Mem.tail _ (List.Mem.tail _ (List.Mem.head _)))), in_box p 5 32 256 inb_S8x288x128_S1x256x128_5_32_0 hs (by omega) (by omega)⟩
      · exact ⟨_, List.Mem.tail _ (List.Mem.tail _ (List.Mem.head _)), in_box p 6 32 256 inb_S8x288x128_S1x256x128_6_32_0 hs (by omega) (by omega)⟩
      · exact ⟨_, List.Mem.head _, in_box p 7 32 256 inb_S8x288x128_S1x256x128_7_32_0 hs (by omega) (by omega)⟩
/-! ## What follows the convolution -/

/-- Channel `n` of row `t` of the strips' buffer. -/
def lane (T : Vec Ideal S8x256x128 .f32) (t : Fin 256) (n : Fin 1024) : EReal :=
  T (ix3 ⟨n.val / 128, by omega⟩ t ⟨n.val % 128, by omega⟩)

/-- Strip `s` of the strips' buffer, as it is read back. -/
def cutStrip (T : Vec Ideal S8x256x128 .f32) (s : Fin 8) : Vec Ideal S1x256x128 .f32 := fun x => T (ix3 s (x 1) (x 2))

/-- The eight strips side by side, each row less its mean. -/
theorem centred_apply (T : Vec Ideal S8x256x128 .f32) (t : Fin 256) (n : Fin 1024) :
    k0_pay41 (F := Ideal) (k0_pay32 (cutStrip T 0)) (k0_pay33 (cutStrip T 1)) (k0_pay34 (cutStrip T 2)) (k0_pay35 (cutStrip T 3))
        (cutStrip T 4) (cutStrip T 5) (cutStrip T 6) (cutStrip T 7) (ix2 t n)
      = lane T t n - Row.mean (lane T t) := by
  have e : ∀ n : Fin 1024, concatenate S256x1024 1 [⟨S256x128, k0_pay32 (F := Ideal) (cutStrip T 0)⟩, ⟨S256x128, k0_pay33 (F := Ideal) (cutStrip T 1)⟩,
      ⟨S256x128, k0_pay34 (F := Ideal) (cutStrip T 2)⟩, ⟨S256x128, k0_pay35 (F := Ideal) (cutStrip T 3)⟩,
      ⟨S256x128, shapeCast S256x128 (cutStrip T 4) shapeCasts_S1x256x128_S256x128⟩,
      ⟨S256x128, shapeCast S256x128 (cutStrip T 5) shapeCasts_S1x256x128_S256x128⟩,
      ⟨S256x128, shapeCast S256x128 (cutStrip T 6) shapeCasts_S1x256x128_S256x128⟩,
      ⟨S256x128, shapeCast S256x128 (cutStrip T 7) shapeCasts_S1x256x128_S256x128⟩] concatenates_S256x128_S256x128_S256x128_S256x128_S256x128_S256x128_S256x128_S256x128_S256x1024_d1 (ix2 t n) = lane T t n := by
    intro n
    pointwise [k0_pay32, k0_pay33, k0_pay34, k0_pay35, cutStrip, lane]
    blk_point []
  pointwise [k0_pay41, e]
  rfl

/-- The mean of the squares of a centred row, plus the small constant. -/
theorem var_apply (T : Vec Ideal S8x256x128 .f32) (t : Fin 256) :
    k0_pay42 (F := Ideal) (k0_pay32 (cutStrip T 0)) (k0_pay33 (cutStrip T 1)) (k0_pay34 (cutStrip T 2)) (k0_pay35 (cutStrip T 3))
        (cutStrip T 4) (cutStrip T 5) (cutStrip T 6) (cutStrip T 7) (ix2 t 0)
      = Row.mean (fun l => (lane T t l - Row.mean (lane T t)) * (lane T t l - Row.mean (lane T t))) + Ideal.ofBits .f32 0x358637BD#32 := by
  pointwise [k0_pay42, centred_apply]
  rfl

/-- The stored value from the centred rows: LayerNorm, swish, the projection with its bias, the residual. -/
theorem pay_apply (g b : FVec Ideal S1x1024 .f32) (w : FVec Ideal S1024x1024 .bf16) (c : FVec Ideal S1x1024 .f32) (x y : FVec Ideal S256x1024 .f32)
    (v : FVec Ideal S256x1 .f32) (t : Fin 256) (n : Fin 1024) :
    k0_pay1 (F := Ideal) g b w c x y v (ix3 0 t n)
      = x (ix2 t n) + (∑ k, Row.swish (y (ix2 t k) * Ideal.rsqrt (v (ix2 t 0)) * g (ix2 0 k) + b (ix2 0 k)) * w (ix2 k n) + c (ix2 0 n)) := by
  rw [add_comm (x (ix2 t n))]
  pointwise [k0_pay1]
  simp only [zero_sub]
  rfl

/-- A block of the result from the strips' buffer and the other windows. -/
theorem block (T : Vec Ideal S8x256x128 .f32) (g b : Vec Ideal S1x1024 .f32) (w : Vec Ideal S1024x1024 .bf16) (c : Vec Ideal S1x1024 .f32)
    (x : Vec Ideal S1x256x1024 .f32) (t : Fin 256) (n : Fin 1024) :
    k0_pay1 (F := Ideal) (k0_pay36 g) (k0_pay37 b) (k0_pay38 w) (k0_pay39 c) (k0_pay40 x)
        (k0_pay41 (k0_pay32 (cutStrip T 0)) (k0_pay33 (cutStrip T 1)) (k0_pay34 (cutStrip T 2)) (k0_pay35 (cutStrip T 3))
          (cutStrip T 4) (cutStrip T 5) (cutStrip T 6) (cutStrip T 7))
        (k0_pay42 (k0_pay32 (cutStrip T 0)) (k0_pay33 (cutStrip T 1)) (k0_pay34 (cutStrip T 2)) (k0_pay35 (cutStrip T 3))
          (cutStrip T 4) (cutStrip T 5) (cutStrip T 6) (cutStrip T 7)) (ix3 0 t n)
      = Row.mixOut (fun l => x (ix3 0 t l)) (lane T t) (fun l => g (ix2 0 l)) (fun l => b (ix2 0 l)) (fun k l => w (ix2 k l)) (fun l => c (ix2 0 l)) n := by
  rw [pay_apply]
  simp only [centred_apply, var_apply]
  pointwise [k0_pay36, k0_pay37, k0_pay38, k0_pay39, k0_pay40]
  rfl

/-! ## One entry -/

/-- Row `j + 2 + r` of the context of tile `i` is row `r + j - 30` of the sequence counted from the tile's first, zero before
    the sequence's begin. -/
theorem ctx_back (glu : FVec Ideal S8x2048x1024 .f32) (x : Vec Ideal S1x256x1024 .f32) (y : Vec Ideal S1x32x1024 .f32) (k : EReal) (b i : Fin 8)
    (hk : k = if i.val = 0 then 0 else 1) (hx : ∀ (r : Fin 256) (n : Fin 1024), x (ix3 0 r n) = glu (ix3 b (⟨i.val * 256 + r.val, by omega⟩ : Fin 2048) n))
    (hy : ∀ (r : Fin 32) (n : Fin 1024), y (ix3 0 r n) = glu (ix3 b (⟨(i.val * 8 - 1) * 32 + r.val, by omega⟩ : Fin 2048) n))
    (s : Fin 8) (r : Fin 256) (j : Fin 31) (l : Fin 128) (n : Fin 1024) (hn : s.val * 128 + l.val = n.val) :
    ctx k x y (ix3 s (⟨j.val + 2 + r.val, by omega⟩ : Fin 288) l)
      = Row.back (fun q => glu (ix3 b q n)) ⟨i.val * 256 + r.val, by omega⟩ j := by
  have e : (⟨s.val * 128 + l.val, by omega⟩ : Fin 1024) = n := Fin.ext hn
  unfold Row.back
  by_cases h : j.val + 2 + r.val < 32
  · rw [show (⟨j.val + 2 + r.val, by omega⟩ : Fin 288) = ⟨(⟨j.val + 2 + r.val, h⟩ : Fin 32).val, by omega⟩ from rfl, halo_at, hy, hk, e]
    by_cases hi : i.val = 0
    · rw [if_pos hi, mul_zero, dif_neg (by simp only [hi]; omega)]
    · rw [if_neg hi, mul_one, dif_pos (by simp only []; omega)]
      refine congrArg (fun q => glu (ix3 b q _)) (Fin.ext ?_)
      show (i.val * 8 - 1) * 32 + (j.val + 2 + r.val) = i.val * 256 + r.val + j.val - 30
      omega
  · rw [show (⟨j.val + 2 + r.val, by omega⟩ : Fin 288) = ⟨32 + (⟨j.val + 2 + r.val - 32, by omega⟩ : Fin 256).val, by simp only []; omega⟩ from
        Fin.ext (by simp only []; omega), own_at, hx, e, dif_pos (by simp only []; omega)]
    refine congrArg (fun q => glu (ix3 b q _)) (Fin.ext ?_)
    show i.val * 256 + (j.val + 2 + r.val - 32) = i.val * 256 + r.val + j.val - 30
    omega

variable (m : (ℓ : Loc nD τ sig) → Buf (Elt Ideal) ℓ)

/-- The block of every window at every grid point: a sequence and a tile of 256 of its rows (of 32 rows before it), the weights whole. -/
theorem idx : ∀ t : Fin cfg0.N, win0_0.index t = ![t.val / 8, t.val % 8, 0] ∧ win0_1.index t = ![t.val / 8, t.val % 8 * 8 - 1, 0]
    ∧ win0_2.index t = ![t.val / 8, t.val % 8, 0] ∧ win0_3.index t = ![0, 0, 0] ∧ win0_4.index t = ![0, 0, 0] ∧ win0_5.index t = ![0, 0]
    ∧ win0_6.index t = ![0, 0] ∧ win0_7.index t = ![0, 0] ∧ win0_8.index t = ![0, 0] ∧ win0_9.index t = ![t.val / 8, t.val % 8, 0] :=
  (by decide +kernel : ∀ t : Fin grid0.N, _)

/-- The result as a function of device `c`'s argument arrays, by entries. -/
def G (c : Dev nD) : FVec Ideal S8x2048x1024 .f32 := fun p =>
  Row.mixOut (fun l => (m ((c : Thread nD τ).loc main_arg1) : FVec Ideal S8x2048x1024 .f32) (ix3 (p 0) (p 1) l))
    (fun l => Row.conv ((m ((c : Thread nD τ).loc main_arg3) : FVec Ideal S1x1024 .f32) (ix2 0 l))
      (fun j => (m ((c : Thread nD τ).loc main_arg2) : FVec Ideal S1x31x1024 .f32) (ix3 0 j l))
      (Row.back (fun s => (m ((c : Thread nD τ).loc main_arg0) : FVec Ideal S8x2048x1024 .f32) (ix3 (p 0) s l)) (p 1)))
    (fun l => (m ((c : Thread nD τ).loc main_arg4) : FVec Ideal S1x1024 .f32) (ix2 0 l))
    (fun l => (m ((c : Thread nD τ).loc main_arg5) : FVec Ideal S1x1024 .f32) (ix2 0 l))
    (fun k l => (m ((c : Thread nD τ).loc main_arg6) : FVec Ideal S1x1024x1024 .f32) (ix3 0 k l))
    (fun l => (m ((c : Thread nD τ).loc main_arg7) : FVec Ideal S1x1024 .f32) (ix2 0 l)) (p 2)

/-- Window 0, the projection's rows: an entry of its block as an entry of the argument. -/
theorem in0 (c : Dev nD) (t : Fin cfg0.N) (ht : t.val < 64) (r : Fin 256) (n : Fin 1024) : (iblk m c 0 t : Vec Ideal S1x256x1024 .f32) (ix3 0 r n)
    = (m ((c : Thread nD τ).loc main_arg0) : FVec Ideal S8x2048x1024 .f32) (ix3 (⟨t.val / 8, by omega⟩ : Fin 8) (⟨t.val % 8 * 256 + r.val, by omega⟩ : Fin 2048) n) := by
  blk_point [iblk, V, idx t]

/-- Window 1, the projection's rows before the block: an entry of its block as an entry of the argument. -/
theorem in1 (c : Dev nD) (t : Fin cfg0.N) (ht : t.val < 64) (r : Fin 32) (n : Fin 1024) : (iblk m c 1 t : Vec Ideal S1x32x1024 .f32) (ix3 0 r n)
    = (m ((c : Thread nD τ).loc main_arg0) : FVec Ideal S8x2048x1024 .f32) (ix3 (⟨t.val / 8, by omega⟩ : Fin 8) (⟨(t.val % 8 * 8 - 1) * 32 + r.val, by omega⟩ : Fin 2048) n) := by
  blk_point [iblk, V, idx t]

/-- Window 2, the residual's rows: an entry of its block as an entry of the argument. -/
theorem in2 (c : Dev nD) (t : Fin cfg0.N) (ht : t.val < 64) (r : Fin 256) (n : Fin 1024) : (iblk m c 2 t : Vec Ideal S1x256x1024 .f32) (ix3 0 r n)
    = (m ((c : Thread nD τ).loc main_arg1) : FVec Ideal S8x2048x1024 .f32) (ix3 (⟨t.val / 8, by omega⟩ : Fin 8) (⟨t.val % 8 * 256 + r.val, by omega⟩ : Fin 2048) n) := by
  blk_point [iblk, V, idx t]

/-- Window 3, the taps: an entry of its block as an entry of the argument. -/
theorem in3 (c : Dev nD) (t : Fin cfg0.N) (j : Fin 31) (n : Fin 1024) : (iblk m c 3 t : Vec Ideal S8x31x128 .f32) (ix3 (⟨n.val / 128, by omega⟩ : Fin 8) j (⟨n.val % 128, by omega⟩ : Fin 128))
    = (m ((c : Thread nD τ).loc main_arg2) : FVec Ideal S1x31x1024 .f32) (ix3 0 j n) := by
  blk_point [iblk, V, idx t]

/-- Window 4, the taps' bias: an entry of its block as an entry of the argument. -/
theorem in4 (c : Dev nD) (t : Fin cfg0.N) (n : Fin 1024) : (iblk m c 4 t : Vec Ideal S8x1x128 .f32) (ix3 (⟨n.val / 128, by omega⟩ : Fin 8) 0 (⟨n.val % 128, by omega⟩ : Fin 128))
    = (m ((c : Thread nD τ).loc main_arg3) : FVec Ideal S1x1024 .f32) (ix2 0 n) := by
  blk_point [iblk, V, idx t]

/-- Window 5, the norm's weights: an entry of its block as an entry of the argument. -/
theorem in5 (c : Dev nD) (t : Fin cfg0.N) (n : Fin 1024) : (iblk m c 5 t : Vec Ideal S1x1024 .f32) (ix2 0 n)
    = (m ((c : Thread nD τ).loc main_arg4) : FVec Ideal S1x1024 .f32) (ix2 0 n) := by
  blk_point [iblk, V, idx t]

/-- Window 6, the norm's bias: an entry of its block as an entry of the argument. -/
theorem in6 (c : Dev nD) (t : Fin cfg0.N) (n : Fin 1024) : (iblk m c 6 t : Vec Ideal S1x1024 .f32) (ix2 0 n)
    = (m ((c : Thread nD τ).loc main_arg5) : FVec Ideal S1x1024 .f32) (ix2 0 n) := by
  blk_point [iblk, V, idx t]

/-- Window 7, the second projection: an entry of its block as an entry of the argument. -/
theorem in7 (c : Dev nD) (t : Fin cfg0.N) (k n : Fin 1024) : (iblk m c 7 t : Vec Ideal S1024x1024 .bf16) (ix2 k n)
    = (m ((c : Thread nD τ).loc main_arg6) : FVec Ideal S1x1024x1024 .f32) (ix3 0 k n) := by
  blk_point [iblk, V, idx t]

/-- Window 8, its bias: an entry of its block as an entry of the argument. -/
theorem in8 (c : Dev nD) (t : Fin cfg0.N) (n : Fin 1024) : (iblk m c 8 t : Vec Ideal S1x1024 .f32) (ix2 0 n)
    = (m ((c : Thread nD τ).loc main_arg7) : FVec Ideal S1x1024 .f32) (ix2 0 n) := by
  blk_point [iblk, V, idx t]

/-- The block of point `t` from its windows, entry by entry, is the result at the array index where the entry lies. -/
theorem point_row (c : Dev nD) (t : Fin cfg0.N) (ht : t.val < 64) (r : Fin 256) (n : Fin 1024) (D B X) (hD : D = iblk m c 3 t) (hB : B = iblk m c 4 t)
    (hX : X = ctx (k0_pay13 (F := Ideal) (grid0.coords t)) (iblk m c 0 t) (iblk m c 1 t)) :
    Row.mixOut (fun l => (iblk m c 2 t : Vec Ideal S1x256x1024 .f32) (ix3 0 r l)) (lane (strips D B X) r)
        (fun l => (iblk m c 5 t : Vec Ideal S1x1024 .f32) (ix2 0 l)) (fun l => (iblk m c 6 t : Vec Ideal S1x1024 .f32) (ix2 0 l))
        (fun k l => (iblk m c 7 t : Vec Ideal S1024x1024 .bf16) (ix2 k l)) (fun l => (iblk m c 8 t : Vec Ideal S1x1024 .f32) (ix2 0 l)) n
      = G m c (ix3 (⟨t.val / 8, by omega⟩ : Fin 8) (⟨t.val % 8 * 256 + r.val, by omega⟩ : Fin 2048) n) := by
  subst hD hB hX
  have hl : lane (strips (iblk m c 3 t) (iblk m c 4 t) (ctx (k0_pay13 (F := Ideal) (grid0.coords t)) (iblk m c 0 t) (iblk m c 1 t))) r
      = fun l => Row.conv ((m ((c : Thread nD τ).loc main_arg3) : FVec Ideal S1x1024 .f32) (ix2 0 l))
      (fun j => (m ((c : Thread nD τ).loc main_arg2) : FVec Ideal S1x31x1024 .f32) (ix3 0 j l))
      (Row.back (fun s => (m ((c : Thread nD τ).loc main_arg0) : FVec Ideal S8x2048x1024 .f32) (ix3 (⟨t.val / 8, by omega⟩ : Fin 8) s l))
        (⟨t.val % 8 * 256 + r.val, by omega⟩ : Fin 2048)) := by
    funext l
    rw [← in4 m c t l]
    refine congr (congrArg (Row.conv _) (funext fun j => in3 m c t j l)) (funext fun j => ?_)
    exact ctx_back _ _ _ _ (⟨t.val / 8, by omega⟩ : Fin 8) (⟨t.val % 8, by omega⟩ : Fin 8) (keep_eq t) (in0 m c t ht) (in1 m c t ht) _ r j _ l
      (by show l.val / 128 * 128 + l.val % 128 = l.val; omega)
  rw [hl]
  simp only [in2 m c t ht, in5, in6, in7, in8]
  rfl

/-- What the body stores at index `y` of point `t`'s block is the result at the array index where `y` lies. -/
theorem point (c : Dev nD) (t : Fin cfg0.N) (y) : outsAt0 m c t y = G m c (((cfg0.win 9).blk t).view.emb y) := by
  unfold outsAt0 out0_A_9; frame_out
  idx_vars y
  have ht : t.val < 64 := t.isLt.trans_eq N_0
  have e : ((cfg0.win 9).blk t).view.emb (ix3 y0 y1 y2) = ix3 (⟨t.val / 8, by omega⟩ : Fin 8) (⟨t.val % 8 * 256 + y1.val, by omega⟩ : Fin 2048) y2 := by
    blk_ext [idx t]
  rw [e, strip_read (s := 0) (hs := by decide), strip_read (s := 1) (hs := by decide), strip_read (s := 2) (hs := by decide), strip_read (s := 3) (hs := by decide),
    strip_read (s := 4) (hs := by decide), strip_read (s := 5) (hs := by decide), strip_read (s := 6) (hs := by decide), strip_read (s := 7) (hs := by decide)]
  obtain rfl : y0 = 0 := Subsingleton.elim _ _
  refine (block (strips _ _ _) _ _ _ _ _ y1 y2).trans ?_
  refine point_row m c t ht y1 y2 _ _ _ ?_ ?_ ?_
  · exact Memref.IsWhole.read_unread _ _
  · exact Memref.IsWhole.read_unread _ _
  · exact (View.read_writes_junk_eq_canon _ _).trans (pieces_canon (grid0.coords t) (iblk m c 0 t) (iblk m c 1 t))

/-- The result array after the run, by entries. -/
theorem final (c : Dev nD) : (dats m 0 c).arrAt 9 (cfgs 0).N = G m c := by
  refine (dats m 0 c).arrAt_eq_of_covers 9 _ (by decide +kernel) fun t _ y => ?_
  blk_simp
  rw [after0_9]
  exact point m c t y

end Cert.ConvIdeal.Final

namespace Cert.ConvRefIdeal.Term

open Cert.ConvRefIdeal Cert.ConvRefIdeal.Gen Idealize.ShloMosaic Idealize.ShloMosaic.TcCoe Idealize.SL.Sem Idealize.ShloMosaic.StableHlo

/-- The reference's result at a run's start is the term of its arguments. -/
theorem res_fun (m : (ℓ : Loc nD τ sig) → Buf (Elt Ideal) ℓ) (c : Dev nD) : res (launchContents m c) = fun p : S8x2048x1024.Idx => Row.mixOut (fun l => (m ((c.tc : Thread nD τ).loc main_arg1) : FVec Ideal S8x2048x1024 .f32) (ix3 (p 0) (p 1) l))
    (fun l => Row.conv ((m ((c.tc : Thread nD τ).loc main_arg3) : FVec Ideal S1x1024 .f32) (ix2 0 l)) (fun j => (m ((c.tc : Thread nD τ).loc main_arg2) : FVec Ideal S1x31x1024 .f32) (ix3 0 j l))
      (Row.back (fun s => (m ((c.tc : Thread nD τ).loc main_arg0) : FVec Ideal S8x2048x1024 .f32) (ix3 (p 0) s l)) (p 1)))
    (fun l => (m ((c.tc : Thread nD τ).loc main_arg4) : FVec Ideal S1x1024 .f32) (ix2 0 l)) (fun l => (m ((c.tc : Thread nD τ).loc main_arg5) : FVec Ideal S1x1024 .f32) (ix2 0 l))
    (fun k l => (m ((c.tc : Thread nD τ).loc main_arg6) : FVec Ideal S1x1024x1024 .f32) (ix3 0 k l)) (fun l => (m ((c.tc : Thread nD τ).loc main_arg7) : FVec Ideal S1x1024 .f32) (ix2 0 l)) (p 2) := by
  funext p
  idx_vars p
  exact res_apply (launchContents m c) p0 p1 p2

end Cert.ConvRefIdeal.Term

namespace Cert.Proof

open Idealize.ShloMosaic Idealize.SL.Sem

/-- The convolution call's result is the reference's on every device, from the same arguments. -/
theorem algebraic_conv : Cert.algebraic_ConvIdeal_ConvRefIdeal := by
  pair_intro
  · run_from Cert.ConvIdeal.Gen.run_main m g
  · run_from Cert.ConvRefIdeal.Value.run m' g'
    obtain ⟨h0, h1, h2, h3, h4, h5, h6, h7⟩ := hagree c
    refine Eq.trans (b := Cert.ConvRefIdeal.Term.res (Idealize.ShloMosaic.StableHlo.launchContents m' c)) ?_ ?_
    · rw [← h1, ← h6, ← h7]
      rfl
    · rw [Cert.ConvIdeal.Final.final m, Cert.ConvRefIdeal.Term.res_fun, h0, h1, h2, h3, h4, h5, h6, h7]
      rfl

end Cert.Proof

end
-- ==== Proof.ConvInValue.lean ====
/- The values of the call that projects the convolution mixer's input and gates it (`ConvIn`): at the ideal instance its
   result array is the reference's term of the same arguments, entry by entry. -/
module

public import proofs.«01_k».proof.Defs
public import proofs.«01_k».proof.Proof.Gen.ConvInIdeal.Frame
public import proofs.«01_k».proof.Proof.Gen.ConvInRefIdeal.Run
public import proofs.«01_k».proof.Proof.Row
public import Idealize.ShloMosaic.Lib.Pipeline.ValueKit

@[expose] public section

set_option maxRecDepth 16384

noncomputable section

namespace Cert.ConvInRefIdeal.Term

open Cert.ConvInRefIdeal Cert.ConvInRefIdeal.Gen Idealize.ShloMosaic Idealize.ShloMosaic.TcCoe Idealize.SL.Sem

/-- What the reference computes from the hidden state `x0`, the norm weights `x1`, the first pointwise weight `x2` and its
    bias `x3`: RMSNorm, the product with the weight, the bias, and the gated linear unit, its rows in one axis. -/
def ref (x0 : FVec Ideal S8x2048x1024 .f32) (x1 : FVec Ideal S2x1024 .f32) (x2 : FVec Ideal S1x1024x2048 .f32)
    (x3 : FVec Ideal S1x2048 .f32) : FVec Ideal S16384x1024 .f32 :=
  shapeCast _ (mulf (extractStridedSlice S8x2048x1024 ![0, 0, 0] (addf (Host.dotGeneral dot_S8x2048x1024_S1024x2048_S8x2048x2048_2_0_01_1_n_n none (mulf
    (mulf x0 (broadcastInDim S8x2048x1024 ![0, 1, 2] bcast_S8x2048x1_S8x2048x1024_0_1_2 (Host.rsqrt (addf (Host.divf (broadcastInDim S8x2048x1 ![0, 1]
    bcast_S8x2048_S8x2048x1_0_1 (Host.reduceAdd (mulf x0 x0) (constant S_ .f32 0x00000000#32) reducesTo_S8x2048x1024_S8x2048_d2 h_S_)) (broadcastInDim
    S8x2048x1 ![] bcast_S_S8x2048x1 (constant S_ .f32 0x44800000#32))) (broadcastInDim S8x2048x1 ![] bcast_S_S8x2048x1 (constant S_ .f32
    0x358637BD#32)))))) (broadcastInDim S8x2048x1024 ![0, 1, 2] bcast_S1x1x1024_S8x2048x1024_0_1_2 (broadcastInDim S1x1x1024 ![2] bcast_S1024_S1x1x1024_2
    (shapeCast _ (extractStridedSlice S1x1024 ![0, 0] x1 slices_S2x1024_S1x1024_0_0) shapeCasts_S1x1024_S1024)))) (shapeCast _ x2
    shapeCasts_S1x1024x2048_S1024x2048)) (broadcastInDim S8x2048x2048 ![0, 1, 2] bcast_S1x1x2048_S8x2048x2048_0_1_2 (broadcastInDim S1x1x2048 ![2]
    bcast_S2048_S1x1x2048_2 (shapeCast _ x3 shapeCasts_S1x2048_S2048)))) slices_S8x2048x2048_S8x2048x1024_0_0_0) (Host.divf (broadcastInDim S8x2048x1024
    ![] bcast_S_S8x2048x1024 (constant S_ .f32 0x3F800000#32)) (addf (broadcastInDim S8x2048x1024 ![] bcast_S_S8x2048x1024 (constant S_ .f32
    0x3F800000#32)) (Host.exp (Host.negf (extractStridedSlice S8x2048x1024 ![0, 0, 1024] (addf (Host.dotGeneral
    dot_S8x2048x1024_S1024x2048_S8x2048x2048_2_0_01_1_n_n none (mulf (mulf x0 (broadcastInDim S8x2048x1024 ![0, 1, 2] bcast_S8x2048x1_S8x2048x1024_0_1_2
    (Host.rsqrt (addf (Host.divf (broadcastInDim S8x2048x1 ![0, 1] bcast_S8x2048_S8x2048x1_0_1 (Host.reduceAdd (mulf x0 x0) (constant S_ .f32
    0x00000000#32) reducesTo_S8x2048x1024_S8x2048_d2 h_S_)) (broadcastInDim S8x2048x1 ![] bcast_S_S8x2048x1 (constant S_ .f32 0x44800000#32)))
    (broadcastInDim S8x2048x1 ![] bcast_S_S8x2048x1 (constant S_ .f32 0x358637BD#32)))))) (broadcastInDim S8x2048x1024 ![0, 1, 2]
    bcast_S1x1x1024_S8x2048x1024_0_1_2 (broadcastInDim S1x1x1024 ![2] bcast_S1024_S1x1x1024_2 (shapeCast _ (extractStridedSlice S1x1024 ![0, 0] x1
    slices_S2x1024_S1x1024_0_0) shapeCasts_S1x1024_S1024)))) (shapeCast _ x2 shapeCasts_S1x1024x2048_S1024x2048)) (broadcastInDim S8x2048x2048 ![0, 1, 2]
    bcast_S1x1x2048_S8x2048x2048_0_1_2 (broadcastInDim S1x1x2048 ![2] bcast_S2048_S1x1x2048_2 (shapeCast _ x3 shapeCasts_S1x2048_S2048))))
    slices_S8x2048x2048_S8x2048x1024_0_0_1024)))))) shapeCasts_S8x2048x1024_S16384x1024

/-- The reference's term at row `r`, column `n` is the gated projection of row `r`. -/
theorem ref_apply (x0 : FVec Ideal S8x2048x1024 .f32) (x1 : FVec Ideal S2x1024 .f32) (x2 : FVec Ideal S1x1024x2048 .f32)
    (x3 : FVec Ideal S1x2048 .f32) (r : Fin 16384) (n : Fin 1024) :
    ref x0 x1 x2 x3 (ix2 r n) = Cert.Row.gate (fun k => x0 (ix3 ⟨r / 2048, by omega⟩ ⟨r % 2048, by omega⟩ k))
      (fun k => x1 (ix2 0 k)) (fun k l => x2 (ix3 0 k l)) (fun l => x3 (ix2 0 l)) n := by
  pointwise [ref]
  rfl

end Cert.ConvInRefIdeal.Term

namespace Cert.ConvInIdeal.Final

open Cert.ConvInIdeal Cert.ConvInIdeal.Gen Idealize.ShloMosaic Idealize.ShloMosaic.TcCoe Idealize.SL.Sem
open Idealize.ShloMosaic.Pipeline (Dat)

variable (m : (ℓ : Loc nD τ sig) → Buf (Elt Ideal) ℓ)

/-- The block of every window at every grid point: the rows move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The reference's term of device `c`'s argument arrays. -/
abbrev G (c : Dev nD) : FVec Ideal S16384x1024 .f32 :=
  Cert.ConvInRefIdeal.Term.ref (m ((c : Thread nD τ).loc main_arg0)) (m ((c : Thread nD τ).loc main_arg1))
    (m ((c : Thread nD τ).loc main_arg2)) (m ((c : Thread nD τ).loc main_arg3))

/-- The body's stored value at row `r`, column `n` of its block is the gated projection of the block's row `r`. -/
theorem pay_apply (v0 : Vec Ideal S512x1024 .f32) (v2 : Vec Ideal S1x1024 .f32) (v17 : Vec Ideal S1024x2048 .bf16)
    (v20 : Vec Ideal S1x2048 .f32) (r : Fin 512) (n : Fin 1024) :
    k0_pay1 (F := Ideal) v0 v2 v17 v20 (ix2 r n) = Cert.Row.gate (fun k => v0 (ix2 r k))
      (fun k => v2 (ix2 0 k)) (fun k l => v17 (ix2 k l)) (fun l => v20 (ix2 0 l)) n := by
  pointwise [k0_pay1]
  simp only [zero_sub]
  rfl

/-- What the body stores at index `y` of point `t`'s block is the reference's term at the array index where `y` lies. -/
theorem point (c : Dev nD) (t : Fin cfg0.N) (y) :
    k0_pay1 (F := Ideal) (iblk m c 0 t) (iblk m c 1 t) (iblk m c 2 t) (iblk m c 3 t) y
      = G m c (((cfg0.win 4).blk t).view.emb y) := by
  idx_vars y
  have ht : t.val < 32 := t.isLt.trans_eq N_0
  have e : ((cfg0.win 4).blk t).view.emb (ix2 y0 y1) = ix2 (⟨t.val * 512 + y0, by omega⟩ : Fin 16384) y1 := by
    blk_ext [idx t]
  rw [e, G, Cert.ConvInRefIdeal.Term.ref_apply]
  refine (pay_apply _ _ _ _ y0 y1).trans ?_
  blk_point [iblk, V, idx t]

/-- The result array after the run is the reference's term of the arguments. -/
theorem final (c : Dev nD) : (dats m 0 c).arrAt 4 (cfgs 0).N = G m c := by
  refine (dats m 0 c).arrAt_eq_of_covers 4 _ (by decide +kernel) fun t _ y => ?_
  blk_simp
  rw [after0_4]; frame_out
  exact point m c t y

end Cert.ConvInIdeal.Final

namespace Cert.Proof

open Idealize.ShloMosaic Idealize.SL.Sem

/-- The projection's result is the reference's on every device, from the same arguments. -/
theorem algebraic_conv_in : Cert.algebraic_ConvInIdeal_ConvInRefIdeal := by
  pair_intro
  · run_from Cert.ConvInIdeal.Gen.run_main m g
  · run_from Cert.ConvInRefIdeal.Value.run m' g'
    exact (Cert.ConvInIdeal.Final.final m _).symm

end Cert.Proof

end
-- ==== Proof.ConvStepRef.lean ====
/- The reference of the convolution step (`ConvStep`), read entry by entry: the bias plus 31 taps over the 30 rows of the
   state and the new row, LayerNorm, the swish, the projection and the residual; and the state's next 30 rows. -/
module

public import proofs.«01_k».proof.Defs
public import proofs.«01_k».proof.Proof.Gen.ConvStepRefIdeal.Run
public import proofs.«01_k».proof.Proof.Row
public import Idealize.ShloMosaic.Lib.Pipeline.ValueKit
public import Idealize.ShloMosaic.Lib.Tactic.CleanTypes
public import Idealize.ShloMosaic.Lib.KernelVsHost

@[expose] public section

set_option maxRecDepth 16384

noncomputable section

namespace Cert.ConvStepRefIdeal.Term

open Cert.ConvStepRefIdeal Cert.ConvStepRefIdeal.Gen Idealize.ShloMosaic Idealize.ShloMosaic.TcCoe Idealize.SL.Sem

variable (V : Valuation τ sig (Elt Ideal))

/-- The context of a sequence: the state's 30 rows, then the new one. -/
def ctx (st : FVec Ideal S1x32x30x1024 .f32) (g : FVec Ideal S32x1024 .f32) (b : Fin 32) (j : Fin 31) (n : Fin 1024) : EReal :=
  if h : j.val < 30 then st (ix4 0 b ⟨j.val, h⟩ n) else g (ix2 b n)

theorem ctx_apply (b : Fin 32) (j : Fin 31) (n : Fin 1024) :
    (Value.res_main_v2 V : FVec Ideal S32x31x1024 .f32) (ix3 b j n) = ctx (V (Proc.devRef .tc main_arg0)) (V (Proc.devRef .tc main_arg1)) b j n := by
  unfold Value.res_main_v2
  clean_types
  generalize V (Proc.devRef .tc main_arg0) = st
  generalize V (Proc.devRef .tc main_arg1) = g
  pointwise [ctx]

/-- The convolution: the 31 taps, begun at zero, and the bias. -/
theorem conv_apply (b : Fin 32) (t : Fin 1) (n : Fin 1024) :
    (Value.res_main_v224 V : FVec Ideal S32x1x1024 .f32) (ix3 b t n)
      = Row.conv ((V (Proc.devRef .tc main_arg4) : FVec Ideal S1x1024 .f32) (ix2 0 n))
          (fun j => (V (Proc.devRef .tc main_arg3) : FVec Ideal S1x31x1024 .f32) (ix3 0 j n))
          (fun j => (Value.res_main_v2 V : FVec Ideal S32x31x1024 .f32) (ix3 b j n)) := by
  refine Eq.trans ?_ (Row.conv_eq' _ _ _)
  obtain rfl : t = 0 := Subsingleton.elim _ _
  unfold Value.res_main_v224 Value.res_main_v157 Value.res_main_v80
  clean_types
  generalize Value.res_main_v2 V = X
  generalize V (Proc.devRef .tc main_arg3) = D
  generalize V (Proc.devRef .tc main_arg4) = B
  pointwise

/-- The mean of each row. -/
def mean (y : FVec Ideal S32x1x1024 .f32) : FVec Ideal S32x1x1 .f32 :=
  Host.divf (broadcastInDim S32x1x1 ![0, 1] bcast_S32x1_S32x1x1_0_1 (Host.reduceAdd y (constant S_ .f32 0x00000000#32)
    reducesTo_S32x1x1024_S32x1_d2 h_S_)) (broadcastInDim S32x1x1 ![] bcast_S_S32x1x1 (constant S_ .f32 0x44800000#32))

theorem mean_apply (y : FVec Ideal S32x1x1024 .f32) (b : Fin 32) (t : Fin 1) (u : Fin 1) :
    mean y (ix3 b t u) = Row.mean (fun n => y (ix3 b t n)) := by
  obtain rfl : t = 0 := Subsingleton.elim _ _
  pointwise [mean]
  rfl

/-- One row of weights laid along every row. -/
def along (g : FVec Ideal S1x1024 .f32) : FVec Ideal S32x1x1024 .f32 :=
  broadcastInDim S32x1x1024 ![0, 1, 2] bcast_S1x1x1024_S32x1x1024_0_1_2 (broadcastInDim S1x1x1024 ![2]
    bcast_S1024_S1x1x1024_2 (shapeCast _ g shapeCasts_S1x1024_S1024))

theorem along_apply (g : FVec Ideal S1x1024 .f32) (b : Fin 32) (t : Fin 1) (n : Fin 1024) :
    along g (ix3 b t n) = g (ix2 0 n) := by
  pointwise [along]

/-- Each row less its mean. -/
def centred (y : FVec Ideal S32x1x1024 .f32) : FVec Ideal S32x1x1024 .f32 :=
  subf y (broadcastInDim S32x1x1024 ![0, 1, 2] bcast_S32x1x1_S32x1x1024_0_1_2 (mean y))

theorem centred_apply (y : FVec Ideal S32x1x1024 .f32) (b : Fin 32) (t : Fin 1) (n : Fin 1024) :
    centred y (ix3 b t n) = y (ix3 b t n) - Row.mean (fun l => y (ix3 b t l)) := by
  obtain rfl : t = 0 := Subsingleton.elim _ _
  pointwise [centred, mean_apply]

/-- LayerNorm along the last axis. -/
def lnorm (y : FVec Ideal S32x1x1024 .f32) (g b : FVec Ideal S1x1024 .f32) : FVec Ideal S32x1x1024 .f32 :=
  addf (mulf (mulf (centred y) (broadcastInDim S32x1x1024 ![0, 1, 2] bcast_S32x1x1_S32x1x1024_0_1_2 (Host.rsqrt (addf
    (mean (mulf (centred y) (centred y)))
    (broadcastInDim S32x1x1 ![] bcast_S_S32x1x1 (constant S_ .f32 0x358637BD#32)))))) (along g)) (along b)

theorem lnorm_apply (y : FVec Ideal S32x1x1024 .f32) (g b : FVec Ideal S1x1024 .f32) (i : Fin 32) (t : Fin 1) (n : Fin 1024) :
    lnorm y g b (ix3 i t n)
      = Row.lnorm (fun l => y (ix3 i t l)) (fun l => g (ix2 0 l)) (fun l => b (ix2 0 l)) n := by
  obtain rfl : t = 0 := Subsingleton.elim _ _
  pointwise [lnorm, mean_apply, centred_apply, along_apply]
  rfl

/-- The swish, entry by entry. -/
def swish (a : FVec Ideal S32x1x1024 .f32) : FVec Ideal S32x1x1024 .f32 :=
  mulf a (Host.divf (broadcastInDim S32x1x1024 ![] bcast_S_S32x1x1024 (constant S_ .f32 0x3F800000#32)) (addf
    (broadcastInDim S32x1x1024 ![] bcast_S_S32x1x1024 (constant S_ .f32 0x3F800000#32)) (Host.exp (Host.negf a))))

theorem swish_apply (a : FVec Ideal S32x1x1024 .f32) (i : Fin 32) (t : Fin 1) (n : Fin 1024) :
    swish a (ix3 i t n) = Row.swish (a (ix3 i t n)) := by
  obtain rfl : t = 0 := Subsingleton.elim _ _
  pointwise [swish]
  rfl

/-- What follows the convolution: LayerNorm, the swish, the projection with its bias, the residual. -/
def tail (x y : FVec Ideal S32x1x1024 .f32) (g b : FVec Ideal S1x1024 .f32) (w : FVec Ideal S1x1024x1024 .f32)
    (c : FVec Ideal S1x1024 .f32) : FVec Ideal S32x1x1024 .f32 :=
  addf x (addf (Host.dotGeneral dot_S32x1x1024_S1024x1024_S32x1x1024_2_0_01_1_n_n none (swish (lnorm y g b))
    (shapeCast _ w shapeCasts_S1x1024x1024_S1024x1024)) (along c))

theorem tail_apply (x y : FVec Ideal S32x1x1024 .f32) (g b : FVec Ideal S1x1024 .f32) (w : FVec Ideal S1x1024x1024 .f32)
    (c : FVec Ideal S1x1024 .f32) (i : Fin 32) (t : Fin 1) (n : Fin 1024) :
    tail x y g b w c (ix3 i t n)
      = Row.mixOut (fun l => x (ix3 i t l)) (fun l => y (ix3 i t l)) (fun l => g (ix2 0 l)) (fun l => b (ix2 0 l))
          (fun k l => w (ix3 0 k l)) (fun l => c (ix2 0 l)) n := by
  obtain rfl : t = 0 := Subsingleton.elim _ _
  pointwise [tail, swish_apply, lnorm_apply, along_apply]
  rfl

/-- The reference's first result from its arguments' contents. -/
def res : FVec Ideal S32x1024 .f32 :=
  shapeCast _ (tail (V (Proc.devRef .tc main_arg2)) (Value.res_main_v224 V) (V (Proc.devRef .tc main_arg5)) (V (Proc.devRef .tc main_arg6))
    (V (Proc.devRef .tc main_arg7)) (V (Proc.devRef .tc main_arg8))) shapeCasts_S32x1x1024_S32x1024

/-- One entry of the reference's first result. -/
theorem res_apply (b : Fin 32) (n : Fin 1024) :
    res V (ix2 b n)
      = Row.mixOut (fun l => (V (Proc.devRef .tc main_arg2) : FVec Ideal S32x1x1024 .f32) (ix3 b 0 l))
          (fun l => Row.conv ((V (Proc.devRef .tc main_arg4) : FVec Ideal S1x1024 .f32) (ix2 0 l))
            (fun j => (V (Proc.devRef .tc main_arg3) : FVec Ideal S1x31x1024 .f32) (ix3 0 j l))
            (fun j => ctx (V (Proc.devRef .tc main_arg0)) (V (Proc.devRef .tc main_arg1)) b j l))
          (fun l => (V (Proc.devRef .tc main_arg5) : FVec Ideal S1x1024 .f32) (ix2 0 l))
          (fun l => (V (Proc.devRef .tc main_arg6) : FVec Ideal S1x1024 .f32) (ix2 0 l))
          (fun k l => (V (Proc.devRef .tc main_arg7) : FVec Ideal S1x1024x1024 .f32) (ix3 0 k l))
          (fun l => (V (Proc.devRef .tc main_arg8) : FVec Ideal S1x1024 .f32) (ix2 0 l)) n := by
  have e : ∀ T : FVec Ideal S32x1x1024 .f32, shapeCast S32x1024 T shapeCasts_S32x1x1024_S32x1024 (ix2 b n) = T (ix3 b 0 n) := by
    intro T
    pointwise
  refine (e _).trans ((tail_apply _ _ _ _ _ _ b 0 n).trans ?_)
  refine congrArg (fun y => Row.mixOut _ y _ _ _ _ n) (funext fun l => ?_)
  exact (conv_apply V b 0 l).trans (congrArg (Row.conv _ _) (funext fun j => ctx_apply V b j l))

/-- The reference's second result from its arguments' contents: the state's next rows, the row's number first. -/
def next : FVec Ideal S30x32x1024 .f32 :=
  transpose S30x32x1024 [1, 0, 2] (extractStridedSlice S32x30x1024 ![0, 1, 0] (Value.res_main_v2 V) slices_S32x31x1024_S32x30x1024_0_1_0)
    transposes_S32x30x1024_S30x32x1024_1_0_2

/-- One entry of the reference's second result. -/
theorem next_apply (j : Fin 30) (b : Fin 32) (n : Fin 1024) :
    next V (ix3 j b n) = ctx (V (Proc.devRef .tc main_arg0)) (V (Proc.devRef .tc main_arg1)) b ⟨j.val + 1, by omega⟩ n := by
  have e : ∀ T : FVec Ideal S32x31x1024 .f32, transpose S30x32x1024 [1, 0, 2] (extractStridedSlice S32x30x1024 ![0, 1, 0] T slices_S32x31x1024_S32x30x1024_0_1_0)
      transposes_S32x30x1024_S30x32x1024_1_0_2 (ix3 j b n) = T (ix3 b (⟨j.val + 1, by omega⟩ : Fin 31) n) := by
    intro T
    pointwise
    exact congrArg (fun q => T (ix3 b q n)) (Fin.ext (Nat.add_comm _ _))
  exact (e _).trans (ctx_apply V b _ n)

end Cert.ConvStepRefIdeal.Term

end
-- ==== Proof.ConvStepValue.lean ====
/- The values of the convolution step (`ConvStep`): at the ideal instance its two result arrays are the reference's. -/
module

public import proofs.«01_k».proof.Defs
public import proofs.«01_k».proof.Proof.Gen.ConvStepIdeal.Value
public import proofs.«01_k».proof.Proof.Row
public import proofs.«01_k».proof.Proof.ConvStepRef
public import Idealize.ShloMosaic.Lib.Pipeline.ValueKit
public import Idealize.ShloMosaic.Lib.Pipeline.ReadBack

@[expose] public section

set_option maxRecDepth 16384

noncomputable section

namespace Cert.ConvStepIdeal.Final

open Cert.ConvStepIdeal Cert.ConvStepIdeal.Gen Idealize.ShloMosaic Idealize.ShloMosaic.TcCoe Idealize.SL.Sem

/-- The context of a sequence, row by row: the state's 30 rows, then the new one. -/
def ctx (x0 : Vec Ideal S30x32x1024 .f32) (x1 : Vec Ideal S32x1024 .f32) (b : Fin 32) (n : Fin 1024) (j : Fin 31) : EReal :=
  if h : j.val < 30 then x0 (ix3 ⟨j.val, h⟩ b n) else x1 (ix2 b n)

/-- The 31 taps and the bias as the body adds them. -/
theorem taps_apply (x0 : Vec Ideal S30x32x1024 .f32) (x1 x2 : Vec Ideal S32x1024 .f32) (x3 : Vec Ideal S31x1024 .f32) (x4 x5 x6 : Vec Ideal S1x1024 .f32)
    (x7 : Vec Ideal S1024x1024 .bf16) (x8 : Vec Ideal S1x1024 .f32) (b : Fin 32) (n : Fin 1024) :
    k0_pay61 (F := Ideal) x0 x1 x2 x3 x4 x5 x6 x7 x8 (ix2 b n) + k0_pay62 (F := Ideal) x0 x1 x2 x3 x4 x5 x6 x7 x8 (ix2 b n) * x3 (ix2 29 n)
      = Row.conv (x4 (ix2 0 n)) (fun j => x3 (ix2 j n)) (ctx x0 x1 b n) := by
  refine Eq.trans ?_ (Row.conv_eq'' _ _ _)
  unfold k0_pay61 k0_pay62
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
  rfl

/-- LayerNorm of the rows `u + v * d`. -/
theorem norm_apply (u v : FVec Ideal S32x1024 .f32) (d g c : FVec Ideal S1x1024 .f32) (b : Fin 32) (n : Fin 1024) :
    k0_pay59 (F := Ideal) u v d g c (ix2 b n)
      = Row.lnorm (fun l => u (ix2 b l) + v (ix2 b l) * d (ix2 0 l)) (fun l => g (ix2 0 l)) (fun l => c (ix2 0 l)) n := by
  pointwise [k0_pay59]
  rfl

/-- The first stored value from the convolved rows `u + v * d`. -/
theorem pay_apply (w : FVec Ideal S1024x1024 .bf16) (e : FVec Ideal S1x1024 .f32) (x u v : FVec Ideal S32x1024 .f32) (d g c : FVec Ideal S1x1024 .f32)
    (b : Fin 32) (n : Fin 1024) :
    k0_pay1 (F := Ideal) w e x (k0_pay59 u v d g c) (k0_pay60 u v d g c) (ix2 b n)
      = Row.mixOut (fun l => x (ix2 b l)) (fun l => u (ix2 b l) + v (ix2 b l) * d (ix2 0 l)) (fun l => g (ix2 0 l)) (fun l => c (ix2 0 l))
          (fun k l => w (ix2 k l)) (fun l => e (ix2 0 l)) n := by
  unfold Row.mixOut
  rw [add_comm (x (ix2 b n))]
  pointwise [k0_pay1, k0_pay60, norm_apply]
  simp only [zero_sub]
  rfl

/-- What the body stores for the first result at row `b`, column `n`. -/
theorem out_apply (x0 : Vec Ideal S30x32x1024 .f32) (x1 x2 : Vec Ideal S32x1024 .f32) (x3 : Vec Ideal S31x1024 .f32) (x4 x5 x6 : Vec Ideal S1x1024 .f32)
    (x7 : Vec Ideal S1024x1024 .bf16) (x8 : Vec Ideal S1x1024 .f32) (b : Fin 32) (n : Fin 1024) :
    out0_9 (F := Ideal) x0 x1 x2 x3 x4 x5 x6 x7 x8 (ix2 b n)
      = Row.mixOut (fun l => x2 (ix2 b l)) (fun l => Row.conv (x4 (ix2 0 l)) (fun j => x3 (ix2 j l)) (ctx x0 x1 b l)) (fun l => x5 (ix2 0 l))
          (fun l => x6 (ix2 0 l)) (fun k l => x7 (ix2 k l)) (fun l => x8 (ix2 0 l)) n := by
  have hz : (![0, 0] : Fin 2 → Nat) = fun _ => 0 := funext fun a => by fin_cases a <;> rfl
  unfold out0_9
  rw [View.canon_unit_zero hz, pay_apply]
  have e : ∀ l, View.ld x3 r0_62 (ix2 0 l) = x3 (ix2 29 l) := fun l => by pointwise
  refine (congrArg (fun y => Row.mixOut _ y _ _ _ _ n) (funext fun l =>
    (congrArg (fun q => k0_pay61 (F := Ideal) x0 x1 x2 x3 x4 x5 x6 x7 x8 (ix2 b l) + k0_pay62 (F := Ideal) x0 x1 x2 x3 x4 x5 x6 x7 x8 (ix2 b l) * q) (e l)).trans
      (taps_apply x0 x1 x2 x3 x4 x5 x6 x7 x8 b l))).trans ?_
  pointwise [k0_pay56, k0_pay57, k0_pay58]

/-- What the body stores for the second result: the context's rows from the second on. -/
theorem next_apply (x0 : Vec Ideal S30x32x1024 .f32) (x1 x2 : Vec Ideal S32x1024 .f32) (x3 : Vec Ideal S31x1024 .f32) (x4 x5 x6 : Vec Ideal S1x1024 .f32)
    (x7 : Vec Ideal S1024x1024 .bf16) (x8 : Vec Ideal S1x1024 .f32) (j : Fin 30) (b : Fin 32) (n : Fin 1024) :
    out0_10 (F := Ideal) x0 x1 x2 x3 x4 x5 x6 x7 x8 (ix3 j b n) = ctx x0 x1 b n ⟨j.val + 1, by omega⟩ := by
  unfold out0_10 ctx
  canon_tiles q h
  · have hj : j.val = 29 + (q 0).val := h0
    obtain rfl : b = q 1 := Fin.ext h1
    obtain rfl : n = q 2 := Fin.ext h2
    rw [dif_neg (by simp only []; omega)]
    idx_vars q
    pointwise [k0_pay55]
    done
  all_goals
    have hj : j.val = _ := h0
    obtain rfl : b = q 1 := Fin.ext h1
    obtain rfl : n = q 2 := Fin.ext h2
    rw [dif_pos (by simp only []; omega)]
    idx_vars q
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
    refine congrArg (fun r => x0 (ix3 r _ _)) (Fin.ext ?_)
    first
      | (simp only []; omega)
      | (have hq : q0.val < 1 := q0_lt
         show 1 = j.val + 1
         omega)

variable (m : (ℓ : Loc nD τ sig) → Buf (Elt Ideal) ℓ)

/-- The one grid point takes every array whole. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0, 0] :=
  (by decide +kernel : ∀ t : Fin grid0.N, _)

/-- The first result as a function of device `c`'s argument arrays, by entries. -/
def G (c : Dev nD) : FVec Ideal S32x1024 .f32 := fun p =>
  Row.mixOut (fun l => (m ((c : Thread nD τ).loc main_arg2) : FVec Ideal S32x1x1024 .f32) (ix3 (p 0) 0 l))
    (fun l => Row.conv ((m ((c : Thread nD τ).loc main_arg4) : FVec Ideal S1x1024 .f32) (ix2 0 l)) (fun j => (m ((c : Thread nD τ).loc main_arg3) : FVec Ideal S1x31x1024 .f32) (ix3 0 j l))
      (fun j => Cert.ConvStepRefIdeal.Term.ctx (m ((c : Thread nD τ).loc main_arg0) : FVec Ideal S1x32x30x1024 .f32) (m ((c : Thread nD τ).loc main_arg1) : FVec Ideal S32x1024 .f32) (p 0) j l))
    (fun l => (m ((c : Thread nD τ).loc main_arg5) : FVec Ideal S1x1024 .f32) (ix2 0 l)) (fun l => (m ((c : Thread nD τ).loc main_arg6) : FVec Ideal S1x1024 .f32) (ix2 0 l))
    (fun k l => (m ((c : Thread nD τ).loc main_arg7) : FVec Ideal S1x1024x1024 .f32) (ix3 0 k l)) (fun l => (m ((c : Thread nD τ).loc main_arg8) : FVec Ideal S1x1024 .f32) (ix2 0 l)) (p 1)

/-- The second result as a function of device `c`'s argument arrays, by entries. -/
def H (c : Dev nD) : FVec Ideal S30x32x1024 .f32 := fun p =>
  Cert.ConvStepRefIdeal.Term.ctx (m ((c : Thread nD τ).loc main_arg0) : FVec Ideal S1x32x30x1024 .f32) (m ((c : Thread nD τ).loc main_arg1) : FVec Ideal S32x1024 .f32) (p 1)
    ⟨(p 0).val + 1, by have h : (p 0).val < 30 := (p 0).isLt; show (p 0).val + 1 < 31; omega⟩ (p 2)

/-- The context of the windows is the context of the arguments. -/
theorem ctx_eq (c : Dev nD) (t : Fin cfg0.N) (b : Fin 32) (n : Fin 1024) (j : Fin 31) :
    ctx (iblk m c 0 t) (iblk m c 1 t) b n j
      = Cert.ConvStepRefIdeal.Term.ctx (m ((c : Thread nD τ).loc main_arg0) : FVec Ideal S1x32x30x1024 .f32) (m ((c : Thread nD τ).loc main_arg1) : FVec Ideal S32x1024 .f32) b j n := by
  have e0 : ∀ j : Fin 30, (iblk m c 0 t : Vec Ideal S30x32x1024 .f32) (ix3 j b n) = (m ((c : Thread nD τ).loc main_arg0) : FVec Ideal S1x32x30x1024 .f32) (ix4 0 b j n) := by
    intro j
    blk_point [iblk, V, idx t]
  have e1 : (iblk m c 1 t : Vec Ideal S32x1024 .f32) (ix2 b n) = (m ((c : Thread nD τ).loc main_arg1) : FVec Ideal S32x1024 .f32) (ix2 b n) := by
    blk_point [iblk, V, idx t]
  unfold ctx Cert.ConvStepRefIdeal.Term.ctx
  by_cases h : j.val < 30
  · rw [dif_pos h, dif_pos h, e0]
  · rw [dif_neg h, dif_neg h, e1]

/-- What the body stores for the first result is the reference's. -/
theorem point (c : Dev nD) (t : Fin cfg0.N) (y) :
    out0_9 (F := Ideal) (iblk m c 0 t) (iblk m c 1 t) (iblk m c 2 t) (iblk m c 3 t) (iblk m c 4 t) (iblk m c 5 t) (iblk m c 6 t) (iblk m c 7 t) (iblk m c 8 t) y
      = G m c (((cfg0.win 9).blk t).view.emb y) := by
  idx_vars y
  have e : ((cfg0.win 9).blk t).view.emb (ix2 y0 y1) = ix2 y0 y1 := by
    blk_ext [idx t]
  rw [e]
  refine (out_apply _ _ _ _ _ _ _ _ _ y0 y1).trans ?_
  have ec : ∀ l, ctx (iblk m c 0 t) (iblk m c 1 t) y0 l = fun j => Cert.ConvStepRefIdeal.Term.ctx (m ((c : Thread nD τ).loc main_arg0) : FVec Ideal S1x32x30x1024 .f32) (m ((c : Thread nD τ).loc main_arg1) : FVec Ideal S32x1024 .f32) y0 j l :=
    fun l => funext fun j => ctx_eq m c t y0 l j
  have e2 : ∀ l, (iblk m c 2 t : Vec Ideal S32x1024 .f32) (ix2 y0 l) = (m ((c : Thread nD τ).loc main_arg2) : FVec Ideal S32x1x1024 .f32) (ix3 y0 0 l) := by
    intro l
    blk_point [iblk, V, idx t]
  have e3 : ∀ j l, (iblk m c 3 t : Vec Ideal S31x1024 .f32) (ix2 j l) = (m ((c : Thread nD τ).loc main_arg3) : FVec Ideal S1x31x1024 .f32) (ix3 0 j l) := by
    intro j l
    blk_point [iblk, V, idx t]
  have e4 : ∀ l, (iblk m c 4 t : Vec Ideal S1x1024 .f32) (ix2 0 l) = (m ((c : Thread nD τ).loc main_arg4) : FVec Ideal S1x1024 .f32) (ix2 0 l) := by
    intro l
    blk_point [iblk, V, idx t]
  have e5 : ∀ l, (iblk m c 5 t : Vec Ideal S1x1024 .f32) (ix2 0 l) = (m ((c : Thread nD τ).loc main_arg5) : FVec Ideal S1x1024 .f32) (ix2 0 l) := by
    intro l
    blk_point [iblk, V, idx t]
  have e6 : ∀ l, (iblk m c 6 t : Vec Ideal S1x1024 .f32) (ix2 0 l) = (m ((c : Thread nD τ).loc main_arg6) : FVec Ideal S1x1024 .f32) (ix2 0 l) := by
    intro l
    blk_point [iblk, V, idx t]
  have e7 : ∀ k l, (iblk m c 7 t : Vec Ideal S1024x1024 .bf16) (ix2 k l) = (m ((c : Thread nD τ).loc main_arg7) : FVec Ideal S1x1024x1024 .f32) (ix3 0 k l) := by
    intro k l
    blk_point [iblk, V, idx t]
  have e8 : ∀ l, (iblk m c 8 t : Vec Ideal S1x1024 .f32) (ix2 0 l) = (m ((c : Thread nD τ).loc main_arg8) : FVec Ideal S1x1024 .f32) (ix2 0 l) := by
    intro l
    blk_point [iblk, V, idx t]
  simp only [ec, e2, e3, e4, e5, e6, e7, e8]
  rfl

/-- What the body stores for the second result is the reference's. -/
theorem point_next (c : Dev nD) (t : Fin cfg0.N) (y) :
    out0_10 (F := Ideal) (iblk m c 0 t) (iblk m c 1 t) (iblk m c 2 t) (iblk m c 3 t) (iblk m c 4 t) (iblk m c 5 t) (iblk m c 6 t) (iblk m c 7 t) (iblk m c 8 t) y
      = H m c (((cfg0.win 10).blk t).view.emb y) := by
  idx_vars y
  have e : ((cfg0.win 10).blk t).view.emb (ix3 y0 y1 y2) = ix3 y0 y1 y2 := by
    blk_ext [idx t]
  rw [e]
  refine (next_apply _ _ _ _ _ _ _ _ _ y0 y1 y2).trans ?_
  exact ctx_eq m c t y1 y2 _

/-- The first result array after the run. -/
theorem final (c : Dev nD) : (dats m 0 c).arrAt 9 (cfgs 0).N = G m c := by
  refine (dats m 0 c).arrAt_eq_of_covers 9 _ (by decide +kernel) fun t _ y => ?_
  blk_simp
  rw [after0_9]
  exact point m c t y

/-- The second result array after the run. -/
theorem final_next (c : Dev nD) : (dats m 0 c).arrAt 10 (cfgs 0).N = H m c := by
  refine (dats m 0 c).arrAt_eq_of_covers 10 _ (by decide +kernel) fun t _ y => ?_
  blk_simp
  rw [after0_10]
  exact point_next m c t y

end Cert.ConvStepIdeal.Final

namespace Cert.ConvStepRefIdeal.Term

open Cert.ConvStepRefIdeal Cert.ConvStepRefIdeal.Gen Idealize.ShloMosaic Idealize.ShloMosaic.TcCoe Idealize.SL.Sem Idealize.ShloMosaic.StableHlo

/-- The reference's first result at a run's start is this function of its arguments. -/
theorem res_fun (m : (ℓ : Loc nD τ sig) → Buf (Elt Ideal) ℓ) (c : Dev nD) : res (launchContents m c) = fun p : S32x1024.Idx =>
  Row.mixOut (fun l => (m ((c.tc : Thread nD τ).loc main_arg2) : FVec Ideal S32x1x1024 .f32) (ix3 (p 0) 0 l))
    (fun l => Row.conv ((m ((c.tc : Thread nD τ).loc main_arg4) : FVec Ideal S1x1024 .f32) (ix2 0 l)) (fun j => (m ((c.tc : Thread nD τ).loc main_arg3) : FVec Ideal S1x31x1024 .f32) (ix3 0 j l))
      (fun j => Cert.ConvStepRefIdeal.Term.ctx (m ((c.tc : Thread nD τ).loc main_arg0) : FVec Ideal S1x32x30x1024 .f32) (m ((c.tc : Thread nD τ).loc main_arg1) : FVec Ideal S32x1024 .f32) (p 0) j l))
    (fun l => (m ((c.tc : Thread nD τ).loc main_arg5) : FVec Ideal S1x1024 .f32) (ix2 0 l)) (fun l => (m ((c.tc : Thread nD τ).loc main_arg6) : FVec Ideal S1x1024 .f32) (ix2 0 l))
    (fun k l => (m ((c.tc : Thread nD τ).loc main_arg7) : FVec Ideal S1x1024x1024 .f32) (ix3 0 k l)) (fun l => (m ((c.tc : Thread nD τ).loc main_arg8) : FVec Ideal S1x1024 .f32) (ix2 0 l)) (p 1) := by
  funext p
  idx_vars p
  exact res_apply (launchContents m c) p0 p1

/-- The reference's second result at a run's start is this function of its arguments. -/
theorem next_fun (m : (ℓ : Loc nD τ sig) → Buf (Elt Ideal) ℓ) (c : Dev nD) : next (launchContents m c) = fun p : S30x32x1024.Idx =>
  Cert.ConvStepRefIdeal.Term.ctx (m ((c.tc : Thread nD τ).loc main_arg0) : FVec Ideal S1x32x30x1024 .f32) (m ((c.tc : Thread nD τ).loc main_arg1) : FVec Ideal S32x1024 .f32) (p 1)
    ⟨(p 0).val + 1, by have h : (p 0).val < 30 := (p 0).isLt; show (p 0).val + 1 < 31; omega⟩ (p 2) := by
  funext p
  idx_vars p
  exact next_apply (launchContents m c) p0 p1 p2

end Cert.ConvStepRefIdeal.Term

namespace Cert.Proof

open Idealize.ShloMosaic Idealize.SL.Sem

/-- Both results of the convolution step are the reference's on every device, from the same arguments. -/
theorem algebraic_conv_step : Cert.algebraic_ConvStepIdeal_ConvStepRefIdeal := by
  pair_intro
  · run_from Cert.ConvStepIdeal.Gen.run_main m g
  · run_from Cert.ConvStepRefIdeal.Value.run m' g'
    · obtain ⟨h0, h1, h2, h3, h4, h5, h6, h7, h8⟩ := hagree c
      refine Eq.trans (b := Cert.ConvStepRefIdeal.Term.res (Idealize.ShloMosaic.StableHlo.launchContents m' c)) ?_ ?_
      · rw [← h2, ← h7, ← h8]
        rfl
      · rw [Cert.ConvStepIdeal.Final.final m, Cert.ConvStepRefIdeal.Term.res_fun, h0, h1, h2, h3, h4, h5, h6, h7, h8]
        rfl
    · obtain ⟨h0, h1, h2, h3, h4, h5, h6, h7, h8⟩ := hagree c
      refine Eq.trans (b := Cert.ConvStepRefIdeal.Term.next (Idealize.ShloMosaic.StableHlo.launchContents m' c)) rfl ?_
      rw [Cert.ConvStepIdeal.Final.final_next m, Cert.ConvStepRefIdeal.Term.next_fun, h0, h1]
      rfl

end Cert.Proof

end
-- ==== Proof.MlpValue.lean ====
/- The values of the call that ends a layer (`Mlp`): the attention's output projection, the feed-forward layer, the
   per-layer embedding's gate and the final norm. At the ideal instance its result array is the reference's, entry by
   entry: both are the row function `Cert.Row.half` of the same rows. -/
module

public import proofs.«01_k».proof.Defs
public import proofs.«01_k».proof.Proof.Gen.MlpIdeal.Frame
public import proofs.«01_k».proof.Proof.Gen.MlpRefIdeal.Run
public import proofs.«01_k».proof.Proof.Row
public import Idealize.ShloMosaic.Lib.Pipeline.ValueKit

@[expose] public section

set_option maxRecDepth 16384

noncomputable section

/-! ## The reference, stage by stage -/

namespace Cert.MlpRefIdeal.Term

open Cert.MlpRefIdeal Cert.MlpRefIdeal.Gen Idealize.ShloMosaic Idealize.ShloMosaic.TcCoe Idealize.SL.Sem

/-- RMSNorm along the last axis. -/
def norm (h : FVec Ideal S8x2048x1024 .f32) (g : FVec Ideal S1024 .f32) : FVec Ideal S8x2048x1024 .f32 :=
  mulf (mulf h (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf h h) (constant S_ .f32 0x00000000#32)
      reducesTo_S8x2048x1024_S8x2048_d2 h_S_)) (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 g))

/-- The residual plus the attention's output projected. -/
def pre (x o : FVec Ideal S8x2048x1024 .f32) (w : FVec Ideal S1024x1024 .f32) : FVec Ideal S8x2048x1024 .f32 :=
  addf x (Host.dotGeneral dot_S8x2048x1024_S1024x1024_S8x2048x1024_2_0_01_1_n_n none o w)

/-- The residual plus the feed-forward layer of `n`. -/
def ffn (h n : FVec Ideal S8x2048x1024 .f32) (U : FVec Ideal S1024x4096 .f32) (D : FVec Ideal S4096x1024 .f32) :
    FVec Ideal S8x2048x1024 .f32 :=
  addf h (Host.dotGeneral dot_S8x2048x4096_S4096x1024_S8x2048x1024_2_0_01_1_n_n none
    (mulf (maximumf (Host.dotGeneral dot_S8x2048x1024_S1024x4096_S8x2048x4096_2_0_01_1_n_n none n U)
        (broadcastInDim S8x2048x4096 ![] bcast_S_S8x2048x4096 (constant S_ .f32 0x00000000#32)))
      (maximumf (Host.dotGeneral dot_S8x2048x1024_S1024x4096_S8x2048x4096_2_0_01_1_n_n none n U)
        (broadcastInDim S8x2048x4096 ![] bcast_S_S8x2048x4096 (constant S_ .f32 0x00000000#32)))) D)

/-- The residual plus the per-layer embedding `p` projected by `Q`, gated by the logistic function of `n` times `W`. -/
def ple (h n : FVec Ideal S8x2048x1024 .f32) (W : FVec Ideal S1024x1024 .f32) (p : FVec Ideal S8x2048x256 .f32)
    (Q : FVec Ideal S256x1024 .f32) : FVec Ideal S8x2048x1024 .f32 :=
  addf h (mulf (Host.divf (broadcastInDim S8x2048x1024 ![] bcast_S_S8x2048x1024 (constant S_ .f32 0x3F800000#32))
      (addf (broadcastInDim S8x2048x1024 ![] bcast_S_S8x2048x1024 (constant S_ .f32 0x3F800000#32))
        (Host.exp (Host.negf (Host.dotGeneral dot_S8x2048x1024_S1024x1024_S8x2048x1024_2_0_01_1_n_n none n W)))))
    (Host.dotGeneral dot_S8x2048x256_S256x1024_S8x2048x1024_2_0_01_1_n_n none p Q))

/-- What the reference computes of its arguments, its rows in one axis. -/
def ref (x0 x1 : FVec Ideal S8x2048x1024 .f32) (x2 : FVec Ideal S1x1024x1024 .f32) (x3 : FVec Ideal S2x1024 .f32)
    (x4 : FVec Ideal S2x1024x4096 .f32) (x5 : FVec Ideal S2x4096x1024 .f32) (x6 : FVec Ideal S2x1024 .f32)
    (x7 : FVec Ideal S2x1024x1024 .f32) (x8 : FVec Ideal S2x8x2048x256 .f32) (x9 : FVec Ideal S2x256x1024 .f32)
    (x10 : FVec Ideal S1024 .f32) : FVec Ideal S16384x1024 .f32 :=
  have h₁ := pre x1 x0 (shapeCast _ x2 shapeCasts_S1x1024x1024_S1024x1024)
  have h₂ := ffn h₁ (norm h₁ (shapeCast _ (extractStridedSlice S1x1024 ![1, 0] x3 slices_S2x1024_S1x1024_1_0) shapeCasts_S1x1024_S1024))
    (shapeCast _ (extractStridedSlice S1x1024x4096 ![1, 0, 0] x4 slices_S2x1024x4096_S1x1024x4096_1_0_0) shapeCasts_S1x1024x4096_S1024x4096)
    (shapeCast _ (extractStridedSlice S1x4096x1024 ![1, 0, 0] x5 slices_S2x4096x1024_S1x4096x1024_1_0_0) shapeCasts_S1x4096x1024_S4096x1024)
  have h₃ := ple h₂ (norm h₂ (shapeCast _ (extractStridedSlice S1x1024 ![1, 0] x6 slices_S2x1024_S1x1024_1_0) shapeCasts_S1x1024_S1024))
    (shapeCast _ (extractStridedSlice S1x1024x1024 ![1, 0, 0] x7 slices_S2x1024x1024_S1x1024x1024_1_0_0) shapeCasts_S1x1024x1024_S1024x1024)
    (shapeCast _ (extractStridedSlice S1x8x2048x256 ![1, 0, 0, 0] x8 slices_S2x8x2048x256_S1x8x2048x256_1_0_0_0) shapeCasts_S1x8x2048x256_S8x2048x256)
    (shapeCast _ (extractStridedSlice S1x256x1024 ![1, 0, 0] x9 slices_S2x256x1024_S1x256x1024_1_0_0) shapeCasts_S1x256x1024_S256x1024)
  shapeCast _ (norm h₃ x10) shapeCasts_S8x2048x1024_S16384x1024

/-- The reference's result buffer holds that term. -/
theorem res_eq (m : (ℓ : Loc nD τ sig) → Buf (Elt Ideal) ℓ) (c : Dev nD) : Value.res_main_v71 m c =
    ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := by
  unfold Value.res_main_v71
  rfl

/-- The norm of a row is the row's norm. -/
theorem norm_apply (h : FVec Ideal S8x2048x1024 .f32) (g : FVec Ideal S1024 .f32) (b : Fin 8) (t : Fin 2048) (n : Fin 1024) :
    norm h g (ix3 b t n) = Row.rms (fun k => h (ix3 b t k)) (fun k => g (ix1 k)) n := by
  pointwise [norm]
  rfl

theorem pre_apply (x o : FVec Ideal S8x2048x1024 .f32) (w : FVec Ideal S1024x1024 .f32) (b : Fin 8) (t : Fin 2048) (n : Fin 1024) :
    pre x o w (ix3 b t n) = Row.addDot (fun k => x (ix3 b t k)) (fun k => o (ix3 b t k)) (fun k l => w (ix2 k l)) n := by
  pointwise [pre]
  rfl

theorem ffn_apply (h a : FVec Ideal S8x2048x1024 .f32) (U : FVec Ideal S1024x4096 .f32) (D : FVec Ideal S4096x1024 .f32)
    (b : Fin 8) (t : Fin 2048) (n : Fin 1024) :
    ffn h a U D (ix3 b t n) = Row.ffn (fun k => h (ix3 b t k)) (fun k => a (ix3 b t k)) (fun k l => U (ix2 k l))
      (fun k l => D (ix2 k l)) n := by
  pointwise [ffn]
  rfl

theorem ple_apply (h a : FVec Ideal S8x2048x1024 .f32) (W : FVec Ideal S1024x1024 .f32) (p : FVec Ideal S8x2048x256 .f32)
    (Q : FVec Ideal S256x1024 .f32) (b : Fin 8) (t : Fin 2048) (n : Fin 1024) :
    ple h a W p Q (ix3 b t n) = Row.ple (fun k => h (ix3 b t k)) (fun k => a (ix3 b t k)) (fun k l => W (ix2 k l))
      (fun l => p (ix3 b t l)) (fun l k => Q (ix2 l k)) n := by
  pointwise [ple]
  rfl

/-- The reference's term at row `r` is the row function of row `r`. -/
theorem ref_apply (x0 x1 : FVec Ideal S8x2048x1024 .f32) (x2 : FVec Ideal S1x1024x1024 .f32) (x3 : FVec Ideal S2x1024 .f32)
    (x4 : FVec Ideal S2x1024x4096 .f32) (x5 : FVec Ideal S2x4096x1024 .f32) (x6 : FVec Ideal S2x1024 .f32)
    (x7 : FVec Ideal S2x1024x1024 .f32) (x8 : FVec Ideal S2x8x2048x256 .f32) (x9 : FVec Ideal S2x256x1024 .f32)
    (x10 : FVec Ideal S1024 .f32) (r : Fin 16384) (n : Fin 1024) :
    ref x0 x1 x2 x3 x4 x5 x6 x7 x8 x9 x10 (ix2 r n)
      = Row.half (fun k => x1 (ix3 ⟨r / 2048, by omega⟩ ⟨r % 2048, by omega⟩ k))
          (fun k => x0 (ix3 ⟨r / 2048, by omega⟩ ⟨r % 2048, by omega⟩ k)) (fun k l => x2 (ix3 0 k l)) (fun k => x3 (ix2 1 k))
          (fun k l => x4 (ix3 1 k l)) (fun k l => x5 (ix3 1 k l)) (fun k => x6 (ix2 1 k)) (fun k l => x7 (ix3 1 k l))
          (fun k => x8 (ix4 1 ⟨r / 2048, by omega⟩ ⟨r % 2048, by omega⟩ k)) (fun k l => x9 (ix3 1 k l)) (fun k => x10 (ix1 k)) n := by
  pointwise [ref, norm_apply, ple_apply, ffn_apply, pre_apply]
  rfl

end Cert.MlpRefIdeal.Term

/-! ## The kernel's block -/

namespace Cert.MlpIdeal.Final

open Cert.MlpIdeal Cert.MlpIdeal.Gen Idealize.ShloMosaic Idealize.ShloMosaic.TcCoe Idealize.SL.Sem
open Idealize.ShloMosaic.Pipeline (Dat)

/-- The residual plus the projected attention output. -/
theorem pay2_apply (v0 v2 : Vec Ideal S512x1024 .f32) (v5 : Vec Ideal S1024x1024 .bf16) (r : Fin 512) (n : Fin 1024) :
    k0_pay2 (F := Ideal) v0 v2 v5 (ix2 r n)
      = Row.addDot (fun k => v0 (ix2 r k)) (fun k => v2 (ix2 r k)) (fun k l => v5 (ix2 k l)) n := by
  pointwise [k0_pay2]
  rfl

/-- Its norm. -/
theorem pay3_apply (v0 v2 : Vec Ideal S512x1024 .f32) (v5 : Vec Ideal S1024x1024 .bf16) (v9 : Vec Ideal S1x1024 .f32)
    (r : Fin 512) (n : Fin 1024) :
    k0_pay3 (F := Ideal) v0 v2 v5 v9 (ix2 r n)
      = Row.rms (fun k => k0_pay2 (F := Ideal) v0 v2 v5 (ix2 r k)) (fun k => v9 (ix2 0 k)) n := by
  pointwise [k0_pay3]
  rfl

/-- The per-layer embedding projected. -/
theorem pay4_apply (v24 : Vec Ideal S1x512x256 .f32) (v27 : Vec Ideal S1x256x1024 .bf16) (r : Fin 512) (n : Fin 1024) :
    k0_pay4 (F := Ideal) v24 v27 (ix2 r n) = ∑ l : Fin 256, v24 (ix3 0 r l) * v27 (ix3 0 l n) := by
  pointwise [k0_pay4]

/-- The rectifier of the first quarter of the hidden units. -/
theorem pay5_apply (v0 v2 : Vec Ideal S512x1024 .f32) (v5 : Vec Ideal S1024x1024 .bf16) (v9 : Vec Ideal S1x1024 .f32)
    (v30 : Vec Ideal S1x1024x1024 .bf16) (r : Fin 512) (f : Fin 1024) :
    k0_pay5 (F := Ideal) v0 v2 v5 v9 v30 (ix2 r f)
      = max (∑ k, k0_pay3 (F := Ideal) v0 v2 v5 v9 (ix2 r k) * v30 (ix3 0 k f)) 0 := by
  pointwise [k0_pay5]

/-- Three quarters of the feed-forward layer added up. -/
theorem pay6_apply (v8 v34 : FVec Ideal S512x1024 .f32) (v23 : FVec Ideal S512x1024 .bf16)
    (v37 v41 v48 v52 v59 : Vec Ideal S1x1024x1024 .bf16) (r : Fin 512) (n : Fin 1024) :
    k0_pay6 (F := Ideal) v8 v23 v34 v37 v41 v48 v52 v59 (ix2 r n)
      = v8 (ix2 r n) + (∑ f : Fin 1024, v34 (ix2 r f) * v34 (ix2 r f) * v37 (ix3 0 f n))
          + (∑ f : Fin 1024, Row.unit (fun k => v23 (ix2 r k)) (fun k l => v41 (ix3 0 k l)) f * v48 (ix3 0 f n))
          + (∑ f : Fin 1024, Row.unit (fun k => v23 (ix2 r k)) (fun k l => v52 (ix3 0 k l)) f * v59 (ix3 0 f n)) := by
  pointwise [k0_pay6]
  rfl

/-- The rectifier of the last quarter of the hidden units. -/
theorem pay7_apply (v23 : FVec Ideal S512x1024 .bf16) (v63 : Vec Ideal S1x1024x1024 .bf16) (r : Fin 512) (f : Fin 1024) :
    k0_pay7 (F := Ideal) v23 v63 (ix2 r f) = max (∑ k, v23 (ix2 r k) * v63 (ix3 0 k f)) 0 := by
  pointwise [k0_pay7]

/-- The last quarter added, and the per-layer embedding's gate on the sum. -/
theorem pay8_apply (v29 v62 v67 : FVec Ideal S512x1024 .f32) (v70 v89 : Vec Ideal S1x1024x1024 .bf16)
    (v74 : Vec Ideal S1x1024 .f32) (p : Fin 256 → EReal) (Q : Fin 256 → Fin 1024 → EReal) (h : Fin 1024 → EReal) (r : Fin 512)
    (hp : ∀ n, v29 (ix2 r n) = ∑ l, p l * Q l n)
    (hh : ∀ n, v62 (ix2 r n) + ∑ f : Fin 1024, v67 (ix2 r f) * v67 (ix2 r f) * v70 (ix3 0 f n) = h n) (n : Fin 1024) :
    k0_pay8 (F := Ideal) v29 v62 v67 v70 v74 v89 (ix2 r n)
      = Row.ple h (Row.rms h (fun k => v74 (ix2 0 k))) (fun k l => v89 (ix3 0 k l)) p Q n := by
  pointwise [k0_pay8]
  simp only [zero_sub, hh, hp]
  rfl

/-- The final norm. -/
theorem pay1_apply (v29 v62 v67 : FVec Ideal S512x1024 .f32) (v70 v89 : Vec Ideal S1x1024x1024 .bf16)
    (v74 v101 : Vec Ideal S1x1024 .f32) (r : Fin 512) (n : Fin 1024) :
    k0_pay1 (F := Ideal) (k0_pay8 v29 v62 v67 v70 v74 v89) (k0_pay9 v101) (k0_pay10 v29 v62 v67 v70 v74 v89) (ix2 r n)
      = Row.rms (fun k => k0_pay8 (F := Ideal) v29 v62 v67 v70 v74 v89 (ix2 r k)) (fun k => v101 (ix2 0 k)) n := by
  pointwise [k0_pay1, k0_pay9, k0_pay10]
  rfl

/-- The two inner norms agree where the rows do. -/
theorem pay11_apply (x0 : Vec Ideal S512x1024 .f32) (x1 : Vec Ideal S1024x1024 .bf16) (x2 : Vec Ideal S512x1024 .f32)
    (x3 : Vec Ideal S1x1024 .f32) (x4 : Vec Ideal S1x1024x4096 .bf16) (x5 : Vec Ideal S1x4096x1024 .bf16)
    (x6 : Vec Ideal S1x1024 .f32) (x7 : Vec Ideal S1x1024x1024 .bf16) (x8 : Vec Ideal S1x512x256 .f32)
    (x9 : Vec Ideal S1x256x1024 .bf16) (x10 : Vec Ideal S1x1024 .f32) (r : Fin 512) (n : Fin 1024) :
    k0_pay11 (F := Ideal) x0 x1 x2 x3 x4 x5 x6 x7 x8 x9 x10 (ix2 r n)
      = Row.rms (Row.addDot (fun k => x2 (ix2 r k)) (fun k => x0 (ix2 r k)) (fun k l => x1 (ix2 k l))) (fun k => x3 (ix2 0 k)) n := by
  unfold k0_pay11
  rw [pay3_apply]
  pointwise [pay2_apply]

/-- What the body stores at row `r` of its block is the row function of row `r` of its input blocks. -/
theorem block (x0 : Vec Ideal S512x1024 .f32) (x1 : Vec Ideal S1024x1024 .bf16) (x2 : Vec Ideal S512x1024 .f32)
    (x3 : Vec Ideal S1x1024 .f32) (x4 : Vec Ideal S1x1024x4096 .bf16) (x5 : Vec Ideal S1x4096x1024 .bf16)
    (x6 : Vec Ideal S1x1024 .f32) (x7 : Vec Ideal S1x1024x1024 .bf16) (x8 : Vec Ideal S1x512x256 .f32)
    (x9 : Vec Ideal S1x256x1024 .bf16) (x10 : Vec Ideal S1x1024 .f32) (r : Fin 512) (n : Fin 1024) :
    out0_11 (F := Ideal) x0 x1 x2 x3 x4 x5 x6 x7 x8 x9 x10 (ix2 r n)
      = Row.half (fun k => x2 (ix2 r k)) (fun k => x0 (ix2 r k)) (fun k l => x1 (ix2 k l)) (fun k => x3 (ix2 0 k))
          (fun k l => x4 (ix3 0 k l)) (fun k l => x5 (ix3 0 k l)) (fun k => x6 (ix2 0 k)) (fun k l => x7 (ix3 0 k l))
          (fun k => x8 (ix3 0 r k)) (fun k l => x9 (ix3 0 k l)) (fun k => x10 (ix2 0 k)) n := by
  have hz : (![0, 0] : Fin 2 → Nat) = fun _ => 0 := funext fun a => by fin_cases a <;> rfl
  unfold out0_11
  rw [View.canon_unit_zero hz, pay1_apply]
  have h8 : ∀ k, k0_pay8 (F := Ideal) (k0_pay12 x0 x1 x2 x3 x4 x5 x6 x7 x8 x9 x10) (k0_pay13 x0 x1 x2 x3 x4 x5 x6 x7 x8 x9 x10)
      (k0_pay14 x0 x1 x2 x3 x4 x5 x6 x7 x8 x9 x10) (View.ld x5 r0_12) (View.ld x6 r0_2) (View.ld x7 r0_13) (ix2 r k)
      = Row.ple _ _ _ _ _ k := fun k => by
    refine (pay8_apply _ _ _ _ _ _ (fun l => x8 (ix3 0 r l)) (fun l k => x9 (ix3 0 l k))
      (Row.ffn (Row.addDot (fun k => x2 (ix2 r k)) (fun k => x0 (ix2 r k)) (fun k l => x1 (ix2 k l)))
        (Row.rms (Row.addDot (fun k => x2 (ix2 r k)) (fun k => x0 (ix2 r k)) (fun k l => x1 (ix2 k l))) (fun k => x3 (ix2 0 k)))
        (fun k l => x4 (ix3 0 k l)) (fun k l => x5 (ix3 0 k l))) r (fun n => ?_) (fun n => ?_) k)
    · unfold k0_pay12
      rw [pay4_apply]
      pointwise
    · unfold k0_pay13 k0_pay14
      rw [pay6_apply]
      pointwise [pay7_apply, pay5_apply, pay3_apply, pay2_apply, pay11_apply]
      exact Row.quarters _ fun f => Row.unit (Row.rms (Row.addDot (fun k => x2 (ix2 r k)) (fun k => x0 (ix2 r k))
        (fun k l => x1 (ix2 k l))) (fun k => x3 (ix2 0 k))) (fun k l => x4 (ix3 0 k l)) f * x5 (ix3 0 f n)
  simp only [h8]
  pointwise
  rfl

variable (m : (ℓ : Loc nD τ sig) → Buf (Elt Ideal) ℓ)

/-- The block of every window at every grid point: the rows move with the point, the weights are the last layer's. -/
theorem idx : ∀ t : Fin cfg0.N, win0_0.index t = ![t.val, 0] ∧ win0_1.index t = ![0, 0] ∧ win0_2.index t = ![t.val, 0]
    ∧ win0_3.index t = ![0, 0] ∧ win0_4.index t = ![1, 0, 0] ∧ win0_5.index t = ![1, 0, 0] ∧ win0_6.index t = ![0, 0]
    ∧ win0_7.index t = ![1, 0, 0] ∧ win0_8.index t = ![1, t.val, 0] ∧ win0_9.index t = ![1, 0, 0] ∧ win0_10.index t = ![0, 0]
    ∧ win0_11.index t = ![t.val, 0] :=
  (by decide +kernel : ∀ t : Fin grid0.N, _)

/-- The reference's term of device `c`'s argument arrays. -/
abbrev G (c : Dev nD) : FVec Ideal S16384x1024 .f32 :=
  Cert.MlpRefIdeal.Term.ref (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- What the body stores at index `y` of point `t`'s block is the reference's term at the array index where `y` lies. -/
theorem point (c : Dev nD) (t : Fin cfg0.N) (y) :
    out0_11 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) y
      = G m c (((cfg0.win 11).blk t).view.emb y) := by
  idx_vars y
  have ht : t.val < 32 := t.isLt.trans_eq N_0
  have e : ((cfg0.win 11).blk t).view.emb (ix2 y0 y1) = ix2 (⟨t.val * 512 + y0, by omega⟩ : Fin 16384) y1 := by
    blk_ext [idx t]
  rw [e, G, Cert.MlpRefIdeal.Term.ref_apply]
  refine (block _ _ _ _ _ _ _ _ _ _ _ y0 y1).trans ?_
  blk_point [iblk, V, idx t]

/-- The result array after the run is the reference's term of the arguments. -/
theorem final (c : Dev nD) : (dats m 0 c).arrAt 11 (cfgs 0).N = G m c := by
  refine (dats m 0 c).arrAt_eq_of_covers 11 _ (by decide +kernel) fun t _ y => ?_
  blk_simp
  rw [after0_11]
  exact point m c t y

end Cert.MlpIdeal.Final

namespace Cert.Proof

open Idealize.ShloMosaic Idealize.SL.Sem

/-- The call's result is the reference's on every device, from the same arguments. -/
theorem algebraic_mlp : Cert.algebraic_MlpIdeal_MlpRefIdeal := by
  pair_intro
  · run_from Cert.MlpIdeal.Gen.run_main m g
  · run_from Cert.MlpRefIdeal.Value.run m' g'
    obtain ⟨h0, h1, h2, h3, h4, h5, h6, h7, h8, h9, h10⟩ := hagree c
    rw [Cert.MlpIdeal.Final.final m, Cert.MlpRefIdeal.Term.res_eq, h0, h1, h2, h3, h4, h5, h6, h7, h8, h9, h10]

end Cert.Proof

end
-- ==== Proof.lean ====
module

public import proofs.«01_k».proof.Defs
public import proofs.«01_k».proof.Proof.Gen.ConvIdeal.Value
public import proofs.«01_k».proof.Proof.Gen.ConvRefIdeal.Run
public import proofs.«01_k».proof.Proof.Gen.ConvInIdeal.Value
public import proofs.«01_k».proof.Proof.Gen.ConvInRefIdeal.Run
public import proofs.«01_k».proof.Proof.Gen.ConvStepIdeal.Value
public import proofs.«01_k».proof.Proof.Gen.ConvStepRefIdeal.Run
public import proofs.«01_k».proof.Proof.Gen.MlpIdeal.Value
public import proofs.«01_k».proof.Proof.Gen.MlpRefIdeal.Run
public import proofs.«01_k».proof.Proof.Gen.Conv
public import proofs.«01_k».proof.Proof.Gen.Conv.Skeleton
public import proofs.«01_k».proof.Proof.Gen.Conv.Loops
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Loops
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInRefIdeal
public import proofs.«01_k».proof.Proof.Gen.ConvStep
public import proofs.«01_k».proof.Proof.Gen.ConvStep.Skeleton
public import proofs.«01_k».proof.Proof.Gen.ConvStep.Launch
public import proofs.«01_k».proof.Proof.Gen.ConvStep.Points
public import proofs.«01_k».proof.Proof.Gen.ConvStep.Frame
public import proofs.«01_k».proof.Proof.Gen.ConvStepIdeal
public import proofs.«01_k».proof.Proof.Gen.ConvStepIdeal.Skeleton
public import proofs.«01_k».proof.Proof.Gen.ConvStepIdeal.Launch
public import proofs.«01_k».proof.Proof.Gen.ConvStepIdeal.Points
public import proofs.«01_k».proof.Proof.Gen.ConvStepIdeal.Frame
public import proofs.«01_k».proof.Proof.Gen.ConvStepRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.AttnIn
public import proofs.«01_k».proof.Proof.Gen.AttnInIdeal
public import proofs.«01_k».proof.Proof.Gen.AttnIn.Frame
public import proofs.«01_k».proof.Proof.Gen.AttnInIdeal.Frame
public import proofs.«01_k».proof.Proof.Gen.AttnInRefIdeal
public import proofs.«01_k».proof.Proof.Gen.AttnInRefIdeal.Run
public import proofs.«01_k».proof.Proof.Gen.AttnInS
public import proofs.«01_k».proof.Proof.Gen.AttnInSIdeal
public import proofs.«01_k».proof.Proof.Gen.AttnInS.Frame
public import proofs.«01_k».proof.Proof.Gen.AttnInSIdeal.Frame
public import proofs.«01_k».proof.Proof.Gen.AttnInSRefIdeal
public import proofs.«01_k».proof.Proof.Gen.AttnInSRefIdeal.Run
public import proofs.«01_k».proof.Proof.Gen.MlpS
public import proofs.«01_k».proof.Proof.Gen.MlpSIdeal
public import proofs.«01_k».proof.Proof.Gen.MlpS.Frame
public import proofs.«01_k».proof.Proof.Gen.MlpSIdeal.Frame
public import proofs.«01_k».proof.Proof.Gen.MlpSRefIdeal
public import proofs.«01_k».proof.Proof.Gen.MlpSRefIdeal.Run
public import proofs.«01_k».proof.Proof.Gen.MlpE
public import proofs.«01_k».proof.Proof.Gen.MlpEIdeal
public import proofs.«01_k».proof.Proof.Gen.MlpE.Frame
public import proofs.«01_k».proof.Proof.Gen.MlpEIdeal.Frame
public import proofs.«01_k».proof.Proof.Gen.MlpERefIdeal
public import proofs.«01_k».proof.Proof.Gen.MlpERefIdeal.Run
public import proofs.«01_k».proof.Proof.Gen.MlpES
public import proofs.«01_k».proof.Proof.Gen.MlpESIdeal
public import proofs.«01_k».proof.Proof.Gen.MlpES.Frame
public import proofs.«01_k».proof.Proof.Gen.MlpESIdeal.Frame
public import proofs.«01_k».proof.Proof.Gen.MlpESRefIdeal
public import proofs.«01_k».proof.Proof.Gen.MlpESRefIdeal.Run
public import proofs.«01_k».proof.Proof.Gen.ConvInS
public import proofs.«01_k».proof.Proof.Gen.ConvInSIdeal
public import proofs.«01_k».proof.Proof.Gen.ConvInS.Frame
public import proofs.«01_k».proof.Proof.Gen.ConvInSIdeal.Frame
public import proofs.«01_k».proof.Proof.Gen.ConvInSRefIdeal
public import proofs.«01_k».proof.Proof.Gen.ConvInSRefIdeal.Run
public import proofs.«01_k».proof.Proof.AttnInClaim
public import proofs.«01_k».proof.Proof.AttnInSValue
public import proofs.«01_k».proof.Proof.MlpSValue
public import proofs.«01_k».proof.Proof.MlpEValue
public import proofs.«01_k».proof.Proof.MlpESValue
public import proofs.«01_k».proof.Proof.ConvInSValue
public import proofs.«01_k».proof.Proof.ConvValue
public import proofs.«01_k».proof.Proof.ConvInValue
public import proofs.«01_k».proof.Proof.ConvStepValue
public import proofs.«01_k».proof.Proof.MlpValue
public import Idealize.ShloMosaic.Adequacy
public import Idealize.ShloMosaic.Init

@[expose] public section

noncomputable section

namespace Cert.Proof

open Idealize.ShloMosaic Idealize.SL.Sem Cert.Conv

/-- The reference of `Conv` runs, keeps its arguments and leaves every semaphore at zero. -/
theorem frame_ConvRef : Cert.quiescent_ConvRefIdeal := fun m g _ => by
  run_from Cert.ConvRefIdeal.Value.run m g
  · exact fun c => by simp only [and_self]
  · exact sem_eq_zero_of_no_sems (by decide) _

/-- The reference of `ConvIn` runs, keeps its arguments and leaves every semaphore at zero. -/
theorem frame_ConvInRef : Cert.quiescent_ConvInRefIdeal := fun m g _ => by
  run_from Cert.ConvInRefIdeal.Value.run m g
  · exact fun c => by simp only [and_self]
  · exact sem_eq_zero_of_no_sems (by decide) _

/-- The reference of `ConvStep` runs, keeps its arguments and leaves every semaphore at zero. -/
theorem frame_ConvStepRef : Cert.quiescent_ConvStepRefIdeal := fun m g _ => by
  run_from Cert.ConvStepRefIdeal.Value.run m g
  · exact fun c => by simp only [and_self]
  · exact sem_eq_zero_of_no_sems (by decide) _

/-- The reference of `Mlp` runs, keeps its arguments and leaves every semaphore at zero. -/
theorem frame_MlpRef : Cert.quiescent_MlpRefIdeal := fun m g _ => by
  run_from Cert.MlpRefIdeal.Value.run m g
  · exact fun c => by simp only [and_self]
  · exact sem_eq_zero_of_no_sems (by decide) _

/-- The reference of `AttnIn` runs, keeps its arguments and leaves every semaphore at zero. -/
theorem frame_AttnInRef : Cert.quiescent_AttnInRefIdeal := fun m g _ => by
  run_from Cert.AttnInRefIdeal.Value.run m g
  · exact fun c => by simp only [and_self]
  · exact sem_eq_zero_of_no_sems (by decide) _

/-- The reference of `AttnInS` runs, keeps its arguments and leaves every semaphore at zero. -/
theorem frame_AttnInSRef : Cert.quiescent_AttnInSRefIdeal := fun m g _ => by
  run_from Cert.AttnInSRefIdeal.Value.run m g
  · exact fun c => by simp only [and_self]
  · exact sem_eq_zero_of_no_sems (by decide) _

/-- The reference of `MlpS` runs, keeps its arguments and leaves every semaphore at zero. -/
theorem frame_MlpSRef : Cert.quiescent_MlpSRefIdeal := fun m g _ => by
  run_from Cert.MlpSRefIdeal.Value.run m g
  · exact fun c => by simp only [and_self]
  · exact sem_eq_zero_of_no_sems (by decide) _

/-- The reference of `MlpE` runs, keeps its arguments and leaves every semaphore at zero. -/
theorem frame_MlpERef : Cert.quiescent_MlpERefIdeal := fun m g _ => by
  run_from Cert.MlpERefIdeal.Value.run m g
  · exact fun c => by simp only [and_self]
  · exact sem_eq_zero_of_no_sems (by decide) _

/-- The reference of `MlpES` runs, keeps its arguments and leaves every semaphore at zero. -/
theorem frame_MlpESRef : Cert.quiescent_MlpESRefIdeal := fun m g _ => by
  run_from Cert.MlpESRefIdeal.Value.run m g
  · exact fun c => by simp only [and_self]
  · exact sem_eq_zero_of_no_sems (by decide) _

/-- The reference of `ConvInS` runs, keeps its arguments and leaves every semaphore at zero. -/
theorem frame_ConvInSRef : Cert.quiescent_ConvInSRefIdeal := fun m g _ => by
  run_from Cert.ConvInSRefIdeal.Value.run m g
  · exact fun c => by simp only [and_self]
  · exact sem_eq_zero_of_no_sems (by decide) _

/-- Every claim: the frames, and per program the two steps from it to its reference. -/
theorem claim : Cert.Claim := ⟨Cert.Conv.Gen.facts, Cert.ConvIdeal.Gen.facts, Cert.ConvRefIdeal.Gen.facts, Cert.ConvIn.Gen.facts, Cert.ConvInIdeal.Gen.facts, Cert.ConvInRefIdeal.Gen.facts, Cert.ConvStep.Gen.facts, Cert.ConvStepIdeal.Gen.facts, Cert.ConvStepRefIdeal.Gen.facts, Cert.Mlp.Gen.facts, Cert.MlpIdeal.Gen.facts, Cert.MlpRefIdeal.Gen.facts, Cert.AttnIn.Gen.facts, Cert.AttnInIdeal.Gen.facts, Cert.AttnInRefIdeal.Gen.facts, Cert.AttnInS.Gen.facts, Cert.AttnInSIdeal.Gen.facts, Cert.AttnInSRefIdeal.Gen.facts, Cert.MlpS.Gen.facts, Cert.MlpSIdeal.Gen.facts, Cert.MlpSRefIdeal.Gen.facts, Cert.MlpE.Gen.facts, Cert.MlpEIdeal.Gen.facts, Cert.MlpERefIdeal.Gen.facts, Cert.MlpES.Gen.facts, Cert.MlpESIdeal.Gen.facts, Cert.MlpESRefIdeal.Gen.facts, Cert.ConvInS.Gen.facts, Cert.ConvInSIdeal.Gen.facts, Cert.ConvInSRefIdeal.Gen.facts, fun m ρ _ => Cert.Conv.Gen.frame m ρ,
  fun m ρ _ => Cert.ConvIdeal.Gen.frame m ρ,
  frame_ConvRef,
  fun m ρ _ => Cert.ConvIn.Gen.frame m ρ,
  fun m ρ _ => Cert.ConvInIdeal.Gen.frame m ρ,
  frame_ConvInRef,
  fun m ρ _ => Cert.ConvStep.Gen.frame m ρ,
  fun m ρ _ => Cert.ConvStepIdeal.Gen.frame m ρ,
  frame_ConvStepRef,
  fun m ρ _ => Cert.Mlp.Gen.frame m ρ,
  fun m ρ _ => Cert.MlpIdeal.Gen.frame m ρ,
  frame_MlpRef,
  fun m ρ _ => Cert.AttnIn.Gen.frame m ρ,
  fun m ρ _ => Cert.AttnInIdeal.Gen.frame m ρ,
  frame_AttnInRef,
  fun m ρ _ => Cert.AttnInS.Gen.frame m ρ,
  fun m ρ _ => Cert.AttnInSIdeal.Gen.frame m ρ,
  frame_AttnInSRef,
  fun m ρ _ => Cert.MlpS.Gen.frame m ρ,
  fun m ρ _ => Cert.MlpSIdeal.Gen.frame m ρ,
  frame_MlpSRef,
  fun m ρ _ => Cert.MlpE.Gen.frame m ρ,
  fun m ρ _ => Cert.MlpEIdeal.Gen.frame m ρ,
  frame_MlpERef,
  fun m ρ _ => Cert.MlpES.Gen.frame m ρ,
  fun m ρ _ => Cert.MlpESIdeal.Gen.frame m ρ,
  frame_MlpESRef,
  fun m ρ _ => Cert.ConvInS.Gen.frame m ρ,
  fun m ρ _ => Cert.ConvInSIdeal.Gen.frame m ρ,
  frame_ConvInSRef,
  trivial,
  algebraic_conv,
  trivial,
  algebraic_conv_in,
  trivial,
  algebraic_conv_step,
  trivial,
  algebraic_mlp,
  trivial,
  algebraic_attn_in,
  trivial,
  algebraic_attn_in_s,
  trivial,
  algebraic_mlp_s,
  trivial,
  algebraic_mlp_e,
  trivial,
  algebraic_mlp_es,
  trivial,
  algebraic_conv_in_s⟩

end Cert.Proof

end
